-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "gelu_c1" .f32 0x3D122279#32 ((80338380498831 / 2251799813685248 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_v247) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  IdealRules.named_const.Statement Cert.Kernel2Ideal.κ "gelu_c1" .f32 0x3D122279#32 ((80338380498831 / 2251799813685248 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v172) = v0 c
          ∧ r.2.mem ((c.tc : Thread Cert.Reference2Ideal.nD Cert.Reference2Ideal.τ).loc Cert.Reference2Ideal.main_v139) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  IdealRules.named_const.Statement Cert.Kernel3Ideal.κ "gelu_c1" .f32 0x3D122279#32 ((80338380498831 / 2251799813685248 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v42_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v42_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v178) = v0 c
          ∧ r.2.mem ((c.tc : Thread Cert.Reference3Ideal.nD Cert.Reference3Ideal.τ).loc Cert.Reference3Ideal.main_v181) = v1 c
          ∧ r.2.mem ((c.tc : Thread Cert.Reference3Ideal.nD Cert.Reference3Ideal.τ).loc Cert.Reference3Ideal.main_v184) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x2048x1024 : Shape := ⟨3, ![8, 2048, 1024]⟩
abbrev S8x6144 : Shape := ⟨2, ![8, 6144]⟩
abbrev S2x1024 : Shape := ⟨2, ![2, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S1x3x512 : Shape := ⟨3, ![1, 3, 512]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S8x1x6144 : Shape := ⟨3, ![8, 1, 6144]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S_ : Shape := ⟨0, ![]⟩
abbrev S8x8x5632 : Shape := ⟨3, ![8, 8, 5632]⟩
abbrev S1x1024 : Shape := ⟨2, ![1, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S3x512 : Shape := ⟨2, ![3, 512]⟩
abbrev S1024x1024 : Shape := ⟨2, ![1024, 1024]⟩
abbrev S8x16x512 : Shape := ⟨3, ![8, 16, 512]⟩
abbrev S8x8x512 : Shape := ⟨3, ![8, 8, 512]⟩
abbrev S1x512x1024 : Shape := ⟨3, ![1, 512, 1024]⟩
abbrev S1x1x6144 : Shape := ⟨3, ![1, 1, 6144]⟩
abbrev S1x16x512 : Shape := ⟨3, ![1, 16, 512]⟩
abbrev S1x8x512 : Shape := ⟨3, ![1, 8, 512]⟩
abbrev S1x8x5632 : Shape := ⟨3, ![1, 8, 5632]⟩
abbrev S512x1024 : Shape := ⟨2, ![512, 1024]⟩
abbrev S520x256 : Shape := ⟨2, ![520, 256]⟩
abbrev S512x2816 : Shape := ⟨2, ![512, 2816]⟩
abbrev S528x512 : Shape := ⟨2, ![528, 512]⟩
abbrev S520x512 : Shape := ⟨2, ![520, 512]⟩
abbrev S512x512 : Shape := ⟨2, ![512, 512]⟩
abbrev S8x5632 : Shape := ⟨2, ![8, 5632]⟩
abbrev S16x512 : Shape := ⟨2, ![16, 512]⟩
abbrev S8x512 : Shape := ⟨2, ![8, 512]⟩
abbrev S1x6144 : Shape := ⟨2, ![1, 6144]⟩
abbrev S512x1 : Shape := ⟨2, ![512, 1]⟩
abbrev S1024x512 : Shape := ⟨2, ![1024, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x8x256 : Shape := ⟨3, ![1, 8, 256]⟩
abbrev S8x256 : Shape := ⟨2, ![8, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 53
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S2x1024, .f32⟩
  | .hbm, ⟨3, _⟩ => ⟨S2x1024, .f32⟩
  | .hbm, ⟨4, _⟩ => ⟨S1x1024x2048, .f32⟩
  | .hbm, ⟨5, _⟩ => ⟨S1x4x128x128, .f32⟩
  | .hbm, ⟨6, _⟩ => ⟨S1x512, .f32⟩
  | .hbm, ⟨7, _⟩ => ⟨S1x3x512, .f32⟩
  | .hbm, ⟨8, _⟩ => ⟨S1x512, .f32⟩
  | .hbm, ⟨9, _⟩ => ⟨S1x1024x1024, .f32⟩
  | .hbm, ⟨10, _⟩ => ⟨S2x1024x5632, .f32⟩
  | .hbm, ⟨11, _⟩ => ⟨S2x3x5632, .f32⟩
  | .hbm, ⟨12, _⟩ => ⟨S2x5632, .f32⟩
  | .hbm, ⟨13, _⟩ => ⟨S2x2816x1024, .f32⟩
  | .hbm, ⟨14, _⟩ => ⟨S8x1x6144, .f32⟩
  | .hbm, ⟨15, _⟩ => ⟨S1x1024x5632, .f32⟩
  | .hbm, ⟨16, _⟩ => ⟨S1024x5632, .f32⟩
  | .hbm, ⟨17, _⟩ => ⟨S1024x5632, .bf16⟩
  | .hbm, ⟨18, _⟩ => ⟨S1x3x5632, .f32⟩
  | .hbm, ⟨19, _⟩ => ⟨S3x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S1x2816x1024, .f32⟩
  | .hbm, ⟨24, _⟩ => ⟨S2816x1024, .f32⟩
  | .hbm, ⟨25, _⟩ => ⟨S2816x1024, .bf16⟩
  | .hbm, ⟨26, _⟩ => ⟨S_, .f32⟩
  | .hbm, ⟨27, _⟩ => ⟨S8x8x5632, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024x2048, .f32⟩
  | .hbm, ⟨35, _⟩ => ⟨S1024x2048, .bf16⟩
  | .hbm, ⟨36, _⟩ => ⟨S4x128x128, .f32⟩
  | .hbm, ⟨37, _⟩ => ⟨S4x128x128, .bf16⟩
  | .hbm, ⟨38, _⟩ => ⟨S512, .f32⟩
  | .hbm, ⟨39, _⟩ => ⟨S1x512, .f32⟩
  | .hbm, ⟨40, _⟩ => ⟨S3x512, .f32⟩
  | .hbm, ⟨41, _⟩ => ⟨S512, .f32⟩
  | .hbm, ⟨42, _⟩ => ⟨S1x512, .f32⟩
  | .hbm, ⟨43, _⟩ => ⟨S1024x1024, .f32⟩
  | .hbm, ⟨44, _⟩ => ⟨S1024x1024, .bf16⟩
  | .hbm, ⟨45, _⟩ => ⟨S_, .f32⟩
  | .hbm, ⟨46, _⟩ => ⟨S8x16x512, .f32⟩
  | .hbm, ⟨47, _⟩ => ⟨S_, .f32⟩
  | .hbm, ⟨48, _⟩ => ⟨S8x8x512, .f32⟩
  | .hbm, ⟨49, _⟩ => ⟨S8x2048x1024, .f32⟩
  | .hbm, ⟨50, _⟩ => ⟨S8x16x512, .f32⟩
  | .hbm, ⟨51, _⟩ => ⟨S8x8x512, .f32⟩
  | .hbm, ⟨52, _⟩ => ⟨S8x8x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x16x512, .f32⟩
  | .local _ .vmem, ⟨5, _⟩ => ⟨S1x8x512, .f32⟩
  | .local _ .vmem, ⟨6, _⟩ => ⟨S1x8x5632, .f32⟩
  | .local _ .vmem, ⟨7, _⟩ => ⟨S1x1024, .f32⟩
  | .local _ .vmem, ⟨8, _⟩ => ⟨S1x1024, .f32⟩
  | .local _ .vmem, ⟨9, _⟩ => ⟨S1024x2048, .bf16⟩
  | .local _ .vmem, ⟨10, _⟩ => ⟨S4x128x128, .bf16⟩
  | .local _ .vmem, ⟨11, _⟩ => ⟨S1x512, .f32⟩
  | .local _ .vmem, ⟨12, _⟩ => ⟨S3x512, .f32⟩
  | .local _ .vmem, ⟨13, _⟩ => ⟨S1x512, .f32⟩
  | .local _ .vmem, ⟨14, _⟩ => ⟨S1024x1024, .bf16⟩
  | .local _ .vmem, ⟨15, _⟩ => ⟨S1024x5632, .bf16⟩
  | .local _ .vmem, ⟨16, _⟩ => ⟨S3x5632, .f32⟩
  | .local _ .vmem, ⟨17, _⟩ => ⟨S1x5632, .f32⟩
  | .local _ .vmem, ⟨18, _⟩ => ⟨S2816x1024, .bf16⟩
  | .local _ .vmem, ⟨19, _⟩ => ⟨S1x512x1024, .f32⟩
  | .local _ .vmem, ⟨20, _⟩ => ⟨S1x512x1024, .f32⟩
  | .local _ .vmem, ⟨21, _⟩ => ⟨S1x16x512, .f32⟩
  | .local _ .vmem, ⟨22, _⟩ => ⟨S1x16x512, .f32⟩
  | .local _ .vmem, ⟨23, _⟩ => ⟨S1x8x512, .f32⟩
  | .local _ .vmem, ⟨24, _⟩ => ⟨S1x8x512, .f32⟩
  | .local _ .vmem, ⟨25, _⟩ => ⟨S1x8x5632, .f32⟩
  | .local _ .vmem, ⟨26, _⟩ => ⟨S1x8x5632, .f32⟩
  | .local _ .vmem, ⟨27, _⟩ => ⟨S512x1024, .bf16⟩
  | .local _ .vmem, ⟨28, _⟩ => ⟨S512x1024, .f32⟩
  | .local _ .vmem, ⟨29, _⟩ => ⟨S512x1024, .bf16⟩
  | .local _ .vmem, ⟨30, _⟩ => ⟨S520x256, .f32⟩
  | .local _ .vmem, ⟨31, _⟩ => ⟨S520x256, .f32⟩
  | .local _ .vmem, ⟨32, _⟩ => ⟨S512x2816, .bf16⟩
  | .local _ .vmem, ⟨33, _⟩ => ⟨S528x512, .f32⟩
  | .local _ .vmem, ⟨34, _⟩ => ⟨S520x512, .f32⟩
  | .local _ .vmem, ⟨35, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_v32_2 : Ref sig .tc := ⟨.hbm, 51, rfl⟩
abbrev main_v32_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x5632 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x8x5632 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== KernelIdeal.lean ====
variable {F : FTy → Type} [FloatOps F] [Named F]
def κ : String → Option EReal := fun
  | "gelu_c1" => some ((80338380498831 / 2251799813685248 : ℝ) : EReal)
  | _ => none
-- ==== ReferenceIdeal.lean ====
abbrev S8x2048x1024 : Shape := ⟨3, ![8, 2048, 1024]⟩
abbrev S8x6144 : Shape := ⟨2, ![8, 6144]⟩
abbrev S2x1024 : Shape := ⟨2, ![2, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S1x3x512 : Shape := ⟨3, ![1, 3, 512]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S8x1024 : Shape := ⟨2, ![8, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2048 : Shape := ⟨2, ![1024, 2048]⟩
abbrev S8x2048x2048 : Shape := ⟨3, ![8, 2048, 2048]⟩
abbrev S8x2048x512 : Shape := ⟨3, ![8, 2048, 512]⟩
abbrev S8x15x512 : Shape := ⟨3, ![8, 15, 512]⟩
abbrev S4x128x128 : Shape := ⟨3, ![4, 128, 128]⟩
abbrev S512 : Shape := ⟨1, ![512]⟩
abbrev S8x2063x512 : Shape := ⟨3, ![8, 2063, 512]⟩
abbrev S2048 : Shape := ⟨1, ![2048]⟩
abbrev S8x2063x128 : Shape := ⟨3, ![8, 2063, 128]⟩
abbrev S8x2048x128 : Shape := ⟨3, ![8, 2048, 128]⟩
abbrev S1x2048x1 : Shape := ⟨3, ![1, 2048, 1]⟩
abbrev S8x2048x4x128 : Shape := ⟨4, ![8, 2048, 4, 128]⟩
abbrev S4x128x8x2048 : Shape := ⟨4, ![4, 128, 8, 2048]⟩
abbrev S1x1x512 : Shape := ⟨3, ![1, 1, 512]⟩
abbrev S8x16x512 : Shape := ⟨3, ![8, 16, 512]⟩
abbrev S8x2x512 : Shape := ⟨3, ![8, 2, 512]⟩
abbrev S3x512 : Shape := ⟨2, ![3, 512]⟩
abbrev S8x2050x512 : Shape := ⟨3, ![8, 2050, 512]⟩
abbrev S8x8x512 : Shape := ⟨3, ![8, 8, 512]⟩
abbrev S1024x1024 : Shape := ⟨2, ![1024, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2x5632 : Shape := ⟨3, ![8, 2, 5632]⟩
abbrev S8x2050x5632 : Shape := ⟨3, ![8, 2050, 5632]⟩
abbrev S1x1x5632 : Shape := ⟨3, ![1, 1, 5632]⟩
abbrev S8x8x5632 : Shape := ⟨3, ![8, 8, 5632]⟩
abbrev S8x2048x2816 : Shape := ⟨3, ![8, 2048, 2816]⟩

abbrev nBuf : Space → Nat
  | .hbm => 310
  | .vmem => 0
  | .smem => 0
  | _ => 0

abbrev hbmTy0_0 (i : Nat) : BufTy := match i % 128 with
  | 0 => ⟨S8x2048x1024, .f32⟩
  | 1 => ⟨S8x6144, .f32⟩
  | 2 => ⟨S2x1024, .f32⟩
  | 3 => ⟨S2x1024, .f32⟩
  | 4 => ⟨S1x1024x2048, .f32⟩
  | 5 => ⟨S1x4x128x128, .f32⟩
  | 6 => ⟨S1x512, .f32⟩
  | 7 => ⟨S1x3x512, .f32⟩
  | 8 => ⟨S1x512, .f32⟩
  | 9 => ⟨S1x1024x1024, .f32⟩
  | 10 => ⟨S2x1024x5632, .f32⟩
  | 11 => ⟨S2x3x5632, .f32⟩
  | 12 => ⟨S2x5632, .f32⟩
  | 13 => ⟨S2x2816x1024, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1024, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S1x1024, .f32⟩
  | 27 => ⟨S1024, .f32⟩
  | 28 => ⟨S8x2048x1024, .f32⟩
  | 29 => ⟨S_, .f32⟩
  | 30 => ⟨S8x2048, .f32⟩
  | 31 => ⟨S8x2048x1, .f32⟩
  | 32 => ⟨S_, .f32⟩
  | 33 => ⟨S8x2048x1, .f32⟩
  | 34 => ⟨S8x2048x1, .f32⟩
  | 35 => ⟨S_, .f32⟩
  | 36 => ⟨S8x2048x1, .f32⟩
  | 37 => ⟨S8x2048x1, .f32⟩
  | 38 => ⟨S8x2048x1, .f32⟩
  | 39 => ⟨S8x2048x1024, .f32⟩
  | 40 => ⟨S8x2048x1024, .f32⟩
  | 41 => ⟨S1x1x1024, .f32⟩
  | 42 => ⟨S8x2048x1024, .f32⟩
  | 43 => ⟨S8x2048x1024, .f32⟩
  | 44 => ⟨S_, .f32⟩
  | 45 => ⟨S8x1x1024, .f32⟩
  | 46 => ⟨S8x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S1024x2048, .f32⟩
  | 52 => ⟨S8x2048x2048, .f32⟩
  | 53 => ⟨S8x2048x512, .f32⟩
  | 54 => ⟨S8x2048x512, .f32⟩
  | 55 => ⟨S8x2048x512, .f32⟩
  | 56 => ⟨S8x2048x512, .f32⟩
  | 57 => ⟨S_, .f32⟩
  | 58 => ⟨S8x15x512, .f32⟩
  | 59 => ⟨S4x128x128, .f32⟩
  | 60 => ⟨S512, .f32⟩
  | 61 => ⟨S8x2063x512, .f32⟩
  | 62 => ⟨S2048, .i32⟩
  | 63 => ⟨S_, .i32⟩
  | 64 => ⟨S2048, .i32⟩
  | 65 => ⟨S2048, .i32⟩
  | 66 => ⟨S8x2063x128, .f32⟩
  | 67 => ⟨S8x2048x128, .f32⟩
  | 68 => ⟨S_, .f32⟩
  | 69 => ⟨S8x2048x128, .f32⟩
  | 70 => ⟨S8x2048x128, .f32⟩
  | 71 => ⟨S8x2048x128, .f32⟩
  | 72 => ⟨S8x2048x128, .f32⟩
  | 73 => ⟨S_, .i32⟩
  | 74 => ⟨S2048, .i32⟩
  | 75 => ⟨S2048, .i32⟩
  | 76 => ⟨S_, .i32⟩
  | 77 => ⟨S2048, .i32⟩
  | 78 => ⟨S2048, .i32⟩
  | 79 => ⟨S2048, .f32⟩
  | 80 => ⟨S1x2048x1, .f32⟩
  | 81 => ⟨S8x2048x128, .f32⟩
  | 82 => ⟨S8x2048x128, .f32⟩
  | 83 => ⟨S8x2063x128, .f32⟩
  | 84 => ⟨S8x2048x128, .f32⟩
  | 85 => ⟨S_, .f32⟩
  | 86 => ⟨S8x2048x128, .f32⟩
  | 87 => ⟨S8x2048x128, .f32⟩
  | 88 => ⟨S8x2048x128, .f32⟩
  | 89 => ⟨S8x2048x128, .f32⟩
  | 90 => ⟨S8x2048x128, .f32⟩
  | 91 => ⟨S8x2048x128, .f32⟩
  | 92 => ⟨S8x2048x128, .f32⟩
  | 93 => ⟨S8x2048x128, .f32⟩
  | 94 => ⟨S_, .i32⟩
  | 95 => ⟨S2048, .i32⟩
  | 96 => ⟨S2048, .i32⟩
  | 97 => ⟨S_, .i32⟩
  | 98 => ⟨S2048, .i32⟩
  | 99 => ⟨S2048, .i32⟩
  | 100 => ⟨S2048, .f32⟩
  | 101 => ⟨S1x2048x1, .f32⟩
  | 102 => ⟨S8x2048x128, .f32⟩
  | 103 => ⟨S8x2048x128, .f32⟩
  | 104 => ⟨S8x2063x128, .f32⟩
  | 105 => ⟨S8x2048x128, .f32⟩
  | 106 => ⟨S_, .f32⟩
  | 107 => ⟨S8x2048x128, .f32⟩
  | 108 => ⟨S8x2048x128, .f32⟩
  | 109 => ⟨S8x2048x128, .f32⟩
  | 110 => ⟨S8x2048x128, .f32⟩
  | 111 => ⟨S8x2048x128, .f32⟩
  | 112 => ⟨S8x2048x128, .f32⟩
  | 113 => ⟨S8x2048x128, .f32⟩
  | 114 => ⟨S8x2048x128, .f32⟩
  | 115 => ⟨S8x2048x128, .f32⟩
  | 116 => ⟨S8x2048x128, .f32⟩
  | 117 => ⟨S8x2048x128, .f32⟩
  | 118 => ⟨S8x2048x128, .f32⟩
  | 119 => ⟨S8x2048x128, .f32⟩
  | 120 => ⟨S8x2048x128, .f32⟩
  | 121 => ⟨S8x2048x128, .f32⟩
  | 122 => ⟨S8x2048x128, .f32⟩
  | 123 => ⟨S_, .i32⟩
  | 124 => ⟨S2048, .i32⟩
  | 125 => ⟨S2048, .i32⟩
  | 126 => ⟨S_, .i32⟩
  | 127 => ⟨S2048, .i32⟩
  | _ => ⟨S8x2048x1024, .f32⟩

abbrev hbmTy0_1 (i : Nat) : BufTy := match i % 128 with
  | 0 => ⟨S2048, .i32⟩
  | 1 => ⟨S2048, .f32⟩
  | 2 => ⟨S1x2048x1, .f32⟩
  | 3 => ⟨S8x2048x128, .f32⟩
  | 4 => ⟨S8x2048x128, .f32⟩
  | 5 => ⟨S8x2063x128, .f32⟩
  | 6 => ⟨S8x2048x128, .f32⟩
  | 7 => ⟨S_, .f32⟩
  | 8 => ⟨S8x2048x128, .f32⟩
  | 9 => ⟨S8x2048x128, .f32⟩
  | 10 => ⟨S8x2048x128, .f32⟩
  | 11 => ⟨S8x2048x128, .f32⟩
  | 12 => ⟨S8x2048x128, .f32⟩
  | 13 => ⟨S8x2048x128, .f32⟩
  | 14 => ⟨S8x2048x128, .f32⟩
  | 15 => ⟨S8x2048x128, .f32⟩
  | 16 => ⟨S8x2048x128, .f32⟩
  | 17 => ⟨S8x2048x128, .f32⟩
  | 18 => ⟨S8x2048x128, .f32⟩
  | 19 => ⟨S8x2048x128, .f32⟩
  | 20 => ⟨S8x2048x128, .f32⟩
  | 21 => ⟨S8x2048x128, .f32⟩
  | 22 => ⟨S8x2048x128, .f32⟩
  | 23 => ⟨S8x2048x128, .f32⟩
  | 24 => ⟨S8x2048x128, .f32⟩
  | 25 => ⟨S8x2048x128, .f32⟩
  | 26 => ⟨S8x2048x128, .f32⟩
  | 27 => ⟨S8x2048x128, .f32⟩
  | 28 => ⟨S8x2048x128, .f32⟩
  | 29 => ⟨S8x2048x128, .f32⟩
  | 30 => ⟨S8x2048x128, .f32⟩
  | 31 => ⟨S8x2048x128, .f32⟩
  | 32 => ⟨S8x2048x128, .f32⟩
  | 33 => ⟨S8x2048x128, .f32⟩
  | 34 => ⟨S8x2048x128, .f32⟩
  | 35 => ⟨S8x2048x128, .f32⟩
  | 36 => ⟨S8x2048x128, .f32⟩
  | 37 => ⟨S8x2048x128, .f32⟩
  | 38 => ⟨S8x2048x128, .f32⟩
  | 39 => ⟨S8x2048x128, .f32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S2048, .f32⟩
  | 47 => ⟨S1x2048x1, .f32⟩
  | 48 => ⟨S8x2048x128, .f32⟩
  | 49 => ⟨S8x2048x128, .f32⟩
  | 50 => ⟨S8x2048x512, .f32⟩
  | 51 => ⟨S8x2048x512, .f32⟩
  | 52 => ⟨S8x2048x4x128, .f32⟩
  | 53 => ⟨S4x128x8x2048, .f32⟩
  | 54 => ⟨S8x2048x4x128, .f32⟩
  | 55 => ⟨S8x2048x512, .f32⟩
  | 56 => ⟨S1x1x512, .f32⟩
  | 57 => ⟨S8x2048x512, .f32⟩
  | 58 => ⟨S8x2048x512, .f32⟩
  | 59 => ⟨S8x16x512, .f32⟩
  | 60 => ⟨S8x2048x512, .f32⟩
  | 61 => ⟨S_, .f32⟩
  | 62 => ⟨S8x2x512, .f32⟩
  | 63 => ⟨S3x512, .f32⟩
  | 64 => ⟨S512, .f32⟩
  | 65 => ⟨S8x2050x512, .f32⟩
  | 66 => ⟨S1x512, .f32⟩
  | 67 => ⟨S512, .f32⟩
  | 68 => ⟨S8x2048x512, .f32⟩
  | 69 => ⟨S1x1x512, .f32⟩
  | 70 => ⟨S8x2048x512, .f32⟩
  | 71 => ⟨S8x2048x512, .f32⟩
  | 72 => ⟨S1x1x512, .f32⟩
  | 73 => ⟨S8x2048x512, .f32⟩
  | 74 => ⟨S8x2048x512, .f32⟩
  | 75 => ⟨S1x512, .f32⟩
  | 76 => ⟨S512, .f32⟩
  | 77 => ⟨S8x2048x512, .f32⟩
  | 78 => ⟨S1x1x512, .f32⟩
  | 79 => ⟨S8x2048x512, .f32⟩
  | 80 => ⟨S8x2048x512, .f32⟩
  | 81 => ⟨S8x2048x512, .f32⟩
  | 82 => ⟨S1x512, .f32⟩
  | 83 => ⟨S512, .f32⟩
  | 84 => ⟨S8x2048x512, .f32⟩
  | 85 => ⟨S1x1x512, .f32⟩
  | 86 => ⟨S8x2048x512, .f32⟩
  | 87 => ⟨S8x2048x512, .f32⟩
  | 88 => ⟨S8x2048x512, .f32⟩
  | 89 => ⟨S8x8x512, .f32⟩
  | 90 => ⟨S8x2048x512, .f32⟩
  | 91 => ⟨S8x2048x1024, .f32⟩
  | 92 => ⟨S1024x1024, .f32⟩
  | 93 => ⟨S8x2048x1024, .f32⟩
  | 94 => ⟨S8x2048x1024, .f32⟩
  | 95 => ⟨S8x2048x1024, .f32⟩
  | 96 => ⟨S8x2048x1024, .f32⟩
  | 97 => ⟨S1x1024, .f32⟩
  | 98 => ⟨S1024, .f32⟩
  | 99 => ⟨S8x2048x1024, .f32⟩
  | 100 => ⟨S_, .f32⟩
  | 101 => ⟨S8x2048, .f32⟩
  | 102 => ⟨S8x2048x1, .f32⟩
  | 103 => ⟨S_, .f32⟩
  | 104 => ⟨S8x2048x1, .f32⟩
  | 105 => ⟨S8x2048x1, .f32⟩
  | 106 => ⟨S_, .f32⟩
  | 107 => ⟨S8x2048x1, .f32⟩
  | 108 => ⟨S8x2048x1, .f32⟩
  | 109 => ⟨S8x2048x1, .f32⟩
  | 110 => ⟨S8x2048x1024, .f32⟩
  | 111 => ⟨S8x2048x1024, .f32⟩
  | 112 => ⟨S1x1x1024, .f32⟩
  | 113 => ⟨S8x2048x1024, .f32⟩
  | 114 => ⟨S8x2048x1024, .f32⟩
  | 115 => ⟨S_, .f32⟩
  | 116 => ⟨S8x1x1024, .f32⟩
  | 117 => ⟨S8x1x1024, .f32⟩
  | 118 => ⟨S8x2048x1024, .f32⟩
  | 119 => ⟨S8x2048x1024, .f32⟩
  | 120 => ⟨S8x2048x1024, .f32⟩
  | 121 => ⟨S8x2048x1024, .f32⟩
  | 122 => ⟨S1x1024x5632, .f32⟩
  | 123 => ⟨S1024x5632, .f32⟩
  | 124 => ⟨S1x3x5632, .f32⟩
  | 125 => ⟨S3x5632, .f32⟩
  | 126 => ⟨S1x5632, .f32⟩
  | 127 => ⟨S5632, .f32⟩
  | _ => ⟨S8x2048x1024, .f32⟩

abbrev hbmTy0_2 (i : Nat) : BufTy := match i % 128 with
  | 0 => ⟨S1x2816x1024, .f32⟩
  | 1 => ⟨S2816x1024, .f32⟩
  | 2 => ⟨S8x2048x5632, .f32⟩
  | 3 => ⟨S_, .f32⟩
  | 4 => ⟨S8x2x5632, .f32⟩
  | 5 => ⟨S8x2050x5632, .f32⟩
  | 6 => ⟨S1x5632, .f32⟩
  | 7 => ⟨S5632, .f32⟩
  | 8 => ⟨S8x2048x5632, .f32⟩
  | 9 => ⟨S1x1x5632, .f32⟩
  | 10 => ⟨S8x2048x5632, .f32⟩
  | 11 => ⟨S8x2048x5632, .f32⟩
  | 12 => ⟨S1x1x5632, .f32⟩
  | 13 => ⟨S8x2048x5632, .f32⟩
  | 14 => ⟨S8x2048x5632, .f32⟩
  | 15 => ⟨S1x5632, .f32⟩
  | 16 => ⟨S5632, .f32⟩
  | 17 => ⟨S8x2048x5632, .f32⟩
  | 18 => ⟨S1x1x5632, .f32⟩
  | 19 => ⟨S8x2048x5632, .f32⟩
  | 20 => ⟨S8x2048x5632, .f32⟩
  | 21 => ⟨S8x2048x5632, .f32⟩
  | 22 => ⟨S1x5632, .f32⟩
  | 23 => ⟨S5632, .f32⟩
  | 24 => ⟨S8x2048x5632, .f32⟩
  | 25 => ⟨S1x1x5632, .f32⟩
  | 26 => ⟨S8x2048x5632, .f32⟩
  | 27 => ⟨S8x2048x5632, .f32⟩
  | 28 => ⟨S8x2048x5632, .f32⟩
  | 29 => ⟨S8x8x5632, .f32⟩
  | 30 => ⟨S8x2048x2816, .f32⟩
  | 31 => ⟨S8x2048x2816, .f32⟩
  | 32 => ⟨S8x2048x2816, .f32⟩
  | 33 => ⟨S8x2048x2816, .f32⟩
  | 34 => ⟨S_, .f32⟩
  | 35 => ⟨S8x2048x2816, .f32⟩
  | 36 => ⟨S8x2048x2816, .f32⟩
  | 37 => ⟨S8x2048x2816, .f32⟩
  | 38 => ⟨S_, .f32⟩
  | 39 => ⟨S8x2048x2816, .f32⟩
  | 40 => ⟨S8x2048x2816, .f32⟩
  | 41 => ⟨S8x2048x2816, .f32⟩
  | 42 => ⟨S_, .f32⟩
  | 43 => ⟨S8x2048x2816, .f32⟩
  | 44 => ⟨S8x2048x2816, .f32⟩
  | 45 => ⟨S_, .f32⟩
  | 46 => ⟨S8x2048x2816, .f32⟩
  | 47 => ⟨S8x2048x2816, .f32⟩
  | 48 => ⟨S8x2048x2816, .f32⟩
  | 49 => ⟨S8x2048x2816, .f32⟩
  | 50 => ⟨S8x2048x1024, .f32⟩
  | 51 => ⟨S8x2048x1024, .f32⟩
  | 52 => ⟨S8x2048x1024, .f32⟩
  | 53 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_c_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_8 : Ref sig .tc := ⟨.hbm, 94, rfl⟩
abbrev main_v70 : Ref sig .tc := ⟨.hbm, 95, rfl⟩
abbrev main_v71 : Ref sig .tc := ⟨.hbm, 96, rfl⟩
abbrev main_c_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_10 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c_11 : Ref sig .tc := ⟨.hbm, 123, rfl⟩
abbrev main_v96 : Ref sig .tc := ⟨.hbm, 124, rfl⟩
abbrev main_v97 : Ref sig .tc := ⟨.hbm, 125, rfl⟩
abbrev main_c_12 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_13 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_c_14 : Ref sig .tc := ⟨.hbm, 168, rfl⟩
abbrev main_v138 : Ref sig .tc := ⟨.hbm, 169, rfl⟩
abbrev main_v139 : Ref sig .tc := ⟨.hbm, 170, rfl⟩
abbrev main_c_15 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_16 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_cst_17 : Ref sig .tc := ⟨.hbm, 228, rfl⟩
abbrev main_v195 : Ref sig .tc := ⟨.hbm, 229, rfl⟩
abbrev main_v196 : Ref sig .tc := ⟨.hbm, 230, rfl⟩
abbrev main_cst_18 : Ref sig .tc := ⟨.hbm, 231, rfl⟩
abbrev main_v197 : Ref sig .tc := ⟨.hbm, 232, rfl⟩
abbrev main_v198 : Ref sig .tc := ⟨.hbm, 233, rfl⟩
abbrev main_cst_19 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_cst_20 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_cst_21 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_cst_22 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_cst_23 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_cst_24 : Ref sig .tc := ⟨.hbm, 298, rfl⟩
abbrev main_v258 : Ref sig .tc := ⟨.hbm, 299, rfl⟩
abbrev main_v259 : Ref sig .tc := ⟨.hbm, 300, rfl⟩
abbrev main_cst_25 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6144 : Shape := ⟨2, ![8, 6144]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S8x1x6144 : Shape := ⟨3, ![8, 1, 6144]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S_ : Shape := ⟨0, ![]⟩
abbrev S8x8x5632 : Shape := ⟨3, ![8, 8, 5632]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024x2048 : Shape := ⟨2, ![1024, 2048]⟩
abbrev S1024x1024 : Shape := ⟨2, ![1024, 1024]⟩
abbrev S8x128x128 : Shape := ⟨3, ![8, 128, 128]⟩
abbrev S1x512x1024 : Shape := ⟨3, ![1, 512, 1024]⟩
abbrev S1x1x6144 : Shape := ⟨3, ![1, 1, 6144]⟩
abbrev S1x8x5632 : Shape := ⟨3, ![1, 8, 5632]⟩
abbrev S512x1024 : Shape := ⟨2, ![512, 1024]⟩
abbrev S520x256 : Shape := ⟨2, ![520, 256]⟩
abbrev S512x2816 : Shape := ⟨2, ![512, 2816]⟩
abbrev S8x5632 : Shape := ⟨2, ![8, 5632]⟩
abbrev S1x6144 : Shape := ⟨2, ![1, 6144]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x8x256 : Shape := ⟨3, ![1, 8, 256]⟩
abbrev S8x256 : Shape := ⟨2, ![8, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 48
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S2x1024, .f32⟩
  | .hbm, ⟨3, _⟩ => ⟨S2x1024, .f32⟩
  | .hbm, ⟨4, _⟩ => ⟨S1x1024x2048, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S2x1024x5632, .f32⟩
  | .hbm, ⟨10, _⟩ => ⟨S2x3x5632, .f32⟩
  | .hbm, ⟨11, _⟩ => ⟨S2x5632, .f32⟩
  | .hbm, ⟨12, _⟩ => ⟨S2x2816x1024, .f32⟩
  | .hbm, ⟨13, _⟩ => ⟨S1024, .f32⟩
  | .hbm, ⟨14, _⟩ => ⟨S8x1x6144, .f32⟩
  | .hbm, ⟨15, _⟩ => ⟨S1x1024x5632, .f32⟩
  | .hbm, ⟨16, _⟩ => ⟨S1024x5632, .f32⟩
  | .hbm, ⟨17, _⟩ => ⟨S1024x5632, .bf16⟩
  | .hbm, ⟨18, _⟩ => ⟨S1x3x5632, .f32⟩
  | .hbm, ⟨19, _⟩ => ⟨S3x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S1x2816x1024, .f32⟩
  | .hbm, ⟨24, _⟩ => ⟨S2816x1024, .f32⟩
  | .hbm, ⟨25, _⟩ => ⟨S2816x1024, .bf16⟩
  | .hbm, ⟨26, _⟩ => ⟨S1x1024, .f32⟩
  | .hbm, ⟨27, _⟩ => ⟨S_, .f32⟩
  | .hbm, ⟨28, _⟩ => ⟨S8x8x5632, .f32⟩
  | .hbm, ⟨29, _⟩ => ⟨S8x128, .f32⟩
  | .hbm, ⟨30, _⟩ => ⟨S128x8, .f32⟩
  | .hbm, ⟨31, _⟩ => ⟨S128x8x128, .f32⟩
  | .hbm, ⟨32, _⟩ => ⟨S128x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024x2048, .f32⟩
  | .hbm, ⟨40, _⟩ => ⟨S1024x2048, .bf16⟩
  | .hbm, ⟨41, _⟩ => ⟨S1024, .f32⟩
  | .hbm, ⟨42, _⟩ => ⟨S1x1024, .f32⟩
  | .hbm, ⟨43, _⟩ => ⟨S1024x1024, .f32⟩
  | .hbm, ⟨44, _⟩ => ⟨S1024x1024, .bf16⟩
  | .hbm, ⟨45, _⟩ => ⟨S8x128x128, .f32⟩
  | .hbm, ⟨46, _⟩ => ⟨S8x2048x1024, .f32⟩
  | .hbm, ⟨47, _⟩ => ⟨S8x8x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x8x5632, .f32⟩
  | .local _ .vmem, ⟨5, _⟩ => ⟨S1x1024, .f32⟩
  | .local _ .vmem, ⟨6, _⟩ => ⟨S1x1024, .f32⟩
  | .local _ .vmem, ⟨7, _⟩ => ⟨S1024x2048, .bf16⟩
  | .local _ .vmem, ⟨8, _⟩ => ⟨S1x1024, .f32⟩
  | .local _ .vmem, ⟨9, _⟩ => ⟨S8x128x128, .f32⟩
  | .local _ .vmem, ⟨10, _⟩ => ⟨S128x1024, .f32⟩
  | .local _ .vmem, ⟨11, _⟩ => ⟨S1024x1024, .bf16⟩
  | .local _ .vmem, ⟨12, _⟩ => ⟨S1024x5632, .bf16⟩
  | .local _ .vmem, ⟨13, _⟩ => ⟨S3x5632, .f32⟩
  | .local _ .vmem, ⟨14, _⟩ => ⟨S1x5632, .f32⟩
  | .local _ .vmem, ⟨15, _⟩ => ⟨S2816x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x8x5632, .f32⟩
  | .local _ .vmem, ⟨20, _⟩ => ⟨S1x8x5632, .f32⟩
  | .local _ .vmem, ⟨21, _⟩ => ⟨S512x1024, .bf16⟩
  | .local _ .vmem, ⟨22, _⟩ => ⟨S512x1024, .f32⟩
  | .local _ .vmem, ⟨23, _⟩ => ⟨S512x1024, .bf16⟩
  | .local _ .vmem, ⟨24, _⟩ => ⟨S520x256, .f32⟩
  | .local _ .vmem, ⟨25, _⟩ => ⟨S520x256, .f32⟩
  | .local _ .vmem, ⟨26, _⟩ => ⟨S512x2816, .bf16⟩
  | .local _ .vmem, ⟨27, _⟩ => ⟨S512x1024, .f32⟩
  | .local _ .vmem, ⟨28, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x5632 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Kernel2Ideal.lean ====
variable {F : FTy → Type} [FloatOps F] [Named F]
def κ : String → Option EReal := fun
  | "gelu_c1" => some ((80338380498831 / 2251799813685248 : ℝ) : EReal)
  | _ => none
-- ==== Reference2Ideal.lean ====
abbrev S8x2048x1024 : Shape := ⟨3, ![8, 2048, 1024]⟩
abbrev S8x6144 : Shape := ⟨2, ![8, 6144]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2048 : Shape := ⟨2, ![1024, 2048]⟩
abbrev S8x2048x2048 : Shape := ⟨3, ![8, 2048, 2048]⟩
abbrev S8x128x128 : Shape := ⟨3, ![8, 128, 128]⟩
abbrev S8x128 : Shape := ⟨2, ![8, 128]⟩
abbrev S8x16x128x8x128 : Shape := ⟨5, ![8, 16, 128, 8, 128]⟩
abbrev S128x128 : Shape := ⟨2, ![128, 128]⟩
abbrev S1x128x128 : Shape := ⟨3, ![1, 128, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩
abbrev S1024x1024 : Shape := ⟨2, ![1024, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2x5632 : Shape := ⟨3, ![8, 2, 5632]⟩
abbrev S8x2050x5632 : Shape := ⟨3, ![8, 2050, 5632]⟩
abbrev S1x1x5632 : Shape := ⟨3, ![1, 1, 5632]⟩
abbrev S8x8x5632 : Shape := ⟨3, ![8, 8, 5632]⟩
abbrev S8x2048x2816 : Shape := ⟨3, ![8, 2048, 2816]⟩

abbrev nBuf : Space → Nat
  | .hbm => 222
  | .vmem => 0
  | .smem => 0
  | _ => 0

abbrev hbmTy0_0 (i : Nat) : BufTy := match i % 128 with
  | 0 => ⟨S8x2048x1024, .f32⟩
  | 1 => ⟨S8x6144, .f32⟩
  | 2 => ⟨S2x1024, .f32⟩
  | 3 => ⟨S2x1024, .f32⟩
  | 4 => ⟨S1x1024x2048, .f32⟩
  | 5 => ⟨S1x1024, .f32⟩
  | 6 => ⟨S1x8x128x128, .f32⟩
  | 7 => ⟨S1x8x128, .f32⟩
  | 8 => ⟨S1x1024x1024, .f32⟩
  | 9 => ⟨S2x1024x5632, .f32⟩
  | 10 => ⟨S2x3x5632, .f32⟩
  | 11 => ⟨S2x5632, .f32⟩
  | 12 => ⟨S2x2816x1024, .f32⟩
  | 13 => ⟨S1024, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1024, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S1x1024, .f32⟩
  | 27 => ⟨S1024, .f32⟩
  | 28 => ⟨S8x2048x1024, .f32⟩
  | 29 => ⟨S_, .f32⟩
  | 30 => ⟨S8x2048, .f32⟩
  | 31 => ⟨S8x2048x1, .f32⟩
  | 32 => ⟨S_, .f32⟩
  | 33 => ⟨S8x2048x1, .f32⟩
  | 34 => ⟨S8x2048x1, .f32⟩
  | 35 => ⟨S_, .f32⟩
  | 36 => ⟨S8x2048x1, .f32⟩
  | 37 => ⟨S8x2048x1, .f32⟩
  | 38 => ⟨S8x2048x1, .f32⟩
  | 39 => ⟨S8x2048x1024, .f32⟩
  | 40 => ⟨S8x2048x1024, .f32⟩
  | 41 => ⟨S1x1x1024, .f32⟩
  | 42 => ⟨S8x2048x1024, .f32⟩
  | 43 => ⟨S8x2048x1024, .f32⟩
  | 44 => ⟨S_, .f32⟩
  | 45 => ⟨S8x1x1024, .f32⟩
  | 46 => ⟨S8x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S1024x2048, .f32⟩
  | 52 => ⟨S8x2048x2048, .f32⟩
  | 53 => ⟨S8x2048x2048, .f32⟩
  | 54 => ⟨S8x2048x2048, .f32⟩
  | 55 => ⟨S_, .f32⟩
  | 56 => ⟨S8x2048x2048, .f32⟩
  | 57 => ⟨S8x2048x2048, .f32⟩
  | 58 => ⟨S8x2048x2048, .f32⟩
  | 59 => ⟨S_, .f32⟩
  | 60 => ⟨S8x2048x2048, .f32⟩
  | 61 => ⟨S8x2048x2048, .f32⟩
  | 62 => ⟨S8x2048x2048, .f32⟩
  | 63 => ⟨S_, .f32⟩
  | 64 => ⟨S8x2048x2048, .f32⟩
  | 65 => ⟨S8x2048x2048, .f32⟩
  | 66 => ⟨S_, .f32⟩
  | 67 => ⟨S8x2048x2048, .f32⟩
  | 68 => ⟨S8x2048x2048, .f32⟩
  | 69 => ⟨S8x2048x2048, .f32⟩
  | 70 => ⟨S8x2048x1024, .f32⟩
  | 71 => ⟨S8x2048x1024, .f32⟩
  | 72 => ⟨S1024, .f32⟩
  | 73 => ⟨S8x2048x1024, .f32⟩
  | 74 => ⟨S_, .f32⟩
  | 75 => ⟨S8x2048, .f32⟩
  | 76 => ⟨S8x2048x1, .f32⟩
  | 77 => ⟨S_, .f32⟩
  | 78 => ⟨S8x2048x1, .f32⟩
  | 79 => ⟨S8x2048x1, .f32⟩
  | 80 => ⟨S_, .f32⟩
  | 81 => ⟨S8x2048x1, .f32⟩
  | 82 => ⟨S8x2048x1, .f32⟩
  | 83 => ⟨S8x2048x1, .f32⟩
  | 84 => ⟨S8x2048x1024, .f32⟩
  | 85 => ⟨S8x2048x1024, .f32⟩
  | 86 => ⟨S1x1x1024, .f32⟩
  | 87 => ⟨S8x2048x1024, .f32⟩
  | 88 => ⟨S8x2048x1024, .f32⟩
  | 89 => ⟨S8x128x128, .f32⟩
  | 90 => ⟨S8x128, .f32⟩
  | 91 => ⟨S8x16x128x8x128, .f32⟩
  | 92 => ⟨S_, .i1⟩
  | 93 => ⟨S128x128, .i1⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .i1⟩
  | 101 => ⟨S128x128, .i1⟩
  | 102 => ⟨S128x128, .i1⟩
  | 103 => ⟨S1x128x128, .i1⟩
  | 104 => ⟨S_, .f32⟩
  | 105 => ⟨S8x128x128, .i1⟩
  | 106 => ⟨S8x128x128, .f32⟩
  | 107 => ⟨S8x128x128, .f32⟩
  | 108 => ⟨S8x8x16x128x128, .f32⟩
  | 109 => ⟨S8x16x128x8x128, .f32⟩
  | 110 => ⟨S128x8, .f32⟩
  | 111 => ⟨S1x1x128x8x1, .f32⟩
  | 112 => ⟨S8x16x128x8x128, .f32⟩
  | 113 => ⟨S8x16x128x8x128, .f32⟩
  | 114 => ⟨S8x2048x1024, .f32⟩
  | 115 => ⟨S8x2048x1024, .f32⟩
  | 116 => ⟨S1024x1024, .f32⟩
  | 117 => ⟨S8x2048x1024, .f32⟩
  | 118 => ⟨S8x2048x1024, .f32⟩
  | 119 => ⟨S8x2048x1024, .f32⟩
  | 120 => ⟨S8x2048x1024, .f32⟩
  | 121 => ⟨S1x1024, .f32⟩
  | 122 => ⟨S1024, .f32⟩
  | 123 => ⟨S8x2048x1024, .f32⟩
  | 124 => ⟨S_, .f32⟩
  | 125 => ⟨S8x2048, .f32⟩
  | 126 => ⟨S8x2048x1, .f32⟩
  | 127 => ⟨S_, .f32⟩
  | _ => ⟨S8x2048x1024, .f32⟩

abbrev hbmTy0_1 (i : Nat) : BufTy := match i % 128 with
  | 0 => ⟨S8x2048x1, .f32⟩
  | 1 => ⟨S8x2048x1, .f32⟩
  | 2 => ⟨S_, .f32⟩
  | 3 => ⟨S8x2048x1, .f32⟩
  | 4 => ⟨S8x2048x1, .f32⟩
  | 5 => ⟨S8x2048x1, .f32⟩
  | 6 => ⟨S8x2048x1024, .f32⟩
  | 7 => ⟨S8x2048x1024, .f32⟩
  | 8 => ⟨S1x1x1024, .f32⟩
  | 9 => ⟨S8x2048x1024, .f32⟩
  | 10 => ⟨S8x2048x1024, .f32⟩
  | 11 => ⟨S_, .f32⟩
  | 12 => ⟨S8x1x1024, .f32⟩
  | 13 => ⟨S8x1x1024, .f32⟩
  | 14 => ⟨S8x2048x1024, .f32⟩
  | 15 => ⟨S8x2048x1024, .f32⟩
  | 16 => ⟨S8x2048x1024, .f32⟩
  | 17 => ⟨S8x2048x1024, .f32⟩
  | 18 => ⟨S1x1024x5632, .f32⟩
  | 19 => ⟨S1024x5632, .f32⟩
  | 20 => ⟨S1x3x5632, .f32⟩
  | 21 => ⟨S3x5632, .f32⟩
  | 22 => ⟨S1x5632, .f32⟩
  | 23 => ⟨S5632, .f32⟩
  | 24 => ⟨S1x2816x1024, .f32⟩
  | 25 => ⟨S2816x1024, .f32⟩
  | 26 => ⟨S8x2048x5632, .f32⟩
  | 27 => ⟨S_, .f32⟩
  | 28 => ⟨S8x2x5632, .f32⟩
  | 29 => ⟨S8x2050x5632, .f32⟩
  | 30 => ⟨S1x5632, .f32⟩
  | 31 => ⟨S5632, .f32⟩
  | 32 => ⟨S8x2048x5632, .f32⟩
  | 33 => ⟨S1x1x5632, .f32⟩
  | 34 => ⟨S8x2048x5632, .f32⟩
  | 35 => ⟨S8x2048x5632, .f32⟩
  | 36 => ⟨S1x1x5632, .f32⟩
  | 37 => ⟨S8x2048x5632, .f32⟩
  | 38 => ⟨S8x2048x5632, .f32⟩
  | 39 => ⟨S1x5632, .f32⟩
  | 40 => ⟨S5632, .f32⟩
  | 41 => ⟨S8x2048x5632, .f32⟩
  | 42 => ⟨S1x1x5632, .f32⟩
  | 43 => ⟨S8x2048x5632, .f32⟩
  | 44 => ⟨S8x2048x5632, .f32⟩
  | 45 => ⟨S8x2048x5632, .f32⟩
  | 46 => ⟨S1x5632, .f32⟩
  | 47 => ⟨S5632, .f32⟩
  | 48 => ⟨S8x2048x5632, .f32⟩
  | 49 => ⟨S1x1x5632, .f32⟩
  | 50 => ⟨S8x2048x5632, .f32⟩
  | 51 => ⟨S8x2048x5632, .f32⟩
  | 52 => ⟨S8x2048x5632, .f32⟩
  | 53 => ⟨S8x8x5632, .f32⟩
  | 54 => ⟨S8x2048x2816, .f32⟩
  | 55 => ⟨S8x2048x2816, .f32⟩
  | 56 => ⟨S8x2048x2816, .f32⟩
  | 57 => ⟨S8x2048x2816, .f32⟩
  | 58 => ⟨S_, .f32⟩
  | 59 => ⟨S8x2048x2816, .f32⟩
  | 60 => ⟨S8x2048x2816, .f32⟩
  | 61 => ⟨S8x2048x2816, .f32⟩
  | 62 => ⟨S_, .f32⟩
  | 63 => ⟨S8x2048x2816, .f32⟩
  | 64 => ⟨S8x2048x2816, .f32⟩
  | 65 => ⟨S8x2048x2816, .f32⟩
  | 66 => ⟨S_, .f32⟩
  | 67 => ⟨S8x2048x2816, .f32⟩
  | 68 => ⟨S8x2048x2816, .f32⟩
  | 69 => ⟨S_, .f32⟩
  | 70 => ⟨S8x2048x2816, .f32⟩
  | 71 => ⟨S8x2048x2816, .f32⟩
  | 72 => ⟨S8x2048x2816, .f32⟩
  | 73 => ⟨S8x2048x2816, .f32⟩
  | 74 => ⟨S8x2048x1024, .f32⟩
  | 75 => ⟨S8x2048x1024, .f32⟩
  | 76 => ⟨S8x2048x1024, .f32⟩
  | 77 => ⟨S8x2048x1024, .f32⟩
  | 78 => ⟨S8x2048x1024, .f32⟩
  | 79 => ⟨S_, .f32⟩
  | 80 => ⟨S8x2048, .f32⟩
  | 81 => ⟨S8x2048x1, .f32⟩
  | 82 => ⟨S_, .f32⟩
  | 83 => ⟨S8x2048x1, .f32⟩
  | 84 => ⟨S8x2048x1, .f32⟩
  | 85 => ⟨S_, .f32⟩
  | 86 => ⟨S8x2048x1, .f32⟩
  | 87 => ⟨S8x2048x1, .f32⟩
  | 88 => ⟨S8x2048x1, .f32⟩
  | 89 => ⟨S8x2048x1024, .f32⟩
  | 90 => ⟨S8x2048x1024, .f32⟩
  | 91 => ⟨S1x1x1024, .f32⟩
  | 92 => ⟨S8x2048x1024, .f32⟩
  | 93 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c : Ref sig .tc := ⟨.hbm, 92, rfl⟩
abbrev main_v67 : Ref sig .tc := ⟨.hbm, 93, rfl⟩
abbrev main_call0_v0 : Ref sig .tc := ⟨.hbm, 94, rfl⟩
abbrev main_call0_c : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_c_0 : Ref sig .tc := ⟨.hbm, 100, rfl⟩
abbrev main_call0_v5 : Ref sig .tc := ⟨.hbm, 101, rfl⟩
abbrev main_v68 : Ref sig .tc := ⟨.hbm, 102, rfl⟩
abbrev main_v69 : Ref sig .tc := ⟨.hbm, 103, rfl⟩
abbrev main_cst_10 : Ref sig .tc := ⟨.hbm, 104, rfl⟩
abbrev main_call1_v0 : Ref sig .tc := ⟨.hbm, 105, rfl⟩
abbrev main_call1_v1 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_11 : Ref sig .tc := ⟨.hbm, 124, rfl⟩
abbrev main_v87 : Ref sig .tc := ⟨.hbm, 125, rfl⟩
abbrev main_v88 : Ref sig .tc := ⟨.hbm, 126, rfl⟩
abbrev main_cst_12 : Ref sig .tc := ⟨.hbm, 127, rfl⟩
abbrev main_v89 : Ref sig .tc := ⟨.hbm, 128, rfl⟩
abbrev main_v90 : Ref sig .tc := ⟨.hbm, 129, rfl⟩
abbrev main_cst_13 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_14 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_15 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_16 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_17 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_18 : Ref sig .tc := ⟨.hbm, 194, rfl⟩
abbrev main_v150 : Ref sig .tc := ⟨.hbm, 195, rfl⟩
abbrev main_v151 : Ref sig .tc := ⟨.hbm, 196, rfl⟩
abbrev main_cst_19 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_20 : Ref sig .tc := ⟨.hbm, 207, rfl⟩
abbrev main_v161 : Ref sig .tc := ⟨.hbm, 208, rfl⟩
abbrev main_v162 : Ref sig .tc := ⟨.hbm, 209, rfl⟩
abbrev main_cst_21 : Ref sig .tc := ⟨.hbm, 210, rfl⟩
abbrev main_v163 : Ref sig .tc := ⟨.hbm, 211, rfl⟩
abbrev main_v164 : Ref sig .tc := ⟨.hbm, 212, rfl⟩
abbrev main_cst_22 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩

abbrev nD : Nat := 1
abbrev τ : Topo := Topo.v7x

variable {F : FTy → Type} [FloatOps F]
-- ==== Kernel3.lean ====
abbrev S128x8x1024 : Shape := ⟨3, ![128, 8, 1024]⟩
abbrev S128x6144 : Shape := ⟨2, ![128, 6144]⟩
abbrev S2x128x2x5632 : Shape := ⟨4, ![2, 128, 2, 5632]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S2x64x8x1024 : Shape := ⟨4, ![2, 64, 8, 1024]⟩
abbrev S2x8x64x1024 : Shape := ⟨4, ![2, 8, 64, 1024]⟩
abbrev S2x512x1024 : Shape := ⟨3, ![2, 512, 1024]⟩
abbrev S2x64x6144 : Shape := ⟨3, ![2, 64, 6144]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S1x128x2x5632 : Shape := ⟨4, ![1, 128, 2, 5632]⟩
abbrev S128x2x5632 : Shape := ⟨3, ![128, 2, 5632]⟩
abbrev S2x64x2x5632 : Shape := ⟨4, ![2, 64, 2, 5632]⟩
abbrev S2x2x64x5632 : Shape := ⟨4, ![2, 2, 64, 5632]⟩
abbrev S2x128x5632 : Shape := ⟨3, ![2, 128, 5632]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S8x128x128 : Shape := ⟨3, ![8, 128, 128]⟩
abbrev S8x8x8 : Shape := ⟨3, ![8, 8, 8]⟩
abbrev S8x8x8x128 : Shape := ⟨4, ![8, 8, 8, 128]⟩
abbrev S8x8x1024 : Shape := ⟨3, ![8, 8, 1024]⟩
abbrev S1024x2048 : Shape := ⟨2, ![1024, 2048]⟩
abbrev S1024x1024 : Shape := ⟨2, ![1024, 1024]⟩
abbrev S1x512x1024 : Shape := ⟨3, ![1, 512, 1024]⟩
abbrev S1x64x6144 : Shape := ⟨3, ![1, 64, 6144]⟩
abbrev S1x128x5632 : Shape := ⟨3, ![1, 128, 5632]⟩
abbrev S512x1024 : Shape := ⟨2, ![512, 1024]⟩
abbrev S640x256 : Shape := ⟨2, ![640, 256]⟩
abbrev S512x2816 : Shape := ⟨2, ![512, 2816]⟩
abbrev S128x5632 : Shape := ⟨2, ![128, 5632]⟩
abbrev S64x6144 : Shape := ⟨2, ![64, 6144]⟩
abbrev S64x1024 : Shape := ⟨2, ![64, 1024]⟩
abbrev S1x64x1024 : Shape := ⟨3, ![1, 64, 1024]⟩
abbrev S64 : Shape := ⟨1, ![64]⟩
abbrev S64x1 : Shape := ⟨2, ![64, 1]⟩
abbrev S512 : Shape := ⟨1, ![512]⟩
abbrev S512x1 : Shape := ⟨2, ![512, 1]⟩
abbrev S1x1x1024 : Shape := ⟨3, ![1, 1, 1024]⟩
abbrev S1x128x256 : Shape := ⟨3, ![1, 128, 256]⟩
abbrev S128x256 : Shape := ⟨2, ![128, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 60
  | .vmem => 32
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S2x128x2x5632, .f32⟩
  | .hbm, ⟨3, _⟩ => ⟨S2x1024, .f32⟩
  | .hbm, ⟨4, _⟩ => ⟨S2x1024, .f32⟩
  | .hbm, ⟨5, _⟩ => ⟨S1x1024x2048, .f32⟩
  | .hbm, ⟨6, _⟩ => ⟨S1x1024, .f32⟩
  | .hbm, ⟨7, _⟩ => ⟨S1x8x128x128, .f32⟩
  | .hbm, ⟨8, _⟩ => ⟨S1x8x128, .f32⟩
  | .hbm, ⟨9, _⟩ => ⟨S1x1024x1024, .f32⟩
  | .hbm, ⟨10, _⟩ => ⟨S2x1024x5632, .f32⟩
  | .hbm, ⟨11, _⟩ => ⟨S2x3x5632, .f32⟩
  | .hbm, ⟨12, _⟩ => ⟨S2x5632, .f32⟩
  | .hbm, ⟨13, _⟩ => ⟨S2x2816x1024, .f32⟩
  | .hbm, ⟨14, _⟩ => ⟨S1024, .f32⟩
  | .hbm, ⟨15, _⟩ => ⟨S2x64x8x1024, .f32⟩
  | .hbm, ⟨16, _⟩ => ⟨S2x8x64x1024, .f32⟩
  | .hbm, ⟨17, _⟩ => ⟨S2x512x1024, .f32⟩
  | .hbm, ⟨18, _⟩ => ⟨S2x64x6144, .f32⟩
  | .hbm, ⟨19, _⟩ => ⟨S1x1024x5632, .f32⟩
  | .hbm, ⟨20, _⟩ => ⟨S1024x5632, .f32⟩
  | .hbm, ⟨21, _⟩ => ⟨S1024x5632, .bf16⟩
  | .hbm, ⟨22, _⟩ => ⟨S1x3x5632, .f32⟩
  | .hbm, ⟨23, _⟩ => ⟨S3x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S1x2816x1024, .f32⟩
  | .hbm, ⟨28, _⟩ => ⟨S2816x1024, .f32⟩
  | .hbm, ⟨29, _⟩ => ⟨S2816x1024, .bf16⟩
  | .hbm, ⟨30, _⟩ => ⟨S1x1024, .f32⟩
  | .hbm, ⟨31, _⟩ => ⟨S1x128x2x5632, .f32⟩
  | .hbm, ⟨32, _⟩ => ⟨S128x2x5632, .f32⟩
  | .hbm, ⟨33, _⟩ => ⟨S2x64x2x5632, .f32⟩
  | .hbm, ⟨34, _⟩ => ⟨S2x2x64x5632, .f32⟩
  | .hbm, ⟨35, _⟩ => ⟨S2x128x5632, .f32⟩
  | .hbm, ⟨36, _⟩ => ⟨S8x128, .f32⟩
  | .hbm, ⟨37, _⟩ => ⟨S128x8, .f32⟩
  | .hbm, ⟨38, _⟩ => ⟨S128x8x128, .f32⟩
  | .hbm, ⟨39, _⟩ => ⟨S128x1024, .f32⟩
  | .hbm, ⟨40, _⟩ => ⟨S8x128x128, .f32⟩
  | .hbm, ⟨41, _⟩ => ⟨S8x8x8, .f32⟩
  | .hbm, ⟨42, _⟩ => ⟨S8x8x8, .f32⟩
  | .hbm, ⟨43, _⟩ => ⟨S8x8x8x128, .f32⟩
  | .hbm, ⟨44, _⟩ => ⟨S8x8x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024x2048, .f32⟩
  | .hbm, ⟨52, _⟩ => ⟨S1024x2048, .bf16⟩
  | .hbm, ⟨53, _⟩ => ⟨S1024, .f32⟩
  | .hbm, ⟨54, _⟩ => ⟨S1x1024, .f32⟩
  | .hbm, ⟨55, _⟩ => ⟨S1024x1024, .f32⟩
  | .hbm, ⟨56, _⟩ => ⟨S1024x1024, .bf16⟩
  | .hbm, ⟨57, _⟩ => ⟨S2x512x1024, .f32⟩
  | .hbm, ⟨58, _⟩ => ⟨S2x128x5632, .f32⟩
  | .hbm, ⟨59, _⟩ => ⟨S2x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x64x6144, .f32⟩
  | .local _ .vmem, ⟨3, _⟩ => ⟨S1x64x6144, .f32⟩
  | .local _ .vmem, ⟨4, _⟩ => ⟨S1x128x5632, .f32⟩
  | .local _ .vmem, ⟨5, _⟩ => ⟨S1x128x5632, .f32⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S1x1024, .f32⟩
  | .local _ .vmem, ⟨10, _⟩ => ⟨S8x8x1024, .f32⟩
  | .local _ .vmem, ⟨11, _⟩ => ⟨S128x1024, .f32⟩
  | .local _ .vmem, ⟨12, _⟩ => ⟨S1024x1024, .bf16⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x128x5632, .f32⟩
  | .local _ .vmem, ⟨21, _⟩ => ⟨S1x128x5632, .f32⟩
  | .local _ .vmem, ⟨22, _⟩ => ⟨S1x512x1024, .f32⟩
  | .local _ .vmem, ⟨23, _⟩ => ⟨S1x512x1024, .f32⟩
  | .local _ .vmem, ⟨24, _⟩ => ⟨S512x1024, .bf16⟩
  | .local _ .vmem, ⟨25, _⟩ => ⟨S512x1024, .f32⟩
  | .local _ .vmem, ⟨26, _⟩ => ⟨S512x1024, .bf16⟩
  | .local _ .vmem, ⟨27, _⟩ => ⟨S640x256, .f32⟩
  | .local _ .vmem, ⟨28, _⟩ => ⟨S640x256, .f32⟩
  | .local _ .vmem, ⟨29, _⟩ => ⟨S512x2816, .bf16⟩
  | .local _ .vmem, ⟨30, _⟩ => ⟨S512x1024, .f32⟩
  | .local _ .vmem, ⟨31, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v42_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x5632 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Kernel3Ideal.lean ====
variable {F : FTy → Type} [FloatOps F] [Named F]
def κ : String → Option EReal := fun
  | "gelu_c1" => some ((80338380498831 / 2251799813685248 : ℝ) : EReal)
  | _ => none
-- ==== Reference3Ideal.lean ====
abbrev S128x8x1024 : Shape := ⟨3, ![128, 8, 1024]⟩
abbrev S128x6144 : Shape := ⟨2, ![128, 6144]⟩
abbrev S2x128x2x5632 : Shape := ⟨4, ![2, 128, 2, 5632]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S128x1024 : Shape := ⟨2, ![128, 1024]⟩
abbrev S128x1x1024 : Shape := ⟨3, ![128, 1, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x2048 : Shape := ⟨2, ![1024, 2048]⟩
abbrev S128x8x2048 : Shape := ⟨3, ![128, 8, 2048]⟩
abbrev S8x128x128 : Shape := ⟨3, ![8, 128, 128]⟩
abbrev S8x128 : Shape := ⟨2, ![8, 128]⟩
abbrev S128x128x1024 : Shape := ⟨3, ![128, 128, 1024]⟩
abbrev S128x1x128x8x128 : Shape := ⟨5, ![128, 1, 128, 8, 128]⟩
abbrev S128x128 : Shape := ⟨2, ![128, 128]⟩
abbrev S1x128x128 : Shape := ⟨3, ![1, 128, 128]⟩
abbrev S8x128x1x128x128 : Shape := ⟨5, ![8, 128, 1, 128, 128]⟩
abbrev S1x1x128x8x1 : Shape := ⟨5, ![1, 1, 128, 8, 1]⟩
abbrev S1024x1024 : Shape := ⟨2, ![1024, 1024]⟩
abbrev S1x1024x5632 : Shape := ⟨3, ![1, 1024, 5632]⟩
abbrev S1024x5632 : Shape := ⟨2, ![1024, 5632]⟩
abbrev S128x8x5632 : Shape := ⟨3, ![128, 8, 5632]⟩
abbrev S1x128x2x5632 : Shape := ⟨4, ![1, 128, 2, 5632]⟩
abbrev S128x2x5632 : Shape := ⟨3, ![128, 2, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S128x10x5632 : Shape := ⟨3, ![128, 10, 5632]⟩
abbrev S1x1x5632 : Shape := ⟨3, ![1, 1, 5632]⟩
abbrev S128x8x2816 : Shape := ⟨3, ![128, 8, 2816]⟩
abbrev S1x2816x1024 : Shape := ⟨3, ![1, 2816, 1024]⟩
abbrev S2816x1024 : Shape := ⟨2, ![2816, 1024]⟩
abbrev S2x64x8x1024 : Shape := ⟨4, ![2, 64, 8, 1024]⟩
abbrev S2x8x64x1024 : Shape := ⟨4, ![2, 8, 64, 1024]⟩
abbrev S2x512x1024 : Shape := ⟨3, ![2, 512, 1024]⟩
abbrev S2x64x2x5632 : Shape := ⟨4, ![2, 64, 2, 5632]⟩
abbrev S2x2x64x5632 : Shape := ⟨4, ![2, 2, 64, 5632]⟩
abbrev S2x128x5632 : Shape := ⟨3, ![2, 128, 5632]⟩

abbrev nBuf : Space → Nat
  | .hbm => 236
  | .vmem => 0
  | .smem => 0
  | _ => 0

abbrev hbmTy0_0 (i : Nat) : BufTy := match i % 128 with
  | 0 => ⟨S128x8x1024, .f32⟩
  | 1 => ⟨S128x6144, .f32⟩
  | 2 => ⟨S2x128x2x5632, .f32⟩
  | 3 => ⟨S2x1024, .f32⟩
  | 4 => ⟨S2x1024, .f32⟩
  | 5 => ⟨S1x1024x2048, .f32⟩
  | 6 => ⟨S1x1024, .f32⟩
  | 7 => ⟨S1x8x128x128, .f32⟩
  | 8 => ⟨S1x8x128, .f32⟩
  | 9 => ⟨S1x1024x1024, .f32⟩
  | 10 => ⟨S2x1024x5632, .f32⟩
  | 11 => ⟨S2x3x5632, .f32⟩
  | 12 => ⟨S2x5632, .f32⟩
  | 13 => ⟨S2x2816x1024, .f32⟩
  | 14 => ⟨S1024, .f32⟩
  | 15 => ⟨S128x1024, .f32⟩
  | 16 => ⟨S128x1024, .f32⟩
  | 17 => ⟨S128x1024, .f32⟩
  | 18 => ⟨S128x1024, .f32⟩
  | 19 => ⟨S128x1024, .f32⟩
  | 20 => ⟨S128x1024, .f32⟩
  | 21 => ⟨S128x1x1024, .f32⟩
  | 22 => ⟨S128x1x1024, .f32⟩
  | 23 => ⟨S128x1x1024, .f32⟩
  | 24 => ⟨S128x1x1024, .f32⟩
  | 25 => ⟨S128x1x1024, .f32⟩
  | 26 => ⟨S128x1x1024, .f32⟩
  | 27 => ⟨S1x1024, .f32⟩
  | 28 => ⟨S1024, .f32⟩
  | 29 => ⟨S128x8x1024, .f32⟩
  | 30 => ⟨S_, .f32⟩
  | 31 => ⟨S128x8, .f32⟩
  | 32 => ⟨S128x8x1, .f32⟩
  | 33 => ⟨S_, .f32⟩
  | 34 => ⟨S128x8x1, .f32⟩
  | 35 => ⟨S128x8x1, .f32⟩
  | 36 => ⟨S_, .f32⟩
  | 37 => ⟨S128x8x1, .f32⟩
  | 38 => ⟨S128x8x1, .f32⟩
  | 39 => ⟨S128x8x1, .f32⟩
  | 40 => ⟨S128x8x1024, .f32⟩
  | 41 => ⟨S128x8x1024, .f32⟩
  | 42 => ⟨S1x1x1024, .f32⟩
  | 43 => ⟨S128x8x1024, .f32⟩
  | 44 => ⟨S128x8x1024, .f32⟩
  | 45 => ⟨S_, .f32⟩
  | 46 => ⟨S128x1x1024, .f32⟩
  | 47 => ⟨S128x1x1024, .f32⟩
  | 48 => ⟨S128x8x1024, .f32⟩
  | 49 => ⟨S128x8x1024, .f32⟩
  | 50 => ⟨S128x8x1024, .f32⟩
  | 51 => ⟨S128x8x1024, .f32⟩
  | 52 => ⟨S1024x2048, .f32⟩
  | 53 => ⟨S128x8x2048, .f32⟩
  | 54 => ⟨S128x8x2048, .f32⟩
  | 55 => ⟨S128x8x2048, .f32⟩
  | 56 => ⟨S_, .f32⟩
  | 57 => ⟨S128x8x2048, .f32⟩
  | 58 => ⟨S128x8x2048, .f32⟩
  | 59 => ⟨S128x8x2048, .f32⟩
  | 60 => ⟨S_, .f32⟩
  | 61 => ⟨S128x8x2048, .f32⟩
  | 62 => ⟨S128x8x2048, .f32⟩
  | 63 => ⟨S128x8x2048, .f32⟩
  | 64 => ⟨S_, .f32⟩
  | 65 => ⟨S128x8x2048, .f32⟩
  | 66 => ⟨S128x8x2048, .f32⟩
  | 67 => ⟨S_, .f32⟩
  | 68 => ⟨S128x8x2048, .f32⟩
  | 69 => ⟨S128x8x2048, .f32⟩
  | 70 => ⟨S128x8x2048, .f32⟩
  | 71 => ⟨S128x8x1024, .f32⟩
  | 72 => ⟨S128x8x1024, .f32⟩
  | 73 => ⟨S1024, .f32⟩
  | 74 => ⟨S128x8x1024, .f32⟩
  | 75 => ⟨S_, .f32⟩
  | 76 => ⟨S128x8, .f32⟩
  | 77 => ⟨S128x8x1, .f32⟩
  | 78 => ⟨S_, .f32⟩
  | 79 => ⟨S128x8x1, .f32⟩
  | 80 => ⟨S128x8x1, .f32⟩
  | 81 => ⟨S_, .f32⟩
  | 82 => ⟨S128x8x1, .f32⟩
  | 83 => ⟨S128x8x1, .f32⟩
  | 84 => ⟨S128x8x1, .f32⟩
  | 85 => ⟨S128x8x1024, .f32⟩
  | 86 => ⟨S128x8x1024, .f32⟩
  | 87 => ⟨S1x1x1024, .f32⟩
  | 88 => ⟨S128x8x1024, .f32⟩
  | 89 => ⟨S128x8x1024, .f32⟩
  | 90 => ⟨S8x128x128, .f32⟩
  | 91 => ⟨S8x128, .f32⟩
  | 92 => ⟨S_, .i32⟩
  | 93 => ⟨S_, .f32⟩
  | 94 => ⟨S128x128x1024, .f32⟩
  | 95 => ⟨S128x1x128x8x128, .f32⟩
  | 96 => ⟨S_, .i1⟩
  | 97 => ⟨S128x128, .i1⟩
  | 98 => ⟨S128x128, .i32⟩
  | 99 => ⟨S_, .i32⟩
  | 100 => ⟨S128x128, .i32⟩
  | 101 => ⟨S128x128, .i32⟩
  | 102 => ⟨S128x128, .i32⟩
  | 103 => ⟨S128x128, .i1⟩
  | 104 => ⟨S_, .i1⟩
  | 105 => ⟨S128x128, .i1⟩
  | 106 => ⟨S128x128, .i1⟩
  | 107 => ⟨S1x128x128, .i1⟩
  | 108 => ⟨S_, .f32⟩
  | 109 => ⟨S8x128x128, .i1⟩
  | 110 => ⟨S8x128x128, .f32⟩
  | 111 => ⟨S8x128x128, .f32⟩
  | 112 => ⟨S8x128x1x128x128, .f32⟩
  | 113 => ⟨S128x1x128x8x128, .f32⟩
  | 114 => ⟨S128x8, .f32⟩
  | 115 => ⟨S1x1x128x8x1, .f32⟩
  | 116 => ⟨S128x1x128x8x128, .f32⟩
  | 117 => ⟨S128x1x128x8x128, .f32⟩
  | 118 => ⟨S128x128x1024, .f32⟩
  | 119 => ⟨S128x8x1024, .f32⟩
  | 120 => ⟨S128x8x1024, .f32⟩
  | 121 => ⟨S1024x1024, .f32⟩
  | 122 => ⟨S128x8x1024, .f32⟩
  | 123 => ⟨S128x8x1024, .f32⟩
  | 124 => ⟨S128x8x1024, .f32⟩
  | 125 => ⟨S128x8x1024, .f32⟩
  | 126 => ⟨S1x1024, .f32⟩
  | 127 => ⟨S1024, .f32⟩
  | _ => ⟨S128x8x1024, .f32⟩

abbrev hbmTy0_1 (i : Nat) : BufTy := match i % 128 with
  | 0 => ⟨S128x8x1024, .f32⟩
  | 1 => ⟨S_, .f32⟩
  | 2 => ⟨S128x8, .f32⟩
  | 3 => ⟨S128x8x1, .f32⟩
  | 4 => ⟨S_, .f32⟩
  | 5 => ⟨S128x8x1, .f32⟩
  | 6 => ⟨S128x8x1, .f32⟩
  | 7 => ⟨S_, .f32⟩
  | 8 => ⟨S128x8x1, .f32⟩
  | 9 => ⟨S128x8x1, .f32⟩
  | 10 => ⟨S128x8x1, .f32⟩
  | 11 => ⟨S128x8x1024, .f32⟩
  | 12 => ⟨S128x8x1024, .f32⟩
  | 13 => ⟨S1x1x1024, .f32⟩
  | 14 => ⟨S128x8x1024, .f32⟩
  | 15 => ⟨S128x8x1024, .f32⟩
  | 16 => ⟨S_, .f32⟩
  | 17 => ⟨S128x1x1024, .f32⟩
  | 18 => ⟨S128x1x1024, .f32⟩
  | 19 => ⟨S128x8x1024, .f32⟩
  | 20 => ⟨S128x8x1024, .f32⟩
  | 21 => ⟨S128x8x1024, .f32⟩
  | 22 => ⟨S128x8x1024, .f32⟩
  | 23 => ⟨S1x1024x5632, .f32⟩
  | 24 => ⟨S1024x5632, .f32⟩
  | 25 => ⟨S128x8x5632, .f32⟩
  | 26 => ⟨S1x128x2x5632, .f32⟩
  | 27 => ⟨S128x2x5632, .f32⟩
  | 28 => ⟨S1x3x5632, .f32⟩
  | 29 => ⟨S3x5632, .f32⟩
  | 30 => ⟨S1x5632, .f32⟩
  | 31 => ⟨S5632, .f32⟩
  | 32 => ⟨S128x10x5632, .f32⟩
  | 33 => ⟨S1x5632, .f32⟩
  | 34 => ⟨S5632, .f32⟩
  | 35 => ⟨S128x8x5632, .f32⟩
  | 36 => ⟨S1x1x5632, .f32⟩
  | 37 => ⟨S128x8x5632, .f32⟩
  | 38 => ⟨S128x8x5632, .f32⟩
  | 39 => ⟨S1x1x5632, .f32⟩
  | 40 => ⟨S128x8x5632, .f32⟩
  | 41 => ⟨S128x8x5632, .f32⟩
  | 42 => ⟨S1x5632, .f32⟩
  | 43 => ⟨S5632, .f32⟩
  | 44 => ⟨S128x8x5632, .f32⟩
  | 45 => ⟨S1x1x5632, .f32⟩
  | 46 => ⟨S128x8x5632, .f32⟩
  | 47 => ⟨S128x8x5632, .f32⟩
  | 48 => ⟨S128x8x5632, .f32⟩
  | 49 => ⟨S1x5632, .f32⟩
  | 50 => ⟨S5632, .f32⟩
  | 51 => ⟨S128x8x5632, .f32⟩
  | 52 => ⟨S1x1x5632, .f32⟩
  | 53 => ⟨S128x8x5632, .f32⟩
  | 54 => ⟨S128x8x5632, .f32⟩
  | 55 => ⟨S128x8x5632, .f32⟩
  | 56 => ⟨S128x2x5632, .f32⟩
  | 57 => ⟨S128x8x2816, .f32⟩
  | 58 => ⟨S128x8x2816, .f32⟩
  | 59 => ⟨S128x8x2816, .f32⟩
  | 60 => ⟨S128x8x2816, .f32⟩
  | 61 => ⟨S_, .f32⟩
  | 62 => ⟨S128x8x2816, .f32⟩
  | 63 => ⟨S128x8x2816, .f32⟩
  | 64 => ⟨S128x8x2816, .f32⟩
  | 65 => ⟨S_, .f32⟩
  | 66 => ⟨S128x8x2816, .f32⟩
  | 67 => ⟨S128x8x2816, .f32⟩
  | 68 => ⟨S128x8x2816, .f32⟩
  | 69 => ⟨S_, .f32⟩
  | 70 => ⟨S128x8x2816, .f32⟩
  | 71 => ⟨S128x8x2816, .f32⟩
  | 72 => ⟨S_, .f32⟩
  | 73 => ⟨S128x8x2816, .f32⟩
  | 74 => ⟨S128x8x2816, .f32⟩
  | 75 => ⟨S128x8x2816, .f32⟩
  | 76 => ⟨S128x8x2816, .f32⟩
  | 77 => ⟨S1x2816x1024, .f32⟩
  | 78 => ⟨S2816x1024, .f32⟩
  | 79 => ⟨S128x8x1024, .f32⟩
  | 80 => ⟨S128x8x1024, .f32⟩
  | 81 => ⟨S128x8x1024, .f32⟩
  | 82 => ⟨S128x8x1024, .f32⟩
  | 83 => ⟨S128x8x1024, .f32⟩
  | 84 => ⟨S_, .f32⟩
  | 85 => ⟨S128x8, .f32⟩
  | 86 => ⟨S128x8x1, .f32⟩
  | 87 => ⟨S_, .f32⟩
  | 88 => ⟨S128x8x1, .f32⟩
  | 89 => ⟨S128x8x1, .f32⟩
  | 90 => ⟨S_, .f32⟩
  | 91 => ⟨S128x8x1, .f32⟩
  | 92 => ⟨S128x8x1, .f32⟩
  | 93 => ⟨S128x8x1, .f32⟩
  | 94 => ⟨S128x8x1024, .f32⟩
  | 95 => ⟨S128x8x1024, .f32⟩
  | 96 => ⟨S1x1x1024, .f32⟩
  | 97 => ⟨S128x8x1024, .f32⟩
  | 98 => ⟨S128x8x1024, .f32⟩
  | 99 => ⟨S2x64x8x1024, .f32⟩
  | 100 => ⟨S2x8x64x1024, .f32⟩
  | 101 => ⟨S2x512x1024, .f32⟩
  | 102 => ⟨S2x64x2x5632, .f32⟩
  | 103 => ⟨S2x2x64x5632, .f32⟩
  | 104 => ⟨S2x128x5632, .f32⟩
  | 105 => ⟨S2x64x8x1024, .f32⟩
  | 106 => ⟨S2x8x64x1024, .f32⟩
  | 107 => ⟨S2x512x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c : Ref sig .tc := ⟨.hbm, 92, rfl⟩
abbrev main_call0_v0 : Ref sig .tc := ⟨.hbm, 93, rfl⟩
abbrev main_v66 : Ref sig .tc := ⟨.hbm, 94, rfl⟩
abbrev main_v67 : Ref sig .tc := ⟨.hbm, 95, rfl⟩
abbrev main_c_10 : Ref sig .tc := ⟨.hbm, 96, rfl⟩
abbrev main_v68 : Ref sig .tc := ⟨.hbm, 97, rfl⟩
abbrev main_call1_v0 : Ref sig .tc := ⟨.hbm, 98, rfl⟩
abbrev main_call1_c : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_c_0 : Ref sig .tc := ⟨.hbm, 104, rfl⟩
abbrev main_call1_v5 : Ref sig .tc := ⟨.hbm, 105, rfl⟩
abbrev main_v69 : Ref sig .tc := ⟨.hbm, 106, rfl⟩
abbrev main_v70 : Ref sig .tc := ⟨.hbm, 107, rfl⟩
abbrev main_cst_11 : Ref sig .tc := ⟨.hbm, 108, rfl⟩
abbrev main_call2_v0 : Ref sig .tc := ⟨.hbm, 109, rfl⟩
abbrev main_call2_v1 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_12 : Ref sig .tc := ⟨.hbm, 129, rfl⟩
abbrev main_v89 : Ref sig .tc := ⟨.hbm, 130, rfl⟩
abbrev main_v90 : Ref sig .tc := ⟨.hbm, 131, rfl⟩
abbrev main_cst_13 : Ref sig .tc := ⟨.hbm, 132, rfl⟩
abbrev main_v91 : Ref sig .tc := ⟨.hbm, 133, rfl⟩
abbrev main_v92 : Ref sig .tc := ⟨.hbm, 134, rfl⟩
abbrev main_cst_14 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_15 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_16 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_17 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_18 : Ref sig .tc := ⟨.hbm, 197, rfl⟩
abbrev main_v151 : Ref sig .tc := ⟨.hbm, 198, rfl⟩
abbrev main_v152 : Ref sig .tc := ⟨.hbm, 199, rfl⟩
abbrev main_cst_19 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_20 : Ref sig .tc := ⟨.hbm, 212, rfl⟩
abbrev main_v164 : Ref sig .tc := ⟨.hbm, 213, rfl⟩
abbrev main_v165 : Ref sig .tc := ⟨.hbm, 214, rfl⟩
abbrev main_cst_21 : Ref sig .tc := ⟨.hbm, 215, rfl⟩
abbrev main_v166 : Ref sig .tc := ⟨.hbm, 216, rfl⟩
abbrev main_v167 : Ref sig .tc := ⟨.hbm, 217, rfl⟩
abbrev main_cst_22 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩

abbrev nD : Nat := 1
abbrev τ : Topo := Topo.v7x

variable {F : FTy → Type} [FloatOps F]
-- ==== Kernel4.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S_ : Shape := ⟨0, ![]⟩
abbrev S144x1024 : Shape := ⟨2, ![144, 1024]⟩
abbrev S2x1x6144 : Shape := ⟨3, ![2, 1, 6144]⟩
abbrev S2x144x6144 : Shape := ⟨3, ![2, 144, 6144]⟩
abbrev S1x1024x1536 : Shape := ⟨3, ![1, 1024, 1536]⟩
abbrev S1x1x1536 : Shape := ⟨3, ![1, 1, 1536]⟩
abbrev S1x144x1536 : Shape := ⟨3, ![1, 144, 1536]⟩
abbrev S1024x1536 : Shape := ⟨2, ![1024, 1536]⟩
abbrev S144x1536 : Shape := ⟨2, ![144, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S_, .i32⟩
  | .hbm, ⟨6, _⟩ => ⟨S_, .f32⟩
  | .hbm, ⟨7, _⟩ => ⟨S144x1024, .f32⟩
  | .hbm, ⟨8, _⟩ => ⟨S2x1x6144, .f32⟩
  | .hbm, ⟨9, _⟩ => ⟨S2x144x6144, .f32⟩
  | .local _ .vmem, ⟨0, _⟩ => ⟨S144x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x144x1536, .f32⟩
  | .local _ .vmem, ⟨6, _⟩ => ⟨S1x144x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x144x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S_ : Shape := ⟨0, ![]⟩
abbrev S144x1024 : Shape := ⟨2, ![144, 1024]⟩
abbrev S1x1024x6144 : Shape := ⟨3, ![1, 1024, 6144]⟩
abbrev S1024x6144 : Shape := ⟨2, ![1024, 6144]⟩
abbrev S144x6144 : Shape := ⟨2, ![144, 6144]⟩
abbrev S1x6144 : Shape := ⟨2, ![1, 6144]⟩
abbrev S6144 : Shape := ⟨1, ![6144]⟩
abbrev S1x144x6144 : Shape := ⟨3, ![1, 144, 6144]⟩
abbrev S2x144x6144 : Shape := ⟨3, ![2, 144, 6144]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S_, .i32⟩
  | .hbm, ⟨6, _⟩ => ⟨S_, .f32⟩
  | .hbm, ⟨7, _⟩ => ⟨S144x1024, .f32⟩
  | .hbm, ⟨8, _⟩ => ⟨S144x1024, .f32⟩
  | .hbm, ⟨9, _⟩ => ⟨S144x1024, .f32⟩
  | .hbm, ⟨10, _⟩ => ⟨S_, .f32⟩
  | .hbm, ⟨11, _⟩ => ⟨S144x1024, .f32⟩
  | .hbm, ⟨12, _⟩ => ⟨S144x1024, .f32⟩
  | .hbm, ⟨13, _⟩ => ⟨S_, .f32⟩
  | .hbm, ⟨14, _⟩ => ⟨S144x1024, .f32⟩
  | .hbm, ⟨15, _⟩ => ⟨S144x1024, .f32⟩
  | .hbm, ⟨16, _⟩ => ⟨S144x1024, .f32⟩
  | .hbm, ⟨17, _⟩ => ⟨S1x1024x6144, .f32⟩
  | .hbm, ⟨18, _⟩ => ⟨S1024x6144, .f32⟩
  | .hbm, ⟨19, _⟩ => ⟨S144x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S144x6144, .f32⟩
  | .hbm, ⟨24, _⟩ => ⟨S144x6144, .f32⟩
  | .hbm, ⟨25, _⟩ => ⟨S144x1024, .f32⟩
  | .hbm, ⟨26, _⟩ => ⟨S144x1024, .f32⟩
  | .hbm, ⟨27, _⟩ => ⟨S_, .f32⟩
  | .hbm, ⟨28, _⟩ => ⟨S144x1024, .f32⟩
  | .hbm, ⟨29, _⟩ => ⟨S144x1024, .f32⟩
  | .hbm, ⟨30, _⟩ => ⟨S_, .f32⟩
  | .hbm, ⟨31, _⟩ => ⟨S144x1024, .f32⟩
  | .hbm, ⟨32, _⟩ => ⟨S144x1024, .f32⟩
  | .hbm, ⟨33, _⟩ => ⟨S144x1024, .f32⟩
  | .hbm, ⟨34, _⟩ => ⟨S1x1024x6144, .f32⟩
  | .hbm, ⟨35, _⟩ => ⟨S1024x6144, .f32⟩
  | .hbm, ⟨36, _⟩ => ⟨S144x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S144x6144, .f32⟩
  | .hbm, ⟨41, _⟩ => ⟨S144x6144, .f32⟩
  | .hbm, ⟨42, _⟩ => ⟨S1x144x6144, .f32⟩
  | .hbm, ⟨43, _⟩ => ⟨S1x144x6144, .f32⟩
  | .hbm, ⟨44, _⟩ => ⟨S2x144x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_call1_cst : Ref sig .tc := ⟨.hbm, 10, rfl⟩
abbrev main_call1_v2 : Ref sig .tc := ⟨.hbm, 11, rfl⟩
abbrev main_call1_v3 : Ref sig .tc := ⟨.hbm, 12, rfl⟩
abbrev main_call1_cst_0 : Ref sig .tc := ⟨.hbm, 13, rfl⟩
abbrev main_call1_v4 : Ref sig .tc := ⟨.hbm, 14, rfl⟩
abbrev main_call1_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call2_v0 : Ref sig .tc := ⟨.hbm, 25, rfl⟩
abbrev main_call2_v1 : Ref sig .tc := ⟨.hbm, 26, rfl⟩
abbrev main_call2_cst : Ref sig .tc := ⟨.hbm, 27, rfl⟩
abbrev main_call2_v2 : Ref sig .tc := ⟨.hbm, 28, rfl⟩
abbrev main_call2_v3 : Ref sig .tc := ⟨.hbm, 29, rfl⟩
abbrev main_call2_cst_0 : Ref sig .tc := ⟨.hbm, 30, rfl⟩
abbrev main_call2_v4 : Ref sig .tc := ⟨.hbm, 31, rfl⟩
abbrev main_call2_v5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Proof.Spec.lean ====
/-
  The mathematics of one decoder layer over the extended reals, row by row: a sequence is a function of the position
  (a natural number) whose value is a row (a function of the channel). Nothing here mentions a program.
-/
module

public import Idealize.ShloMosaic.PureOps.Ideal
public import Idealize.ShloMosaic.PureOps.Ideal.Laws

@[expose] public section

noncomputable section

open Idealize.ShloMosaic

namespace Decoder

/-- A row of `n` channels. -/
abbrev Row (n : ℕ) := Fin n → EReal

/-- The number of channels as a float literal, `1024.0`. -/
abbrev litN : EReal := Ideal.ofBits .f32 0x44800000#32
/-- The literal added under the root, about `1e-6`. -/
abbrev litEps : EReal := Ideal.ofBits .f32 0x358637BD#32
/-- The literal `1.0`. -/
abbrev litOne : EReal := Ideal.ofBits .f32 0x3F800000#32
/-- The literal `0.5`. -/
abbrev litHalf : EReal := Ideal.ofBits .f32 0x3F000000#32
/-- The literal nearest to the root of `2 / π`. -/
abbrev litC0 : EReal := Ideal.ofBits .f32 0x3F4C422A#32
/-- The literal nearest to `0.044715`. -/
abbrev litC3 : EReal := Ideal.ofBits .f32 0x3D372713#32
/-- The product of the two literals, exactly. -/
abbrev gc1 : EReal := ((80338380498831 / 2251799813685248 : ℝ) : EReal)

/-- RMS normalisation of a row with the gain `g`. -/
def rms {n : ℕ} (x g : Row n) : Row n :=
  fun k => x k * Ideal.rsqrt (Ideal.div (∑ j, x j * x j) litN + litEps) * g k

/-- The normalised row, scaled by `1 + sc` and shifted by `sh`. -/
def adaln {n : ℕ} (x g sc sh : Row n) : Row n := fun k => rms x g k * (litOne + sc k) + sh k

/-- A row times a matrix. -/
def lin {n m : ℕ} (h : Row n) (W : Fin n → Row m) : Row m := fun j => ∑ k, h k * W k j

/-- The tanh form of GELU, with the cubic term factored. -/
def gelu (x : EReal) : EReal := litHalf * x * (litOne + Ideal.tanh (x * (litC0 + gc1 * (x * x))))

/-- Row `r` of the `h` rows before position `n` of the sequence `u`, continued: row `n - h + r`, zero before the start. -/
def hist {C : ℕ} (u : ℕ → Row C) (n h r : ℕ) : Row C := if h ≤ n + r then u (n + r - h) else fun _ => 0

/-- The causal depthwise convolution of width three at position `l`. -/
def conv {C : ℕ} (w : Fin 3 → Row C) (b : Row C) (u : ℕ → Row C) (l : ℕ) : Row C :=
  fun k => b k + w 0 k * hist u l 2 0 k + w 1 k * hist u l 1 0 k + w 2 k * u l k

/-- GELU of the first half of the channels times the second half. -/
def geglu (c : Row 5632) : Row 2816 :=
  fun k => gelu (c ⟨k.val, by have := k.isLt; omega⟩) * c ⟨2816 + k.val, by have := k.isLt; omega⟩

/-- The weights of one layer's ConvFFN. -/
structure FfnW where
  up : Fin 1024 → Row 5632
  cw : Fin 3 → Row 5632
  cb : Row 5632
  down : Fin 2816 → Row 1024

/-- The six modulation rows of one group, as the parts of one row of `6 · 1024`. -/
def part (md : Row 6144) (k : Fin 6) : Row 1024 := fun j => md ⟨1024 * k.val + j.val, by have := k.isLt; have := j.isLt; omega⟩

/-- The rows the ConvFFN convolves: the second normalised rows times the up projection. -/
def ffnUp (W : FfnW) (nf : Row 1024) (md : Row 6144) (x1 : ℕ → Row 1024) (l : ℕ) : Row 5632 :=
  lin (adaln (x1 l) nf (part md 4) (part md 3)) W.up

/-- The residual stream after the ConvFFN. -/
def ffnOut (W : FfnW) (nf : Row 1024) (md : Row 6144) (x1 : ℕ → Row 1024) (l : ℕ) : Row 1024 :=
  fun k => x1 l k + part md 5 k * lin (geglu (conv W.cw W.cb (ffnUp W nf md x1) l)) W.down k

/-- The residual stream after a mixer whose output rows are `mix`. -/
def mixOut (wout : Fin 1024 → Row 1024) (md : Row 6144) (x mix : ℕ → Row 1024) (l : ℕ) : Row 1024 :=
  fun k => x l k + part md 2 k * lin (mix l) wout k

/-! ### The odd layer -/

/-- The weights of the spatial-gating mixer. -/
structure OddW where
  nm : Row 1024
  uv : Fin 1024 → Row 2048
  gv : Row 1024
  ws : Fin 8 → Fin 128 → Row 128
  bs : Fin 128 → Row 1024
  out : Fin 1024 → Row 1024

/-- The gate rows `u`: GELU of the first half of the projection. -/
def oddU (W : OddW) (md : Row 6144) (x : ℕ → Row 1024) (l : ℕ) : Row 1024 :=
  fun k => gelu (lin (adaln (x l) W.nm (part md 1) (part md 0)) W.uv ⟨k.val, by have := k.isLt; omega⟩)

/-- The value rows `v`: GELU of the second half of the projection, normalised. -/
def oddV (W : OddW) (md : Row 6144) (x : ℕ → Row 1024) (l : ℕ) : Row 1024 :=
  rms (fun k => gelu (lin (adaln (x l) W.nm (part md 1) (part md 0)) W.uv ⟨1024 + k.val, by have := k.isLt; omega⟩)) W.gv

/-- The causal mixing of the value rows within the chunk of 128 positions that holds `l`. -/
def oddZ (W : OddW) (v : ℕ → Row 1024) (l : ℕ) : Row 1024 :=
  fun k => (∑ s : Fin 128, (if s.val ≤ l % 128 then W.ws ⟨k.val / 128, by have := k.isLt; omega⟩ ⟨l % 128, Nat.mod_lt _ (by decide)⟩ s else 0)
      * v (l / 128 * 128 + s.val) k) + W.bs ⟨l % 128, Nat.mod_lt _ (by decide)⟩ k

/-- The mixer's rows, `u` times the mixed values. -/
def oddMix (W : OddW) (md : Row 6144) (x : ℕ → Row 1024) (l : ℕ) : Row 1024 :=
  fun k => oddU W md x l k * oddZ W (oddV W md x) l k

/-- The residual stream after the odd mixer. -/
def oddX1 (W : OddW) (md : Row 6144) (x : ℕ → Row 1024) : ℕ → Row 1024 := mixOut W.out md x (oddMix W md x)

/-! ### The even layer -/

/-- The weights of the pooling and short-convolution mixer. -/
structure EvenW where
  nm : Row 1024
  win : Fin 1024 → Row 2048
  pool : Fin 4 → Fin 128 → Row 128
  sp : Row 512
  cw : Fin 3 → Row 512
  cb : Row 512
  out : Fin 1024 → Row 1024

/-- The `q`-th quarter of the input projection. -/
def evenP (W : EvenW) (md : Row 6144) (x : ℕ → Row 1024) (q : Fin 4) (l : ℕ) : Row 512 :=
  fun k => lin (adaln (x l) W.nm (part md 1) (part md 0)) W.win ⟨512 * q.val + k.val, by have := k.isLt; have := q.isLt; omega⟩

/-- The width of the window of pooling group `g`: 2, 4, 8, 16. -/
def width (g : Fin 4) : ℕ := 2 ^ (g.val + 1)

/-- The sum of the last `w` rows up to position `l`. -/
def winSum {C : ℕ} (a : ℕ → Row C) (w l : ℕ) : Row C := fun k => ∑ j ∈ Finset.range w, hist a l j 0 k

/-- The pooled row: the trailing mean (over the positions there are) minus the row itself. -/
def evenD (a : ℕ → Row 512) (l : ℕ) : Row 512 := fun k =>
  Ideal.div (winSum a (width ⟨k.val / 128, by have := k.isLt; omega⟩) l k)
    ((min (width ⟨k.val / 128, by have := k.isLt; omega⟩) (l + 1) : ℕ) : ℝ) - a l k

/-- The pooling mixer's rows: each group of 128 channels times its own matrix, scaled by channel. -/
def evenYa (W : EvenW) (a : ℕ → Row 512) (l : ℕ) : Row 512 := fun k =>
  (∑ c : Fin 128, evenD a l ⟨k.val / 128 * 128 + c.val, by have := k.isLt; have := c.isLt; omega⟩
      * W.pool ⟨k.val / 128, by have := k.isLt; omega⟩ c ⟨k.val % 128, Nat.mod_lt _ (by decide)⟩) * W.sp k

/-- The rows the short convolution reads. -/
def evenZ (W : EvenW) (md : Row 6144) (x : ℕ → Row 1024) (l : ℕ) : Row 512 :=
  fun k => evenP W md x 3 l k * evenP W md x 1 l k

/-- The mixer's rows: the pooled channels, then the gated convolution. -/
def evenMix (W : EvenW) (md : Row 6144) (x : ℕ → Row 1024) (l : ℕ) : Row 1024 := fun k =>
  if h : k.val < 512 then evenYa W (evenP W md x 0) l ⟨k.val, h⟩
  else evenP W md x 2 l ⟨k.val - 512, by have := k.isLt; omega⟩
    * conv W.cw W.cb (evenZ W md x) l ⟨k.val - 512, by have := k.isLt; omega⟩

/-- The residual stream after the even mixer. -/
def evenX1 (W : EvenW) (md : Row 6144) (x : ℕ → Row 1024) : ℕ → Row 1024 := mixOut W.out md x (evenMix W md x)

/-! ### The rows before a tile -/

/-- Within a buffer of `h` history rows and then the rows from `n` on, row `h + r` is row `n + r`. -/
theorem hist_ge {C : ℕ} (u : ℕ → Row C) (n h r : ℕ) (hr : h ≤ r) : hist u n h r = u (n + (r - h)) := by
  unfold hist; rw [if_pos (by omega)]; congr 1; omega

/-- Moving the position and the row the other way reads the same row. -/
theorem hist_shift {C : ℕ} (u : ℕ → Row C) (n h r d : ℕ) : hist u (n + d) h r = hist u n h (r + d) := by
  unfold hist; rw [Nat.add_right_comm n d r, Nat.add_assoc n r d]

/-- The `d`-th row before position `n + r`, read from a buffer with `h ≥ d` history rows. -/
theorem hist_back {C : ℕ} (u : ℕ → Row C) (n h r d : ℕ) (hd : d ≤ h) : hist u (n + r) d 0 = hist u n h (h - d + r) := by
  unfold hist
  by_cases hc : d ≤ n + r
  · rw [if_pos (by omega), if_pos (by omega)]; congr 1; omega
  · rw [if_neg (by omega), if_neg (by omega)]

/-- Before position zero all history rows are zero. -/
theorem hist_zero {C : ℕ} (u : ℕ → Row C) (h r : ℕ) (hr : r < h) : hist u 0 h r = fun _ => 0 := by
  unfold hist; rw [if_neg (by omega)]

/-- No row back is the row itself. -/
theorem hist_self {C : ℕ} (u : ℕ → Row C) (l : ℕ) : hist u l 0 0 = u l := by
  unfold hist; rw [if_pos (by omega)]; congr 1

/-! ### The two spellings of GELU -/

theorem litC0_eq : litC0 = ((13386282 / 16777216 : ℝ) : EReal) := by
  simp [Ideal.ofBits, Ideal.ieee, -EReal.coe_mul]; norm_num
theorem litC3_eq : litC3 = ((12003091 / 268435456 : ℝ) : EReal) := by
  simp [Ideal.ofBits, Ideal.ieee, -EReal.coe_mul]; norm_num

/-- The cubic polynomial under the tanh, expanded or factored, at every extended real. -/
theorem gelu_arg (x : EReal) : litC0 * (x + litC3 * (x * x * x)) = x * (litC0 + gc1 * (x * x)) := by
  rw [litC0_eq, litC3_eq]
  induction x using EReal.rec with
  | bot =>
    have h1 : (⊥ : EReal) * ⊥ = ⊤ := by simp
    rw [h1, EReal.top_mul_bot, EReal.coe_mul_bot_of_pos (by norm_num), EReal.coe_mul_top_of_pos (by norm_num),
      EReal.coe_add_top, EReal.bot_mul_top]
    simp only [EReal.bot_add]
    rw [EReal.coe_mul_bot_of_pos (by norm_num)]
  | top =>
    have h1 : (⊤ : EReal) * ⊤ = ⊤ := by simp
    rw [h1, h1, EReal.coe_mul_top_of_pos (by norm_num), EReal.coe_mul_top_of_pos (by norm_num),
      EReal.coe_add_top, h1, EReal.top_add_top, EReal.coe_mul_top_of_pos (by norm_num)]
  | coe r =>
    unfold gc1
    norm_cast
    ring

/-- GELU as the reference spells it. -/
theorem gelu_ref (x : EReal) : x * (litHalf * (litOne + Ideal.tanh (litC0 * (x + litC3 * (x * x * x))))) = gelu x := by
  rw [gelu_arg]; unfold gelu; rw [← mul_assoc, mul_comm x litHalf]

end Decoder
-- ==== Proof.Args.lean ====
/-
  The arguments of the two programs as the mathematics reads them: one group's rows of an array, one layer's weights of
  the stacked weight arrays.
-/
module

public import proofs.«01_k».proof.Proof.Spec
public import Idealize.ShloMosaic.Lib.ValueIdxCore

@[expose] public section

noncomputable section

open Idealize.ShloMosaic Idealize.ShloMosaic.ValueIdx

namespace Decoder

/-- An array of extended reals of rank two, three, four. -/
abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal
abbrev Arr4 (a b c d : ℕ) := (⟨4, ![a, b, c, d]⟩ : Shape).Idx → EReal

/-- The rows of group `g` of an array, continued by zero rows. -/
def seq {n : ℕ} (a : Arr3 8 2048 n) (g : Fin 8) (l : ℕ) : Row n := fun k => if h : l < 2048 then a (ix3 g ⟨l, h⟩ k) else 0

theorem seq_apply {n : ℕ} (a : Arr3 8 2048 n) (g : Fin 8) (l : Fin 2048) (k : Fin n) : seq a g l.val k = a (ix3 g l k) := by
  unfold seq; rw [dif_pos l.isLt]

/-- Row `i` of a matrix. -/
def row2 {m n : ℕ} (a : Arr2 m n) (i : Fin m) : Row n := fun k => a (ix2 i k)

/-- The matrix at position `i` of a stack. -/
def mat3 {p m n : ℕ} (a : Arr3 p m n) (i : Fin p) : Fin m → Row n := fun j k => a (ix3 i j k)

/-- The ConvFFN weights of layer `l`. -/
def ffnArgs (l : Fin 2) (up : Arr3 2 1024 5632) (cw : Arr3 2 3 5632) (cb : Arr2 2 5632) (down : Arr3 2 2816 1024) : FfnW :=
  ⟨mat3 up l, mat3 cw l, row2 cb l, mat3 down l⟩

/-- The weights of the spatial-gating mixer. -/
def oddArgs (nm : Arr2 2 1024) (uv : Arr3 1 1024 2048) (gv : Arr2 1 1024) (ws : Arr4 1 8 128 128) (bs : Arr3 1 8 128)
    (out : Arr3 1 1024 1024) : OddW :=
  ⟨row2 nm 1, mat3 uv 0, row2 gv 0, fun h t s => ws (ix4 0 h t s),
    fun t k => bs (ix3 0 ⟨k.val / 128, by have := k.isLt; omega⟩ t), mat3 out 0⟩

/-- The weights of the pooling and short-convolution mixer. -/
def evenArgs (nm : Arr2 2 1024) (win : Arr3 1 1024 2048) (pool : Arr4 1 4 128 128) (sp : Arr2 1 512) (cw : Arr3 1 3 512)
    (cb : Arr2 1 512) (out : Arr3 1 1024 1024) : EvenW :=
  ⟨row2 nm 0, mat3 win 0, fun g i j => pool (ix4 0 g i j), row2 sp 0, mat3 cw 0, row2 cb 0, mat3 out 0⟩

end Decoder
-- ==== Proof.Reads.lean ====
/-
  Reading an array at an index given by the values of its coordinates.
-/
module

public import proofs.«01_k».proof.Proof.Args

@[expose] public section

noncomputable section

open Idealize.ShloMosaic Idealize.ShloMosaic.ValueIdx

namespace Decoder

/-- An array read at an index whose coordinates have the values of `i`, `j`, …: ranks one, two, three, four. -/
theorem at1 {a : ℕ} (A : Arr1 a) {i : Fin a} {y : (⟨1, ![a]⟩ : Shape).Idx} (h0 : (y 0).val = i.val) : A y = A (ix1 i) :=
  congrArg A (funext fun d => Fin.ext (match d with | ⟨0, _⟩ => h0))
theorem at2 {a b : ℕ} (A : Arr2 a b) {i : Fin a} {j : Fin b} {y : (⟨2, ![a, b]⟩ : Shape).Idx}
    (h0 : (y 0).val = i.val) (h1 : (y 1).val = j.val) : A y = A (ix2 i j) :=
  congrArg A (funext fun d => Fin.ext (match d with | ⟨0, _⟩ => h0 | ⟨1, _⟩ => h1))
theorem at3 {a b c : ℕ} (A : Arr3 a b c) {i : Fin a} {j : Fin b} {k : Fin c} {y : (⟨3, ![a, b, c]⟩ : Shape).Idx}
    (h0 : (y 0).val = i.val) (h1 : (y 1).val = j.val) (h2 : (y 2).val = k.val) : A y = A (ix3 i j k) :=
  congrArg A (funext fun d => Fin.ext (match d with | ⟨0, _⟩ => h0 | ⟨1, _⟩ => h1 | ⟨2, _⟩ => h2))
theorem at4 {a b c e : ℕ} (A : Arr4 a b c e) {i : Fin a} {j : Fin b} {k : Fin c} {l : Fin e} {y : (⟨4, ![a, b, c, e]⟩ : Shape).Idx}
    (h0 : (y 0).val = i.val) (h1 : (y 1).val = j.val) (h2 : (y 2).val = k.val) (h3 : (y 3).val = l.val) : A y = A (ix4 i j k l) :=
  congrArg A (funext fun d => Fin.ext (match d with | ⟨0, _⟩ => h0 | ⟨1, _⟩ => h1 | ⟨2, _⟩ => h2 | ⟨3, _⟩ => h3))

end Decoder
-- ==== Proof.Blocks.lean ====
/-
  What the operations of a kernel's body make of a block of rows. A vector of 512 rows HOLDS a sequence from the position
  `n` on when its row `r` is the sequence's row `n + r` (`Rows`); each lemma says which sequence a stage of the body holds,
  given which one it was fed. The stages are stated for any row count and are used for every block, layer and column chunk.
-/
module

public import proofs.«01_k».proof.Proof.Spec
public import Idealize.ShloMosaic.Lib.MatmulPlain
public import Idealize.ShloMosaic.Lib.Pipeline.Value
public import Idealize.ShloMosaic.Lib.Pipeline.FrameBody
public import Idealize.ShloMosaic.Lib.ValueIdx
public import Idealize.ShloMosaic.Lib.Pipeline.ValueKit.Tiles

@[expose] public section

noncomputable section

open Idealize.ShloMosaic Idealize.ShloMosaic.ValueIdx

namespace Decoder

/-- A matrix of extended reals, as a block of a program over them holds it. -/
abbrev Mat (a b : ℕ) := (⟨2, ![a, b]⟩ : Shape).Idx → EReal

/-- Row `r` of the block is row `n + r` of the sequence. -/
def Rows {R C : ℕ} (v : Mat R C) (u : ℕ → Row C) (n : ℕ) : Prop := ∀ r c, v (ix2 r c) = u (n + r.val) c

/-- The one row of the block is the row `g`. -/
def One {C : ℕ} (v : Mat 1 C) (g : Row C) : Prop := ∀ c, v (ix2 0 c) = g c

/-- The block is the matrix `w`. -/
def Is {K N : ℕ} (v : Mat K N) (w : Fin K → Row N) : Prop := ∀ k j, v (ix2 k j) = w k j

section Ops

variable {R C K n : ℕ}

/-- A row broadcast over a block, -/
theorem bcast_row (v : Mat 1 C) (h : (⟨2, ![1, C]⟩ : Shape).Broadcasts ⟨2, ![R, C]⟩) (r : Fin R) (c : Fin C) :
    broadcastTo ⟨2, ![R, C]⟩ v h (ix2 r c) = v (ix2 0 c) :=
  broadcastTo_apply v h _ _ fun a => by
    match a with
    | ⟨0, _⟩ => rfl
    | ⟨1, _⟩ =>
      by_cases hC : C = 1
      · subst hC; show c.val = if (1 : ℕ) = 1 then 0 else _; rw [if_pos rfl]; omega
      · show c.val = if C = 1 then 0 else c.val; rw [if_neg hC]

/-- a column broadcast over a block. -/
theorem bcast_col (v : Mat R 1) (h : (⟨2, ![R, 1]⟩ : Shape).Broadcasts ⟨2, ![R, C]⟩) (r : Fin R) (c : Fin C) :
    broadcastTo ⟨2, ![R, C]⟩ v h (ix2 r c) = v (ix2 r 0) :=
  broadcastTo_apply v h _ _ fun a => by
    match a with
    | ⟨0, _⟩ =>
      by_cases hR : R = 1
      · subst hR; show r.val = if (1 : ℕ) = 1 then 0 else _; rw [if_pos rfl]; omega
      · show r.val = if R = 1 then 0 else r.val; rw [if_neg hR]
    | ⟨1, _⟩ => rfl

/-- The sum over a block's columns, as a column. -/
theorem rowSum (v : Mat R C) (h : (⟨1, ![R]⟩ : Shape).ShapeCasts ⟨2, ![R, 1]⟩)
    (hr : (⟨2, ![R, C]⟩ : Shape).Reduces [1] ⟨1, ![R]⟩) (hk ha) (r : Fin R) :
    shapeCast ⟨2, ![R, 1]⟩ (multiReduction (F := Ideal) (φ := .f32) .add [1] ⟨1, ![R]⟩ v 0x00000000#32 hr hk ha) h (ix2 r 0)
      = ∑ c : Fin C, v (ix2 r c) := by
  rw [shapeCast_apply _ h (ix2 r 0) (ix1 r) (by rw [Shape.rowMajor_val_one, Shape.rowMajor_val_two]; show r.val = r.val * 1 + 0; omega)]
  rw [Ideal.multiReduction_add_single (s := ⟨2, ![R, C]⟩) (a := 1)]
  exact Finset.sum_congr rfl fun k _ => congrArg v (funext fun d => Fin.ext (match d with | ⟨0, _⟩ => rfl | ⟨1, _⟩ => rfl))

/-- A cast that drops a leading unit axis, -/
theorem cast_drop (v : (⟨3, ![1, R, C]⟩ : Shape).Idx → EReal) (h : (⟨3, ![1, R, C]⟩ : Shape).ShapeCasts ⟨2, ![R, C]⟩) (r : Fin R) (c : Fin C) :
    shapeCast ⟨2, ![R, C]⟩ v h (ix2 r c) = v (ix3 0 r c) :=
  (shapeCast_dropUnit_apply (n := 2) ![R, C] v h (ix2 r c)).trans
    (congrArg v (funext fun d => Fin.ext (match d with | ⟨0, _⟩ => rfl | ⟨1, _⟩ => rfl | ⟨2, _⟩ => rfl)))
/-- and one that adds it. -/
theorem cast_add (v : Mat R C) (h : (⟨2, ![R, C]⟩ : Shape).ShapeCasts ⟨3, ![1, R, C]⟩) (r : Fin R) (c : Fin C) :
    shapeCast ⟨3, ![1, R, C]⟩ v h (ix3 0 r c) = v (ix2 r c) :=
  (shapeCast_addUnit_apply (n := 2) ![R, C] v h (ix3 0 r c)).trans
    (congrArg v (funext fun d => Fin.ext (match d with | ⟨0, _⟩ => rfl | ⟨1, _⟩ => rfl)))

/-- A cast to the same shape, of a block of rows, -/
theorem Rows.cast {v : Mat R C} {u : ℕ → Row C} (h : Rows v u n) (hc : (⟨2, ![R, C]⟩ : Shape).ShapeCasts ⟨2, ![R, C]⟩) :
    Rows (shapeCast ⟨2, ![R, C]⟩ v hc) u n := by rw [shapeCast_self]; exact h
/-- of one row, -/
theorem One.cast {v : Mat 1 C} {g : Row C} (h : One v g) (hc : (⟨2, ![1, C]⟩ : Shape).ShapeCasts ⟨2, ![1, C]⟩) :
    One (shapeCast ⟨2, ![1, C]⟩ v hc) g := by rw [shapeCast_self]; exact h
/-- of a matrix. -/
theorem Is.cast {v : Mat R C} {w : Fin R → Row C} (h : Is v w) (hc : (⟨2, ![R, C]⟩ : Shape).ShapeCasts ⟨2, ![R, C]⟩) :
    Is (shapeCast ⟨2, ![R, C]⟩ v hc) w := by rw [shapeCast_self]; exact h

/-- The narrowing cast changes nothing over the extended reals. -/
theorem Rows.trunc {v : Mat R C} {u : ℕ → Row C} (h : Rows v u n) (hb : FTy.bits .bf16 < FTy.bits .f32) :
    Rows (truncf (F := Ideal) (φ := .f32) .bf16 v hb) u n := h

/-- Normalising the rows of a block, with a gain. -/
theorem Rows.rms {x : Mat R C} {u : ℕ → Row C} (hx : Rows x u n) {g : Mat 1 C} {gr : Row C} (hg : One g gr)
    (h1 : (⟨1, ![R]⟩ : Shape).ShapeCasts ⟨2, ![R, 1]⟩) (hr : (⟨2, ![R, C]⟩ : Shape).Reduces [1] ⟨1, ![R]⟩) (hk ha)
    (hb : (⟨2, ![R, 1]⟩ : Shape).Broadcasts ⟨2, ![R, C]⟩) (hb' : (⟨2, ![1, C]⟩ : Shape).Broadcasts ⟨2, ![R, C]⟩) :
    Rows (mulf (F := Ideal) (φ := .f32) (mulf (F := Ideal) (φ := .f32) x (broadcastTo ⟨2, ![R, C]⟩ (rsqrt (F := Ideal) (φ := .f32)
      (addf (F := Ideal) (φ := .f32) (divf (F := Ideal) (φ := .f32)
        (shapeCast ⟨2, ![R, 1]⟩ (multiReduction (F := Ideal) (φ := .f32) .add [1] ⟨1, ![R]⟩ (mulf (F := Ideal) (φ := .f32) x x) 0x00000000#32 hr hk ha) h1)
        (broadcast ⟨2, ![R, 1]⟩ (FloatOps.ofBits (F := Ideal) .f32 0x44800000#32)))
        (broadcast ⟨2, ![R, 1]⟩ (FloatOps.ofBits (F := Ideal) .f32 0x358637BD#32)))) hb))
      (broadcastTo ⟨2, ![R, C]⟩ g hb')) (fun l => Decoder.rms (u l) gr) n := fun r c => by
  show x (ix2 r c) * broadcastTo ⟨2, ![R, C]⟩ _ hb (ix2 r c) * broadcastTo ⟨2, ![R, C]⟩ g hb' (ix2 r c) = _
  rw [bcast_row, bcast_col, hg, hx]
  show u (n + r.val) c * Ideal.rsqrt (Ideal.div (shapeCast ⟨2, ![R, 1]⟩ _ h1 (ix2 r 0)) litN + litEps) * gr c = _
  rw [rowSum]
  unfold Decoder.rms
  rw [Finset.sum_congr rfl fun j _ => show (mulf (F := Ideal) (φ := .f32) x x) (ix2 r j) = u (n + r.val) j * u (n + r.val) j from
    by show x (ix2 r j) * x (ix2 r j) = _; rw [hx]]

/-- Scaling and shifting the rows of a block. -/
theorem Rows.affine {x : Mat R C} {u : ℕ → Row C} (hx : Rows x u n) {sc sh : Mat 1 C} {scr shr : Row C} (hsc : One sc scr) (hsh : One sh shr)
    (hb hb' : (⟨2, ![1, C]⟩ : Shape).Broadcasts ⟨2, ![R, C]⟩) :
    Rows (addf (F := Ideal) (φ := .f32) (mulf (F := Ideal) (φ := .f32) x (broadcastTo ⟨2, ![R, C]⟩ (addf (F := Ideal) (φ := .f32)
      (broadcast ⟨2, ![1, C]⟩ (FloatOps.ofBits (F := Ideal) .f32 0x3F800000#32)) sc) hb)) (broadcastTo ⟨2, ![R, C]⟩ sh hb'))
      (fun l k => u l k * (litOne + scr k) + shr k) n := fun r c => by
  show x (ix2 r c) * broadcastTo ⟨2, ![R, C]⟩ _ hb (ix2 r c) + broadcastTo ⟨2, ![R, C]⟩ sh hb' (ix2 r c) = _
  rw [bcast_row, bcast_row, hsh, hx]
  show _ * (litOne + sc (ix2 0 c)) + _ = _
  rw [hsc]

/-- A block of rows times a matrix, accumulated into zero. -/
theorem Rows.lin {K N : ℕ} {x : Mat R K} {u : ℕ → Row K} (hx : Rows x u n) {W : Mat K N} {w : Fin K → Row N} (hW : Is W w)
    (D : DotDims ⟨2, ![R, K]⟩ ⟨2, ![K, N]⟩ ⟨2, ![R, N]⟩) (hD : D = DotDims.plain R K N) (p : Option ContractPrecision) :
    Rows (matmul (F := Ideal) (φ₁ := .bf16) (φ₂ := .bf16) D p x W (constant (F := Ideal) ⟨2, ![R, N]⟩ .f32 0x00000000#32))
      (fun l => Decoder.lin (u l) w) n := fun r c => by
  subst hD
  refine (Ideal.matmul_plain_apply (φ₁ := .bf16) (φ₂ := .bf16) p x W _ r c).trans ?_
  show Ideal.ofBits .f32 0x00000000#32 + _ = _
  rw [Ideal.ofBits_zero_f32, zero_add]
  exact Finset.sum_congr rfl fun k _ => by rw [hx, hW]

/-- A matrix times a block: row `r` is the combination of the block's rows with row `r` of the matrix. -/
theorem matmul_at {M K N : ℕ} (x : Mat M K) (W : Mat K N)
    (D : DotDims ⟨2, ![M, K]⟩ ⟨2, ![K, N]⟩ ⟨2, ![M, N]⟩) (hD : D = DotDims.plain M K N) (p : Option ContractPrecision) (r : Fin M) (c : Fin N) :
    matmul (F := Ideal) (φ₁ := .bf16) (φ₂ := .bf16) D p x W (constant (F := Ideal) ⟨2, ![M, N]⟩ .f32 0x00000000#32) (ix2 r c)
      = ∑ k : Fin K, x (ix2 r k) * W (ix2 k c) := by
  subst hD
  refine (Ideal.matmul_plain_apply (φ₁ := .bf16) (φ₂ := .bf16) p x W _ r c).trans ?_
  show Ideal.ofBits .f32 0x00000000#32 + _ = _
  rw [Ideal.ofBits_zero_f32, zero_add]

/-- GELU of a block's elements, with the constant `c` for the product of the two literals. -/
theorem Rows.gelu {x : Mat R C} {u : ℕ → Row C} (hx : Rows x u n) (c : EReal) (hc : c = gc1) :
    Rows (mulf (F := Ideal) (φ := .f32) (mulf (F := Ideal) (φ := .f32) (broadcast ⟨2, ![R, C]⟩ (FloatOps.ofBits (F := Ideal) .f32 0x3F000000#32)) x)
      (addf (F := Ideal) (φ := .f32) (broadcast ⟨2, ![R, C]⟩ (FloatOps.ofBits (F := Ideal) .f32 0x3F800000#32))
        (tanh (F := Ideal) (φ := .f32) (mulf (F := Ideal) (φ := .f32) x (addf (F := Ideal) (φ := .f32)
          (broadcast ⟨2, ![R, C]⟩ (FloatOps.ofBits (F := Ideal) .f32 0x3F4C422A#32))
          (mulf (F := Ideal) (φ := .f32) (broadcast ⟨2, ![R, C]⟩ (c : Ideal .f32)) (mulf (F := Ideal) (φ := .f32) x x)))))))
      (fun l k => Decoder.gelu (u l k)) n := fun r k => by
  show litHalf * x (ix2 r k) * (litOne + Ideal.tanh (x (ix2 r k) * (litC0 + c * (x (ix2 r k) * x (ix2 r k))))) = _
  rw [hx, hc]; rfl

/-- The elementwise product of two blocks. -/
theorem Rows.mul {x y : Mat R C} {u v : ℕ → Row C} (hx : Rows x u n) (hy : Rows y v n) :
    Rows (mulf (F := Ideal) (φ := .f32) x y) (fun l k => u l k * v l k) n := fun r k => by
  show x (ix2 r k) * y (ix2 r k) = _; rw [hx, hy]

/-- A residual: a block plus a gated block. -/
theorem Rows.resid {x y : Mat R C} {u v : ℕ → Row C} (hx : Rows x u n) (hy : Rows y v n) {g : Mat 1 C} {gr : Row C} (hg : One g gr)
    (hb : (⟨2, ![1, C]⟩ : Shape).Broadcasts ⟨2, ![R, C]⟩) :
    Rows (addf (F := Ideal) (φ := .f32) x (mulf (F := Ideal) (φ := .f32) (broadcastTo ⟨2, ![R, C]⟩ g hb) y)) (fun l k => u l k + gr k * v l k) n :=
  fun r k => by
  show x (ix2 r k) + broadcastTo ⟨2, ![R, C]⟩ g hb (ix2 r k) * y (ix2 r k) = _; rw [bcast_row, hg, hx, hy]

/-- The three-tap convolution of a block, from three blocks of a buffer that holds the `h` rows before it and itself. -/
theorem Rows.conv {g0 g1 g2 : Mat R C} {u : ℕ → Row C} {h : ℕ} (h2 : 2 ≤ h) (e0 : ∀ r c, g0 (ix2 r c) = hist u n h (h - 2 + r.val) c)
    (e1 : ∀ r c, g1 (ix2 r c) = hist u n h (h - 1 + r.val) c) (e2 : ∀ r c, g2 (ix2 r c) = hist u n h (h + r.val) c)
    {b w0 w1 w2 : Mat 1 C} {br : Row C} {wr : Fin 3 → Row C} (hb : One b br) (hw0 : One w0 (wr 0)) (hw1 : One w1 (wr 1)) (hw2 : One w2 (wr 2))
    (c0 c1 c2 c3 : (⟨2, ![1, C]⟩ : Shape).Broadcasts ⟨2, ![R, C]⟩) :
    Rows (addf (F := Ideal) (φ := .f32) (addf (F := Ideal) (φ := .f32) (addf (F := Ideal) (φ := .f32) (broadcastTo ⟨2, ![R, C]⟩ b c0)
      (mulf (F := Ideal) (φ := .f32) (broadcastTo ⟨2, ![R, C]⟩ w0 c1) g0)) (mulf (F := Ideal) (φ := .f32) (broadcastTo ⟨2, ![R, C]⟩ w1 c2) g1))
      (mulf (F := Ideal) (φ := .f32) (broadcastTo ⟨2, ![R, C]⟩ w2 c3) g2)) (fun l => Decoder.conv wr br u l) n := fun r k => by
  show broadcastTo ⟨2, ![R, C]⟩ b c0 (ix2 r k) + broadcastTo ⟨2, ![R, C]⟩ w0 c1 (ix2 r k) * g0 (ix2 r k)
    + broadcastTo ⟨2, ![R, C]⟩ w1 c2 (ix2 r k) * g1 (ix2 r k) + broadcastTo ⟨2, ![R, C]⟩ w2 c3 (ix2 r k) * g2 (ix2 r k) = _
  rw [bcast_row, bcast_row, bcast_row, bcast_row, hb, hw0, hw1, hw2, e0, e1, e2]
  show _ = br k + wr 0 k * hist u (n + r.val) 2 0 k + wr 1 k * hist u (n + r.val) 1 0 k + wr 2 k * u (n + r.val) k
  rw [hist_back u n h r.val 2 h2, hist_back u n h r.val 1 (by omega), hist_ge u n h (h + r.val) (by omega), Nat.add_sub_cancel_left]

end Ops

/-! ### Loads of windows, and buffers written in pieces -/

section Loads

open Idealize.ShloMosaic.View

variable {sig : RefSig} {κ : Kind} {sp : Space} {e : EltTy}

/-- A load of a box of a whole window of rank two, -/
theorem load2 {A B a b o0 o1 : ℕ} (m : Memref sig κ sp ⟨2, ![A, B]⟩ e) (h : m.IsWhole) (X : (⟨2, ![A, B]⟩ : Shape).Idx → Elt Ideal e)
    (inb : ∀ d, (![o0, o1] : Fin 2 → ℕ) d + (![a, b] : Fin 2 → ℕ) d ≤ (⟨2, ![A, B]⟩ : Shape).size d) (r : Fin a) (c : Fin b) (i : Fin A) (j : Fin B)
    (hi : i.val = o0 + r.val) (hj : j.val = o1 + c.val) :
    View.readAt (Elt Ideal) m.view (Rect.unit (s := ⟨2, ![A, B]⟩) ![o0, o1] ![a, b] inb).toLoadRect (h.unread X) (ix2 r c) = X (ix2 i j) := by
  rw [View.readAt_eq_ld, h.read_unread]
  exact ld_unit_apply_of X _ _ inb (ix2 r c) (ix2 i j) fun d => match d with | ⟨0, _⟩ => hi | ⟨1, _⟩ => hj

/-- and of rank three. -/
theorem load3 {A B C a b c o0 o1 o2 : ℕ} (m : Memref sig κ sp ⟨3, ![A, B, C]⟩ e) (h : m.IsWhole) (X : (⟨3, ![A, B, C]⟩ : Shape).Idx → Elt Ideal e)
    (inb : ∀ d, (![o0, o1, o2] : Fin 3 → ℕ) d + (![a, b, c] : Fin 3 → ℕ) d ≤ (⟨3, ![A, B, C]⟩ : Shape).size d) (p : Fin a) (q : Fin b) (r : Fin c)
    (i : Fin A) (j : Fin B) (k : Fin C) (hi : i.val = o0 + p.val) (hj : j.val = o1 + q.val) (hk : k.val = o2 + r.val) :
    View.readAt (Elt Ideal) m.view (Rect.unit (s := ⟨3, ![A, B, C]⟩) ![o0, o1, o2] ![a, b, c] inb).toLoadRect (h.unread X) (ix3 p q r) = X (ix3 i j k) := by
  rw [View.readAt_eq_ld, h.read_unread]
  exact ld_unit_apply_of X _ _ inb (ix3 p q r) (ix3 i j k) fun d => match d with | ⟨0, _⟩ => hi | ⟨1, _⟩ => hj | ⟨2, _⟩ => hk

/-- A load of what pieces left of a buffer of rank two reads the buffer's contents there. -/
theorem readCov2 {A B a b o0 o1 : ℕ} (v : View sig κ sp ⟨2, ![A, B]⟩ e) (L : List (Piece (Elt Ideal) ⟨2, ![A, B]⟩ e))
    (inb : ∀ d, (![o0, o1] : Fin 2 → ℕ) d + (![a, b] : Fin 2 → ℕ) d ≤ (⟨2, ![A, B]⟩ : Shape).size d) (r : Fin a) (c : Fin b) (i : Fin A) (j : Fin B)
    (hi : i.val = o0 + r.val) (hj : j.val = o1 + c.val) :
    v.readCov L (Rect.unit (s := ⟨2, ![A, B]⟩) ![o0, o1] ![a, b] inb).toLoadRect (ix2 r c) = View.canon L (ix2 i j) := by
  rw [View.readCov_eq_canon']
  refine congrArg (View.canon L) (funext fun d => Fin.ext ?_)
  refine (Rect.idx_unit_val (s := ⟨2, ![A, B]⟩) ![o0, o1] ![a, b] inb (ix2 r c) d).trans ?_
  match d with
  | ⟨0, _⟩ => exact hi.symm
  | ⟨1, _⟩ => exact hj.symm

/-- The same of rank three. -/
theorem readCov3 {A B C a b c o0 o1 o2 : ℕ} (v : View sig κ sp ⟨3, ![A, B, C]⟩ e) (L : List (Piece (Elt Ideal) ⟨3, ![A, B, C]⟩ e))
    (inb : ∀ d, (![o0, o1, o2] : Fin 3 → ℕ) d + (![a, b, c] : Fin 3 → ℕ) d ≤ (⟨3, ![A, B, C]⟩ : Shape).size d) (p : Fin a) (q : Fin b) (r : Fin c)
    (i : Fin A) (j : Fin B) (k : Fin C) (hi : i.val = o0 + p.val) (hj : j.val = o1 + q.val) (hk : k.val = o2 + r.val) :
    v.readCov L (Rect.unit (s := ⟨3, ![A, B, C]⟩) ![o0, o1, o2] ![a, b, c] inb).toLoadRect (ix3 p q r) = View.canon L (ix3 i j k) := by
  rw [View.readCov_eq_canon']
  refine congrArg (View.canon L) (funext fun d => Fin.ext ?_)
  refine (Rect.idx_unit_val (s := ⟨3, ![A, B, C]⟩) ![o0, o1, o2] ![a, b, c] inb (ix3 p q r) d).trans ?_
  match d with
  | ⟨0, _⟩ => exact hi.symm
  | ⟨1, _⟩ => exact hj.symm
  | ⟨2, _⟩ => exact hk.symm

/-- A buffer whose last store fills it whole holds that store's payload. -/
theorem canon_whole {A B : ℕ} (w : (⟨2, ![A, B]⟩ : Shape).Idx → Elt Ideal e) (L : List (Piece (Elt Ideal) ⟨2, ![A, B]⟩ e))
    (inb : ∀ d, (![0, 0] : Fin 2 → ℕ) d + (![A, B] : Fin 2 → ℕ) d ≤ (⟨2, ![A, B]⟩ : Shape).size d) (y) :
    View.canon (⟨Rect.unit (s := ⟨2, ![A, B]⟩) ![0, 0] ![A, B] inb, w⟩ :: L) y = w y :=
  congrFun (canon_cons_unit_zero (S := ⟨2, ![A, B]⟩) (off := ![0, 0]) (funext fun d => match d with | ⟨0, _⟩ => rfl | ⟨1, _⟩ => rfl) inb w L) y

/-- Under the last piece of rank two, its payload; -/
theorem canon_in2 {A B a b o0 o1 : ℕ} {inb : ∀ d, (![o0, o1] : Fin 2 → ℕ) d + (![a, b] : Fin 2 → ℕ) d ≤ (⟨2, ![A, B]⟩ : Shape).size d}
    (w : (⟨2, ![a, b]⟩ : Shape).Idx → Elt Ideal e) (L : List (Piece (Elt Ideal) ⟨2, ![A, B]⟩ e)) (r : Fin a) (c : Fin b) (i : Fin A) (j : Fin B)
    (hi : i.val = o0 + r.val) (hj : j.val = o1 + c.val) :
    View.canon (⟨Rect.unit (s := ⟨2, ![A, B]⟩) ![o0, o1] ![a, b] inb, w⟩ :: L) (ix2 i j) = w (ix2 r c) := by
  rw [show ix2 i j = (Rect.unit (s := ⟨2, ![A, B]⟩) ![o0, o1] ![a, b] inb).emb (ix2 r c) from
    funext fun d => Fin.ext ((match d with | ⟨0, _⟩ => hi | ⟨1, _⟩ => hj : (ix2 i j d).val = (![o0, o1] : Fin 2 → ℕ) d + (ix2 r c d).val).trans
      (Rect.idx_unit_val _ _ inb (ix2 r c) d).symm)]
  exact canon_cons_emb (Rect.unit (s := ⟨2, ![A, B]⟩) ![o0, o1] ![a, b] inb) w L _

/-- off its rows, what the earlier pieces left; -/
theorem canon_out2_row {A B a b o0 o1 : ℕ} {inb : ∀ d, (![o0, o1] : Fin 2 → ℕ) d + (![a, b] : Fin 2 → ℕ) d ≤ (⟨2, ![A, B]⟩ : Shape).size d}
    (w : (⟨2, ![a, b]⟩ : Shape).Idx → Elt Ideal e) (L : List (Piece (Elt Ideal) ⟨2, ![A, B]⟩ e)) (i : Fin A) (j : Fin B)
    (h : i.val < o0 ∨ o0 + a ≤ i.val) :
    View.canon (⟨Rect.unit (s := ⟨2, ![A, B]⟩) ![o0, o1] ![a, b] inb, w⟩ :: L) (ix2 i j) = View.canon L (ix2 i j) := by
  refine canon_cons_of_not_mem _ L fun hm => ?_
  obtain ⟨x, hx⟩ := (Rect.unit (s := ⟨2, ![A, B]⟩) ![o0, o1] ![a, b] inb).exists_idx_of_mem hm
  have h0 := (Rect.idx_unit_val (s := ⟨2, ![A, B]⟩) ![o0, o1] ![a, b] inb x 0)
  rw [hx] at h0
  have hx0 : (x 0).val < a := (x 0).isLt
  have h0' : i.val = o0 + (x 0).val := h0
  omega

/-- and in rank three, off its last coordinates. -/
theorem canon_out3_last {A B C a b c o0 o1 o2 : ℕ}
    {inb : ∀ d, (![o0, o1, o2] : Fin 3 → ℕ) d + (![a, b, c] : Fin 3 → ℕ) d ≤ (⟨3, ![A, B, C]⟩ : Shape).size d}
    (w : (⟨3, ![a, b, c]⟩ : Shape).Idx → Elt Ideal e) (L : List (Piece (Elt Ideal) ⟨3, ![A, B, C]⟩ e)) (i : Fin A) (j : Fin B) (k : Fin C)
    (h : k.val < o2 ∨ o2 + c ≤ k.val) :
    View.canon (⟨Rect.unit (s := ⟨3, ![A, B, C]⟩) ![o0, o1, o2] ![a, b, c] inb, w⟩ :: L) (ix3 i j k) = View.canon L (ix3 i j k) := by
  refine canon_cons_of_not_mem _ L fun hm => ?_
  obtain ⟨x, hx⟩ := (Rect.unit (s := ⟨3, ![A, B, C]⟩) ![o0, o1, o2] ![a, b, c] inb).exists_idx_of_mem hm
  have h0 := (Rect.idx_unit_val (s := ⟨3, ![A, B, C]⟩) ![o0, o1, o2] ![a, b, c] inb x 2)
  rw [hx] at h0
  have hx0 : (x 2).val < c := (x 2).isLt
  have h0' : k.val = o2 + (x 2).val := h0
  omega

end Loads

end Decoder
-- ==== Proof.FfnBlock.lean ====
/-
  The ConvFFN of one block of 512 rows, as both layers' kernels run it: eleven chunks of 256 columns, each through two
  buffers that hold eight history rows and the block's own rows. Everything is stated for a chunk at any column offset `o`.
-/
module

public import proofs.«01_k».proof.Proof.Blocks

@[expose] public section

noncomputable section

open Idealize.ShloMosaic Idealize.ShloMosaic.ValueIdx Idealize.ShloMosaic.View

namespace Decoder

/-- The `w` channels of a row from `o` on. -/
def cols {N : ℕ} (o w : ℕ) (h : o + w ≤ N) (x : Row N) : Row w := fun c => x ⟨o + c.val, by have := c.isLt; omega⟩

theorem hist_cols {N : ℕ} (o w : ℕ) (h : o + w ≤ N) (u : ℕ → Row N) (n k r : ℕ) (c : Fin w) :
    hist (fun l => cols o w h (u l)) n k r c = hist u n k r ⟨o + c.val, by have := c.isLt; omega⟩ := by
  unfold hist; split <;> rfl

/-- The convolution acts channel by channel. -/
theorem conv_cols {N : ℕ} (o w : ℕ) (h : o + w ≤ N) (cw : Fin 3 → Row N) (cb : Row N) (u : ℕ → Row N) (l : ℕ) :
    conv (fun t => cols o w h (cw t)) (cols o w h cb) (fun l => cols o w h (u l)) l = cols o w h (conv cw cb u l) := by
  funext c; unfold conv; rw [hist_cols, hist_cols]; rfl

/-- A buffer of `hh` history rows followed by `R` rows of a block, written in this order and last, holds the sequence's rows
    from `hh` before the block on. -/
theorem canon_hist {hh R W A n : ℕ} {u : ℕ → Row W} (hA : A = hh + R) {B : Mat R W} {T : Mat hh W} (hB : Rows B u n)
    (hT : ∀ r c, T (ix2 r c) = hist u n hh r.val c)
    {inb1 : ∀ d, (![hh, 0] : Fin 2 → ℕ) d + (![R, W] : Fin 2 → ℕ) d ≤ (⟨2, ![A, W]⟩ : Shape).size d}
    {inb2 : ∀ d, (![0, 0] : Fin 2 → ℕ) d + (![hh, W] : Fin 2 → ℕ) d ≤ (⟨2, ![A, W]⟩ : Shape).size d}
    (L : List (Piece (Elt Ideal) ⟨2, ![A, W]⟩ .f32)) (i : Fin A) (c : Fin W) :
    View.canon ((⟨Rect.unit (s := ⟨2, ![A, W]⟩) ![hh, 0] ![R, W] inb1, B⟩ : Piece (Elt Ideal) ⟨2, ![A, W]⟩ .f32)
      :: (⟨Rect.unit (s := ⟨2, ![A, W]⟩) ![0, 0] ![hh, W] inb2, T⟩ : Piece (Elt Ideal) ⟨2, ![A, W]⟩ .f32) :: L) (ix2 i c)
      = hist u n hh i.val c := by
  have hi := i.isLt
  by_cases h : i.val < hh
  · refine (canon_out2_row (e := .f32) B _ i c (Or.inl h)).trans ?_
    exact (canon_in2 (e := .f32) T L (⟨i.val, h⟩ : Fin hh) c i c (by simp) (by simp)).trans (hT _ _)
  · refine (canon_in2 (e := .f32) B _ (⟨i.val - hh, by omega⟩ : Fin R) c i c (by show i.val = hh + (i.val - hh); omega) (by simp)).trans ?_
    rw [hB, hist_ge u n hh i.val (by omega)]

/-- A box of rows of such a buffer, from row `q` on. -/
theorem tap {sig : RefSig} {κ : Kind} {sp : Space} {hh R W A n q m : ℕ} {u : ℕ → Row W} (hA : A = hh + R) {B : Mat R W} {T : Mat hh W} (hB : Rows B u n)
    (hT : ∀ r c, T (ix2 r c) = hist u n hh r.val c)
    {inb1 : ∀ d, (![hh, 0] : Fin 2 → ℕ) d + (![R, W] : Fin 2 → ℕ) d ≤ (⟨2, ![A, W]⟩ : Shape).size d}
    {inb2 : ∀ d, (![0, 0] : Fin 2 → ℕ) d + (![hh, W] : Fin 2 → ℕ) d ≤ (⟨2, ![A, W]⟩ : Shape).size d}
    (L : List (Piece (Elt Ideal) ⟨2, ![A, W]⟩ .f32)) (v : View sig κ sp ⟨2, ![A, W]⟩ .f32)
    (inb : ∀ d, (![q, 0] : Fin 2 → ℕ) d + (![m, W] : Fin 2 → ℕ) d ≤ (⟨2, ![A, W]⟩ : Shape).size d) (r : Fin m) (c : Fin W) :
    v.readCov ((⟨Rect.unit (s := ⟨2, ![A, W]⟩) ![hh, 0] ![R, W] inb1, B⟩ : Piece (Elt Ideal) ⟨2, ![A, W]⟩ .f32)
      :: (⟨Rect.unit (s := ⟨2, ![A, W]⟩) ![0, 0] ![hh, W] inb2, T⟩ : Piece (Elt Ideal) ⟨2, ![A, W]⟩ .f32) :: L)
      (Rect.unit (s := ⟨2, ![A, W]⟩) ![q, 0] ![m, W] inb).toLoadRect (ix2 r c)
      = hist u n hh (q + r.val) c := by
  have h0 := inb 0
  have hq : q + m ≤ A := h0
  have hr := r.isLt
  exact (readCov2 v _ inb r c (⟨q + r.val, by omega⟩ : Fin A) c rfl (by simp)).trans (canon_hist hA hB hT L _ c)

/-- A piece of a buffer of rank two holds its part of the array whose row `r` is `G (n + r)`. -/
def TileOk {A N : ℕ} (G : ℕ → Row N) (n : ℕ) (p : Piece (Elt Ideal) ⟨2, ![A, N]⟩ .bf16) : Prop :=
  ∀ x, p.2 x = G (n + (p.1.emb x 0 : Fin A).val) (p.1.emb x 1)

theorem tile_ok {A N a b ro co : ℕ} {G : ℕ → Row N} {n : ℕ} {inb : ∀ d, (![ro, co] : Fin 2 → ℕ) d + (![a, b] : Fin 2 → ℕ) d ≤ (⟨2, ![A, N]⟩ : Shape).size d}
    {w : Mat a b} (h : co + b ≤ N) (hw : Rows w (fun l => cols co b h (G l)) (n + ro)) :
    TileOk G n (⟨Rect.unit (s := ⟨2, ![A, N]⟩) ![ro, co] ![a, b] inb, w⟩ : Piece (Elt Ideal) ⟨2, ![A, N]⟩ .bf16) := fun x => by
  obtain ⟨r, c, rfl⟩ : ∃ (r : Fin a) (c : Fin b), x = ix2 r c := ⟨x 0, x 1, eq_ix2 (n0 := a) (n1 := b) x⟩
  have e0 : ((Rect.unit (s := ⟨2, ![A, N]⟩) ![ro, co] ![a, b] inb).emb (ix2 r c) 0).val = ro + r.val :=
    Rect.idx_unit_val (s := ⟨2, ![A, N]⟩) ![ro, co] ![a, b] inb (ix2 r c) 0
  have e1 : ((Rect.unit (s := ⟨2, ![A, N]⟩) ![ro, co] ![a, b] inb).emb (ix2 r c) 1).val = co + c.val :=
    Rect.idx_unit_val (s := ⟨2, ![A, N]⟩) ![ro, co] ![a, b] inb (ix2 r c) 1
  show w (ix2 r c) = G (n + ((Rect.unit (s := ⟨2, ![A, N]⟩) ![ro, co] ![a, b] inb).emb (ix2 r c) 0).val) _
  rw [hw r c, e0, ← Nat.add_assoc]
  exact congrArg (G (n + ro + r.val)) (Fin.ext e1.symm)

/-- A buffer covered by such pieces, read whole, holds the sequence `G`. -/
theorem tiles_read {sig : RefSig} {κ : Kind} {sp : Space} {A N : ℕ} {G : ℕ → Row N} {n : ℕ} (L : List (Piece (Elt Ideal) ⟨2, ![A, N]⟩ .bf16))
    (v : View sig κ sp ⟨2, ![A, N]⟩ .bf16) (hL : ∀ p ∈ L, TileOk G n p) (hc : ∀ y, ∃ p ∈ L, y ∈ p.1.set)
    (inb : ∀ d, (![0, 0] : Fin 2 → ℕ) d + (![A, N] : Fin 2 → ℕ) d ≤ (⟨2, ![A, N]⟩ : Shape).size d) :
    Rows (v.readCov L (Rect.unit (s := ⟨2, ![A, N]⟩) ![0, 0] ![A, N] inb).toLoadRect) G n := fun r c =>
  (readCov2 v L inb r c r c (by simp) (by simp)).trans
    (canon_apply_of_pieces (S := ⟨2, ![A, N]⟩) (fun y => (G (n + (y 0 : Fin A).val) (y 1) : Elt Ideal .bf16)) L (fun p hp x => hL p hp x) (ix2 r c) (hc _))

/-- A buffer filled whole and read whole. -/
theorem whole_read {sig : RefSig} {κ : Kind} {sp : Space} {A N : ℕ} {e : EltTy} (w : (⟨2, ![A, N]⟩ : Shape).Idx → Elt Ideal e)
    (L : List (Piece (Elt Ideal) ⟨2, ![A, N]⟩ e)) (v : View sig κ sp ⟨2, ![A, N]⟩ e)
    (inb inb' : ∀ d, (![0, 0] : Fin 2 → ℕ) d + (![A, N] : Fin 2 → ℕ) d ≤ (⟨2, ![A, N]⟩ : Shape).size d) :
    v.readCov ((⟨Rect.unit (s := ⟨2, ![A, N]⟩) ![0, 0] ![A, N] inb', w⟩ : Piece (Elt Ideal) ⟨2, ![A, N]⟩ e) :: L)
      (Rect.unit (s := ⟨2, ![A, N]⟩) ![0, 0] ![A, N] inb).toLoadRect = w :=
  View.readCov_cons_toLoadRect v (Rect.unit (s := ⟨2, ![A, N]⟩) ![0, 0] ![A, N] inb) w L

section Chunk

variable {sig : RefSig} {κ : Kind} {sp : Space} {n o : ℕ}

/-- One chunk of the up projection. -/
theorem up_tile {N w : ℕ} (h : o + w ≤ N) {x : Mat 512 1024} {s : ℕ → Row 1024} (hx : Rows x s n)
    (m : Memref sig κ sp ⟨2, ![1024, N]⟩ .bf16) (hm : m.IsWhole) {X : Mat 1024 N} {W : Fin 1024 → Row N} (hW : Is X W)
    (inb : ∀ d, (![0, o] : Fin 2 → ℕ) d + (![1024, w] : Fin 2 → ℕ) d ≤ (⟨2, ![1024, N]⟩ : Shape).size d)
    (hc : (⟨2, ![1024, w]⟩ : Shape).ShapeCasts ⟨2, ![1024, w]⟩)
    (D : DotDims ⟨2, ![512, 1024]⟩ ⟨2, ![1024, w]⟩ ⟨2, ![512, w]⟩) (hD : D = DotDims.plain 512 1024 w) (p : Option ContractPrecision) :
    Rows (matmul (F := Ideal) (φ₁ := .bf16) (φ₂ := .bf16) D p x
      (shapeCast ⟨2, ![1024, w]⟩ (View.readAt (Elt Ideal) m.view (Rect.unit (s := ⟨2, ![1024, N]⟩) ![0, o] ![1024, w] inb).toLoadRect (hm.unread X)) hc)
      (constant (F := Ideal) ⟨2, ![512, w]⟩ .f32 0x00000000#32)) (fun l => cols o w h (lin (s l) W)) n :=
  Rows.lin (w := fun k => cols o w h (W k)) hx (Is.cast (fun k j => by
    rw [load2 m hm X inb k j k ⟨o + j.val, by have := j.isLt; omega⟩ (by simp) rfl]; exact hW _ _) hc) D hD p

/-- A row of 256 columns of a window that holds rows. -/
theorem row_tile {A N w t : ℕ} (h : o + w ≤ N) (m : Memref sig κ sp ⟨2, ![A, N]⟩ .f32) (hm : m.IsWhole) {X : Mat A N} {g : Row N} (ht : t < A)
    (hg : ∀ c, X (ix2 ⟨t, ht⟩ c) = g c)
    (inb : ∀ d, (![t, o] : Fin 2 → ℕ) d + (![1, w] : Fin 2 → ℕ) d ≤ (⟨2, ![A, N]⟩ : Shape).size d)
    (hc : (⟨2, ![1, w]⟩ : Shape).ShapeCasts ⟨2, ![1, w]⟩) :
    One (shapeCast ⟨2, ![1, w]⟩ (View.readAt (Elt Ideal) m.view (Rect.unit (s := ⟨2, ![A, N]⟩) ![t, o] ![1, w] inb).toLoadRect (hm.unread X)) hc)
      (cols o w h g) := One.cast (fun c => by
    rw [load2 m hm X inb 0 c ⟨t, ht⟩ ⟨o + c.val, by have := c.isLt; omega⟩ (by simp) rfl]; exact hg _) hc

variable {W : FfnW} {up : ℕ → Row 5632}

/-- One chunk of the gate: GELU of the convolved gate columns times the convolved value columns. -/
theorem act_tile (h : o + 256 ≤ 2816) {cg cu : Mat 512 256} (hg : Rows cg (fun l => cols o 256 (by omega) (conv W.cw W.cb up l)) n)
    (hu : Rows cu (fun l => cols (2816 + o) 256 (by omega) (conv W.cw W.cb up l)) n) (c : EReal) (hcc : c = gc1)
    (hb : FTy.bits .bf16 < FTy.bits .f32) (hc : (⟨2, ![512, 256]⟩ : Shape).ShapeCasts ⟨2, ![512, 256]⟩) :
    Rows (shapeCast ⟨2, ![512, 256]⟩ (truncf (F := Ideal) (φ := .f32) .bf16 (mulf (F := Ideal) (φ := .f32)
      (mulf (F := Ideal) (φ := .f32) (mulf (F := Ideal) (φ := .f32) (broadcast ⟨2, ![512, 256]⟩ (FloatOps.ofBits (F := Ideal) .f32 0x3F000000#32)) cg)
      (addf (F := Ideal) (φ := .f32) (broadcast ⟨2, ![512, 256]⟩ (FloatOps.ofBits (F := Ideal) .f32 0x3F800000#32))
        (tanh (F := Ideal) (φ := .f32) (mulf (F := Ideal) (φ := .f32) cg (addf (F := Ideal) (φ := .f32)
          (broadcast ⟨2, ![512, 256]⟩ (FloatOps.ofBits (F := Ideal) .f32 0x3F4C422A#32))
          (mulf (F := Ideal) (φ := .f32) (broadcast ⟨2, ![512, 256]⟩ (c : Ideal .f32)) (mulf (F := Ideal) (φ := .f32) cg cg))))))) cu) hb) hc)
      (fun l => cols o 256 h (geglu (conv W.cw W.cb up l))) n := by
  refine Rows.cast (Rows.trunc (fun r k => ?_) hb) hc
  refine ((hg.gelu c hcc).mul hu r k).trans ?_
  show gelu (conv _ _ _ _ _) * conv _ _ _ _ _ = gelu (conv _ _ _ _ _) * conv _ _ _ _ _
  congr 2
  exact Fin.ext (Nat.add_assoc 2816 o k.val)

/-- One chunk of the convolution, from the three boxes of its buffer. -/
theorem conv_tile (h : o + 256 ≤ 5632) {g0 g1 g2 : Mat 512 256}
    (e0 : ∀ r c, g0 (ix2 r c) = hist (fun l => cols o 256 h (up l)) n 8 (6 + r.val) c)
    (e1 : ∀ r c, g1 (ix2 r c) = hist (fun l => cols o 256 h (up l)) n 8 (7 + r.val) c)
    (e2 : ∀ r c, g2 (ix2 r c) = hist (fun l => cols o 256 h (up l)) n 8 (8 + r.val) c)
    {b w0 w1 w2 : Mat 1 256} (hb : One b (cols o 256 h W.cb)) (hw0 : One w0 (cols o 256 h (W.cw 0))) (hw1 : One w1 (cols o 256 h (W.cw 1)))
    (hw2 : One w2 (cols o 256 h (W.cw 2))) (c0 c1 c2 c3 : (⟨2, ![1, 256]⟩ : Shape).Broadcasts ⟨2, ![512, 256]⟩) :
    Rows (addf (F := Ideal) (φ := .f32) (addf (F := Ideal) (φ := .f32) (addf (F := Ideal) (φ := .f32) (broadcastTo ⟨2, ![512, 256]⟩ b c0)
      (mulf (F := Ideal) (φ := .f32) (broadcastTo ⟨2, ![512, 256]⟩ w0 c1) g0)) (mulf (F := Ideal) (φ := .f32) (broadcastTo ⟨2, ![512, 256]⟩ w1 c2) g1))
      (mulf (F := Ideal) (φ := .f32) (broadcastTo ⟨2, ![512, 256]⟩ w2 c3) g2)) (fun l => cols o 256 h (conv W.cw W.cb up l)) n := fun r k => by
  refine (Rows.conv (u := fun l => cols o 256 h (up l)) (h := 8) (by omega) e0 e1 e2 hb (wr := fun t => cols o 256 h (W.cw t)) hw0 hw1 hw2 c0 c1 c2 c3 r k).trans ?_
  show conv _ _ _ _ k = _
  rw [conv_cols]

end Chunk

end Decoder
-- ==== Proof.FfnChunk.lean ====
/-
  One chunk of the ConvFFN put together: from the normalised rows, the weights' windows and the eight rows the state holds,
  to the chunk's convolution, to the eight rows the state holds afterwards; and the loads both layers' kernels begin with.
-/
module

public import proofs.«01_k».proof.Proof.FfnBlock

@[expose] public section

noncomputable section

open Idealize.ShloMosaic Idealize.ShloMosaic.ValueIdx Idealize.ShloMosaic.View

namespace Decoder

section Loads

variable {sig : RefSig} {κ : Kind} {sp : Space} {n : ℕ}

/-- A buffer of narrow floats filled whole with rows and read whole; -/
theorem Rows.whole16 {A N : ℕ} {G : ℕ → Row N} {w : Mat A N} (hw : Rows w G n) (L : List (Piece (Elt Ideal) ⟨2, ![A, N]⟩ .bf16))
    (v : View sig κ sp ⟨2, ![A, N]⟩ .bf16) (inb inb' : ∀ d, (![0, 0] : Fin 2 → ℕ) d + (![A, N] : Fin 2 → ℕ) d ≤ (⟨2, ![A, N]⟩ : Shape).size d) :
    Rows (v.readCov ((⟨Rect.unit (s := ⟨2, ![A, N]⟩) ![0, 0] ![A, N] inb', w⟩ : Piece (Elt Ideal) ⟨2, ![A, N]⟩ .bf16) :: L)
      (Rect.unit (s := ⟨2, ![A, N]⟩) ![0, 0] ![A, N] inb).toLoadRect) G n :=
  (whole_read (e := .bf16) w L v inb inb').symm ▸ hw

/-- of wide floats. -/
theorem Rows.whole32 {A N : ℕ} {G : ℕ → Row N} {w : Mat A N} (hw : Rows w G n) (L : List (Piece (Elt Ideal) ⟨2, ![A, N]⟩ .f32))
    (v : View sig κ sp ⟨2, ![A, N]⟩ .f32) (inb inb' : ∀ d, (![0, 0] : Fin 2 → ℕ) d + (![A, N] : Fin 2 → ℕ) d ≤ (⟨2, ![A, N]⟩ : Shape).size d) :
    Rows (v.readCov ((⟨Rect.unit (s := ⟨2, ![A, N]⟩) ![0, 0] ![A, N] inb', w⟩ : Piece (Elt Ideal) ⟨2, ![A, N]⟩ .f32) :: L)
      (Rect.unit (s := ⟨2, ![A, N]⟩) ![0, 0] ![A, N] inb).toLoadRect) G n :=
  (whole_read (e := .f32) w L v inb inb').symm ▸ hw

/-- The six modulation rows, cut from the window's one row. -/
theorem mod_part (m : Memref sig κ sp ⟨3, ![1, 1, 6144]⟩ .f32) (hm : m.IsWhole) {X : (⟨3, ![1, 1, 6144]⟩ : Shape).Idx → EReal} {md : Row 6144}
    (hX : ∀ k, X (ix3 0 0 k) = md k) (k : Fin 6) {o : ℕ} (ho : o = 1024 * k.val)
    (inb : ∀ d, (![0, 0, 0] : Fin 3 → ℕ) d + (![1, 1, 6144] : Fin 3 → ℕ) d ≤ (⟨3, ![1, 1, 6144]⟩ : Shape).size d)
    (hc : (⟨3, ![1, 1, 6144]⟩ : Shape).ShapeCasts ⟨2, ![1, 6144]⟩) (hs : (⟨2, ![1, 6144]⟩ : Shape).Slices ![0, o] ⟨2, ![1, 1024]⟩) :
    One (extractStridedSlice (s := ⟨2, ![1, 6144]⟩) ⟨2, ![1, 1024]⟩ ![0, o] (shapeCast ⟨2, ![1, 6144]⟩
      (View.readAt (Elt Ideal) m.view (Rect.unit (s := ⟨3, ![1, 1, 6144]⟩) ![0, 0, 0] ![1, 1, 6144] inb).toLoadRect (hm.unread X)) hc) hs) (part md k) :=
  fun c => by
  have hk := k.isLt
  have hcl := c.isLt
  refine (extractStridedSlice_apply (s := ⟨2, ![1, 6144]⟩) ![0, o] _ hs (ix2 0 c) (ix2 0 (⟨o + c.val, by omega⟩ : Fin 6144)) fun d => match d with
    | ⟨0, _⟩ => rfl | ⟨1, _⟩ => rfl).trans ?_
  refine (cast_drop _ hc 0 _).trans ((load3 m hm X inb 0 0 _ 0 0 ⟨o + c.val, by omega⟩ rfl rfl (by simp)).trans ((hX _).trans ?_))
  subst ho; rfl

/-- The block of the input. -/
theorem in_rows {R C : ℕ} (m : Memref sig κ sp ⟨3, ![1, R, C]⟩ .f32) (hm : m.IsWhole) {X : (⟨3, ![1, R, C]⟩ : Shape).Idx → EReal} {x : ℕ → Row C}
    (hX : ∀ r c, X (ix3 0 r c) = x (n + r.val) c)
    (inb : ∀ d, (![0, 0, 0] : Fin 3 → ℕ) d + (![1, R, C] : Fin 3 → ℕ) d ≤ (⟨3, ![1, R, C]⟩ : Shape).size d)
    (hc : (⟨3, ![1, R, C]⟩ : Shape).ShapeCasts ⟨2, ![R, C]⟩) :
    Rows (shapeCast ⟨2, ![R, C]⟩
      (View.readAt (Elt Ideal) m.view (Rect.unit (s := ⟨3, ![1, R, C]⟩) ![0, 0, 0] ![1, R, C] inb).toLoadRect (hm.unread X)) hc) x n := fun r c =>
  (cast_drop _ hc r c).trans ((load3 m hm X inb 0 r c 0 r c rfl (by simp) (by simp)).trans (hX r c))

/-- A matrix's window, read whole. -/
theorem mat_all {A N : ℕ} (m : Memref sig κ sp ⟨2, ![A, N]⟩ .bf16) (hm : m.IsWhole) {X : Mat A N} {W : Fin A → Row N} (hW : Is X W)
    (inb : ∀ d, (![0, 0] : Fin 2 → ℕ) d + (![A, N] : Fin 2 → ℕ) d ≤ (⟨2, ![A, N]⟩ : Shape).size d)
    (hc : (⟨2, ![A, N]⟩ : Shape).ShapeCasts ⟨2, ![A, N]⟩) :
    Is (shapeCast ⟨2, ![A, N]⟩ (View.readAt (Elt Ideal) m.view (Rect.unit (s := ⟨2, ![A, N]⟩) ![0, 0] ![A, N] inb).toLoadRect (hm.unread X)) hc) W :=
  Is.cast (fun k j => (load2 m hm X inb k j k j (by simp) (by simp)).trans (hW k j)) hc

/-- A row's window, read whole. -/
theorem row_all {N : ℕ} (m : Memref sig κ sp ⟨2, ![1, N]⟩ .f32) (hm : m.IsWhole) {X : Mat 1 N} {g : Row N} (hg : One X g)
    (inb : ∀ d, (![0, 0] : Fin 2 → ℕ) d + (![1, N] : Fin 2 → ℕ) d ≤ (⟨2, ![1, N]⟩ : Shape).size d)
    (hc : (⟨2, ![1, N]⟩ : Shape).ShapeCasts ⟨2, ![1, N]⟩) :
    One (shapeCast ⟨2, ![1, N]⟩ (View.readAt (Elt Ideal) m.view (Rect.unit (s := ⟨2, ![1, N]⟩) ![0, 0] ![1, N] inb).toLoadRect (hm.unread X)) hc) g :=
  One.cast (fun j => (load2 m hm X inb 0 j 0 j (by simp) (by simp)).trans (hg j)) hc

/-- The rows a state window held before, as the chunk at column `o` takes them; -/
theorem state_kept {H N o w : ℕ} (h : o + w ≤ N) (m : Memref sig κ sp ⟨3, ![1, H, N]⟩ .f32) (hm : m.IsWhole) {X : (⟨3, ![1, H, N]⟩ : Shape).Idx → EReal}
    {up : ℕ → Row N} (hX : ∀ r c, X (ix3 0 r c) = hist up n H r.val c)
    (inb : ∀ d, (![0, 0, o] : Fin 3 → ℕ) d + (![1, H, w] : Fin 3 → ℕ) d ≤ (⟨3, ![1, H, N]⟩ : Shape).size d)
    (hc : (⟨3, ![1, H, w]⟩ : Shape).ShapeCasts ⟨2, ![H, w]⟩) (hc' : (⟨2, ![H, w]⟩ : Shape).ShapeCasts ⟨2, ![H, w]⟩) (r : Fin H) (c : Fin w) :
    shapeCast ⟨2, ![H, w]⟩ (shapeCast ⟨2, ![H, w]⟩
      (View.readAt (Elt Ideal) m.view (Rect.unit (s := ⟨3, ![1, H, N]⟩) ![0, 0, o] ![1, H, w] inb).toLoadRect (hm.unread X)) hc) hc' (ix2 r c)
      = hist (fun l => cols o w h (up l)) n H r.val c := by
  rw [shapeCast_self, hist_cols]
  exact (cast_drop _ hc r c).trans ((load3 m hm X inb 0 r c 0 r ⟨o + c.val, by have := c.isLt; omega⟩ rfl (by simp) rfl).trans (hX r _))

/-- and the same out of a window that has been written in this block. -/
theorem state_new {H N o w : ℕ} (h : o + w ≤ N) (v : View sig κ sp ⟨3, ![1, H, N]⟩ .f32) {L : List (Piece (Elt Ideal) ⟨3, ![1, H, N]⟩ .f32)}
    {up : ℕ → Row N} (hL : ∀ (r : Fin H) (c : Fin w), View.canon L (ix3 0 r (⟨o + c.val, by have := c.isLt; omega⟩ : Fin N)) = hist up n H r.val ⟨o + c.val, by have := c.isLt; omega⟩)
    (inb : ∀ d, (![0, 0, o] : Fin 3 → ℕ) d + (![1, H, w] : Fin 3 → ℕ) d ≤ (⟨3, ![1, H, N]⟩ : Shape).size d)
    (hc : (⟨3, ![1, H, w]⟩ : Shape).ShapeCasts ⟨2, ![H, w]⟩) (hc' : (⟨2, ![H, w]⟩ : Shape).ShapeCasts ⟨2, ![H, w]⟩) (r : Fin H) (c : Fin w) :
    shapeCast ⟨2, ![H, w]⟩ (shapeCast ⟨2, ![H, w]⟩
      (v.readCov L (Rect.unit (s := ⟨3, ![1, H, N]⟩) ![0, 0, o] ![1, H, w] inb).toLoadRect) hc) hc' (ix2 r c)
      = hist (fun l => cols o w h (up l)) n H r.val c := by
  rw [shapeCast_self, hist_cols]
  exact (cast_drop _ hc r c).trans ((readCov3 v L inb 0 r c 0 r ⟨o + c.val, by have := c.isLt; omega⟩ rfl (by simp) rfl).trans (hL r c))

/-- A state window as the first block fills it: the rows it was given. -/
theorem state_first {H N : ℕ} (m : Memref sig κ sp ⟨3, ![1, H, N]⟩ .f32) (hm : m.IsWhole) {X : (⟨3, ![1, H, N]⟩ : Shape).Idx → EReal}
    {up : ℕ → Row N} (hX : ∀ r c, X (ix3 0 r c) = hist up n H r.val c)
    (inb inb' : ∀ d, (![0, 0, 0] : Fin 3 → ℕ) d + (![1, H, N] : Fin 3 → ℕ) d ≤ (⟨3, ![1, H, N]⟩ : Shape).size d)
    (hc : (⟨3, ![1, H, N]⟩ : Shape).ShapeCasts ⟨2, ![H, N]⟩) (hc' : (⟨2, ![H, N]⟩ : Shape).ShapeCasts ⟨3, ![1, H, N]⟩)
    (L : List (Piece (Elt Ideal) ⟨3, ![1, H, N]⟩ .f32)) (r : Fin H) (c : Fin N) :
    View.canon ((⟨Rect.unit (s := ⟨3, ![1, H, N]⟩) ![0, 0, 0] ![1, H, N] inb', shapeCast ⟨3, ![1, H, N]⟩ (shapeCast ⟨2, ![H, N]⟩
      (View.readAt (Elt Ideal) m.view (Rect.unit (s := ⟨3, ![1, H, N]⟩) ![0, 0, 0] ![1, H, N] inb).toLoadRect (hm.unread X)) hc) hc'⟩
        : Piece (Elt Ideal) ⟨3, ![1, H, N]⟩ .f32) :: L) (ix3 0 r c)
      = hist up n H r.val c := by
  refine (congrFun (canon_cons_unit_zero (S := ⟨3, ![1, H, N]⟩) (off := ![0, 0, 0])
    (funext fun d => match d with | ⟨0, _⟩ => rfl | ⟨1, _⟩ => rfl | ⟨2, _⟩ => rfl) inb' _ L) (ix3 0 r c)).trans ?_
  exact (cast_add _ hc' r c).trans ((cast_drop _ hc r c).trans ((load3 m hm X inb 0 r c 0 r c rfl (by simp) (by simp)).trans (hX r c)))

/-- The columns of a state window that the last chunk did not write. -/
theorem state_off {H N a o o2 w b : ℕ} {inb : ∀ d, (![0, 0, o2] : Fin 3 → ℕ) d + (![1, a, b] : Fin 3 → ℕ) d ≤ (⟨3, ![1, H, N]⟩ : Shape).size d}
    (h : o + w ≤ N) (p : (⟨3, ![1, a, b]⟩ : Shape).Idx → EReal) (L : List (Piece (Elt Ideal) ⟨3, ![1, H, N]⟩ .f32)) (ho : o + w ≤ o2 ∨ o2 + b ≤ o) (r : Fin H) (c : Fin w) :
    View.canon ((⟨Rect.unit (s := ⟨3, ![1, H, N]⟩) ![0, 0, o2] ![1, a, b] inb, p⟩ : Piece (Elt Ideal) ⟨3, ![1, H, N]⟩ .f32) :: L)
      (ix3 0 r (⟨o + c.val, by have := c.isLt; omega⟩ : Fin N)) = View.canon L (ix3 0 r (⟨o + c.val, by have := c.isLt; omega⟩ : Fin N)) :=
  canon_out3_last (e := .f32) p L 0 r _ (by have := c.isLt; show o + c.val < o2 ∨ o2 + b ≤ o + c.val; omega)

/-- An output window stored whole from a block of rows. -/
theorem out_whole {R C : ℕ} (w : Mat R C) (L : List (Piece (Elt Ideal) ⟨3, ![1, R, C]⟩ .f32))
    (inb : ∀ d, (![0, 0, 0] : Fin 3 → ℕ) d + (![1, R, C] : Fin 3 → ℕ) d ≤ (⟨3, ![1, R, C]⟩ : Shape).size d)
    (hc : (⟨2, ![R, C]⟩ : Shape).ShapeCasts ⟨3, ![1, R, C]⟩) (r : Fin R) (c : Fin C) :
    View.canon ((⟨Rect.unit (s := ⟨3, ![1, R, C]⟩) ![0, 0, 0] ![1, R, C] inb, shapeCast ⟨3, ![1, R, C]⟩ w hc⟩
      : Piece (Elt Ideal) ⟨3, ![1, R, C]⟩ .f32) :: L) (ix3 0 r c) = w (ix2 r c) :=
  (congrFun (canon_cons_unit_zero (S := ⟨3, ![1, R, C]⟩) (off := ![0, 0, 0])
    (funext fun d => match d with | ⟨0, _⟩ => rfl | ⟨1, _⟩ => rfl | ⟨2, _⟩ => rfl) inb _ L) (ix3 0 r c)).trans (cast_add w hc r c)

end Loads

section Chunk

variable {sig : RefSig} {κ : Kind} {sp : Space} {n o : ℕ} {W : FfnW} {s : ℕ → Row 1024} {h2 : Mat 512 1024}

/-- The rows that are convolved, over the whole sequence. -/
abbrev ups (W : FfnW) (s : ℕ → Row 1024) : ℕ → Row 5632 := fun l => lin (s l) W.up

/-- One chunk's convolution: 256 columns from `o` on. -/
theorem conv_chunk (h : o + 256 ≤ 5632) (hs : Rows h2 s n)
    (m : Memref sig κ sp ⟨2, ![1024, 5632]⟩ .bf16) (hm : m.IsWhole) {X : Mat 1024 5632} (hX : Is X W.up)
    (mw : Memref sig κ sp ⟨2, ![3, 5632]⟩ .f32) (hmw : mw.IsWhole) {Xw : Mat 3 5632} (hXw : ∀ t c, Xw (ix2 t c) = W.cw t c)
    (mb : Memref sig κ sp ⟨2, ![1, 5632]⟩ .f32) (hmb : mb.IsWhole) {Xb : Mat 1 5632} (hXb : One Xb W.cb)
    {T : Mat 8 256} (hT : ∀ r c, T (ix2 r c) = hist (fun l => cols o 256 h (ups W s l)) n 8 r.val c)
    (L : List (Piece (Elt Ideal) ⟨2, ![520, 256]⟩ .f32)) (v : View sig κ sp ⟨2, ![520, 256]⟩ .f32)
    (inb1 inb2 i0 i1 i2 iu ib w0 w1 w2) (hc hc' hcb hc0 hc1 hc2 b0 b1 b2 b3)
    (D : DotDims ⟨2, ![512, 1024]⟩ ⟨2, ![1024, 256]⟩ ⟨2, ![512, 256]⟩) (hD : D = DotDims.plain 512 1024 256) (p : Option ContractPrecision) :
    let buf : List (Piece (Elt Ideal) ⟨2, ![520, 256]⟩ .f32) :=
      (⟨Rect.unit (s := ⟨2, ![520, 256]⟩) ![8, 0] ![512, 256] inb1, shapeCast ⟨2, ![512, 256]⟩ (matmul (F := Ideal) (φ₁ := .bf16) (φ₂ := .bf16) D p h2
        (shapeCast ⟨2, ![1024, 256]⟩ (View.readAt (Elt Ideal) m.view (Rect.unit (s := ⟨2, ![1024, 5632]⟩) ![0, o] ![1024, 256] iu).toLoadRect (hm.unread X)) hc)
        (constant (F := Ideal) ⟨2, ![512, 256]⟩ .f32 0x00000000#32)) hc'⟩ : Piece (Elt Ideal) ⟨2, ![520, 256]⟩ .f32)
      :: (⟨Rect.unit (s := ⟨2, ![520, 256]⟩) ![0, 0] ![8, 256] inb2, T⟩ : Piece (Elt Ideal) ⟨2, ![520, 256]⟩ .f32) :: L
    Rows (addf (F := Ideal) (φ := .f32) (addf (F := Ideal) (φ := .f32) (addf (F := Ideal) (φ := .f32)
      (broadcastTo ⟨2, ![512, 256]⟩ (shapeCast ⟨2, ![1, 256]⟩ (View.readAt (Elt Ideal) mb.view (Rect.unit (s := ⟨2, ![1, 5632]⟩) ![0, o] ![1, 256] ib).toLoadRect (hmb.unread Xb)) hcb) b0)
      (mulf (F := Ideal) (φ := .f32) (broadcastTo ⟨2, ![512, 256]⟩ (shapeCast ⟨2, ![1, 256]⟩ (View.readAt (Elt Ideal) mw.view (Rect.unit (s := ⟨2, ![3, 5632]⟩) ![0, o] ![1, 256] w0).toLoadRect (hmw.unread Xw)) hc0) b1)
        (v.readCov buf (Rect.unit (s := ⟨2, ![520, 256]⟩) ![6, 0] ![512, 256] i0).toLoadRect)))
      (mulf (F := Ideal) (φ := .f32) (broadcastTo ⟨2, ![512, 256]⟩ (shapeCast ⟨2, ![1, 256]⟩ (View.readAt (Elt Ideal) mw.view (Rect.unit (s := ⟨2, ![3, 5632]⟩) ![1, o] ![1, 256] w1).toLoadRect (hmw.unread Xw)) hc1) b2)
        (v.readCov buf (Rect.unit (s := ⟨2, ![520, 256]⟩) ![7, 0] ![512, 256] i1).toLoadRect)))
      (mulf (F := Ideal) (φ := .f32) (broadcastTo ⟨2, ![512, 256]⟩ (shapeCast ⟨2, ![1, 256]⟩ (View.readAt (Elt Ideal) mw.view (Rect.unit (s := ⟨2, ![3, 5632]⟩) ![2, o] ![1, 256] w2).toLoadRect (hmw.unread Xw)) hc2) b3)
        (v.readCov buf (Rect.unit (s := ⟨2, ![520, 256]⟩) ![8, 0] ![512, 256] i2).toLoadRect)))
      (fun l => cols o 256 h (conv W.cw W.cb (ups W s) l)) n := by
  intro buf
  have hB := (up_tile h hs m hm hX iu hc D hD p).cast hc'
  exact conv_tile h (tap rfl hB hT L v i0) (tap rfl hB hT L v i1) (tap rfl hB hT L v i2) (row_tile h mb hmb (by omega) hXb ib hcb)
    (row_tile h mw hmw (by omega) (hXw 0) w0 hc0) (row_tile h mw hmw (by omega) (hXw 1) w1 hc1) (row_tile h mw hmw (by omega) (hXw 2) w2 hc2) b0 b1 b2 b3

/-- The piece of a state window that a chunk writes holds the last rows of the block. -/
def FootOk {H N : ℕ} (up : ℕ → Row N) (n : ℕ) (p : Piece (Elt Ideal) ⟨3, ![1, H, N]⟩ .f32) : Prop :=
  ∀ x, p.2 x = hist up (n + 512) H (p.1.emb x 1 : Fin H).val (p.1.emb x 2)

theorem foot_ok {H A N o w : ℕ} (hA : A = H + 512) {up : ℕ → Row N} (h : o + w ≤ N) {B : Mat 512 w} (hB : Rows B (fun l => cols o w h (up l)) n)
    {T : Mat H w} (hT : ∀ r c, T (ix2 r c) = hist (fun l => cols o w h (up l)) n H r.val c)
    (L : List (Piece (Elt Ideal) ⟨2, ![A, w]⟩ .f32)) (v : View sig κ sp ⟨2, ![A, w]⟩ .f32)
    {inb1 : ∀ d, (![H, 0] : Fin 2 → ℕ) d + (![512, w] : Fin 2 → ℕ) d ≤ (⟨2, ![A, w]⟩ : Shape).size d}
    {inb2 : ∀ d, (![0, 0] : Fin 2 → ℕ) d + (![H, w] : Fin 2 → ℕ) d ≤ (⟨2, ![A, w]⟩ : Shape).size d}
    (i0 : ∀ d, (![512, 0] : Fin 2 → ℕ) d + (![H, w] : Fin 2 → ℕ) d ≤ (⟨2, ![A, w]⟩ : Shape).size d)
    (hc : (⟨2, ![H, w]⟩ : Shape).ShapeCasts ⟨3, ![1, H, w]⟩)
    (inb : ∀ d, (![0, 0, o] : Fin 3 → ℕ) d + (![1, H, w] : Fin 3 → ℕ) d ≤ (⟨3, ![1, H, N]⟩ : Shape).size d) :
    FootOk up n (⟨Rect.unit (s := ⟨3, ![1, H, N]⟩) ![0, 0, o] ![1, H, w] inb, shapeCast ⟨3, ![1, H, w]⟩ (v.readCov
      ((⟨Rect.unit (s := ⟨2, ![A, w]⟩) ![H, 0] ![512, w] inb1, B⟩ : Piece (Elt Ideal) ⟨2, ![A, w]⟩ .f32)
      :: (⟨Rect.unit (s := ⟨2, ![A, w]⟩) ![0, 0] ![H, w] inb2, T⟩ : Piece (Elt Ideal) ⟨2, ![A, w]⟩ .f32) :: L)
      (Rect.unit (s := ⟨2, ![A, w]⟩) ![512, 0] ![H, w] i0).toLoadRect) hc⟩ : Piece (Elt Ideal) ⟨3, ![1, H, N]⟩ .f32) := fun x => by
  obtain ⟨z, r, c, rfl⟩ : ∃ (z : Fin 1) (r : Fin H) (c : Fin w), x = ix3 z r c := ⟨x 0, x 1, x 2, eq_ix3 (n0 := 1) (n1 := H) (n2 := w) x⟩
  obtain rfl : z = 0 := Subsingleton.elim _ _
  have e1 : ((Rect.unit (s := ⟨3, ![1, H, N]⟩) ![0, 0, o] ![1, H, w] inb).emb (ix3 0 r c) 1).val = 0 + r.val :=
    Rect.idx_unit_val (s := ⟨3, ![1, H, N]⟩) ![0, 0, o] ![1, H, w] inb (ix3 0 r c) 1
  have e2 : ((Rect.unit (s := ⟨3, ![1, H, N]⟩) ![0, 0, o] ![1, H, w] inb).emb (ix3 0 r c) 2).val = o + c.val :=
    Rect.idx_unit_val (s := ⟨3, ![1, H, N]⟩) ![0, 0, o] ![1, H, w] inb (ix3 0 r c) 2
  refine (cast_add _ hc r c).trans ((tap hA hB hT L v i0 r c).trans ?_)
  rw [hist_cols]
  show _ = hist up (n + 512) H ((Rect.unit (s := ⟨3, ![1, H, N]⟩) ![0, 0, o] ![1, H, w] inb).emb (ix3 0 r c) 1).val _
  rw [e1, hist_shift, Nat.zero_add, Nat.add_comm r.val]
  exact congrArg (hist up n H (512 + r.val)) (Fin.ext e2.symm)

/-- A state window covered by such pieces. -/
theorem foots {H N : ℕ} {up : ℕ → Row N} (L : List (Piece (Elt Ideal) ⟨3, ![1, H, N]⟩ .f32)) (hL : ∀ p ∈ L, FootOk up n p)
    (hc : ∀ y, ∃ p ∈ L, y ∈ p.1.set) (r : Fin H) (c : Fin N) : View.canon L (ix3 0 r c) = hist up (n + 512) H r.val c :=
  canon_apply_of_pieces (S := ⟨3, ![1, H, N]⟩) (fun y => (hist up (n + 512) H (y 1 : Fin H).val (y 2) : Elt Ideal .f32)) L (fun p hp x => hL p hp x) (ix3 0 r c) (hc _)

/-- What the first `j` pieces of a list agree on is there, where they cover, whatever the rest of the list is. -/
theorem canon_take {S : Shape} {e : EltTy} (v : S.Idx → Elt Ideal e) (j : ℕ) (L : List (Piece (Elt Ideal) S e))
    (hL : ∀ p ∈ L.take j, ∀ x, p.2 x = v (p.1.emb x)) (y : S.Idx) (hc : ∃ p ∈ L.take j, y ∈ p.1.set) : View.canon L y = v y := by
  induction L generalizing j with
  | nil => obtain ⟨p, hp, _⟩ := hc; simp at hp
  | cons p L ih =>
    cases j with
    | zero => obtain ⟨p, hp, _⟩ := hc; simp at hp
    | succ j =>
      by_cases hy : y ∈ p.1.set
      · obtain ⟨x, rfl⟩ := p.1.exists_idx_of_mem hy
        exact (canon_cons_emb p.1 p.2 L x).trans (hL p (by simp) x)
      · refine (canon_cons_of_not_mem p L hy).trans (ih j (fun q hq => hL q (by simp [hq])) ?_)
        obtain ⟨q, hq, hyq⟩ := hc
        rcases List.mem_cons.1 (List.take_succ_cons ▸ hq) with rfl | h
        · exact absurd hyq hy
        · exact ⟨q, h, hyq⟩

/-- A state window covered by such pieces over an earlier store. -/
theorem foots_over {H N : ℕ} {up : ℕ → Row N} (j : ℕ) (L : List (Piece (Elt Ideal) ⟨3, ![1, H, N]⟩ .f32)) (hL : ∀ p ∈ L.take j, FootOk up n p)
    (hc : ∀ y, ∃ p ∈ L.take j, y ∈ p.1.set) (r : Fin H) (c : Fin N) : View.canon L (ix3 0 r c) = hist up (n + 512) H r.val c :=
  canon_take (S := ⟨3, ![1, H, N]⟩) (fun y => (hist up (n + 512) H (y 1 : Fin H).val (y 2) : Elt Ideal .f32)) j L (fun p hp x => hL p hp x) (ix3 0 r c) (hc _)

end Chunk

end Decoder
-- ==== Proof.EvenMix.lean ====
/-
  The even layer's mixer on one block of 512 rows: the trailing windows of the four pooling groups, their means, each group's
  matrix, the gated short convolution, and the rows the two states hold afterwards.
-/
module

public import proofs.«01_k».proof.Proof.FfnChunk
public import Idealize.ShloMosaic.Lib.WordCmp

@[expose] public section

noncomputable section

open Idealize.ShloMosaic Idealize.ShloMosaic.ValueIdx Idealize.ShloMosaic.View

namespace Decoder

/-! ### The number of positions of a window, as a word -/

/-- The quotient by one rounded down, and one more, as the kernel spells it, is the next word. -/
theorem pos_word (x : BitVec 32) :
    IntOp.addi (IntOp.addi 0#32 (Scalar.select (IntOp.andi
      (IntOp.cmpi .ne (IntOp.subi ((IntOp.cmpi .sgt x 0#32).setWidth 32) ((IntOp.cmpi .slt x 0#32).setWidth 32)) 1#32)
      (IntOp.cmpi .ne (IntOp.remsi .vector x 1#32) 0#32))
      (IntOp.subi (IntOp.divsi .vector x 1#32) 1#32) (IntOp.divsi .vector x 1#32))) 1#32 = x + 1#32 := by
  have hc : ¬ IntOp.SDivCorner x 1#32 := by simp [IntOp.SDivCorner]
  have hr : IntOp.remsi .vector x 1#32 = 0#32 := by
    unfold IntOp.remsi; rw [if_neg hc]; simp
  have hd : IntOp.divsi .vector x 1#32 = x := by
    unfold IntOp.divsi; rw [if_neg hc]; simp
  rw [hr, hd, show IntOp.cmpi .ne (0#32 : BitVec 32) 0#32 = 0#1 from rfl]
  unfold IntOp.andi IntOp.addi Scalar.select
  simp

/-- The position of a row of the block at grid step `k`, and one more. -/
theorem next_word (k r : ℕ) : IntOp.addi (IntOp.muli (BitVec.ofNat 32 k) 512#32) (BitVec.ofNat 32 r) + 1#32 = BitVec.ofNat 32 (k * 512 + r + 1) := by
  unfold IntOp.addi IntOp.muli
  rw [show (512#32 : BitVec 32) = BitVec.ofNat 32 512 from rfl, show (1#32 : BitVec 32) = BitVec.ofNat 32 1 from rfl,
    ← BitVec.ofNat_mul, ← BitVec.ofNat_add, ← BitVec.ofNat_add]

/-- The smaller of the window's width and the position count, as a number. -/
theorem count_word (w p : ℕ) (hw : w < 2 ^ 31) (hp : p < 2 ^ 31) :
    FloatOps.sitofp (F := Ideal) .f32 (IntOp.minsi (BitVec.ofNat 32 w) (BitVec.ofNat 32 p)) = ((((min w p : ℕ) : ℝ)) : EReal) := by
  have e : IntOp.minsi (BitVec.ofNat 32 w) (BitVec.ofNat 32 p) = BitVec.ofNat 32 (min w p) := by
    unfold IntOp.minsi
    rw [BitVec.slt_eq_decide, WordCmp.toInt_ofNat_of_lt (w := 32) (a := w) (by omega), WordCmp.toInt_ofNat_of_lt (w := 32) (a := p) (by omega)]
    by_cases h : w < p
    · rw [if_pos (by simpa using h), Nat.min_eq_left h.le]
    · rw [if_neg (by simpa using h), Nat.min_eq_right (by omega)]
  rw [e]
  show ((((BitVec.ofNat 32 (min w p)).toInt : ℤ) : ℝ) : EReal) = _
  rw [WordCmp.toInt_ofNat_of_lt (w := 32) (a := min w p) (by omega)]
  norm_cast

/-! ### Boxes of a buffer's columns -/

section Tap

variable {sig : RefSig} {κ : Kind} {sp : Space}

/-- A box of rows and columns of a buffer of history rows and a block's rows. -/
theorem tap_cols {hh R W A n q o m w : ℕ} {u : ℕ → Row W} (hA : A = hh + R) {B : Mat R W} {T : Mat hh W} (hB : Rows B u n)
    (hT : ∀ r c, T (ix2 r c) = hist u n hh r.val c)
    {inb1 : ∀ d, (![hh, 0] : Fin 2 → ℕ) d + (![R, W] : Fin 2 → ℕ) d ≤ (⟨2, ![A, W]⟩ : Shape).size d}
    {inb2 : ∀ d, (![0, 0] : Fin 2 → ℕ) d + (![hh, W] : Fin 2 → ℕ) d ≤ (⟨2, ![A, W]⟩ : Shape).size d}
    (L : List (Piece (Elt Ideal) ⟨2, ![A, W]⟩ .f32)) (v : View sig κ sp ⟨2, ![A, W]⟩ .f32) (h : o + w ≤ W)
    (inb : ∀ d, (![q, o] : Fin 2 → ℕ) d + (![m, w] : Fin 2 → ℕ) d ≤ (⟨2, ![A, W]⟩ : Shape).size d) (r : Fin m) (c : Fin w) :
    v.readCov ((⟨Rect.unit (s := ⟨2, ![A, W]⟩) ![hh, 0] ![R, W] inb1, B⟩ : Piece (Elt Ideal) ⟨2, ![A, W]⟩ .f32)
      :: (⟨Rect.unit (s := ⟨2, ![A, W]⟩) ![0, 0] ![hh, W] inb2, T⟩ : Piece (Elt Ideal) ⟨2, ![A, W]⟩ .f32) :: L)
      (Rect.unit (s := ⟨2, ![A, W]⟩) ![q, o] ![m, w] inb).toLoadRect (ix2 r c)
      = hist (fun l => cols o w h (u l)) n hh (q + r.val) c := by
  have h0 := inb 0
  have hq : q + m ≤ A := h0
  have hr := r.isLt
  rw [hist_cols]
  exact (readCov2 v _ inb r c (⟨q + r.val, by omega⟩ : Fin A) (⟨o + c.val, by have := c.isLt; omega⟩ : Fin W) rfl rfl).trans (canon_hist hA hB hT L _ _)

/-- All columns are the row. -/
theorem cols_all {N : ℕ} (h : 0 + N ≤ N) (x : Row N) : cols 0 N h x = x := by
  funext c; unfold cols; exact congrArg x (Fin.ext (Nat.zero_add _))

/-- The rows a state window held before, all columns of it; -/
theorem state_kept_all {H N n : ℕ} (m : Memref sig κ sp ⟨3, ![1, H, N]⟩ .f32) (hm : m.IsWhole) {X : (⟨3, ![1, H, N]⟩ : Shape).Idx → EReal}
    {up : ℕ → Row N} (hX : ∀ r c, X (ix3 0 r c) = hist up n H r.val c)
    (inb : ∀ d, (![0, 0, 0] : Fin 3 → ℕ) d + (![1, H, N] : Fin 3 → ℕ) d ≤ (⟨3, ![1, H, N]⟩ : Shape).size d)
    (hc : (⟨3, ![1, H, N]⟩ : Shape).ShapeCasts ⟨2, ![H, N]⟩) (hc' : (⟨2, ![H, N]⟩ : Shape).ShapeCasts ⟨2, ![H, N]⟩) (r : Fin H) (c : Fin N) :
    shapeCast ⟨2, ![H, N]⟩ (shapeCast ⟨2, ![H, N]⟩
      (View.readAt (Elt Ideal) m.view (Rect.unit (s := ⟨3, ![1, H, N]⟩) ![0, 0, 0] ![1, H, N] inb).toLoadRect (hm.unread X)) hc) hc' (ix2 r c)
      = hist up n H r.val c := by
  refine (state_kept (o := 0) (w := N) (by omega) m hm hX inb hc hc' r c).trans ?_
  simp only [cols_all]

/-- and the same out of a window that the first block has filled. -/
theorem state_new_all {H N n : ℕ} (v : View sig κ sp ⟨3, ![1, H, N]⟩ .f32) {L : List (Piece (Elt Ideal) ⟨3, ![1, H, N]⟩ .f32)}
    {up : ℕ → Row N} (hL : ∀ (r : Fin H) (c : Fin N), View.canon L (ix3 0 r c) = hist up n H r.val c)
    (inb : ∀ d, (![0, 0, 0] : Fin 3 → ℕ) d + (![1, H, N] : Fin 3 → ℕ) d ≤ (⟨3, ![1, H, N]⟩ : Shape).size d)
    (hc : (⟨3, ![1, H, N]⟩ : Shape).ShapeCasts ⟨2, ![H, N]⟩) (hc' : (⟨2, ![H, N]⟩ : Shape).ShapeCasts ⟨2, ![H, N]⟩) (r : Fin H) (c : Fin N) :
    shapeCast ⟨2, ![H, N]⟩ (shapeCast ⟨2, ![H, N]⟩
      (v.readCov L (Rect.unit (s := ⟨3, ![1, H, N]⟩) ![0, 0, 0] ![1, H, N] inb).toLoadRect) hc) hc' (ix2 r c)
      = hist up n H r.val c := by
  refine (state_new (o := 0) (w := N) (by omega) v (up := up) (fun r c => hL r _) inb hc hc' r c).trans ?_
  simp only [cols_all]

/-- A state window stored whole from the last rows of such a buffer. -/
theorem foot_all {H A N n : ℕ} (hA : A = H + 512) {up : ℕ → Row N} {B : Mat 512 N} (hB : Rows B up n)
    {T : Mat H N} (hT : ∀ r c, T (ix2 r c) = hist up n H r.val c)
    (L : List (Piece (Elt Ideal) ⟨2, ![A, N]⟩ .f32)) (v : View sig κ sp ⟨2, ![A, N]⟩ .f32)
    {inb1 : ∀ d, (![H, 0] : Fin 2 → ℕ) d + (![512, N] : Fin 2 → ℕ) d ≤ (⟨2, ![A, N]⟩ : Shape).size d}
    {inb2 : ∀ d, (![0, 0] : Fin 2 → ℕ) d + (![H, N] : Fin 2 → ℕ) d ≤ (⟨2, ![A, N]⟩ : Shape).size d}
    (i0 : ∀ d, (![512, 0] : Fin 2 → ℕ) d + (![H, N] : Fin 2 → ℕ) d ≤ (⟨2, ![A, N]⟩ : Shape).size d)
    (hc : (⟨2, ![H, N]⟩ : Shape).ShapeCasts ⟨3, ![1, H, N]⟩) (L' : List (Piece (Elt Ideal) ⟨3, ![1, H, N]⟩ .f32))
    (inb : ∀ d, (![0, 0, 0] : Fin 3 → ℕ) d + (![1, H, N] : Fin 3 → ℕ) d ≤ (⟨3, ![1, H, N]⟩ : Shape).size d) (r : Fin H) (c : Fin N) :
    View.canon ((⟨Rect.unit (s := ⟨3, ![1, H, N]⟩) ![0, 0, 0] ![1, H, N] inb, shapeCast ⟨3, ![1, H, N]⟩ (v.readCov
      ((⟨Rect.unit (s := ⟨2, ![A, N]⟩) ![H, 0] ![512, N] inb1, B⟩ : Piece (Elt Ideal) ⟨2, ![A, N]⟩ .f32)
      :: (⟨Rect.unit (s := ⟨2, ![A, N]⟩) ![0, 0] ![H, N] inb2, T⟩ : Piece (Elt Ideal) ⟨2, ![A, N]⟩ .f32) :: L)
      (Rect.unit (s := ⟨2, ![A, N]⟩) ![512, 0] ![H, N] i0).toLoadRect) hc⟩ : Piece (Elt Ideal) ⟨3, ![1, H, N]⟩ .f32) :: L') (ix3 0 r c)
      = hist up (n + 512) H r.val c := by
  refine (out_whole _ L' inb hc r c).trans ((tap hA hB hT L v i0 r c).trans ?_)
  rw [hist_shift, Nat.add_comm r.val]

end Tap

/-! ### The trailing windows -/

/-- The window of one row is the row. -/
theorem Rows.win_one {R C n : ℕ} {a : ℕ → Row C} {v : Mat R C} (h : ∀ r c, v (ix2 r c) = hist a n 16 (16 + r.val) c) :
    Rows v (fun l => winSum a 1 l) n := fun r c => by
  show _ = ∑ j ∈ Finset.range 1, hist a (n + r.val) j 0 c
  rw [h, Finset.sum_range_one, hist_self, hist_ge a n 16 _ (by omega), Nat.add_sub_cancel_left]

/-- One row more. -/
theorem Rows.win_add {R C n j q : ℕ} {a : ℕ → Row C} {v t : Mat R C} (hv : Rows v (fun l => winSum a j l) n) (hq : q + j = 16)
    (ht : ∀ r c, t (ix2 r c) = hist a n 16 (q + r.val) c) :
    Rows (addf (F := Ideal) (φ := .f32) v t) (fun l => winSum a (j + 1) l) n := fun r c => by
  show v (ix2 r c) + t (ix2 r c) = ∑ j ∈ Finset.range (j + 1), hist a (n + r.val) j 0 c
  rw [hv, ht, Finset.sum_range_succ, hist_back a n 16 r.val j (by omega), show 16 - j = q by omega]
  rfl

section Pool

variable {sig : RefSig} {κ : Kind} {sp : Space} {n o g : ℕ} {W : EvenW} {md : Row 6144} {x : ℕ → Row 1024}

/-- One quarter of the input projection. -/
theorem proj_tile (q : Fin 4) (ho : o = 512 * q.val) {h : Mat 512 1024} (hh : Rows h (fun l => adaln (x l) W.nm (part md 1) (part md 0)) n)
    (m : Memref sig κ sp ⟨2, ![1024, 2048]⟩ .bf16) (hm : m.IsWhole) {X : Mat 1024 2048} (hW : Is X W.win)
    (inb : ∀ d, (![0, o] : Fin 2 → ℕ) d + (![1024, 512] : Fin 2 → ℕ) d ≤ (⟨2, ![1024, 2048]⟩ : Shape).size d)
    (hc : (⟨2, ![1024, 512]⟩ : Shape).ShapeCasts ⟨2, ![1024, 512]⟩)
    (D : DotDims ⟨2, ![512, 1024]⟩ ⟨2, ![1024, 512]⟩ ⟨2, ![512, 512]⟩) (hD : D = DotDims.plain 512 1024 512) (p : Option ContractPrecision) :
    Rows (matmul (F := Ideal) (φ₁ := .bf16) (φ₂ := .bf16) D p h
      (shapeCast ⟨2, ![1024, 512]⟩ (View.readAt (Elt Ideal) m.view (Rect.unit (s := ⟨2, ![1024, 2048]⟩) ![0, o] ![1024, 512] inb).toLoadRect (hm.unread X)) hc)
      (constant (F := Ideal) ⟨2, ![512, 512]⟩ .f32 0x00000000#32)) (evenP W md x q) n := by
  subst ho
  have hq := q.isLt
  exact up_tile (by omega) hh m hm hW inb hc D hD p

/-- The mixer's columns of one pooling group. -/
theorem evenMix_pool (hg : g < 4) (ho : o = 128 * g) (h : o + 128 ≤ 1024) (h' : o + 128 ≤ 512) (l : ℕ) (c : Fin 128) :
    cols o 128 h (evenMix W md x l) c
      = (∑ k : Fin 128, (Ideal.div (winSum (fun l => cols o 128 h' (evenP W md x 0 l)) (2 ^ (g + 1)) l k) ((min (2 ^ (g + 1)) (l + 1) : ℕ) : ℝ)
          - cols o 128 h' (evenP W md x 0 l) k) * W.pool ⟨g, hg⟩ k c) * cols o 128 h' W.sp c := by
  subst ho
  have hc := c.isLt
  have hk : ∀ k : Fin 128, (128 * g + k.val) / 128 = g := fun k => by have := k.isLt; omega
  unfold cols evenMix
  rw [dif_pos (by show 128 * g + c.val < 512; omega)]
  unfold evenYa
  congr 1
  refine Finset.sum_congr rfl fun k _ => ?_
  have hkl := k.isLt
  have ek : (⟨(128 * g + c.val) / 128 * 128 + k.val, by omega⟩ : Fin 512) = ⟨128 * g + k.val, by omega⟩ := Fin.ext (by show (128 * g + c.val) / 128 * 128 + k.val = 128 * g + k.val; omega)
  have eg : (⟨(128 * g + c.val) / 128, by omega⟩ : Fin 4) = ⟨g, hg⟩ := Fin.ext (hk c)
  have em : (⟨(128 * g + c.val) % 128, Nat.mod_lt _ (by decide)⟩ : Fin 128) = c := Fin.ext (by show (128 * g + c.val) % 128 = c.val; omega)
  have eh : (⟨(128 * g + k.val) / 128, by omega⟩ : Fin 4) = ⟨g, hg⟩ := Fin.ext (hk k)
  dsimp only
  rw [ek, eg, em]
  refine congrArg (· * W.pool ⟨g, hg⟩ k c) ?_
  unfold evenD
  dsimp only
  rw [eh]
  unfold width winSum
  dsimp only
  refine congrArg (fun s => Ideal.div s _ - _) (Finset.sum_congr rfl fun j _ => ?_)
  exact (hist_cols (128 * g) 128 h' (evenP W md x 0) l j 0 k).symm

/-- One pooling group of the mixer's rows, from its window sums and its own rows. -/
theorem pool_tile {w : ℕ} (hg : g < 4) (ho : o = 128 * g) (hwg : w = 2 ^ (g + 1)) (h : o + 128 ≤ 1024) (h' : o + 128 ≤ 512) (hn : n + 512 < 2 ^ 31) {S A : Mat 512 128}
    (hS : Rows S (fun l => winSum (fun l => cols o 128 h' (evenP W md x 0 l)) w l) n)
    (hA : Rows A (fun l => winSum (fun l => cols o 128 h' (evenP W md x 0 l)) 1 l) n)
    {q : IVec ⟨2, ![512, 128]⟩ 32} (hq : ∀ (r : Fin 512) (c : Fin 128), q (ix2 r c) = BitVec.ofNat 32 (n + r.val + 1))
    (m : Memref sig κ sp ⟨3, ![4, 128, 128]⟩ .bf16) (hm : m.IsWhole) {X : (⟨3, ![4, 128, 128]⟩ : Shape).Idx → EReal} (hX : ∀ g i j, X (ix3 g i j) = W.pool g i j)
    (inb : ∀ d, (![g, 0, 0] : Fin 3 → ℕ) d + (![1, 128, 128] : Fin 3 → ℕ) d ≤ (⟨3, ![4, 128, 128]⟩ : Shape).size d)
    (hc : (⟨3, ![1, 128, 128]⟩ : Shape).ShapeCasts ⟨2, ![128, 128]⟩)
    (ms : Memref sig κ sp ⟨2, ![1, 512]⟩ .f32) (hms : ms.IsWhole) {Xs : Mat 1 512} (hXs : One Xs W.sp)
    (inbs : ∀ d, (![0, o] : Fin 2 → ℕ) d + (![1, 128] : Fin 2 → ℕ) d ≤ (⟨2, ![1, 512]⟩ : Shape).size d)
    (hcs : (⟨2, ![1, 128]⟩ : Shape).ShapeCasts ⟨2, ![1, 128]⟩) (hbs : (⟨2, ![1, 128]⟩ : Shape).Broadcasts ⟨2, ![512, 128]⟩)
    (D : DotDims ⟨2, ![512, 128]⟩ ⟨2, ![128, 128]⟩ ⟨2, ![512, 128]⟩) (hD : D = DotDims.plain 512 128 128) (p : Option ContractPrecision)
    (hb hb' : FTy.bits .bf16 < FTy.bits .f32) (hcc : (⟨2, ![512, 128]⟩ : Shape).ShapeCasts ⟨2, ![512, 128]⟩) :
    Rows (shapeCast ⟨2, ![512, 128]⟩ (truncf (F := Ideal) (φ := .f32) .bf16 (mulf (F := Ideal) (φ := .f32)
      (matmul (F := Ideal) (φ₁ := .bf16) (φ₂ := .bf16) D p
        (truncf (F := Ideal) (φ := .f32) .bf16 (subf (F := Ideal) (φ := .f32) (divf (F := Ideal) (φ := .f32) S
          (sitofp (F := Ideal) .f32 (minsi (broadcast ⟨2, ![512, 128]⟩ (BitVec.ofNat 32 w)) q))) A) hb)
        (shapeCast ⟨2, ![128, 128]⟩ (View.readAt (Elt Ideal) m.view (Rect.unit (s := ⟨3, ![4, 128, 128]⟩) ![g, 0, 0] ![1, 128, 128] inb).toLoadRect (hm.unread X)) hc)
        (constant (F := Ideal) ⟨2, ![512, 128]⟩ .f32 0x00000000#32))
      (broadcastTo ⟨2, ![512, 128]⟩ (shapeCast ⟨2, ![1, 128]⟩
        (View.readAt (Elt Ideal) ms.view (Rect.unit (s := ⟨2, ![1, 512]⟩) ![0, o] ![1, 128] inbs).toLoadRect (hms.unread Xs)) hcs) hbs)) hb') hcc)
      (fun l => cols o 128 h (evenMix W md x l)) n := by
  refine Rows.cast (fun r c => ?_) hcc
  have hr := r.isLt
  show matmul (F := Ideal) (φ₁ := .bf16) (φ₂ := .bf16) D p _ _ _ (ix2 r c) * broadcastTo ⟨2, ![512, 128]⟩ _ hbs (ix2 r c) = _
  rw [matmul_at _ _ D hD p r c, bcast_row, row_tile h' ms hms (by decide) hXs inbs hcs c, evenMix_pool hg ho h h' (n + r.val) c]
  refine congrArg (· * cols o 128 h' W.sp c) (Finset.sum_congr rfl fun k _ => ?_)
  refine congrArg₂ (· * ·) ?_ ((cast_drop _ hc k c).trans ((load3 m hm X inb 0 k c ⟨g, hg⟩ k c (by simp) (by simp) (by simp)).trans (hX _ k c)))
  show Ideal.div (S (ix2 r k)) (FloatOps.sitofp (F := Ideal) .f32 (IntOp.minsi (BitVec.ofNat 32 w) (q (ix2 r k)))) - A (ix2 r k) = _
  have hw : 2 ^ (g + 1) ≤ 2 ^ 4 := Nat.pow_le_pow_right (by decide) (by omega)
  rw [hS, hA, hq, count_word w (n + r.val + 1) (by omega) (by omega), ← hwg]
  refine congrArg (fun t => Ideal.div _ _ - t) ?_
  show ∑ j ∈ Finset.range 1, _ = _
  rw [Finset.sum_range_one, hist_self]

/-- The gated convolution's columns of the mixer's rows. -/
theorem gate_tile (h : 512 + 512 ≤ 1024) {G y : Mat 512 512} (hG : Rows G (evenP W md x 2) n) (hy : Rows y (fun l => conv W.cw W.cb (evenZ W md x) l) n)
    (hb : FTy.bits .bf16 < FTy.bits .f32) (hc : (⟨2, ![512, 512]⟩ : Shape).ShapeCasts ⟨2, ![512, 512]⟩) :
    Rows (shapeCast ⟨2, ![512, 512]⟩ (truncf (F := Ideal) (φ := .f32) .bf16 (mulf (F := Ideal) (φ := .f32) G y) hb) hc)
      (fun l => cols 512 512 h (evenMix W md x l)) n := by
  refine Rows.cast (Rows.trunc (fun r k => (hG.mul hy r k).trans ?_) hb) hc
  have hk := k.isLt
  unfold cols evenMix
  rw [dif_neg (by show ¬(512 + k.val < 512); omega)]
  have e : (⟨(⟨512 + k.val, by omega⟩ : Fin 1024).val - 512, by show 512 + k.val - 512 < 512; omega⟩ : Fin 512) = k := Fin.ext (by show 512 + k.val - 512 = k.val; omega)
  rw [e]

/-- The short convolution of the block. -/
theorem sconv_tile {A : ℕ} (hA : A = 8 + 512) {u : ℕ → Row 512} {cw : Fin 3 → Row 512} {cb : Row 512} {B : Mat 512 512} {T : Mat 8 512} (hB : Rows B u n)
    (hT : ∀ r c, T (ix2 r c) = hist u n 8 r.val c)
    (mw : Memref sig κ sp ⟨2, ![3, 512]⟩ .f32) (hmw : mw.IsWhole) {Xw : Mat 3 512} (hXw : ∀ t c, Xw (ix2 t c) = cw t c)
    (mb : Memref sig κ sp ⟨2, ![1, 512]⟩ .f32) (hmb : mb.IsWhole) {Xb : Mat 1 512} (hXb : One Xb cb)
    (L : List (Piece (Elt Ideal) ⟨2, ![A, 512]⟩ .f32)) (v : View sig κ sp ⟨2, ![A, 512]⟩ .f32)
    (inb1 inb2 i0 i1 i2 ib w0 w1 w2) (hcb hc0 hc1 hc2 b0 b1 b2 b3) :
    let buf : List (Piece (Elt Ideal) ⟨2, ![A, 512]⟩ .f32) :=
      (⟨Rect.unit (s := ⟨2, ![A, 512]⟩) ![8, 0] ![512, 512] inb1, B⟩ : Piece (Elt Ideal) ⟨2, ![A, 512]⟩ .f32)
      :: (⟨Rect.unit (s := ⟨2, ![A, 512]⟩) ![0, 0] ![8, 512] inb2, T⟩ : Piece (Elt Ideal) ⟨2, ![A, 512]⟩ .f32) :: L
    Rows (addf (F := Ideal) (φ := .f32) (addf (F := Ideal) (φ := .f32) (addf (F := Ideal) (φ := .f32)
      (broadcastTo ⟨2, ![512, 512]⟩ (shapeCast ⟨2, ![1, 512]⟩ (View.readAt (Elt Ideal) mb.view (Rect.unit (s := ⟨2, ![1, 512]⟩) ![0, 0] ![1, 512] ib).toLoadRect (hmb.unread Xb)) hcb) b0)
      (mulf (F := Ideal) (φ := .f32) (broadcastTo ⟨2, ![512, 512]⟩ (shapeCast ⟨2, ![1, 512]⟩ (View.readAt (Elt Ideal) mw.view (Rect.unit (s := ⟨2, ![3, 512]⟩) ![0, 0] ![1, 512] w0).toLoadRect (hmw.unread Xw)) hc0) b1)
        (v.readCov buf (Rect.unit (s := ⟨2, ![A, 512]⟩) ![6, 0] ![512, 512] i0).toLoadRect)))
      (mulf (F := Ideal) (φ := .f32) (broadcastTo ⟨2, ![512, 512]⟩ (shapeCast ⟨2, ![1, 512]⟩ (View.readAt (Elt Ideal) mw.view (Rect.unit (s := ⟨2, ![3, 512]⟩) ![1, 0] ![1, 512] w1).toLoadRect (hmw.unread Xw)) hc1) b2)
        (v.readCov buf (Rect.unit (s := ⟨2, ![A, 512]⟩) ![7, 0] ![512, 512] i1).toLoadRect)))
      (mulf (F := Ideal) (φ := .f32) (broadcastTo ⟨2, ![512, 512]⟩ (shapeCast ⟨2, ![1, 512]⟩ (View.readAt (Elt Ideal) mw.view (Rect.unit (s := ⟨2, ![3, 512]⟩) ![2, 0] ![1, 512] w2).toLoadRect (hmw.unread Xw)) hc2) b3)
        (v.readCov buf (Rect.unit (s := ⟨2, ![A, 512]⟩) ![8, 0] ![512, 512] i2).toLoadRect)))
      (fun l => conv cw cb u l) n := by
  intro buf
  have hz : ∀ (t : Fin 3) (inb) (hc), One (shapeCast ⟨2, ![1, 512]⟩ (View.readAt (Elt Ideal) mw.view (Rect.unit (s := ⟨2, ![3, 512]⟩) ![t.val, 0] ![1, 512] inb).toLoadRect (hmw.unread Xw)) hc) (cw t) :=
    fun t inb hc => One.cast (fun c => (load2 mw hmw Xw inb 0 c t c (by simp) (by simp)).trans (hXw t c)) hc
  exact Rows.conv (h := 8) (by decide) (tap hA hB hT L v i0) (tap hA hB hT L v i1) (tap hA hB hT L v i2) (wr := cw) (br := cb)
    (row_all mb hmb hXb ib hcb) (hz 0 w0 hc0) (hz 1 w1 hc1) (hz 2 w2 hc2) b0 b1 b2 b3

end Pool

end Decoder
-- ==== Proof.EvenBlock.lean ====
/-
  The even layer's body on one block of 512 rows, as far as it does not depend on the states: the four quarters of the input
  projection and the count of positions.
-/
module

public import proofs.«01_k».proof.Proof.EvenMix
public import proofs.«01_k».proof.Proof.Gen.KernelIdeal.Frame

@[expose] public section

set_option maxRecDepth 16384

noncomputable section

open Idealize.ShloMosaic Idealize.ShloMosaic.ValueIdx Idealize.ShloMosaic.View Idealize.ShloMosaic.TcCoe
open Cert.KernelIdeal Cert.KernelIdeal.Gen

namespace Decoder.Even

/-- The windows of one grid point hold the layer's arrays and the input's rows from `n` on. -/
structure Blk (W : EvenW) (Fw : FfnW) (nf : Row 1024) (md : Row 6144) (x : ℕ → Row 1024) (n : ℕ)
    (x0 : Vec Ideal S1x512x1024 .f32) (x1 : Vec Ideal S1x1x6144 .f32) (x2 : Vec Ideal S1x16x512 .f32) (x3 : Vec Ideal S1x8x512 .f32) (x4 : Vec Ideal S1x8x5632 .f32) (x5 : Vec Ideal S1x1024 .f32) (x6 : Vec Ideal S1x1024 .f32) (x7 : Vec Ideal S1024x2048 .bf16) (x8 : Vec Ideal S4x128x128 .bf16) (x9 : Vec Ideal S1x512 .f32) (x10 : Vec Ideal S3x512 .f32) (x11 : Vec Ideal S1x512 .f32) (x12 : Vec Ideal S1024x1024 .bf16) (x13 : Vec Ideal S1024x5632 .bf16) (x14 : Vec Ideal S3x5632 .f32) (x15 : Vec Ideal S1x5632 .f32) (x16 : Vec Ideal S2816x1024 .bf16) : Prop where
  hx : ∀ r c, x0 (ix3 0 r c) = x (n + r.val) c
  hmd : ∀ k, x1 (ix3 0 0 k) = md k
  hnm : One (C := 1024) x5 W.nm
  hnf : One (C := 1024) x6 nf
  hwin : Is (K := 1024) (N := 2048) x7 W.win
  hpool : ∀ g i j, x8 (ix3 g i j) = W.pool g i j
  hsp : One (C := 512) x9 W.sp
  hscw : ∀ t k, x10 (ix2 t k) = W.cw t k
  hscb : One (C := 512) x11 W.cb
  hout : Is (K := 1024) (N := 1024) x12 W.out
  hup : Is (K := 1024) (N := 5632) x13 Fw.up
  hcw : ∀ t k, x14 (ix2 t k) = Fw.cw t k
  hcb : One (C := 5632) x15 Fw.cb
  hdown : Is (K := 2816) (N := 1024) x16 Fw.down
  hn : n + 512 < 2 ^ 31

variable {W : EvenW} {Fw : FfnW} {nf : Row 1024} {md : Row 6144} {x : ℕ → Row 1024} {n : ℕ}
variable (c : Dev nD) (arg2 : Memref sig .tc .vmem S1x512x1024 .f32) (harg2 : arg2.IsWhole) (arg3 : Memref sig .tc .vmem S1x1x6144 .f32) (harg3 : arg3.IsWhole) (arg4 : Memref sig .tc .vmem S1x16x512 .f32) (harg4 : arg4.IsWhole) (arg5 : Memref sig .tc .vmem S1x8x512 .f32) (harg5 : arg5.IsWhole) (arg6 : Memref sig .tc .vmem S1x8x5632 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x2048 .bf16) (harg9 : arg9.IsWhole) (arg10 : Memref sig .tc .vmem S4x128x128 .bf16) (harg10 : arg10.IsWhole) (arg11 : Memref sig .tc .vmem S1x512 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S3x5632 .f32) (harg16 : arg16.IsWhole) (arg17 : Memref sig .tc .vmem S1x5632 .f32) (harg17 : arg17.IsWhole) (arg18 : Memref sig .tc .vmem S2816x1024 .bf16) (harg18 : arg18.IsWhole) (arg19 : Memref sig .tc .vmem S1x512x1024 .f32) (harg19 : arg19.IsWhole) (arg20 : Memref sig .tc .vmem S1x16x512 .f32) (harg20 : arg20.IsWhole) (arg21 : Memref sig .tc .vmem S1x8x512 .f32) (harg21 : arg21.IsWhole) (arg22 : Memref sig .tc .vmem S1x8x5632 .f32) (harg22 : arg22.IsWhole) (arg23 : Memref sig .tc .vmem S512x1024 .bf16) (harg23 : arg23.IsWhole) (arg24 : Memref sig .tc .vmem S512x1024 .f32) (harg24 : arg24.IsWhole) (arg25 : Memref sig .tc .vmem S512x1024 .bf16) (harg25 : arg25.IsWhole) (arg26 : Memref sig .tc .vmem S520x256 .f32) (harg26 : arg26.IsWhole) (arg27 : Memref sig .tc .vmem S520x256 .f32) (harg27 : arg27.IsWhole) (arg28 : Memref sig .tc .vmem S512x2816 .bf16) (harg28 : arg28.IsWhole) (arg29 : Memref sig .tc .vmem S528x512 .f32) (harg29 : arg29.IsWhole) (arg30 : Memref sig .tc .vmem S520x512 .f32) (harg30 : arg30.IsWhole) (arg31 : Memref sig .tc .vmem S512x512 .f32) (harg31 : arg31.IsWhole)
variable {x0 : Vec Ideal S1x512x1024 .f32} {x1 : Vec Ideal S1x1x6144 .f32} {x2 : Vec Ideal S1x16x512 .f32} {x3 : Vec Ideal S1x8x512 .f32} {x4 : Vec Ideal S1x8x5632 .f32} {x5 : Vec Ideal S1x1024 .f32} {x6 : Vec Ideal S1x1024 .f32} {x7 : Vec Ideal S1024x2048 .bf16} {x8 : Vec Ideal S4x128x128 .bf16} {x9 : Vec Ideal S1x512 .f32} {x10 : Vec Ideal S3x512 .f32} {x11 : Vec Ideal S1x512 .f32} {x12 : Vec Ideal S1024x1024 .bf16} {x13 : Vec Ideal S1024x5632 .bf16} {x14 : Vec Ideal S3x5632 .f32} {x15 : Vec Ideal S1x5632 .f32} {x16 : Vec Ideal S2816x1024 .bf16} {xo18 : Vec Ideal S1x16x512 .f32} {xo19 : Vec Ideal S1x8x512 .f32} {xo20 : Vec Ideal S1x8x5632 .f32}
variable (H : Blk W Fw nf md x n x0 x1 x2 x3 x4 x5 x6 x7 x8 x9 x10 x11 x12 x13 x14 x15 x16)
include H

/-- The rows the up projection reads, over the whole sequence. -/
abbrev s2 (W : EvenW) (nf : Row 1024) (md : Row 6144) (x : ℕ → Row 1024) : ℕ → Row 1024 := fun l => adaln (evenX1 W md x l) nf (part md 4) (part md 3)

/-- The rows the input projection reads. -/
theorem h_rows : Rows (R := 512) (C := 1024) (kernelRun0_B.sl.v37 (F := Ideal) c arg2 harg2 arg3 harg3 arg7 harg7 arg23 x0 x1 x5) (fun l => adaln (x l) W.nm (part md 1) (part md 0)) n :=
  Rows.whole16 (Rows.cast (Rows.trunc (Rows.affine (Rows.rms (in_rows arg2 harg2 H.hx _ _) (row_all arg7 harg7 H.hnm _ _) _ _ _ _ _ _)
    (mod_part arg3 harg3 H.hmd 1 rfl _ _ _) (mod_part arg3 harg3 H.hmd 0 rfl _ _ _) _ _) _) _) [] _ _ _

/-- The pooled channels, -/
theorem p_rows : Rows (R := 512) (C := 512) (kernelRun0_B.sl.v48 (F := Ideal) c arg2 harg2 arg3 harg3 arg7 harg7 arg9 harg9 arg23 x0 x1 x5 x7) (evenP W md x 0) n :=
  (proj_tile 0 rfl (h_rows c arg2 harg2 arg3 harg3 arg7 harg7 arg23 H) arg9 harg9 H.hwin _ _ _ rfl _).cast _

/-- the rows the short convolution reads, -/
theorem z_rows : Rows (R := 512) (C := 512) (kernelRun0_B.sl.v63 (F := Ideal) c arg2 harg2 arg3 harg3 arg7 harg7 arg9 harg9 arg23 x0 x1 x5 x7) (evenZ W md x) n :=
  ((proj_tile 3 rfl (h_rows c arg2 harg2 arg3 harg3 arg7 harg7 arg23 H) arg9 harg9 H.hwin _ _ _ rfl _).mul
    (proj_tile 1 rfl (h_rows c arg2 harg2 arg3 harg3 arg7 harg7 arg23 H) arg9 harg9 H.hwin _ _ _ rfl _)).cast _

/-- and its gate. -/
theorem g_rows : Rows (R := 512) (C := 512) (kernelRun0_B.sl.v69 (F := Ideal) c arg2 harg2 arg3 harg3 arg7 harg7 arg9 harg9 arg23 x0 x1 x5 x7) (evenP W md x 2) n :=
  (proj_tile 2 rfl (h_rows c arg2 harg2 arg3 harg3 arg7 harg7 arg23 H) arg9 harg9 H.hwin _ _ _ rfl _).cast _

omit H in
/-- The count of positions of a row of the block. -/
theorem pos_rows (i : grid0.Coords) (hi : (i 1).val * 512 = n) (r : Fin 512) (k : Fin 128) : (kernelRun0_B.sl.v104 i) (ix2 r k) = BitVec.ofNat 32 (n + r.val + 1) := by
  refine (pos_word _).trans ?_
  show IntOp.addi (IntOp.muli (BitVec.ofNat 32 (i 1).val) 512#32) (BitVec.ofNat 32 (0 * 512 + r.val)) + 1#32 = _
  rw [Nat.zero_mul, Nat.zero_add, next_word, hi]

end Decoder.Even
-- ==== Proof.EvenMixNext.lean ====
/-
  The even layer's mixer on a block that continues one.
-/
module

public import proofs.«01_k».proof.Proof.EvenBlock

@[expose] public section

set_option maxRecDepth 16384

noncomputable section

open Idealize.ShloMosaic Idealize.ShloMosaic.ValueIdx Idealize.ShloMosaic.View Idealize.ShloMosaic.TcCoe
open Cert.KernelIdeal Cert.KernelIdeal.Gen

namespace Decoder.Even

variable {W : EvenW} {Fw : FfnW} {nf : Row 1024} {md : Row 6144} {x : ℕ → Row 1024} {n : ℕ}
variable (c : Dev nD) (arg2 : Memref sig .tc .vmem S1x512x1024 .f32) (harg2 : arg2.IsWhole) (arg3 : Memref sig .tc .vmem S1x1x6144 .f32) (harg3 : arg3.IsWhole) (arg4 : Memref sig .tc .vmem S1x16x512 .f32) (harg4 : arg4.IsWhole) (arg5 : Memref sig .tc .vmem S1x8x512 .f32) (harg5 : arg5.IsWhole) (arg6 : Memref sig .tc .vmem S1x8x5632 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x2048 .bf16) (harg9 : arg9.IsWhole) (arg10 : Memref sig .tc .vmem S4x128x128 .bf16) (harg10 : arg10.IsWhole) (arg11 : Memref sig .tc .vmem S1x512 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S3x5632 .f32) (harg16 : arg16.IsWhole) (arg17 : Memref sig .tc .vmem S1x5632 .f32) (harg17 : arg17.IsWhole) (arg18 : Memref sig .tc .vmem S2816x1024 .bf16) (harg18 : arg18.IsWhole) (arg19 : Memref sig .tc .vmem S1x512x1024 .f32) (harg19 : arg19.IsWhole) (arg20 : Memref sig .tc .vmem S1x16x512 .f32) (harg20 : arg20.IsWhole) (arg21 : Memref sig .tc .vmem S1x8x512 .f32) (harg21 : arg21.IsWhole) (arg22 : Memref sig .tc .vmem S1x8x5632 .f32) (harg22 : arg22.IsWhole) (arg23 : Memref sig .tc .vmem S512x1024 .bf16) (harg23 : arg23.IsWhole) (arg24 : Memref sig .tc .vmem S512x1024 .f32) (harg24 : arg24.IsWhole) (arg25 : Memref sig .tc .vmem S512x1024 .bf16) (harg25 : arg25.IsWhole) (arg26 : Memref sig .tc .vmem S520x256 .f32) (harg26 : arg26.IsWhole) (arg27 : Memref sig .tc .vmem S520x256 .f32) (harg27 : arg27.IsWhole) (arg28 : Memref sig .tc .vmem S512x2816 .bf16) (harg28 : arg28.IsWhole) (arg29 : Memref sig .tc .vmem S528x512 .f32) (harg29 : arg29.IsWhole) (arg30 : Memref sig .tc .vmem S520x512 .f32) (harg30 : arg30.IsWhole) (arg31 : Memref sig .tc .vmem S512x512 .f32) (harg31 : arg31.IsWhole)
variable {x0 : Vec Ideal S1x512x1024 .f32} {x1 : Vec Ideal S1x1x6144 .f32} {x2 : Vec Ideal S1x16x512 .f32} {x3 : Vec Ideal S1x8x512 .f32} {x4 : Vec Ideal S1x8x5632 .f32} {x5 : Vec Ideal S1x1024 .f32} {x6 : Vec Ideal S1x1024 .f32} {x7 : Vec Ideal S1024x2048 .bf16} {x8 : Vec Ideal S4x128x128 .bf16} {x9 : Vec Ideal S1x512 .f32} {x10 : Vec Ideal S3x512 .f32} {x11 : Vec Ideal S1x512 .f32} {x12 : Vec Ideal S1024x1024 .bf16} {x13 : Vec Ideal S1024x5632 .bf16} {x14 : Vec Ideal S3x5632 .f32} {x15 : Vec Ideal S1x5632 .f32} {x16 : Vec Ideal S2816x1024 .bf16} {xo18 : Vec Ideal S1x16x512 .f32} {xo19 : Vec Ideal S1x8x512 .f32} {xo20 : Vec Ideal S1x8x5632 .f32}
variable (H : Blk W Fw nf md x n x0 x1 x2 x3 x4 x5 x6 x7 x8 x9 x10 x11 x12 x13 x14 x15 x16)
include H

/-- The history rows in front of the pooled channels, -/
theorem p_hist (hP : ∀ r k, xo18 (ix3 0 r k) = hist (evenP W md x 0) n 16 r.val k) (r : Fin 16) (k : Fin 512) : (kernelRun0_B.sl.v42 (F := Ideal) c arg20 harg20 xo18) (ix2 r k) = hist (evenP W md x 0) n 16 r.val k :=
  state_kept_all arg20 harg20 hP _ _ _ r k

/-- and in front of the short convolution's rows. -/
theorem z_hist (hZ : ∀ r k, xo19 (ix3 0 r k) = hist (evenZ W md x) n 8 r.val k) (r : Fin 8) (k : Fin 512) : (kernelRun0_B.sl.v53 (F := Ideal) c arg21 harg21 xo19) (ix2 r k) = hist (evenZ W md x) n 8 r.val k :=
  state_kept_all arg21 harg21 hZ _ _ _ r k

/-- The mixer's rows: the gated convolution, -/
theorem conv_piece (hZ : ∀ r k, xo19 (ix3 0 r k) = hist (evenZ W md x) n 8 r.val k) : Rows (R := 512) (C := 512) (kernelRun0_B.sl.v262 (F := Ideal) c arg2 harg2 arg3 harg3 arg7 harg7 arg9 harg9 arg12 harg12 arg13 harg13 arg21 harg21 arg23 arg30 arg31 x0 x1 x5 x7 x10 x11 xo19) (fun l => cols 512 512 (by decide) (evenMix W md x l)) n :=
  gate_tile (by decide) (Rows.whole32 (g_rows c arg2 harg2 arg3 harg3 arg7 harg7 arg9 harg9 arg23 H) [] _ _ _)
    (sconv_tile rfl (z_rows c arg2 harg2 arg3 harg3 arg7 harg7 arg9 harg9 arg23 H) (z_hist c arg21 harg21 H hZ) arg12 harg12 H.hscw arg13 harg13 H.hscb [] arg30.view _ _ _ _ _ _ _ _ _ _ _ _ _ _ _ _ _) _ _

/-- the pooling group of windows of sixteen rows, -/
theorem pool16_piece (i : grid0.Coords) (hi : (i 1).val * 512 = n) (hP : ∀ r k, xo18 (ix3 0 r k) = hist (evenP W md x 0) n 16 r.val k) : Rows (R := 512) (C := 128) (kernelRun0_B.sl.v231 (F := Ideal) c i arg2 harg2 arg3 harg3 arg7 harg7 arg9 harg9 arg10 harg10 arg11 harg11 arg20 harg20 arg23 arg29 x0 x1 x5 x7 x8 x9 xo18) (fun l => cols 384 128 (by decide) (evenMix W md x l)) n :=
  have hB := p_rows c arg2 harg2 arg3 harg3 arg7 harg7 arg9 harg9 arg23 H
  have hT := p_hist c arg20 harg20 H hP
  have hq := pos_rows i hi
  (pool_tile (w := 16) (g := 3) (o := 384) (by decide) rfl rfl (by decide) (by decide) H.hn (by repeat' first | exact Rows.win_one (tap_cols rfl hB hT _ _ (by decide) _) | refine Rows.win_add ?_ (by omega) (tap_cols rfl hB hT _ _ (by decide) _)) (Rows.win_one (tap_cols rfl hB hT _ _ (by decide) _)) hq arg10 harg10 H.hpool _ _ arg11 harg11 H.hsp _ _ _ _ rfl _ _ _ _)

/-- of eight rows, -/
theorem pool8_piece (i : grid0.Coords) (hi : (i 1).val * 512 = n) (hP : ∀ r k, xo18 (ix3 0 r k) = hist (evenP W md x 0) n 16 r.val k) : Rows (R := 512) (C := 128) (kernelRun0_B.sl.v181 (F := Ideal) c i arg2 harg2 arg3 harg3 arg7 harg7 arg9 harg9 arg10 harg10 arg11 harg11 arg20 harg20 arg23 arg29 x0 x1 x5 x7 x8 x9 xo18) (fun l => cols 256 128 (by decide) (evenMix W md x l)) n :=
  have hB := p_rows c arg2 harg2 arg3 harg3 arg7 harg7 arg9 harg9 arg23 H
  have hT := p_hist c arg20 harg20 H hP
  have hq := pos_rows i hi
  (pool_tile (w := 8) (g := 2) (o := 256) (by decide) rfl rfl (by decide) (by decide) H.hn (by repeat' first | exact Rows.win_one (tap_cols rfl hB hT _ _ (by decide) _) | refine Rows.win_add ?_ (by omega) (tap_cols rfl hB hT _ _ (by decide) _)) (Rows.win_one (tap_cols rfl hB hT _ _ (by decide) _)) hq arg10 harg10 H.hpool _ _ arg11 harg11 H.hsp _ _ _ _ rfl _ _ _ _)

/-- of four rows, -/
theorem pool4_piece (i : grid0.Coords) (hi : (i 1).val * 512 = n) (hP : ∀ r k, xo18 (ix3 0 r k) = hist (evenP W md x 0) n 16 r.val k) : Rows (R := 512) (C := 128) (kernelRun0_B.sl.v147 (F := Ideal) c i arg2 harg2 arg3 harg3 arg7 harg7 arg9 harg9 arg10 harg10 arg11 harg11 arg20 harg20 arg23 arg29 x0 x1 x5 x7 x8 x9 xo18) (fun l => cols 128 128 (by decide) (evenMix W md x l)) n :=
  have hB := p_rows c arg2 harg2 arg3 harg3 arg7 harg7 arg9 harg9 arg23 H
  have hT := p_hist c arg20 harg20 H hP
  have hq := pos_rows i hi
  (pool_tile (w := 4) (g := 1) (o := 128) (by decide) rfl rfl (by decide) (by decide) H.hn (by repeat' first | exact Rows.win_one (tap_cols rfl hB hT _ _ (by decide) _) | refine Rows.win_add ?_ (by omega) (tap_cols rfl hB hT _ _ (by decide) _)) (Rows.win_one (tap_cols rfl hB hT _ _ (by decide) _)) hq arg10 harg10 H.hpool _ _ arg11 harg11 H.hsp _ _ _ _ rfl _ _ _ _)

/-- and of two rows. -/
theorem pool2_piece (i : grid0.Coords) (hi : (i 1).val * 512 = n) (hP : ∀ r k, xo18 (ix3 0 r k) = hist (evenP W md x 0) n 16 r.val k) : Rows (R := 512) (C := 128) (kernelRun0_B.sl.v121 (F := Ideal) c i arg2 harg2 arg3 harg3 arg7 harg7 arg9 harg9 arg10 harg10 arg11 harg11 arg20 harg20 arg23 arg29 x0 x1 x5 x7 x8 x9 xo18) (fun l => cols 0 128 (by decide) (evenMix W md x l)) n :=
  have hB := p_rows c arg2 harg2 arg3 harg3 arg7 harg7 arg9 harg9 arg23 H
  have hT := p_hist c arg20 harg20 H hP
  have hq := pos_rows i hi
  (pool_tile (w := 2) (g := 0) (o := 0) (by decide) rfl rfl (by decide) (by decide) H.hn (by repeat' first | exact Rows.win_one (tap_cols rfl hB hT _ _ (by decide) _) | refine Rows.win_add ?_ (by omega) (tap_cols rfl hB hT _ _ (by decide) _)) (Rows.win_one (tap_cols rfl hB hT _ _ (by decide) _)) hq arg10 harg10 H.hpool _ _ arg11 harg11 H.hsp _ _ _ _ rfl _ _ _ _)

/-- Every piece of the mixer's buffer, -/
theorem mix_pieces (i : grid0.Coords) (hi : (i 1).val * 512 = n) (hP : ∀ r k, xo18 (ix3 0 r k) = hist (evenP W md x 0) n 16 r.val k) (hZ : ∀ r k, xo19 (ix3 0 r k) = hist (evenZ W md x) n 8 r.val k) : ∀ p ∈ (kernelRun0_B.sl.HS2_5 (F := Ideal) c i arg2 harg2 arg3 harg3 arg7 harg7 arg9 harg9 arg10 harg10 arg11 harg11 arg12 harg12 arg13 harg13 arg20 harg20 arg21 harg21 arg23 arg29 arg30 arg31 x0 x1 x5 x7 x8 x9 x10 x11 xo18 xo19), TileOk (A := 512) (N := 1024) (evenMix W md x) n p :=
  List.forall_mem_cons.2 ⟨tile_ok (by decide) (conv_piece c arg2 harg2 arg3 harg3 arg7 harg7 arg9 harg9 arg12 harg12 arg13 harg13 arg21 harg21 arg23 arg30 arg31 H hZ),
    List.forall_mem_cons.2 ⟨tile_ok (by decide) (pool16_piece c arg2 harg2 arg3 harg3 arg7 harg7 arg9 harg9 arg10 harg10 arg11 harg11 arg20 harg20 arg23 arg29 H i hi hP),
    List.forall_mem_cons.2 ⟨tile_ok (by decide) (pool8_piece c arg2 harg2 arg3 harg3 arg7 harg7 arg9 harg9 arg10 harg10 arg11 harg11 arg20 harg20 arg23 arg29 H i hi hP),
    List.forall_mem_cons.2 ⟨tile_ok (by decide) (pool4_piece c arg2 harg2 arg3 harg3 arg7 harg7 arg9 harg9 arg10 harg10 arg11 harg11 arg20 harg20 arg23 arg29 H i hi hP),
    List.forall_mem_cons.2 ⟨tile_ok (by decide) (pool2_piece c arg2 harg2 arg3 harg3 arg7 harg7 arg9 harg9 arg10 harg10 arg11 harg11 arg20 harg20 arg23 arg29 H i hi hP), List.forall_mem_nil _⟩⟩⟩⟩⟩

/-- and the whole of them. -/
theorem mix_rows (i : grid0.Coords) (hi : (i 1).val * 512 = n) (hP : ∀ r k, xo18 (ix3 0 r k) = hist (evenP W md x 0) n 16 r.val k) (hZ : ∀ r k, xo19 (ix3 0 r k) = hist (evenZ W md x) n 8 r.val k) (v : View sig .tc .vmem ⟨2, ![512, 1024]⟩ .bf16) (inb) :
    Rows (v.readCov (kernelRun0_B.sl.HS2_5 (F := Ideal) c i arg2 harg2 arg3 harg3 arg7 harg7 arg9 harg9 arg10 harg10 arg11 harg11 arg12 harg12 arg13 harg13 arg20 harg20 arg21 harg21 arg23 arg29 arg30 arg31 x0 x1 x5 x7 x8 x9 x10 x11 xo18 xo19) (Rect.unit (s := ⟨2, ![512, 1024]⟩) ![0, 0] ![512, 1024] inb).toLoadRect) (evenMix W md x) n :=
  tiles_read _ v (mix_pieces c arg2 harg2 arg3 harg3 arg7 harg7 arg9 harg9 arg10 harg10 arg11 harg11 arg12 harg12 arg13 harg13 arg20 harg20 arg21 harg21 arg23 arg29 arg30 arg31 H i hi hP hZ) (fun y => View.cover_of_tiledBy _ ![512, 128] (by sl_kernel_rfl) y) inb

/-- The residual stream after the mixer, -/
theorem x1_rows (i : grid0.Coords) (hi : (i 1).val * 512 = n) (hP : ∀ r k, xo18 (ix3 0 r k) = hist (evenP W md x 0) n 16 r.val k) (hZ : ∀ r k, xo19 (ix3 0 r k) = hist (evenZ W md x) n 8 r.val k) : Rows (R := 512) (C := 1024) (kernelRun0_B.sl.v275 (F := Ideal) c i arg2 harg2 arg3 harg3 arg7 harg7 arg9 harg9 arg10 harg10 arg11 harg11 arg12 harg12 arg13 harg13 arg14 harg14 arg20 harg20 arg21 harg21 arg23 arg25 arg29 arg30 arg31 x0 x1 x5 x7 x8 x9 x10 x11 x12 xo18 xo19) (evenX1 W md x) n :=
  Rows.resid (in_rows arg2 harg2 H.hx _ _) (Rows.lin (mix_rows c arg2 harg2 arg3 harg3 arg7 harg7 arg9 harg9 arg10 harg10 arg11 harg11 arg12 harg12 arg13 harg13 arg20 harg20 arg21 harg21 arg23 arg29 arg30 arg31 H i hi hP hZ arg25.view _)
    (mat_all arg14 harg14 H.hout _ _) _ rfl _) (mod_part arg3 harg3 H.hmd 2 rfl _ _ _) _

/-- and the rows the ConvFFN's up projection reads. -/
theorem h2_rows (i : grid0.Coords) (hi : (i 1).val * 512 = n) (hP : ∀ r k, xo18 (ix3 0 r k) = hist (evenP W md x 0) n 16 r.val k) (hZ : ∀ r k, xo19 (ix3 0 r k) = hist (evenZ W md x) n 8 r.val k) : Rows (R := 512) (C := 1024) (kernelRun0_B.sl.v303 (F := Ideal) c i arg2 harg2 arg3 harg3 arg7 harg7 arg8 harg8 arg9 harg9 arg10 harg10 arg11 harg11 arg12 harg12 arg13 harg13 arg14 harg14 arg20 harg20 arg21 harg21 arg23 arg25 arg29 arg30 arg31 x0 x1 x5 x6 x7 x8 x9 x10 x11 x12 xo18 xo19) (s2 W nf md x) n :=
  Rows.whole16 (Rows.cast (Rows.trunc (Rows.affine (Rows.rms (x1_rows c arg2 harg2 arg3 harg3 arg7 harg7 arg9 harg9 arg10 harg10 arg11 harg11 arg12 harg12 arg13 harg13 arg14 harg14 arg20 harg20 arg21 harg21 arg23 arg25 arg29 arg30 arg31 H i hi hP hZ)
    (row_all arg8 harg8 H.hnf _ _) _ _ _ _ _ _)
    (mod_part arg3 harg3 H.hmd 4 rfl _ _ _) (mod_part arg3 harg3 H.hmd 3 rfl _ _ _) _ _) _) _) _ _ _ _

end Decoder.Even
-- ==== Proof.EvenNext.lean ====
/-
  The even layer's ConvFFN on a block that continues one: the result's block and the states' blocks.
-/
module

public import proofs.«01_k».proof.Proof.EvenMixNext

@[expose] public section

set_option maxRecDepth 16384

noncomputable section

open Idealize.ShloMosaic Idealize.ShloMosaic.ValueIdx Idealize.ShloMosaic.View Idealize.ShloMosaic.TcCoe
open Cert.KernelIdeal Cert.KernelIdeal.Gen

namespace Decoder.Even

variable {W : EvenW} {Fw : FfnW} {nf : Row 1024} {md : Row 6144} {x : ℕ → Row 1024} {n : ℕ}
variable (c : Dev nD) (arg2 : Memref sig .tc .vmem S1x512x1024 .f32) (harg2 : arg2.IsWhole) (arg3 : Memref sig .tc .vmem S1x1x6144 .f32) (harg3 : arg3.IsWhole) (arg4 : Memref sig .tc .vmem S1x16x512 .f32) (harg4 : arg4.IsWhole) (arg5 : Memref sig .tc .vmem S1x8x512 .f32) (harg5 : arg5.IsWhole) (arg6 : Memref sig .tc .vmem S1x8x5632 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x2048 .bf16) (harg9 : arg9.IsWhole) (arg10 : Memref sig .tc .vmem S4x128x128 .bf16) (harg10 : arg10.IsWhole) (arg11 : Memref sig .tc .vmem S1x512 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S3x5632 .f32) (harg16 : arg16.IsWhole) (arg17 : Memref sig .tc .vmem S1x5632 .f32) (harg17 : arg17.IsWhole) (arg18 : Memref sig .tc .vmem S2816x1024 .bf16) (harg18 : arg18.IsWhole) (arg19 : Memref sig .tc .vmem S1x512x1024 .f32) (harg19 : arg19.IsWhole) (arg20 : Memref sig .tc .vmem S1x16x512 .f32) (harg20 : arg20.IsWhole) (arg21 : Memref sig .tc .vmem S1x8x512 .f32) (harg21 : arg21.IsWhole) (arg22 : Memref sig .tc .vmem S1x8x5632 .f32) (harg22 : arg22.IsWhole) (arg23 : Memref sig .tc .vmem S512x1024 .bf16) (harg23 : arg23.IsWhole) (arg24 : Memref sig .tc .vmem S512x1024 .f32) (harg24 : arg24.IsWhole) (arg25 : Memref sig .tc .vmem S512x1024 .bf16) (harg25 : arg25.IsWhole) (arg26 : Memref sig .tc .vmem S520x256 .f32) (harg26 : arg26.IsWhole) (arg27 : Memref sig .tc .vmem S520x256 .f32) (harg27 : arg27.IsWhole) (arg28 : Memref sig .tc .vmem S512x2816 .bf16) (harg28 : arg28.IsWhole) (arg29 : Memref sig .tc .vmem S528x512 .f32) (harg29 : arg29.IsWhole) (arg30 : Memref sig .tc .vmem S520x512 .f32) (harg30 : arg30.IsWhole) (arg31 : Memref sig .tc .vmem S512x512 .f32) (harg31 : arg31.IsWhole)
variable {x0 : Vec Ideal S1x512x1024 .f32} {x1 : Vec Ideal S1x1x6144 .f32} {x2 : Vec Ideal S1x16x512 .f32} {x3 : Vec Ideal S1x8x512 .f32} {x4 : Vec Ideal S1x8x5632 .f32} {x5 : Vec Ideal S1x1024 .f32} {x6 : Vec Ideal S1x1024 .f32} {x7 : Vec Ideal S1024x2048 .bf16} {x8 : Vec Ideal S4x128x128 .bf16} {x9 : Vec Ideal S1x512 .f32} {x10 : Vec Ideal S3x512 .f32} {x11 : Vec Ideal S1x512 .f32} {x12 : Vec Ideal S1024x1024 .bf16} {x13 : Vec Ideal S1024x5632 .bf16} {x14 : Vec Ideal S3x5632 .f32} {x15 : Vec Ideal S1x5632 .f32} {x16 : Vec Ideal S2816x1024 .bf16} {xo18 : Vec Ideal S1x16x512 .f32} {xo19 : Vec Ideal S1x8x512 .f32} {xo20 : Vec Ideal S1x8x5632 .f32}
variable (H : Blk W Fw nf md x n x0 x1 x2 x3 x4 x5 x6 x7 x8 x9 x10 x11 x12 x13 x14 x15 x16)
include H

/-- The gated rows: every piece of their buffer, a chunk of 256 columns, -/
theorem act_pieces (i : grid0.Coords) (hi : (i 1).val * 512 = n) (hP : ∀ r k, xo18 (ix3 0 r k) = hist (evenP W md x 0) n 16 r.val k) (hZ : ∀ r k, xo19 (ix3 0 r k) = hist (evenZ W md x) n 8 r.val k) (hF : ∀ r k, xo20 (ix3 0 r k) = hist (ups Fw (s2 W nf md x)) n 8 r.val k) : ∀ p ∈ (kernelRun0_B.sl.HS5_11 (F := Ideal) c i arg2 harg2 arg3 harg3 arg7 harg7 arg8 harg8 arg9 harg9 arg10 harg10 arg11 harg11 arg12 harg12 arg13 harg13 arg14 harg14 arg15 harg15 arg16 harg16 arg17 harg17 arg20 harg20 arg21 harg21 arg22 harg22 arg23 arg25 arg26 arg27 arg29 arg30 arg31 x0 x1 x5 x6 x7 x8 x9 x10 x11 x12 x13 x14 x15 xo18 xo19 xo20), TileOk (A := 512) (N := 2816) (fun l => geglu (conv Fw.cw Fw.cb (ups Fw (s2 W nf md x)) l)) n p := by
  have hh := h2_rows c arg2 harg2 arg3 harg3 arg7 harg7 arg8 harg8 arg9 harg9 arg10 harg10 arg11 harg11 arg12 harg12 arg13 harg13 arg14 harg14 arg20 harg20 arg21 harg21 arg23 arg25 arg29 arg30 arg31 H i hi hP hZ
  repeat' first
    | exact List.forall_mem_nil _
    | refine List.forall_mem_cons.2 ⟨tile_ok (by decide) (act_tile (by decide) (conv_chunk (by decide) hh arg15 harg15 H.hup arg16 harg16 H.hcw arg17 harg17 H.hcb (state_kept (by decide) arg22 harg22 hF _ _ _) _ _ _ _ _ _ _ _ _ _ _ _ _ _ _ _ _ _ _ _ _ _ _ rfl _)
        (conv_chunk (by decide) hh arg15 harg15 H.hup arg16 harg16 H.hcw arg17 harg17 H.hcb (state_kept (by decide) arg22 harg22 hF _ _ _) _ _ _ _ _ _ _ _ _ _ _ _ _ _ _ _ _ _ _ _ _ _ _ rfl _) _ rfl _ _), ?_⟩

/-- and the whole of them. -/
theorem act_rows (i : grid0.Coords) (hi : (i 1).val * 512 = n) (hP : ∀ r k, xo18 (ix3 0 r k) = hist (evenP W md x 0) n 16 r.val k) (hZ : ∀ r k, xo19 (ix3 0 r k) = hist (evenZ W md x) n 8 r.val k) (hF : ∀ r k, xo20 (ix3 0 r k) = hist (ups Fw (s2 W nf md x)) n 8 r.val k) (v : View sig .tc .vmem ⟨2, ![512, 2816]⟩ .bf16) (inb) :
    Rows (v.readCov (kernelRun0_B.sl.HS5_11 (F := Ideal) c i arg2 harg2 arg3 harg3 arg7 harg7 arg8 harg8 arg9 harg9 arg10 harg10 arg11 harg11 arg12 harg12 arg13 harg13 arg14 harg14 arg15 harg15 arg16 harg16 arg17 harg17 arg20 harg20 arg21 harg21 arg22 harg22 arg23 arg25 arg26 arg27 arg29 arg30 arg31 x0 x1 x5 x6 x7 x8 x9 x10 x11 x12 x13 x14 x15 xo18 xo19 xo20) (Rect.unit (s := ⟨2, ![512, 2816]⟩) ![0, 0] ![512, 2816] inb).toLoadRect)
      (fun l => geglu (conv Fw.cw Fw.cb (ups Fw (s2 W nf md x)) l)) n :=
  tiles_read _ v (act_pieces c arg2 harg2 arg3 harg3 arg7 harg7 arg8 harg8 arg9 harg9 arg10 harg10 arg11 harg11 arg12 harg12 arg13 harg13 arg14 harg14 arg15 harg15 arg16 harg16 arg17 harg17 arg20 harg20 arg21 harg21 arg22 harg22 arg23 arg25 arg26 arg27 arg29 arg30 arg31 H i hi hP hZ hF) (fun y => View.cover_of_tiledL _ ![512, 256] (by sl_kernel_rfl) y) inb

/-- The block of the result. -/
theorem y_block (i : grid0.Coords) (hc0 : ¬cond0_0 i) (hi : (i 1).val * 512 = n) (hP : ∀ r k, xo18 (ix3 0 r k) = hist (evenP W md x 0) n 16 r.val k) (hZ : ∀ r k, xo19 (ix3 0 r k) = hist (evenZ W md x) n 8 r.val k) (hF : ∀ r k, xo20 (ix3 0 r k) = hist (ups Fw (s2 W nf md x)) n 8 r.val k) (r : Fin 512) (k : Fin 1024) :
    View.canon (s := ⟨3, ![1, 512, 1024]⟩) (e := .f32) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 xo18 xo19 xo20).1 (ix3 0 r k) = ffnOut Fw nf md (evenX1 W md x) (n + r.val) k :=
  (out_whole _ [] _ _ r k).trans (Rows.resid (Rows.whole32 (Rows.cast (x1_rows c arg2 harg2 arg3 harg3 arg7 harg7 arg9 harg9 arg10 harg10 arg11 harg11 arg12 harg12 arg13 harg13 arg14 harg14 arg20 harg20 arg21 harg21 arg23 arg25 arg29 arg30 arg31 H i hi hP hZ) _) [] _ _ _)
    (Rows.lin (act_rows c arg2 harg2 arg3 harg3 arg7 harg7 arg8 harg8 arg9 harg9 arg10 harg10 arg11 harg11 arg12 harg12 arg13 harg13 arg14 harg14 arg15 harg15 arg16 harg16 arg17 harg17 arg20 harg20 arg21 harg21 arg22 harg22 arg23 arg25 arg26 arg27 arg29 arg30 arg31 H i hi hP hZ hF arg28.view _) (mat_all arg18 harg18 H.hdown _ _) _ rfl _) (mod_part arg3 harg3 H.hmd 5 rfl _ _ _) _ r k)

/-- The block of the pooling state, -/
theorem p_block (i : grid0.Coords) (hc0 : ¬cond0_0 i) (hP : ∀ r k, xo18 (ix3 0 r k) = hist (evenP W md x 0) n 16 r.val k) (r : Fin 16) (k : Fin 512) :
    View.canon (s := ⟨3, ![1, 16, 512]⟩) (e := .f32) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 xo18 xo19 xo20).2.1 (ix3 0 r k) = hist (evenP W md x 0) (n + 512) 16 r.val k :=
  foot_all rfl (p_rows c arg2 harg2 arg3 harg3 arg7 harg7 arg9 harg9 arg23 H) (p_hist c arg20 harg20 H hP) [] arg29.view _ _ _ _ r k

/-- of the short convolution's state, -/
theorem z_block (i : grid0.Coords) (hc0 : ¬cond0_0 i) (hZ : ∀ r k, xo19 (ix3 0 r k) = hist (evenZ W md x) n 8 r.val k) (r : Fin 8) (k : Fin 512) :
    View.canon (s := ⟨3, ![1, 8, 512]⟩) (e := .f32) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 xo18 xo19 xo20).2.2.1 (ix3 0 r k) = hist (evenZ W md x) (n + 512) 8 r.val k :=
  foot_all rfl (z_rows c arg2 harg2 arg3 harg3 arg7 harg7 arg9 harg9 arg23 H) (z_hist c arg21 harg21 H hZ) [] arg30.view _ _ _ _ r k

/-- and of the ConvFFN's state. -/
theorem f_block (i : grid0.Coords) (hc0 : ¬cond0_0 i) (hi : (i 1).val * 512 = n) (hP : ∀ r k, xo18 (ix3 0 r k) = hist (evenP W md x 0) n 16 r.val k) (hZ : ∀ r k, xo19 (ix3 0 r k) = hist (evenZ W md x) n 8 r.val k) (hF : ∀ r k, xo20 (ix3 0 r k) = hist (ups Fw (s2 W nf md x)) n 8 r.val k) (r : Fin 8) (k : Fin 5632) :
    View.canon (s := ⟨3, ![1, 8, 5632]⟩) (e := .f32) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 xo18 xo19 xo20).2.2.2.1 (ix3 0 r k) = hist (ups Fw (s2 W nf md x)) (n + 512) 8 r.val k := by
  have hh := h2_rows c arg2 harg2 arg3 harg3 arg7 harg7 arg8 harg8 arg9 harg9 arg10 harg10 arg11 harg11 arg12 harg12 arg13 harg13 arg14 harg14 arg20 harg20 arg21 harg21 arg23 arg25 arg29 arg30 arg31 H i hi hP hZ
  refine foots _ ?_ (fun y => View.cover_of_tiledL _ ![1, 8, 256] (by sl_kernel_rfl) y) r k
  repeat' first
    | exact List.forall_mem_nil _
    | refine List.forall_mem_cons.2 ⟨foot_ok rfl (by decide) ((up_tile (by decide) hh arg15 harg15 H.hup _ _ _ rfl _).cast _) (state_kept (by decide) arg22 harg22 hF _ _ _) _ _ _ _ _, ?_⟩

end Decoder.Even
-- ==== Proof.EvenMixFirst.lean ====
/-
  The even layer's mixer on the first block of a group, where the states start from the rows given to the kernel.
-/
module

public import proofs.«01_k».proof.Proof.EvenBlock

@[expose] public section

set_option maxRecDepth 16384

noncomputable section

open Idealize.ShloMosaic Idealize.ShloMosaic.ValueIdx Idealize.ShloMosaic.View Idealize.ShloMosaic.TcCoe
open Cert.KernelIdeal Cert.KernelIdeal.Gen

namespace Decoder.Even
namespace First

variable {W : EvenW} {Fw : FfnW} {nf : Row 1024} {md : Row 6144} {x : ℕ → Row 1024} {n : ℕ}
variable (c : Dev nD) (arg2 : Memref sig .tc .vmem S1x512x1024 .f32) (harg2 : arg2.IsWhole) (arg3 : Memref sig .tc .vmem S1x1x6144 .f32) (harg3 : arg3.IsWhole) (arg4 : Memref sig .tc .vmem S1x16x512 .f32) (harg4 : arg4.IsWhole) (arg5 : Memref sig .tc .vmem S1x8x512 .f32) (harg5 : arg5.IsWhole) (arg6 : Memref sig .tc .vmem S1x8x5632 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x2048 .bf16) (harg9 : arg9.IsWhole) (arg10 : Memref sig .tc .vmem S4x128x128 .bf16) (harg10 : arg10.IsWhole) (arg11 : Memref sig .tc .vmem S1x512 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S3x5632 .f32) (harg16 : arg16.IsWhole) (arg17 : Memref sig .tc .vmem S1x5632 .f32) (harg17 : arg17.IsWhole) (arg18 : Memref sig .tc .vmem S2816x1024 .bf16) (harg18 : arg18.IsWhole) (arg19 : Memref sig .tc .vmem S1x512x1024 .f32) (harg19 : arg19.IsWhole) (arg20 : Memref sig .tc .vmem S1x16x512 .f32) (harg20 : arg20.IsWhole) (arg21 : Memref sig .tc .vmem S1x8x512 .f32) (harg21 : arg21.IsWhole) (arg22 : Memref sig .tc .vmem S1x8x5632 .f32) (harg22 : arg22.IsWhole) (arg23 : Memref sig .tc .vmem S512x1024 .bf16) (harg23 : arg23.IsWhole) (arg24 : Memref sig .tc .vmem S512x1024 .f32) (harg24 : arg24.IsWhole) (arg25 : Memref sig .tc .vmem S512x1024 .bf16) (harg25 : arg25.IsWhole) (arg26 : Memref sig .tc .vmem S520x256 .f32) (harg26 : arg26.IsWhole) (arg27 : Memref sig .tc .vmem S520x256 .f32) (harg27 : arg27.IsWhole) (arg28 : Memref sig .tc .vmem S512x2816 .bf16) (harg28 : arg28.IsWhole) (arg29 : Memref sig .tc .vmem S528x512 .f32) (harg29 : arg29.IsWhole) (arg30 : Memref sig .tc .vmem S520x512 .f32) (harg30 : arg30.IsWhole) (arg31 : Memref sig .tc .vmem S512x512 .f32) (harg31 : arg31.IsWhole)
variable {x0 : Vec Ideal S1x512x1024 .f32} {x1 : Vec Ideal S1x1x6144 .f32} {x2 : Vec Ideal S1x16x512 .f32} {x3 : Vec Ideal S1x8x512 .f32} {x4 : Vec Ideal S1x8x5632 .f32} {x5 : Vec Ideal S1x1024 .f32} {x6 : Vec Ideal S1x1024 .f32} {x7 : Vec Ideal S1024x2048 .bf16} {x8 : Vec Ideal S4x128x128 .bf16} {x9 : Vec Ideal S1x512 .f32} {x10 : Vec Ideal S3x512 .f32} {x11 : Vec Ideal S1x512 .f32} {x12 : Vec Ideal S1024x1024 .bf16} {x13 : Vec Ideal S1024x5632 .bf16} {x14 : Vec Ideal S3x5632 .f32} {x15 : Vec Ideal S1x5632 .f32} {x16 : Vec Ideal S2816x1024 .bf16}
variable (H : Blk W Fw nf md x n x0 x1 x2 x3 x4 x5 x6 x7 x8 x9 x10 x11 x12 x13 x14 x15 x16)
include H

/-- The history rows in front of the pooled channels, -/
theorem p_hist (hP : ∀ r k, x2 (ix3 0 r k) = hist (evenP W md x 0) n 16 r.val k) (r : Fin 16) (k : Fin 512) : (kernelRun0_A.sl.v42 (F := Ideal) c arg4 harg4 arg20 x2) (ix2 r k) = hist (evenP W md x 0) n 16 r.val k :=
  state_new_all arg20.view (fun r c => state_first arg4 harg4 hP _ _ _ _ [] r c) _ _ _ r k

/-- and in front of the short convolution's rows. -/
theorem z_hist (hZ : ∀ r k, x3 (ix3 0 r k) = hist (evenZ W md x) n 8 r.val k) (r : Fin 8) (k : Fin 512) : (kernelRun0_A.sl.v53 (F := Ideal) c arg5 harg5 arg21 x3) (ix2 r k) = hist (evenZ W md x) n 8 r.val k :=
  state_new_all arg21.view (fun r c => state_first arg5 harg5 hZ _ _ _ _ [] r c) _ _ _ r k

/-- The mixer's rows: the gated convolution, -/
theorem conv_piece (hZ : ∀ r k, x3 (ix3 0 r k) = hist (evenZ W md x) n 8 r.val k) : Rows (R := 512) (C := 512) (kernelRun0_A.sl.v262 (F := Ideal) c arg2 harg2 arg3 harg3 arg5 harg5 arg7 harg7 arg9 harg9 arg12 harg12 arg13 harg13 arg21 arg23 arg30 arg31 x0 x1 x3 x5 x7 x10 x11) (fun l => cols 512 512 (by decide) (evenMix W md x l)) n :=
  gate_tile (by decide) (Rows.whole32 (g_rows c arg2 harg2 arg3 harg3 arg7 harg7 arg9 harg9 arg23 H) [] _ _ _)
    (sconv_tile rfl (z_rows c arg2 harg2 arg3 harg3 arg7 harg7 arg9 harg9 arg23 H) (z_hist c arg5 harg5 arg21 H hZ) arg12 harg12 H.hscw arg13 harg13 H.hscb [] arg30.view _ _ _ _ _ _ _ _ _ _ _ _ _ _ _ _ _) _ _

/-- the pooling group of windows of sixteen rows, -/
theorem pool16_piece (i : grid0.Coords) (hi : (i 1).val * 512 = n) (hP : ∀ r k, x2 (ix3 0 r k) = hist (evenP W md x 0) n 16 r.val k) : Rows (R := 512) (C := 128) (kernelRun0_A.sl.v231 (F := Ideal) c i arg2 harg2 arg3 harg3 arg4 harg4 arg7 harg7 arg9 harg9 arg10 harg10 arg11 harg11 arg20 arg23 arg29 x0 x1 x2 x5 x7 x8 x9) (fun l => cols 384 128 (by decide) (evenMix W md x l)) n :=
  have hB := p_rows c arg2 harg2 arg3 harg3 arg7 harg7 arg9 harg9 arg23 H
  have hT := p_hist c arg4 harg4 arg20 H hP
  have hq := pos_rows i hi
  (pool_tile (w := 16) (g := 3) (o := 384) (by decide) rfl rfl (by decide) (by decide) H.hn (by repeat' first | exact Rows.win_one (tap_cols rfl hB hT _ _ (by decide) _) | refine Rows.win_add ?_ (by omega) (tap_cols rfl hB hT _ _ (by decide) _)) (Rows.win_one (tap_cols rfl hB hT _ _ (by decide) _)) hq arg10 harg10 H.hpool _ _ arg11 harg11 H.hsp _ _ _ _ rfl _ _ _ _)

/-- of eight rows, -/
theorem pool8_piece (i : grid0.Coords) (hi : (i 1).val * 512 = n) (hP : ∀ r k, x2 (ix3 0 r k) = hist (evenP W md x 0) n 16 r.val k) : Rows (R := 512) (C := 128) (kernelRun0_A.sl.v181 (F := Ideal) c i arg2 harg2 arg3 harg3 arg4 harg4 arg7 harg7 arg9 harg9 arg10 harg10 arg11 harg11 arg20 arg23 arg29 x0 x1 x2 x5 x7 x8 x9) (fun l => cols 256 128 (by decide) (evenMix W md x l)) n :=
  have hB := p_rows c arg2 harg2 arg3 harg3 arg7 harg7 arg9 harg9 arg23 H
  have hT := p_hist c arg4 harg4 arg20 H hP
  have hq := pos_rows i hi
  (pool_tile (w := 8) (g := 2) (o := 256) (by decide) rfl rfl (by decide) (by decide) H.hn (by repeat' first | exact Rows.win_one (tap_cols rfl hB hT _ _ (by decide) _) | refine Rows.win_add ?_ (by omega) (tap_cols rfl hB hT _ _ (by decide) _)) (Rows.win_one (tap_cols rfl hB hT _ _ (by decide) _)) hq arg10 harg10 H.hpool _ _ arg11 harg11 H.hsp _ _ _ _ rfl _ _ _ _)

/-- of four rows, -/
theorem pool4_piece (i : grid0.Coords) (hi : (i 1).val * 512 = n) (hP : ∀ r k, x2 (ix3 0 r k) = hist (evenP W md x 0) n 16 r.val k) : Rows (R := 512) (C := 128) (kernelRun0_A.sl.v147 (F := Ideal) c i arg2 harg2 arg3 harg3 arg4 harg4 arg7 harg7 arg9 harg9 arg10 harg10 arg11 harg11 arg20 arg23 arg29 x0 x1 x2 x5 x7 x8 x9) (fun l => cols 128 128 (by decide) (evenMix W md x l)) n :=
  have hB := p_rows c arg2 harg2 arg3 harg3 arg7 harg7 arg9 harg9 arg23 H
  have hT := p_hist c arg4 harg4 arg20 H hP
  have hq := pos_rows i hi
  (pool_tile (w := 4) (g := 1) (o := 128) (by decide) rfl rfl (by decide) (by decide) H.hn (by repeat' first | exact Rows.win_one (tap_cols rfl hB hT _ _ (by decide) _) | refine Rows.win_add ?_ (by omega) (tap_cols rfl hB hT _ _ (by decide) _)) (Rows.win_one (tap_cols rfl hB hT _ _ (by decide) _)) hq arg10 harg10 H.hpool _ _ arg11 harg11 H.hsp _ _ _ _ rfl _ _ _ _)

/-- and of two rows. -/
theorem pool2_piece (i : grid0.Coords) (hi : (i 1).val * 512 = n) (hP : ∀ r k, x2 (ix3 0 r k) = hist (evenP W md x 0) n 16 r.val k) : Rows (R := 512) (C := 128) (kernelRun0_A.sl.v121 (F := Ideal) c i arg2 harg2 arg3 harg3 arg4 harg4 arg7 harg7 arg9 harg9 arg10 harg10 arg11 harg11 arg20 arg23 arg29 x0 x1 x2 x5 x7 x8 x9) (fun l => cols 0 128 (by decide) (evenMix W md x l)) n :=
  have hB := p_rows c arg2 harg2 arg3 harg3 arg7 harg7 arg9 harg9 arg23 H
  have hT := p_hist c arg4 harg4 arg20 H hP
  have hq := pos_rows i hi
  (pool_tile (w := 2) (g := 0) (o := 0) (by decide) rfl rfl (by decide) (by decide) H.hn (by repeat' first | exact Rows.win_one (tap_cols rfl hB hT _ _ (by decide) _) | refine Rows.win_add ?_ (by omega) (tap_cols rfl hB hT _ _ (by decide) _)) (Rows.win_one (tap_cols rfl hB hT _ _ (by decide) _)) hq arg10 harg10 H.hpool _ _ arg11 harg11 H.hsp _ _ _ _ rfl _ _ _ _)

/-- Every piece of the mixer's buffer, -/
theorem mix_pieces (i : grid0.Coords) (hi : (i 1).val * 512 = n) (hP : ∀ r k, x2 (ix3 0 r k) = hist (evenP W md x 0) n 16 r.val k) (hZ : ∀ r k, x3 (ix3 0 r k) = hist (evenZ W md x) n 8 r.val k) : ∀ p ∈ (kernelRun0_A.sl.HS2_5 (F := Ideal) c i arg2 harg2 arg3 harg3 arg4 harg4 arg5 harg5 arg7 harg7 arg9 harg9 arg10 harg10 arg11 harg11 arg12 harg12 arg13 harg13 arg20 arg21 arg23 arg29 arg30 arg31 x0 x1 x2 x3 x5 x7 x8 x9 x10 x11), TileOk (A := 512) (N := 1024) (evenMix W md x) n p :=
  List.forall_mem_cons.2 ⟨tile_ok (by decide) (conv_piece c arg2 harg2 arg3 harg3 arg5 harg5 arg7 harg7 arg9 harg9 arg12 harg12 arg13 harg13 arg21 arg23 arg30 arg31 H hZ),
    List.forall_mem_cons.2 ⟨tile_ok (by decide) (pool16_piece c arg2 harg2 arg3 harg3 arg4 harg4 arg7 harg7 arg9 harg9 arg10 harg10 arg11 harg11 arg20 arg23 arg29 H i hi hP),
    List.forall_mem_cons.2 ⟨tile_ok (by decide) (pool8_piece c arg2 harg2 arg3 harg3 arg4 harg4 arg7 harg7 arg9 harg9 arg10 harg10 arg11 harg11 arg20 arg23 arg29 H i hi hP),
    List.forall_mem_cons.2 ⟨tile_ok (by decide) (pool4_piece c arg2 harg2 arg3 harg3 arg4 harg4 arg7 harg7 arg9 harg9 arg10 harg10 arg11 harg11 arg20 arg23 arg29 H i hi hP),
    List.forall_mem_cons.2 ⟨tile_ok (by decide) (pool2_piece c arg2 harg2 arg3 harg3 arg4 harg4 arg7 harg7 arg9 harg9 arg10 harg10 arg11 harg11 arg20 arg23 arg29 H i hi hP), List.forall_mem_nil _⟩⟩⟩⟩⟩

/-- and the whole of them. -/
theorem mix_rows (i : grid0.Coords) (hi : (i 1).val * 512 = n) (hP : ∀ r k, x2 (ix3 0 r k) = hist (evenP W md x 0) n 16 r.val k) (hZ : ∀ r k, x3 (ix3 0 r k) = hist (evenZ W md x) n 8 r.val k) (v : View sig .tc .vmem ⟨2, ![512, 1024]⟩ .bf16) (inb) :
    Rows (v.readCov (kernelRun0_A.sl.HS2_5 (F := Ideal) c i arg2 harg2 arg3 harg3 arg4 harg4 arg5 harg5 arg7 harg7 arg9 harg9 arg10 harg10 arg11 harg11 arg12 harg12 arg13 harg13 arg20 arg21 arg23 arg29 arg30 arg31 x0 x1 x2 x3 x5 x7 x8 x9 x10 x11) (Rect.unit (s := ⟨2, ![512, 1024]⟩) ![0, 0] ![512, 1024] inb).toLoadRect) (evenMix W md x) n :=
  tiles_read _ v (mix_pieces c arg2 harg2 arg3 harg3 arg4 harg4 arg5 harg5 arg7 harg7 arg9 harg9 arg10 harg10 arg11 harg11 arg12 harg12 arg13 harg13 arg20 arg21 arg23 arg29 arg30 arg31 H i hi hP hZ) (fun y => View.cover_of_tiledBy _ ![512, 128] (by sl_kernel_rfl) y) inb

/-- The residual stream after the mixer, -/
theorem x1_rows (i : grid0.Coords) (hi : (i 1).val * 512 = n) (hP : ∀ r k, x2 (ix3 0 r k) = hist (evenP W md x 0) n 16 r.val k) (hZ : ∀ r k, x3 (ix3 0 r k) = hist (evenZ W md x) n 8 r.val k) : Rows (R := 512) (C := 1024) (kernelRun0_A.sl.v275 (F := Ideal) c i arg2 harg2 arg3 harg3 arg4 harg4 arg5 harg5 arg7 harg7 arg9 harg9 arg10 harg10 arg11 harg11 arg12 harg12 arg13 harg13 arg14 harg14 arg20 arg21 arg23 arg25 arg29 arg30 arg31 x0 x1 x2 x3 x5 x7 x8 x9 x10 x11 x12) (evenX1 W md x) n :=
  Rows.resid (in_rows arg2 harg2 H.hx _ _) (Rows.lin (mix_rows c arg2 harg2 arg3 harg3 arg4 harg4 arg5 harg5 arg7 harg7 arg9 harg9 arg10 harg10 arg11 harg11 arg12 harg12 arg13 harg13 arg20 arg21 arg23 arg29 arg30 arg31 H i hi hP hZ arg25.view _)
    (mat_all arg14 harg14 H.hout _ _) _ rfl _) (mod_part arg3 harg3 H.hmd 2 rfl _ _ _) _

/-- and the rows the ConvFFN's up projection reads. -/
theorem h2_rows (i : grid0.Coords) (hi : (i 1).val * 512 = n) (hP : ∀ r k, x2 (ix3 0 r k) = hist (evenP W md x 0) n 16 r.val k) (hZ : ∀ r k, x3 (ix3 0 r k) = hist (evenZ W md x) n 8 r.val k) : Rows (R := 512) (C := 1024) (kernelRun0_A.sl.v303 (F := Ideal) c i arg2 harg2 arg3 harg3 arg4 harg4 arg5 harg5 arg7 harg7 arg8 harg8 arg9 harg9 arg10 harg10 arg11 harg11 arg12 harg12 arg13 harg13 arg14 harg14 arg20 arg21 arg23 arg25 arg29 arg30 arg31 x0 x1 x2 x3 x5 x6 x7 x8 x9 x10 x11 x12) (s2 W nf md x) n :=
  Rows.whole16 (Rows.cast (Rows.trunc (Rows.affine (Rows.rms (x1_rows c arg2 harg2 arg3 harg3 arg4 harg4 arg5 harg5 arg7 harg7 arg9 harg9 arg10 harg10 arg11 harg11 arg12 harg12 arg13 harg13 arg14 harg14 arg20 arg21 arg23 arg25 arg29 arg30 arg31 H i hi hP hZ)
    (row_all arg8 harg8 H.hnf _ _) _ _ _ _ _ _)
    (mod_part arg3 harg3 H.hmd 4 rfl _ _ _) (mod_part arg3 harg3 H.hmd 3 rfl _ _ _) _ _) _) _) _ _ _ _

end First
end Decoder.Even
-- ==== Proof.EvenFirst.lean ====
/-
  The even layer's ConvFFN on the first block of a group: the result's block and the states' blocks.
-/
module

public import proofs.«01_k».proof.Proof.EvenMixFirst

@[expose] public section

set_option maxRecDepth 16384

noncomputable section

open Idealize.ShloMosaic Idealize.ShloMosaic.ValueIdx Idealize.ShloMosaic.View Idealize.ShloMosaic.TcCoe
open Cert.KernelIdeal Cert.KernelIdeal.Gen

namespace Decoder.Even
namespace First

variable {W : EvenW} {Fw : FfnW} {nf : Row 1024} {md : Row 6144} {x : ℕ → Row 1024} {n : ℕ}
variable (c : Dev nD) (arg2 : Memref sig .tc .vmem S1x512x1024 .f32) (harg2 : arg2.IsWhole) (arg3 : Memref sig .tc .vmem S1x1x6144 .f32) (harg3 : arg3.IsWhole) (arg4 : Memref sig .tc .vmem S1x16x512 .f32) (harg4 : arg4.IsWhole) (arg5 : Memref sig .tc .vmem S1x8x512 .f32) (harg5 : arg5.IsWhole) (arg6 : Memref sig .tc .vmem S1x8x5632 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x2048 .bf16) (harg9 : arg9.IsWhole) (arg10 : Memref sig .tc .vmem S4x128x128 .bf16) (harg10 : arg10.IsWhole) (arg11 : Memref sig .tc .vmem S1x512 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S3x5632 .f32) (harg16 : arg16.IsWhole) (arg17 : Memref sig .tc .vmem S1x5632 .f32) (harg17 : arg17.IsWhole) (arg18 : Memref sig .tc .vmem S2816x1024 .bf16) (harg18 : arg18.IsWhole) (arg19 : Memref sig .tc .vmem S1x512x1024 .f32) (harg19 : arg19.IsWhole) (arg20 : Memref sig .tc .vmem S1x16x512 .f32) (harg20 : arg20.IsWhole) (arg21 : Memref sig .tc .vmem S1x8x512 .f32) (harg21 : arg21.IsWhole) (arg22 : Memref sig .tc .vmem S1x8x5632 .f32) (harg22 : arg22.IsWhole) (arg23 : Memref sig .tc .vmem S512x1024 .bf16) (harg23 : arg23.IsWhole) (arg24 : Memref sig .tc .vmem S512x1024 .f32) (harg24 : arg24.IsWhole) (arg25 : Memref sig .tc .vmem S512x1024 .bf16) (harg25 : arg25.IsWhole) (arg26 : Memref sig .tc .vmem S520x256 .f32) (harg26 : arg26.IsWhole) (arg27 : Memref sig .tc .vmem S520x256 .f32) (harg27 : arg27.IsWhole) (arg28 : Memref sig .tc .vmem S512x2816 .bf16) (harg28 : arg28.IsWhole) (arg29 : Memref sig .tc .vmem S528x512 .f32) (harg29 : arg29.IsWhole) (arg30 : Memref sig .tc .vmem S520x512 .f32) (harg30 : arg30.IsWhole) (arg31 : Memref sig .tc .vmem S512x512 .f32) (harg31 : arg31.IsWhole)
variable {x0 : Vec Ideal S1x512x1024 .f32} {x1 : Vec Ideal S1x1x6144 .f32} {x2 : Vec Ideal S1x16x512 .f32} {x3 : Vec Ideal S1x8x512 .f32} {x4 : Vec Ideal S1x8x5632 .f32} {x5 : Vec Ideal S1x1024 .f32} {x6 : Vec Ideal S1x1024 .f32} {x7 : Vec Ideal S1024x2048 .bf16} {x8 : Vec Ideal S4x128x128 .bf16} {x9 : Vec Ideal S1x512 .f32} {x10 : Vec Ideal S3x512 .f32} {x11 : Vec Ideal S1x512 .f32} {x12 : Vec Ideal S1024x1024 .bf16} {x13 : Vec Ideal S1024x5632 .bf16} {x14 : Vec Ideal S3x5632 .f32} {x15 : Vec Ideal S1x5632 .f32} {x16 : Vec Ideal S2816x1024 .bf16}
variable (H : Blk W Fw nf md x n x0 x1 x2 x3 x4 x5 x6 x7 x8 x9 x10 x11 x12 x13 x14 x15 x16)
include H

/-- The gated rows: every piece of their buffer, a chunk of 256 columns, -/
theorem act_pieces (i : grid0.Coords) (hi : (i 1).val * 512 = n) (hP : ∀ r k, x2 (ix3 0 r k) = hist (evenP W md x 0) n 16 r.val k) (hZ : ∀ r k, x3 (ix3 0 r k) = hist (evenZ W md x) n 8 r.val k) (hF : ∀ r k, x4 (ix3 0 r k) = hist (ups Fw (s2 W nf md x)) n 8 r.val k) : ∀ p ∈ (kernelRun0_A.sl.HS5_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg23 arg25 arg26 arg27 arg29 arg30 arg31 x0 x1 x2 x3 x4 x5 x6 x7 x8 x9 x10 x11 x12 x13 x14 x15), TileOk (A := 512) (N := 2816) (fun l => geglu (conv Fw.cw Fw.cb (ups Fw (s2 W nf md x)) l)) n p := by
  have hh := h2_rows c arg2 harg2 arg3 harg3 arg4 harg4 arg5 harg5 arg7 harg7 arg8 harg8 arg9 harg9 arg10 harg10 arg11 harg11 arg12 harg12 arg13 harg13 arg14 harg14 arg20 arg21 arg23 arg25 arg29 arg30 arg31 H i hi hP hZ
  repeat' first
    | exact List.forall_mem_nil _
    | refine List.forall_mem_cons.2 ⟨tile_ok (by decide) (act_tile (by decide) (conv_chunk (by decide) hh arg15 harg15 H.hup arg16 harg16 H.hcw arg17 harg17 H.hcb (state_new (by decide) arg22.view (fun r k => by
          repeat refine (state_off (by decide) _ _ (by decide) r k).trans ?_
          exact state_first arg6 harg6 hF _ _ _ _ _ r _) _ _ _) _ _ _ _ _ _ _ _ _ _ _ _ _ _ _ _ _ _ _ _ _ _ _ rfl _)
        (conv_chunk (by decide) hh arg15 harg15 H.hup arg16 harg16 H.hcw arg17 harg17 H.hcb (state_new (by decide) arg22.view (fun r k => by
          repeat refine (state_off (by decide) _ _ (by decide) r k).trans ?_
          exact state_first arg6 harg6 hF _ _ _ _ _ r _) _ _ _) _ _ _ _ _ _ _ _ _ _ _ _ _ _ _ _ _ _ _ _ _ _ _ rfl _) _ rfl _ _), ?_⟩

/-- and the whole of them. -/
theorem act_rows (i : grid0.Coords) (hi : (i 1).val * 512 = n) (hP : ∀ r k, x2 (ix3 0 r k) = hist (evenP W md x 0) n 16 r.val k) (hZ : ∀ r k, x3 (ix3 0 r k) = hist (evenZ W md x) n 8 r.val k) (hF : ∀ r k, x4 (ix3 0 r k) = hist (ups Fw (s2 W nf md x)) n 8 r.val k) (v : View sig .tc .vmem ⟨2, ![512, 2816]⟩ .bf16) (inb) :
    Rows (v.readCov (kernelRun0_A.sl.HS5_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg23 arg25 arg26 arg27 arg29 arg30 arg31 x0 x1 x2 x3 x4 x5 x6 x7 x8 x9 x10 x11 x12 x13 x14 x15) (Rect.unit (s := ⟨2, ![512, 2816]⟩) ![0, 0] ![512, 2816] inb).toLoadRect)
      (fun l => geglu (conv Fw.cw Fw.cb (ups Fw (s2 W nf md x)) l)) n :=
  tiles_read _ v (act_pieces c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg23 arg25 arg26 arg27 arg29 arg30 arg31 H i hi hP hZ hF) (fun y => View.cover_of_tiledL _ ![512, 256] (by sl_kernel_rfl) y) inb

/-- The block of the result. -/
theorem y_block (i : grid0.Coords) (hc0 : cond0_0 i) (hi : (i 1).val * 512 = n) (hP : ∀ r k, x2 (ix3 0 r k) = hist (evenP W md x 0) n 16 r.val k) (hZ : ∀ r k, x3 (ix3 0 r k) = hist (evenZ W md x) n 8 r.val k) (hF : ∀ r k, x4 (ix3 0 r k) = hist (ups Fw (s2 W nf md x)) n 8 r.val k) (r : Fin 512) (k : Fin 1024) :
    View.canon (s := ⟨3, ![1, 512, 1024]⟩) (e := .f32) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16).1 (ix3 0 r k) = ffnOut Fw nf md (evenX1 W md x) (n + r.val) k :=
  (out_whole _ [] _ _ r k).trans (Rows.resid (Rows.whole32 (Rows.cast (x1_rows c arg2 harg2 arg3 harg3 arg4 harg4 arg5 harg5 arg7 harg7 arg9 harg9 arg10 harg10 arg11 harg11 arg12 harg12 arg13 harg13 arg14 harg14 arg20 arg21 arg23 arg25 arg29 arg30 arg31 H i hi hP hZ) _) [] _ _ _)
    (Rows.lin (act_rows c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg23 arg25 arg26 arg27 arg29 arg30 arg31 H i hi hP hZ hF arg28.view _) (mat_all arg18 harg18 H.hdown _ _) _ rfl _) (mod_part arg3 harg3 H.hmd 5 rfl _ _ _) _ r k)

/-- The block of the pooling state, -/
theorem p_block (i : grid0.Coords) (hc0 : cond0_0 i) (hP : ∀ r k, x2 (ix3 0 r k) = hist (evenP W md x 0) n 16 r.val k) (r : Fin 16) (k : Fin 512) :
    View.canon (s := ⟨3, ![1, 16, 512]⟩) (e := .f32) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16).2.1 (ix3 0 r k) = hist (evenP W md x 0) (n + 512) 16 r.val k :=
  foot_all rfl (p_rows c arg2 harg2 arg3 harg3 arg7 harg7 arg9 harg9 arg23 H) (p_hist c arg4 harg4 arg20 H hP) [] arg29.view _ _ _ _ r k

/-- of the short convolution's state, -/
theorem z_block (i : grid0.Coords) (hc0 : cond0_0 i) (hZ : ∀ r k, x3 (ix3 0 r k) = hist (evenZ W md x) n 8 r.val k) (r : Fin 8) (k : Fin 512) :
    View.canon (s := ⟨3, ![1, 8, 512]⟩) (e := .f32) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16).2.2.1 (ix3 0 r k) = hist (evenZ W md x) (n + 512) 8 r.val k :=
  foot_all rfl (z_rows c arg2 harg2 arg3 harg3 arg7 harg7 arg9 harg9 arg23 H) (z_hist c arg5 harg5 arg21 H hZ) [] arg30.view _ _ _ _ r k

/-- and of the ConvFFN's state. -/
theorem f_block (i : grid0.Coords) (hc0 : cond0_0 i) (hi : (i 1).val * 512 = n) (hP : ∀ r k, x2 (ix3 0 r k) = hist (evenP W md x 0) n 16 r.val k) (hZ : ∀ r k, x3 (ix3 0 r k) = hist (evenZ W md x) n 8 r.val k) (hF : ∀ r k, x4 (ix3 0 r k) = hist (ups Fw (s2 W nf md x)) n 8 r.val k) (r : Fin 8) (k : Fin 5632) :
    View.canon (s := ⟨3, ![1, 8, 5632]⟩) (e := .f32) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16).2.2.2.1 (ix3 0 r k) = hist (ups Fw (s2 W nf md x)) (n + 512) 8 r.val k := by
  have hh := h2_rows c arg2 harg2 arg3 harg3 arg4 harg4 arg5 harg5 arg7 harg7 arg8 harg8 arg9 harg9 arg10 harg10 arg11 harg11 arg12 harg12 arg13 harg13 arg14 harg14 arg20 arg21 arg23 arg25 arg29 arg30 arg31 H i hi hP hZ
  refine foots_over 22 _ ?_ (fun y => View.cover_of_tiledL _ ![1, 8, 256] (by sl_kernel_rfl) y) r k
  repeat' first
    | exact List.forall_mem_nil _
    | refine List.forall_mem_cons.2 ⟨foot_ok rfl (by decide) ((up_tile (by decide) hh arg15 harg15 H.hup _ _ _ rfl _).cast _) (state_new (by decide) arg22.view (fun r k => by
          repeat refine (state_off (by decide) _ _ (by decide) r k).trans ?_
          exact state_first arg6 harg6 hF _ _ _ _ _ r _) _ _ _) _ _ _ _ _, ?_⟩

end First
end Decoder.Even
-- ==== Proof.EvenEntry.lean ====
/-
  The even layer's windows at every grid point: the blocks they read are the layer's arrays and the input's rows.
-/
module

public import proofs.«01_k».proof.Proof.Reads
public import proofs.«01_k».proof.Proof.EvenNext
public import proofs.«01_k».proof.Proof.EvenFirst
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic hiding ix1 ix2 ix3 ix4
open Idealize.ShloMosaic.ValueIdx Idealize.ShloMosaic.View Idealize.ShloMosaic.TcCoe
open Cert.KernelIdeal Cert.KernelIdeal.Gen

namespace Decoder.Even

/-- The block indices of the input windows. -/
theorem index0 : ∀ t : Fin grid0.N, win0_0.index t = ![t.val / 4, t.val % 4, 0] := by decide +kernel
theorem index1 : ∀ t : Fin grid0.N, win0_1.index t = ![t.val / 4, 0, 0] := by decide +kernel
theorem index5 : ∀ t : Fin grid0.N, win0_5.index t = ![0, 0] := fun _ => rfl
theorem index6 : ∀ t : Fin grid0.N, win0_6.index t = ![0, 0] := fun _ => rfl
theorem index7 : ∀ t : Fin grid0.N, win0_7.index t = ![0, 0] := fun _ => rfl
theorem index8 : ∀ t : Fin grid0.N, win0_8.index t = ![0, 0, 0] := fun _ => rfl
theorem index9 : ∀ t : Fin grid0.N, win0_9.index t = ![0, 0] := fun _ => rfl
theorem index10 : ∀ t : Fin grid0.N, win0_10.index t = ![0, 0] := fun _ => rfl
theorem index11 : ∀ t : Fin grid0.N, win0_11.index t = ![0, 0] := fun _ => rfl
theorem index12 : ∀ t : Fin grid0.N, win0_12.index t = ![0, 0] := fun _ => rfl
theorem index13 : ∀ t : Fin grid0.N, win0_13.index t = ![0, 0] := fun _ => rfl
theorem index14 : ∀ t : Fin grid0.N, win0_14.index t = ![0, 0] := fun _ => rfl
theorem index15 : ∀ t : Fin grid0.N, win0_15.index t = ![0, 0] := fun _ => rfl
theorem index16 : ∀ t : Fin grid0.N, win0_16.index t = ![0, 0] := fun _ => rfl

/-- The second grid coordinate counts the tiles of a group. -/
theorem tile_of : ∀ t : Fin grid0.N, (grid0.coords t 1).val = t.val % 4 := by decide +kernel

variable (m : (ℓ : Loc nD τ sig) → Buf (Elt Ideal) ℓ) (c : Dev nD)

/-- The layer's mixer weights, -/
abbrev W : EvenW := evenArgs (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- its ConvFFN weights, -/
abbrev Fw : FfnW := ffnArgs 0 (m ((c : Thread nD τ).loc main_arg10)) (m ((c : Thread nD τ).loc main_arg11)) (m ((c : Thread nD τ).loc main_arg12)) (m ((c : Thread nD τ).loc main_arg13))
/-- the scale of its second norm, -/
abbrev nf : Row 1024 := row2 (m ((c : Thread nD τ).loc main_arg3)) 0
/-- a group's modulation, -/
abbrev md (g : Fin 8) : Row 6144 := row2 (m ((c : Thread nD τ).loc main_arg1)) g
/-- and its input rows. -/
abbrev xs (g : Fin 8) : ℕ → Row 1024 := seq (m ((c : Thread nD τ).loc main_arg0)) g

/-! The zero histories the first tile starts from. -/

theorem start_p (t : Fin cfg0.N) (r : Fin 16) (k : Fin 512) : (iblk m c 2 t : Vec Ideal S1x16x512 .f32) (ix3 0 r k) = (0 : EReal) := by
  blk_simp [iblk]
  entry_read
  clean_types
  pointwise
theorem start_z (t : Fin cfg0.N) (r : Fin 8) (k : Fin 512) : (iblk m c 3 t : Vec Ideal S1x8x512 .f32) (ix3 0 r k) = (0 : EReal) := by
  blk_simp [iblk]
  entry_read
  clean_types
  pointwise
theorem start_f (t : Fin cfg0.N) (r : Fin 8) (k : Fin 5632) : (iblk m c 4 t : Vec Ideal S1x8x5632 .f32) (ix3 0 r k) = (0 : EReal) := by
  blk_simp [iblk]
  entry_read
  clean_types
  pointwise

/-! What each window holds. -/

theorem w_hx (t : Fin cfg0.N) (g : Fin 8) (hg : g.val = t.val / 4) (r : Fin 512) (k : Fin 1024) : (iblk m c 0 t : Vec Ideal S1x512x1024 .f32) (ix3 0 r k) = xs m c g (512 * (t.val % 4) + r.val) k := by
  refine Eq.trans ?_ (seq_apply (m ((c : Thread nD τ).loc main_arg0)) g ⟨512 * (t.val % 4) + r.val, by omega⟩ k).symm
  blk_simp [iblk]
  entry_read
  refine at3 _ ?_ ?_ ?_ <;> blk_simp [index0]
  · exact hg.symm
  · exact (Nat.add_comm _ _).trans (by rw [Nat.mul_comm]; exact Nat.add_comm _ _)
theorem w_hmd (t : Fin cfg0.N) (g : Fin 8) (hg : g.val = t.val / 4) (k : Fin 6144) : (iblk m c 1 t : Vec Ideal S1x1x6144 .f32) (ix3 0 0 k) = md m c g k := by
  blk_simp [iblk]
  entry_read
  clean_types
  pointwise
  refine at2 _ ?_ ?_ <;> blk_simp [index1]
  exact hg.symm
theorem w_hnm (t : Fin cfg0.N) : One (C := 1024) (iblk m c 5 t) (W m c).nm := by
  intro k
  blk_simp [iblk]
  entry_read
  clean_types
  pointwise
  refine at2 _ ?_ ?_ <;> blk_simp [index5]
theorem w_hnf (t : Fin cfg0.N) : One (C := 1024) (iblk m c 6 t) (nf m c) := by
  intro k
  blk_simp [iblk]
  entry_read
  clean_types
  pointwise
  refine at2 _ ?_ ?_ <;> blk_simp [index6]
theorem w_hwin (t : Fin cfg0.N) : Is (K := 1024) (N := 2048) (iblk m c 7 t) (W m c).win := by
  intro i k
  blk_simp [iblk]
  entry_read
  clean_types
  pointwise
  refine at3 _ ?_ ?_ ?_ <;> blk_simp [index7]
theorem w_hpool (t : Fin cfg0.N) (g : Fin 4) (i j : Fin 128) : (iblk m c 8 t : Vec Ideal S4x128x128 .bf16) (ix3 g i j) = (W m c).pool g i j := by
  blk_simp [iblk]
  entry_read
  clean_types
  pointwise
  refine at4 _ ?_ ?_ ?_ ?_ <;> blk_simp [index8]
theorem w_hsp (t : Fin cfg0.N) : One (C := 512) (iblk m c 9 t) (W m c).sp := by
  intro k
  blk_simp [iblk]
  entry_read
  clean_types
  pointwise
  refine at2 _ ?_ ?_ <;> blk_simp [index9]
theorem w_hscw (t : Fin cfg0.N) (i : Fin 3) (k : Fin 512) : (iblk m c 10 t : Vec Ideal S3x512 .f32) (ix2 i k) = (W m c).cw i k := by
  blk_simp [iblk]
  entry_read
  clean_types
  pointwise
  refine at3 _ ?_ ?_ ?_ <;> blk_simp [index10]
theorem w_hscb (t : Fin cfg0.N) : One (C := 512) (iblk m c 11 t) (W m c).cb := by
  intro k
  blk_simp [iblk]
  entry_read
  clean_types
  pointwise
  refine at2 _ ?_ ?_ <;> blk_simp [index11]
theorem w_hout (t : Fin cfg0.N) : Is (K := 1024) (N := 1024) (iblk m c 12 t) (W m c).out := by
  intro i k
  blk_simp [iblk]
  entry_read
  clean_types
  pointwise
  refine at3 _ ?_ ?_ ?_ <;> blk_simp [index12]
theorem w_hup (t : Fin cfg0.N) : Is (K := 1024) (N := 5632) (iblk m c 13 t) (Fw m c).up := by
  intro i k
  blk_simp [iblk]
  entry_read
  clean_types
  pointwise
  refine at3 _ ?_ ?_ ?_ <;> blk_simp [index13]
theorem w_hcw (t : Fin cfg0.N) (i : Fin 3) (k : Fin 5632) : (iblk m c 14 t : Vec Ideal S3x5632 .f32) (ix2 i k) = (Fw m c).cw i k := by
  blk_simp [iblk]
  entry_read
  clean_types
  pointwise
  refine at3 _ ?_ ?_ ?_ <;> blk_simp [index14]
theorem w_hcb (t : Fin cfg0.N) : One (C := 5632) (iblk m c 15 t) (Fw m c).cb := by
  intro k
  blk_simp [iblk]
  entry_read
  clean_types
  pointwise
  refine at2 _ ?_ ?_ <;> blk_simp [index15]
theorem w_hdown (t : Fin cfg0.N) : Is (K := 2816) (N := 1024) (iblk m c 16 t) (Fw m c).down := by
  intro i k
  blk_simp [iblk]
  entry_read
  clean_types
  pointwise
  refine at3 _ ?_ ?_ ?_ <;> blk_simp [index16]

/-- At every grid point the windows hold the layer's arrays, and the input's rows from the tile's first row on. -/
theorem blk (t : Fin cfg0.N) (g : Fin 8) (hg : g.val = t.val / 4) :
    Blk (W m c) (Fw m c) (nf m c) (md m c g) (xs m c g) (512 * (t.val % 4)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) :=
  ⟨w_hx m c t g hg, w_hmd m c t g hg, w_hnm m c t, w_hnf m c t, w_hwin m c t, w_hpool m c t, w_hsp m c t, w_hscw m c t, w_hscb m c t, w_hout m c t, w_hup m c t, w_hcw m c t, w_hcb m c t, w_hdown m c t, by omega⟩

end Decoder.Even
-- ==== Proof.EvenGrid.lean ====
/-
  The even layer over its grid: what each point leaves in the output windows, and the four arrays the launch ends with.
-/
module

public import proofs.«01_k».proof.Proof.EvenEntry

@[expose] public section

set_option maxRecDepth 16384

noncomputable section

open Idealize.ShloMosaic hiding ix1 ix2 ix3 ix4
open Idealize.ShloMosaic.ValueIdx Idealize.ShloMosaic.View Idealize.ShloMosaic.TcCoe
open Cert.KernelIdeal Cert.KernelIdeal.Gen

namespace Decoder.Even

variable (m : (ℓ : Loc nD τ sig) → Buf (Elt Ideal) ℓ) (c : Dev nD)

/-- The rows a group's pooling averages, -/
abbrev poolRows (g : Fin 8) : ℕ → Row 512 := evenP (W m c) (md m c g) (xs m c g) 0

/-- the rows its short convolution reads, -/
abbrev convRows (g : Fin 8) : ℕ → Row 512 := evenZ (W m c) (md m c g) (xs m c g)

/-- the rows its ConvFFN convolves, -/
abbrev upRows (g : Fin 8) : ℕ → Row 5632 := ups (Fw m c) (s2 (W m c) (nf m c) (md m c g) (xs m c g))

/-- and the layer's output rows. -/
abbrev yRows (g : Fin 8) : ℕ → Row 1024 := ffnOut (Fw m c) (nf m c) (md m c g) (evenX1 (W m c) (md m c g) (xs m c g))

/-- The output windows hold the output rows from `n` on and the states before position `n + 512`. -/
structure Left (g : Fin 8) (n : ℕ)
    (o : Vec Ideal S1x512x1024 .f32 × Vec Ideal S1x16x512 .f32 × Vec Ideal S1x8x512 .f32 × Vec Ideal S1x8x5632 .f32) : Prop where
  y : ∀ (r : Fin 512) (k : Fin 1024), o.1 (ix3 0 r k) = yRows m c g (n + r.val) k
  p : ∀ (r : Fin 16) (k : Fin 512), o.2.1 (ix3 0 r k) = hist (poolRows m c g) (n + 512) 16 r.val k
  z : ∀ (r : Fin 8) (k : Fin 512), o.2.2.1 (ix3 0 r k) = hist (convRows m c g) (n + 512) 8 r.val k
  f : ∀ (r : Fin 8) (k : Fin 5632), o.2.2.2 (ix3 0 r k) = hist (upRows m c g) (n + 512) 8 r.val k

theorem tile_row (t : Fin cfg0.N) : (grid0.coords t 1).val * 512 = 512 * (t.val % 4) := by rw [tile_of t, Nat.mul_comm]

/-! A group's first tile starts from zero histories. -/

section first
variable (t : Fin cfg0.N) (g : Fin 8) (hg : g.val = t.val / 4) (h0 : t.val % 4 = 0)

theorem zero_p (h0 : t.val % 4 = 0) (r : Fin 16) (k : Fin 512) : (iblk m c 2 t : Vec Ideal S1x16x512 .f32) (ix3 0 r k) = hist (poolRows m c g) (512 * (t.val % 4)) 16 r.val k := by
  rw [start_p, h0, hist_zero _ _ _ r.isLt]
theorem zero_z (h0 : t.val % 4 = 0) (r : Fin 8) (k : Fin 512) : (iblk m c 3 t : Vec Ideal S1x8x512 .f32) (ix3 0 r k) = hist (convRows m c g) (512 * (t.val % 4)) 8 r.val k := by
  rw [start_z, h0, hist_zero _ _ _ r.isLt]
theorem zero_f (h0 : t.val % 4 = 0) (r : Fin 8) (k : Fin 5632) : (iblk m c 4 t : Vec Ideal S1x8x5632 .f32) (ix3 0 r k) = hist (upRows m c g) (512 * (t.val % 4)) 8 r.val k := by
  rw [start_f, h0, hist_zero _ _ _ r.isLt]

include hg h0
theorem first_y (r : Fin 512) (k : Fin 1024) : (outsAt0 m c t.val t.isLt).1 (ix3 0 r k) = yRows m c g (512 * (t.val % 4) + r.val) k := by
  rw [outsAt0_A m c t h0]
  dsimp only
  unfold out0_A_17
  rw [View.read_writes_junk_eq_canon]
  exact First.y_block (H := blk m c t g hg) (hi := tile_row t) (hP := zero_p m c t g h0) (hZ := zero_z m c t g h0) (hF := zero_f m c t g h0) ..
theorem first_p (r : Fin 16) (k : Fin 512) : (outsAt0 m c t.val t.isLt).2.1 (ix3 0 r k) = hist (poolRows m c g) (512 * (t.val % 4) + 512) 16 r.val k := by
  rw [outsAt0_A m c t h0]
  dsimp only
  unfold out0_A_18
  rw [View.read_writes_junk_eq_canon]
  exact First.p_block (H := blk m c t g hg) (hP := zero_p m c t g h0) ..
theorem first_z (r : Fin 8) (k : Fin 512) : (outsAt0 m c t.val t.isLt).2.2.1 (ix3 0 r k) = hist (convRows m c g) (512 * (t.val % 4) + 512) 8 r.val k := by
  rw [outsAt0_A m c t h0]
  dsimp only
  unfold out0_A_19
  rw [View.read_writes_junk_eq_canon]
  exact First.z_block (H := blk m c t g hg) (hZ := zero_z m c t g h0) ..
theorem first_f (r : Fin 8) (k : Fin 5632) : (outsAt0 m c t.val t.isLt).2.2.2 (ix3 0 r k) = hist (upRows m c g) (512 * (t.val % 4) + 512) 8 r.val k := by
  rw [outsAt0_A m c t h0]
  dsimp only
  unfold out0_A_20
  rw [View.read_writes_junk_eq_canon]
  exact First.f_block (H := blk m c t g hg) (hi := tile_row t) (hP := zero_p m c t g h0) (hZ := zero_z m c t g h0) (hF := zero_f m c t g h0) ..
end first

/-! A later tile starts from the states the one before left. -/

section next
variable (t : Fin cfg0.N) (g : Fin 8) (hg : g.val = t.val / 4) (h0 : ¬t.val % 4 = 0)
variable (hP : ∀ (r : Fin 16) (k : Fin 512), (outsAt0 m c (t.val - 1) (by have := t.isLt; omega)).2.1 (ix3 0 r k) = hist (poolRows m c g) (512 * (t.val % 4)) 16 r.val k)
variable (hZ : ∀ (r : Fin 8) (k : Fin 512), (outsAt0 m c (t.val - 1) (by have := t.isLt; omega)).2.2.1 (ix3 0 r k) = hist (convRows m c g) (512 * (t.val % 4)) 8 r.val k)
variable (hF : ∀ (r : Fin 8) (k : Fin 5632), (outsAt0 m c (t.val - 1) (by have := t.isLt; omega)).2.2.2 (ix3 0 r k) = hist (upRows m c g) (512 * (t.val % 4)) 8 r.val k)
include hg h0

include hP hZ hF in
theorem next_y (r : Fin 512) (k : Fin 1024) : (outsAt0 m c t.val t.isLt).1 (ix3 0 r k) = yRows m c g (512 * (t.val % 4) + r.val) k := by
  rw [outsAt0_B m c t h0]
  dsimp only
  unfold out0_B_17
  rw [View.read_writes_junk_eq_canon]
  exact y_block (H := blk m c t g hg) (hi := tile_row t) (hP := hP) (hZ := hZ) (hF := hF) ..
include hP in
theorem next_p (r : Fin 16) (k : Fin 512) : (outsAt0 m c t.val t.isLt).2.1 (ix3 0 r k) = hist (poolRows m c g) (512 * (t.val % 4) + 512) 16 r.val k := by
  rw [outsAt0_B m c t h0]
  dsimp only
  unfold out0_B_18
  rw [View.read_writes_junk_eq_canon]
  exact p_block (H := blk m c t g hg) (hP := hP) ..
include hZ in
theorem next_z (r : Fin 8) (k : Fin 512) : (outsAt0 m c t.val t.isLt).2.2.1 (ix3 0 r k) = hist (convRows m c g) (512 * (t.val % 4) + 512) 8 r.val k := by
  rw [outsAt0_B m c t h0]
  dsimp only
  unfold out0_B_19
  rw [View.read_writes_junk_eq_canon]
  exact z_block (H := blk m c t g hg) (hZ := hZ) ..
include hP hZ hF in
theorem next_f (r : Fin 8) (k : Fin 5632) : (outsAt0 m c t.val t.isLt).2.2.2 (ix3 0 r k) = hist (upRows m c g) (512 * (t.val % 4) + 512) 8 r.val k := by
  rw [outsAt0_B m c t h0]
  dsimp only
  unfold out0_B_20
  rw [View.read_writes_junk_eq_canon]
  exact f_block (H := blk m c t g hg) (hi := tile_row t) (hP := hP) (hZ := hZ) (hF := hF) ..
end next

/-- So every tile of every group leaves its output rows and the states after it. -/
theorem tiles (n : ℕ) (hn : n < cfg0.N) (g : Fin 8) (hg : g.val = n / 4) : Left m c g (512 * (n % 4)) (outsAt0 m c n hn) := by
  induction n with
  | zero => exact ⟨first_y m c ⟨0, hn⟩ g hg rfl, first_p m c ⟨0, hn⟩ g hg rfl, first_z m c ⟨0, hn⟩ g hg rfl, first_f m c ⟨0, hn⟩ g hg rfl⟩
  | succ n ih =>
    by_cases h0 : (n + 1) % 4 = 0
    · exact ⟨first_y m c ⟨n + 1, hn⟩ g hg h0, first_p m c ⟨n + 1, hn⟩ g hg h0, first_z m c ⟨n + 1, hn⟩ g hg h0, first_f m c ⟨n + 1, hn⟩ g hg h0⟩
    · have I := ih (Nat.lt_of_succ_lt hn) (by omega)
      have e : 512 * (n % 4) + 512 = 512 * ((n + 1) % 4) := by omega
      have hP := fun (r : Fin 16) (k : Fin 512) => (I.p r k).trans (by rw [e])
      have hZ := fun (r : Fin 8) (k : Fin 512) => (I.z r k).trans (by rw [e])
      have hF := fun (r : Fin 8) (k : Fin 5632) => (I.f r k).trans (by rw [e])
      exact ⟨next_y m c ⟨n + 1, hn⟩ g hg h0 hP hZ hF, next_p m c ⟨n + 1, hn⟩ g hg h0 hP, next_z m c ⟨n + 1, hn⟩ g hg h0 hZ,
        next_f m c ⟨n + 1, hn⟩ g hg h0 hP hZ hF⟩

/-- The layer's output array, -/
def y : Arr3 8 2048 1024 := fun i => yRows m c (i 0) (i 1).val (i 2)
/-- the pooling state it returns: the last sixteen rows of each group, -/
def pst : Arr3 8 16 512 := fun i => hist (poolRows m c (i 0)) 2048 16 (i 1).val (i 2)
/-- the short convolution's state: the last eight rows, -/
def zst : Arr3 8 8 512 := fun i => hist (convRows m c (i 0)) 2048 8 (i 1).val (i 2)
/-- and the ConvFFN's state: the last eight rows. -/
def fst : Arr3 8 8 5632 := fun i => hist (upRows m c (i 0)) 2048 8 (i 1).val (i 2)

theorem index17 : ∀ t : Fin grid0.N, win0_17.index t = ![t.val / 4, t.val % 4, 0] := by decide +kernel
theorem index18 : ∀ t : Fin grid0.N, win0_18.index t = ![t.val / 4, 0, 0] := by decide +kernel
theorem index19 : ∀ t : Fin grid0.N, win0_19.index t = ![t.val / 4, 0, 0] := by decide +kernel
theorem index20 : ∀ t : Fin grid0.N, win0_20.index t = ![t.val / 4, 0, 0] := by decide +kernel

/-- The launch ends with the output array, -/
theorem final_y : (dats m 0 c).arrAt 17 cfg0.N = y m c := by
  refine (dats m 0 c).arrAt_eq_of_covers 17 _ (by decide +kernel) fun t hf j => ?_
  blk_simp
  rw [after0_17]
  have e0 : (((win0_17.blk t).view.emb j) 0).val = t.val / 4 := by
    have h : (j 0).val < 1 := (j 0).isLt
    blk_simp [index17]
  have e1 : (((win0_17.blk t).view.emb j) 1).val = 512 * (t.val % 4) + (j 1).val := by
    blk_simp [index17]
    omega
  have e2 : (((win0_17.blk t).view.emb j) 2).val = (j 2).val := by blk_simp [index17]
  exact (at3 (a := 1) (b := 512) (c := 1024) _ (i := 0) (j := j 1) (k := j 2) (Nat.lt_one_iff.1 (j 0).isLt) rfl rfl).trans
    (((tiles m c t.val t.isLt (((win0_17.blk t).view.emb j) 0) e0).y (j 1) (j 2)).trans
      (congr (congrArg _ e1.symm) (Fin.ext e2.symm)))

/-- with the pooling state, -/
theorem final_pst : (dats m 0 c).arrAt 18 cfg0.N = pst m c := by
  refine (dats m 0 c).arrAt_eq_of_covers 18 _ (by decide +kernel) fun t hf j => ?_
  have h3 : t.val % 4 = 3 := (flush0_18 t).mp hf
  blk_simp
  rw [after0_18]
  have e0 : (((win0_18.blk t).view.emb j) 0).val = t.val / 4 := by
    have h : (j 0).val < 1 := (j 0).isLt
    blk_simp [index18]
  have e1 : (((win0_18.blk t).view.emb j) 1).val = (j 1).val := by blk_simp [index18]
  have e2 : (((win0_18.blk t).view.emb j) 2).val = (j 2).val := by blk_simp [index18]
  refine (at3 (a := 1) (b := 16) (c := 512) _ (i := 0) (j := j 1) (k := j 2) (Nat.lt_one_iff.1 (j 0).isLt) rfl rfl).trans
    (((tiles m c t.val t.isLt (((win0_18.blk t).view.emb j) 0) e0).p (j 1) (j 2)).trans ?_)
  rw [h3]
  exact congr (congrArg _ e1.symm) (Fin.ext e2.symm)

/-- with the short convolution's state, -/
theorem final_zst : (dats m 0 c).arrAt 19 cfg0.N = zst m c := by
  refine (dats m 0 c).arrAt_eq_of_covers 19 _ (by decide +kernel) fun t hf j => ?_
  have h3 : t.val % 4 = 3 := (flush0_19 t).mp hf
  blk_simp
  rw [after0_19]
  have e0 : (((win0_19.blk t).view.emb j) 0).val = t.val / 4 := by
    have h : (j 0).val < 1 := (j 0).isLt
    blk_simp [index19]
  have e1 : (((win0_19.blk t).view.emb j) 1).val = (j 1).val := by blk_simp [index19]
  have e2 : (((win0_19.blk t).view.emb j) 2).val = (j 2).val := by blk_simp [index19]
  refine (at3 (a := 1) (b := 8) (c := 512) _ (i := 0) (j := j 1) (k := j 2) (Nat.lt_one_iff.1 (j 0).isLt) rfl rfl).trans
    (((tiles m c t.val t.isLt (((win0_19.blk t).view.emb j) 0) e0).z (j 1) (j 2)).trans ?_)
  rw [h3]
  exact congr (congrArg _ e1.symm) (Fin.ext e2.symm)

/-- and with the ConvFFN's state. -/
theorem final_fst : (dats m 0 c).arrAt 20 cfg0.N = fst m c := by
  refine (dats m 0 c).arrAt_eq_of_covers 20 _ (by decide +kernel) fun t hf j => ?_
  have h3 : t.val % 4 = 3 := (flush0_20 t).mp hf
  blk_simp
  rw [after0_20]
  have e0 : (((win0_20.blk t).view.emb j) 0).val = t.val / 4 := by
    have h : (j 0).val < 1 := (j 0).isLt
    blk_simp [index20]
  have e1 : (((win0_20.blk t).view.emb j) 1).val = (j 1).val := by blk_simp [index20]
  have e2 : (((win0_20.blk t).view.emb j) 2).val = (j 2).val := by blk_simp [index20]
  refine (at3 (a := 1) (b := 8) (c := 5632) _ (i := 0) (j := j 1) (k := j 2) (Nat.lt_one_iff.1 (j 0).isLt) rfl rfl).trans
    (((tiles m c t.val t.isLt (((win0_20.blk t).view.emb j) 0) e0).f (j 1) (j 2)).trans ?_)
  rw [h3]
  exact congr (congrArg _ e1.symm) (Fin.ext e2.symm)

end Decoder.Even
-- ==== Proof.RefOdd.lean ====
/-
  What the odd layer's reference program computes: each stage, read at an index, is the mathematics' row at that position.
-/
module

public import proofs.«01_k».proof.Proof.Args
public import proofs.«01_k».proof.Proof.Gen.Reference2Ideal.Read

@[expose] public section

noncomputable section

open Idealize.ShloMosaic Idealize.ShloMosaic.ValueIdx

namespace Decoder.RefOdd

open Cert.Reference2Ideal Cert.Reference2Ideal.Read

variable (x0 : Arr3 8 2048 1024) (x1 : Arr2 8 6144) (x2 x3 : Arr2 2 1024) (x4 : Arr3 1 1024 2048) (x5 : Arr2 1 1024)
  (x6 : Arr4 1 8 128 128) (x7 : Arr3 1 8 128) (x8 : Arr3 1 1024 1024) (x9 : Arr3 2 1024 5632) (x10 : Arr3 2 3 5632)
  (x11 : Arr2 2 5632) (x12 : Arr3 2 2816 1024) (x13 : Arr1 1024)

/-- An index of rank two is the one with its two coordinates. -/
theorem i2 {a b : ℕ} (i : (⟨2, ![a, b]⟩ : Shape).Idx) (p : Fin a) (q : Fin b) (h0 : (i 0).val = p.val) (h1 : (i 1).val = q.val) :
    i = ix2 p q := funext fun d => Fin.ext (match d with | ⟨0, _⟩ => h0 | ⟨1, _⟩ => h1)
/-- The same for rank three, -/
theorem i3 {a b c : ℕ} (i : (⟨3, ![a, b, c]⟩ : Shape).Idx) (p : Fin a) (q : Fin b) (r : Fin c) (h0 : (i 0).val = p.val)
    (h1 : (i 1).val = q.val) (h2 : (i 2).val = r.val) : i = ix3 p q r :=
  funext fun d => Fin.ext (match d with | ⟨0, _⟩ => h0 | ⟨1, _⟩ => h1 | ⟨2, _⟩ => h2)
/-- and for rank four. -/
theorem i4 {a b c e : ℕ} (i : (⟨4, ![a, b, c, e]⟩ : Shape).Idx) (p : Fin a) (q : Fin b) (r : Fin c) (s : Fin e) (h0 : (i 0).val = p.val)
    (h1 : (i 1).val = q.val) (h2 : (i 2).val = r.val) (h3 : (i 3).val = s.val) : i = ix4 p q r s :=
  funext fun d => Fin.ext (match d with | ⟨0, _⟩ => h0 | ⟨1, _⟩ => h1 | ⟨2, _⟩ => h2 | ⟨3, _⟩ => h3)

abbrev W : OddW := oddArgs x2 x4 x5 x6 x7 x8
abbrev V : FfnW := ffnArgs 1 x9 x10 x11 x12

/-- The normalised and modulated rows. -/
theorem h_apply (g : Fin 8) (l : Fin 2048) (k : Fin 1024) :
    val_main_v32 (F := Ideal) x0 x1 x2 (ix3 g l k)
      = adaln (seq x0 g l.val) (row2 x2 1) (part (row2 x1 g) 1) (part (row2 x1 g) 0) k := by
  simp only [val_main_v32_apply, val_main_v31_apply, val_main_v30_apply, val_main_v29_apply, val_main_v28_apply, val_main_v27_apply,
    val_main_cst_2_apply, val_main_v26_apply, val_main_v25_apply, val_main_v24_apply, val_main_v23_apply, val_main_v22_apply,
    val_main_v21_apply, val_main_v20_apply, val_main_v19_apply, val_main_cst_1_apply, val_main_v18_apply, val_main_v17_apply,
    val_main_cst_0_apply, val_main_v16_apply, val_main_v15_apply, val_main_cst_apply, val_main_v14_apply, val_main_v13_apply,
    val_main_v12_apply, val_main_v7_apply, val_main_v6_apply, val_main_v1_apply, val_main_v0_apply]
  unfold adaln rms
  simp only [seq_apply]
  simp only [row2, part, Ideal.addf_def, Ideal.mulf_def, Ideal.hostDivf_def, Ideal.hostUnary_rsqrt_def, Ideal.ofBits_def, Ideal.ofBits_zero_f32, zero_add]
  rw [i2 (idx_main_v0 _) g ⟨1024 * (0 : Fin 6).val + k.val, by have := k.isLt; omega⟩ rfl (by show k.val = 1024 * 0 + k.val; omega),
    i2 (idx_main_v1 _) g ⟨1024 * (1 : Fin 6).val + k.val, by have := k.isLt; show 1024 * 1 + k.val < 6144; omega⟩ rfl (by show 1024 + k.val = 1024 * 1 + k.val; omega),
    i2 (idx_main_v12 _) 1 k rfl (Nat.mod_eq_of_lt k.isLt)]
  simp only [fun y => i3 (idx_main_v15 (idx_main_v16 (idx_main_v22 (ix3 g l k))) y) g l y rfl rfl rfl]

/-- The projection, its GELU. -/
theorem uv_apply (g : Fin 8) (l : Fin 2048) (k : Fin 2048) :
    val_main_v47 (F := Ideal) x0 x1 x2 x4 (ix3 g l k)
      = gelu (lin (adaln (seq x0 g l.val) (row2 x2 1) (part (row2 x1 g) 1) (part (row2 x1 g) 0)) (mat3 x4 0) k) := by
  rw [← gelu_ref]
  have e : val_main_v34 (F := Ideal) x0 x1 x2 x4 (ix3 g l k)
      = lin (adaln (seq x0 g l.val) (row2 x2 1) (part (row2 x1 g) 1) (part (row2 x1 g) 0)) (mat3 x4 0) k := by
    rw [val_main_v34_apply]
    refine Finset.sum_congr rfl fun c _ => ?_
    rw [i3 (lidx_main_v34 _ c) g l c rfl rfl rfl, h_apply, val_main_v33_apply,
      i3 (idx_main_v33 _) 0 c k rfl (by show (c.val * 2048 + k.val) / 2048 % 1024 = c.val; have := k.isLt; have := c.isLt; omega)
        (by show (c.val * 2048 + k.val) % 2048 = k.val; have := k.isLt; have := c.isLt; omega)]
    rfl
  simp only [val_main_v47_apply, val_main_v46_apply, val_main_v45_apply, val_main_cst_6_apply, val_main_v44_apply, val_main_v43_apply,
    val_main_cst_5_apply, val_main_v42_apply, val_main_v41_apply, val_main_v40_apply, val_main_cst_4_apply, val_main_v39_apply,
    val_main_v38_apply, val_main_v37_apply, val_main_cst_3_apply, val_main_v36_apply, val_main_v35_apply, e]
  rfl

/-- The gate rows. -/
theorem u_apply (g : Fin 8) (l : Fin 2048) (k : Fin 1024) :
    val_main_v48 (F := Ideal) x0 x1 x2 x4 (ix3 g l k) = oddU (W x2 x4 x5 x6 x7 x8) (row2 x1 g) (seq x0 g) l.val k := by
  rw [val_main_v48_apply, i3 (idx_main_v48 _) g l ⟨k.val, by have := k.isLt; omega⟩ rfl rfl rfl, uv_apply]
  rfl

/-- The normalised value rows. -/
theorem v_apply (g : Fin 8) (l : Fin 2048) (k : Fin 1024) :
    val_main_v63 (F := Ideal) x0 x1 x2 x4 x5 (ix3 g l k) = oddV (W x2 x4 x5 x6 x7 x8) (row2 x1 g) (seq x0 g) l.val k := by
  have e : ∀ k : Fin 1024, val_main_v49 (F := Ideal) x0 x1 x2 x4 (ix3 g l k)
      = gelu (lin (adaln (seq x0 g l.val) (row2 x2 1) (part (row2 x1 g) 1) (part (row2 x1 g) 0)) (mat3 x4 0)
          ⟨1024 + k.val, by have := k.isLt; omega⟩) := fun k => by
    rw [val_main_v49_apply, i3 (idx_main_v49 _) g l ⟨1024 + k.val, by have := k.isLt; omega⟩ rfl rfl rfl, uv_apply]
  simp only [val_main_v63_apply, val_main_v62_apply, val_main_v61_apply, val_main_v60_apply, val_main_v59_apply, val_main_v58_apply,
    val_main_v57_apply, val_main_v56_apply, val_main_cst_9_apply, val_main_v55_apply, val_main_v54_apply, val_main_cst_8_apply,
    val_main_v53_apply, val_main_v52_apply, val_main_cst_7_apply, val_main_v51_apply, val_main_v50_apply]
  simp only [fun y => i3 (idx_main_v52 (idx_main_v53 (idx_main_v59 (ix3 g l k))) y) g l y rfl rfl rfl, e,
    i2 (idx_main_v50 (idx_main_v61 (idx_main_v62 (ix3 g l k)))) 0 k rfl (Nat.mod_eq_of_lt k.isLt)]
  simp only [Ideal.addf_def, Ideal.mulf_def, Ideal.hostDivf_def, Ideal.hostUnary_rsqrt_def, Ideal.ofBits_def, Ideal.ofBits_zero_f32, zero_add]
  rfl

end Decoder.RefOdd
-- ==== Proof.RefEven.lean ====
/-
  What the even layer's reference program computes up to the four quarters of the input projection.
-/
module

public import proofs.«01_k».proof.Proof.RefOdd
public import proofs.«01_k».proof.Proof.Gen.ReferenceIdeal.Read

@[expose] public section

noncomputable section

open Idealize.ShloMosaic Idealize.ShloMosaic.ValueIdx

namespace Decoder.RefEven

open Cert.ReferenceIdeal Cert.ReferenceIdeal.Read
open Decoder.RefOdd (i2 i3 i4)

variable (x0 : Arr3 8 2048 1024) (x1 : Arr2 8 6144) (x2 x3 : Arr2 2 1024) (x4 : Arr3 1 1024 2048) (x5 : Arr4 1 4 128 128)
  (x6 : Arr2 1 512) (x7 : Arr3 1 3 512) (x8 : Arr2 1 512) (x9 : Arr3 1 1024 1024) (x10 : Arr3 2 1024 5632) (x11 : Arr3 2 3 5632)
  (x12 : Arr2 2 5632) (x13 : Arr3 2 2816 1024)

abbrev W : EvenW := evenArgs x2 x4 x5 x6 x7 x8 x9
abbrev V : FfnW := ffnArgs 0 x10 x11 x12 x13

/-- The normalised and modulated rows. -/
theorem h_apply (g : Fin 8) (l : Fin 2048) (k : Fin 1024) :
    val_main_v32 (F := Ideal) x0 x1 x2 (ix3 g l k)
      = adaln (seq x0 g l.val) (row2 x2 0) (part (row2 x1 g) 1) (part (row2 x1 g) 0) k := by
  simp only [val_main_v32_apply, val_main_v31_apply, val_main_v30_apply, val_main_v29_apply, val_main_v28_apply, val_main_v27_apply,
    val_main_cst_2_apply, val_main_v26_apply, val_main_v25_apply, val_main_v24_apply, val_main_v23_apply, val_main_v22_apply,
    val_main_v21_apply, val_main_v20_apply, val_main_v19_apply, val_main_cst_1_apply, val_main_v18_apply, val_main_v17_apply,
    val_main_cst_0_apply, val_main_v16_apply, val_main_v15_apply, val_main_cst_apply, val_main_v14_apply, val_main_v13_apply,
    val_main_v12_apply, val_main_v7_apply, val_main_v6_apply, val_main_v1_apply, val_main_v0_apply]
  unfold adaln rms
  simp only [seq_apply]
  simp only [row2, part, Ideal.addf_def, Ideal.mulf_def, Ideal.hostDivf_def, Ideal.hostUnary_rsqrt_def, Ideal.ofBits_def, Ideal.ofBits_zero_f32, zero_add]
  rw [i2 (idx_main_v0 _) g ⟨1024 * (0 : Fin 6).val + k.val, by have := k.isLt; omega⟩ rfl (by show k.val = 1024 * 0 + k.val; omega),
    i2 (idx_main_v1 _) g ⟨1024 * (1 : Fin 6).val + k.val, by have := k.isLt; show 1024 * 1 + k.val < 6144; omega⟩ rfl (by show 1024 + k.val = 1024 * 1 + k.val; omega),
    i2 (idx_main_v12 _) 0 k rfl (Nat.mod_eq_of_lt k.isLt)]
  simp only [fun y => i3 (idx_main_v15 (idx_main_v16 (idx_main_v22 (ix3 g l k))) y) g l y rfl rfl rfl]

/-- The input projection. -/
theorem proj_apply (g : Fin 8) (l : Fin 2048) (k : Fin 2048) :
    val_main_v34 (F := Ideal) x0 x1 x2 x4 (ix3 g l k)
      = lin (adaln (seq x0 g l.val) (row2 x2 0) (part (row2 x1 g) 1) (part (row2 x1 g) 0)) (mat3 x4 0) k := by
  rw [val_main_v34_apply]
  unfold lin
  refine Finset.sum_congr rfl fun c _ => ?_
  rw [i3 (lidx_main_v34 _ c) g l c rfl rfl rfl, h_apply, val_main_v33_apply,
    i3 (idx_main_v33 _) 0 c k rfl (by show (c.val * 2048 + k.val) / 2048 % 1024 = c.val; have := k.isLt; have := c.isLt; omega)
      (by show (c.val * 2048 + k.val) % 2048 = k.val; have := k.isLt; have := c.isLt; omega)]
  rfl

/-! Its quarters: the pooled channels, the convolved ones, and their two gates. -/

/-- Quarter `q` of a group's projection. -/
abbrev quarter (g : Fin 8) (q : Fin 4) : ℕ → Row 512 := evenP (W x2 x4 x5 x6 x7 x8 x9) (row2 x1 g) (seq x0 g) q

theorem quarter0 (g : Fin 8) (l : Fin 2048) (k : Fin 512) :
    val_main_v35 (F := Ideal) x0 x1 x2 x4 (ix3 g l k) = quarter x0 x1 x2 x4 x5 x6 x7 x8 x9 g 0 l.val k := by
  rw [val_main_v35_apply, i3 (idx_main_v35 _) g l ⟨512 * ((0 : Fin 4).val) + k.val, by have := k.isLt; show 512 * 0 + k.val < 2048; omega⟩ rfl rfl
    (by show k.val = 512 * 0 + k.val; omega), proj_apply]
  rfl
theorem quarter1 (g : Fin 8) (l : Fin 2048) (k : Fin 512) :
    val_main_v36 (F := Ideal) x0 x1 x2 x4 (ix3 g l k) = quarter x0 x1 x2 x4 x5 x6 x7 x8 x9 g 1 l.val k := by
  rw [val_main_v36_apply, i3 (idx_main_v36 _) g l ⟨512 * ((1 : Fin 4).val) + k.val, by have := k.isLt; show 512 * 1 + k.val < 2048; omega⟩ rfl rfl
    (by show 512 + k.val = 512 * 1 + k.val; omega), proj_apply]
  rfl
theorem quarter2 (g : Fin 8) (l : Fin 2048) (k : Fin 512) :
    val_main_v37 (F := Ideal) x0 x1 x2 x4 (ix3 g l k) = quarter x0 x1 x2 x4 x5 x6 x7 x8 x9 g 2 l.val k := by
  rw [val_main_v37_apply, i3 (idx_main_v37 _) g l ⟨512 * ((2 : Fin 4).val) + k.val, by have := k.isLt; show 512 * 2 + k.val < 2048; omega⟩ rfl rfl
    (by show 1024 + k.val = 512 * 2 + k.val; omega), proj_apply]
  rfl
theorem quarter3 (g : Fin 8) (l : Fin 2048) (k : Fin 512) :
    val_main_v38 (F := Ideal) x0 x1 x2 x4 (ix3 g l k) = quarter x0 x1 x2 x4 x5 x6 x7 x8 x9 g 3 l.val k := by
  rw [val_main_v38_apply, i3 (idx_main_v38 _) g l ⟨512 * ((3 : Fin 4).val) + k.val, by have := k.isLt; show 512 * 3 + k.val < 2048; omega⟩ rfl rfl
    (by show 1536 + k.val = 512 * 3 + k.val; omega), proj_apply]
  rfl

end Decoder.RefEven
-- ==== Proof.RefExt.lean ====
/-
  Rows with zero rows put before them, as the reference programs build their histories.
-/
module

public import proofs.«01_k».proof.Proof.Args
public import Idealize.ShloMosaic.Lib.Pipeline.Value

@[expose] public section

noncomputable section

open Idealize.ShloMosaic Idealize.ShloMosaic.ValueIdx

namespace Decoder

/-- Row `p` of `h` zero rows followed by the rows `u`. -/
theorem ext_apply {n h L : ℕ} (z : Arr3 8 h n) (v : Arr3 8 2048 n)
    (hc : Shape.Concatenates [⟨3, ![8, h, n]⟩, ⟨3, ![8, 2048, n]⟩] ⟨3, ![8, L, n]⟩ 1)
    (hz : ∀ i, z i = 0) (u : Fin 8 → ℕ → Row n) (hv : ∀ (g : Fin 8) (l : Fin 2048) (k : Fin n), v (ix3 g l k) = u g l.val k)
    (hL : L = h + 2048) (g : Fin 8) (p : Fin L) (k : Fin n) :
    concatenate ⟨3, ![8, L, n]⟩ 1 [⟨⟨3, ![8, h, n]⟩, z⟩, ⟨⟨3, ![8, 2048, n]⟩, v⟩] hc (ix3 g p k) = hist (u g) 0 h p.val k := by
  have hp := p.isLt
  unfold hist
  by_cases hlt : h ≤ 0 + p.val
  · rw [if_pos hlt]
    refine (concatenate_pair_apply_right (t := ⟨3, ![8, L, n]⟩) 1 z v hc (ix3 g p k) rfl rfl (ix3 g ⟨p.val - h, by omega⟩ k)
      (fun b hb => match b with | ⟨0, _⟩ => rfl | ⟨1, _⟩ => absurd rfl hb | ⟨2, _⟩ => rfl) (by show p.val - h + h = p.val; omega)).trans ?_
    rw [hv, Nat.zero_add]
  · rw [if_neg hlt]
    exact (concatenate_pair_apply_left (t := ⟨3, ![8, L, n]⟩) 1 z v hc (ix3 g p k) rfl (ix3 g ⟨p.val, by omega⟩ k)
      (fun b => match b with | ⟨0, _⟩ => rfl | ⟨1, _⟩ => rfl | ⟨2, _⟩ => rfl)).trans (hz _)

/-- The row `d` positions back, read from rows with `h ≥ d` zero rows put before them. -/
theorem hist_ext {C : ℕ} (u : ℕ → Row C) (l h d : ℕ) (hd : d ≤ h) : hist u 0 h (h - d + l) = hist u l d 0 := by
  rw [← hist_back u 0 h l d hd, Nat.zero_add]

/-- The last `m` of 2048 rows. -/
theorem hist_last {C : ℕ} (u : ℕ → Row C) (h m r : ℕ) (hm : h ≤ m) (hM : m ≤ 2048) : hist u 0 h (h + 2048 - m + r) = hist u 2048 m r := by
  unfold hist
  rw [if_pos (by omega), if_pos (by omega)]
  congr 1
  omega

end Decoder
-- ==== Proof.RefEvenPool.lean ====
/-
  The even layer's reference program: the pooling mixer.
-/
module

public import proofs.«01_k».proof.Proof.RefEven
public import proofs.«01_k».proof.Proof.RefExt
public import proofs.«01_k».proof.Proof.EvenMix

@[expose] public section

noncomputable section

open Idealize.ShloMosaic Idealize.ShloMosaic.ValueIdx

namespace Decoder.RefEven

open Cert.ReferenceIdeal Cert.ReferenceIdeal.Read
open Decoder.RefOdd (i2 i3 i4)

variable (x0 : Arr3 8 2048 1024) (x1 : Arr2 8 6144) (x2 x3 : Arr2 2 1024) (x4 : Arr3 1 1024 2048) (x5 : Arr4 1 4 128 128)
  (x6 : Arr2 1 512) (x7 : Arr3 1 3 512) (x8 : Arr2 1 512) (x9 : Arr3 1 1024 1024) (x10 : Arr3 2 1024 5632) (x11 : Arr3 2 3 5632)
  (x12 : Arr2 2 5632) (x13 : Arr3 2 2816 1024)

/-- The pooled rows with fifteen zero rows before them. -/
theorem pool_ext (g : Fin 8) (p : Fin 2063) (k : Fin 512) :
    val_main_v42 (F := Ideal) x0 x1 x2 x4 (ix3 g p k) = hist (quarter x0 x1 x2 x4 x5 x6 x7 x8 x9 g 0) 0 15 p.val k :=
  ext_apply _ _ _ (fun i => by rw [val_main_v39_apply, val_main_cst_3_apply]; exact Ideal.ofBits_zero_f32) _
    (quarter0 x0 x1 x2 x4 x5 x6 x7 x8 x9) rfl g p k

/-- A slice of them `j` rows back. -/
theorem pool_tap (g : Fin 8) (l : Fin 2048) (k : Fin 512) (j : ℕ) (hj : j ≤ 15) {p : (⟨3, ![8, 2063, 512]⟩ : Shape).Idx}
    (h0 : (p 0).val = g.val) (h1 : (p 1).val = 15 - j + l.val) (h2 : (p 2).val = k.val) :
    val_main_v42 (F := Ideal) x0 x1 x2 x4 p = hist (quarter x0 x1 x2 x4 x5 x6 x7 x8 x9 g 0) l.val j 0 k := by
  have e := i3 p g (⟨15 - j + l.val, by have := l.isLt; omega⟩ : Fin 2063) k h0 h1 h2
  rw [e, pool_ext x0 x1 x2 x4 x5 x6 x7 x8 x9, hist_ext _ _ _ _ hj]

/-- The position count of a row, as a word. -/
theorem pos_apply (l : Fin 2048) : IntOp.addi (val_main_v45 (F := Ideal) (ValueIdx.ix1 l)) 1#32 = BitVec.ofNat 32 (l.val + 1) := by
  rw [val_main_v45_apply, val_main_v43_apply, val_main_v44_apply, val_main_c_apply]
  unfold IntOp.addi
  rw [show (0#32 : BitVec 32) = BitVec.ofNat 32 0 from rfl, show (1#32 : BitVec 32) = BitVec.ofNat 32 1 from rfl, ← BitVec.ofNat_add, ← BitVec.ofNat_add]

/-! The window sums of the four groups, and what they are divided by. -/

theorem sum2 (g : Fin 8) (l : Fin 2048) (k : Fin 128) :
    val_main_v51 (F := Ideal) x0 x1 x2 x4 (ix3 g l k)
      = winSum (quarter x0 x1 x2 x4 x5 x6 x7 x8 x9 g 0) 2 l.val ⟨k.val, by have := k.isLt; omega⟩ := by
  simp only [val_main_v51_apply, val_main_v50_apply, val_main_v49_apply, val_main_v48_apply, val_main_v47_apply, val_main_v46_apply,
    val_main_cst_4_apply]
  unfold winSum
  simp only [Finset.sum_range_succ, Finset.sum_range_zero]
  iterate 2 refine congrArg₂ (· + ·) ?_ (pool_tap x0 x1 x2 x4 x5 x6 x7 x8 x9 g l _ _ (by decide) rfl (by first | rfl | exact (Nat.zero_add _).symm) rfl)
  exact Ideal.ofBits_zero_f32

theorem count2 (g : Fin 8) (l : Fin 2048) (k : Fin 128) : val_main_v58 (F := Ideal) (ix3 g l k) = (((min 2 (l.val + 1) : ℕ) : ℝ) : EReal) := by
  simp only [val_main_v58_apply, val_main_v57_apply, val_main_v56_apply, val_main_v55_apply, val_main_v54_apply, val_main_c_6_apply,
    val_main_v53_apply, val_main_v52_apply, val_main_c_5_apply]
  have e : idx_main_v57 (idx_main_v58 (ix3 g l k)) = ValueIdx.ix1 l := funext fun d => Fin.ext (match d with | ⟨0, _⟩ => rfl)
  rw [e]
  refine Eq.trans ?_ (count_word 2 (l.val + 1) (by decide) (by have := l.isLt; omega))
  exact congrArg (fun z => FloatOps.sitofp (F := Ideal) .f32 (IntOp.minsi (BitVec.ofNat 32 2) z)) (pos_apply l)

theorem sum4 (g : Fin 8) (l : Fin 2048) (k : Fin 128) :
    val_main_v69 (F := Ideal) x0 x1 x2 x4 (ix3 g l k)
      = winSum (quarter x0 x1 x2 x4 x5 x6 x7 x8 x9 g 0) 4 l.val ⟨128 + k.val, by have := k.isLt; omega⟩ := by
  simp only [val_main_v69_apply, val_main_v68_apply, val_main_v67_apply, val_main_v66_apply, val_main_v65_apply, val_main_v64_apply,
    val_main_v63_apply, val_main_v62_apply, val_main_v61_apply, val_main_v60_apply, val_main_cst_7_apply]
  unfold winSum
  simp only [Finset.sum_range_succ, Finset.sum_range_zero]
  iterate 4 refine congrArg₂ (· + ·) ?_ (pool_tap x0 x1 x2 x4 x5 x6 x7 x8 x9 g l _ _ (by decide) rfl (by first | rfl | exact (Nat.zero_add _).symm) rfl)
  exact Ideal.ofBits_zero_f32

theorem count4 (g : Fin 8) (l : Fin 2048) (k : Fin 128) : val_main_v76 (F := Ideal) (ix3 g l k) = (((min 4 (l.val + 1) : ℕ) : ℝ) : EReal) := by
  simp only [val_main_v76_apply, val_main_v75_apply, val_main_v74_apply, val_main_v73_apply, val_main_v72_apply, val_main_c_9_apply,
    val_main_v71_apply, val_main_v70_apply, val_main_c_8_apply]
  have e : idx_main_v75 (idx_main_v76 (ix3 g l k)) = ValueIdx.ix1 l := funext fun d => Fin.ext (match d with | ⟨0, _⟩ => rfl)
  rw [e]
  refine Eq.trans ?_ (count_word 4 (l.val + 1) (by decide) (by have := l.isLt; omega))
  exact congrArg (fun z => FloatOps.sitofp (F := Ideal) .f32 (IntOp.minsi (BitVec.ofNat 32 4) z)) (pos_apply l)

theorem sum8 (g : Fin 8) (l : Fin 2048) (k : Fin 128) :
    val_main_v95 (F := Ideal) x0 x1 x2 x4 (ix3 g l k)
      = winSum (quarter x0 x1 x2 x4 x5 x6 x7 x8 x9 g 0) 8 l.val ⟨256 + k.val, by have := k.isLt; omega⟩ := by
  simp only [val_main_v95_apply, val_main_v94_apply, val_main_v93_apply, val_main_v92_apply, val_main_v91_apply, val_main_v90_apply,
    val_main_v89_apply, val_main_v88_apply, val_main_v87_apply, val_main_v86_apply, val_main_v85_apply, val_main_v84_apply,
    val_main_v83_apply, val_main_v82_apply, val_main_v81_apply, val_main_v80_apply, val_main_v79_apply, val_main_v78_apply,
    val_main_cst_10_apply]
  unfold winSum
  simp only [Finset.sum_range_succ, Finset.sum_range_zero]
  iterate 8 refine congrArg₂ (· + ·) ?_ (pool_tap x0 x1 x2 x4 x5 x6 x7 x8 x9 g l _ _ (by decide) rfl (by first | rfl | exact (Nat.zero_add _).symm) rfl)
  exact Ideal.ofBits_zero_f32

theorem count8 (g : Fin 8) (l : Fin 2048) (k : Fin 128) : val_main_v102 (F := Ideal) (ix3 g l k) = (((min 8 (l.val + 1) : ℕ) : ℝ) : EReal) := by
  simp only [val_main_v102_apply, val_main_v101_apply, val_main_v100_apply, val_main_v99_apply, val_main_v98_apply,
    val_main_c_12_apply, val_main_v97_apply, val_main_v96_apply, val_main_c_11_apply]
  have e : idx_main_v101 (idx_main_v102 (ix3 g l k)) = ValueIdx.ix1 l := funext fun d => Fin.ext (match d with | ⟨0, _⟩ => rfl)
  rw [e]
  refine Eq.trans ?_ (count_word 8 (l.val + 1) (by decide) (by have := l.isLt; omega))
  exact congrArg (fun z => FloatOps.sitofp (F := Ideal) .f32 (IntOp.minsi (BitVec.ofNat 32 8) z)) (pos_apply l)

theorem sum16 (g : Fin 8) (l : Fin 2048) (k : Fin 128) :
    val_main_v137 (F := Ideal) x0 x1 x2 x4 (ix3 g l k)
      = winSum (quarter x0 x1 x2 x4 x5 x6 x7 x8 x9 g 0) 16 l.val ⟨384 + k.val, by have := k.isLt; omega⟩ := by
  simp only [val_main_v137_apply, val_main_v136_apply, val_main_v135_apply, val_main_v134_apply, val_main_v133_apply,
    val_main_v132_apply, val_main_v131_apply, val_main_v130_apply, val_main_v129_apply, val_main_v128_apply,
    val_main_v127_apply, val_main_v126_apply, val_main_v125_apply, val_main_v124_apply, val_main_v123_apply,
    val_main_v122_apply, val_main_v121_apply, val_main_v120_apply, val_main_v119_apply, val_main_v118_apply,
    val_main_v117_apply, val_main_v116_apply, val_main_v115_apply, val_main_v114_apply, val_main_v113_apply,
    val_main_v112_apply, val_main_v111_apply, val_main_v110_apply, val_main_v109_apply, val_main_v108_apply,
    val_main_v107_apply, val_main_v106_apply, val_main_v105_apply, val_main_v104_apply, val_main_cst_13_apply]
  unfold winSum
  simp only [Finset.sum_range_succ, Finset.sum_range_zero]
  iterate 16 refine congrArg₂ (· + ·) ?_ (pool_tap x0 x1 x2 x4 x5 x6 x7 x8 x9 g l _ _ (by decide) rfl (by first | rfl | exact (Nat.zero_add _).symm) rfl)
  exact Ideal.ofBits_zero_f32

theorem count16 (g : Fin 8) (l : Fin 2048) (k : Fin 128) : val_main_v144 (F := Ideal) (ix3 g l k) = (((min 16 (l.val + 1) : ℕ) : ℝ) : EReal) := by
  simp only [val_main_v144_apply, val_main_v143_apply, val_main_v142_apply, val_main_v141_apply, val_main_v140_apply,
    val_main_c_15_apply, val_main_v139_apply, val_main_v138_apply, val_main_c_14_apply]
  have e : idx_main_v143 (idx_main_v144 (ix3 g l k)) = ValueIdx.ix1 l := funext fun d => Fin.ext (match d with | ⟨0, _⟩ => rfl)
  rw [e]
  refine Eq.trans ?_ (count_word 16 (l.val + 1) (by decide) (by have := l.isLt; omega))
  exact congrArg (fun z => FloatOps.sitofp (F := Ideal) .f32 (IntOp.minsi (BitVec.ofNat 32 16) z)) (pos_apply l)

/-- The trailing means, group by group. -/
theorem mean_apply (g : Fin 8) (l : Fin 2048) (k : Fin 512) :
    val_main_v146 (F := Ideal) x0 x1 x2 x4 (ix3 g l k)
      = Ideal.div (winSum (quarter x0 x1 x2 x4 x5 x6 x7 x8 x9 g 0) (width ⟨k.val / 128, by have := k.isLt; omega⟩) l.val k)
          ((min (width ⟨k.val / 128, by have := k.isLt; omega⟩) (l.val + 1) : ℕ) : ℝ) := by
  have hk := k.isLt
  obtain ⟨q, r, hq, hr⟩ : ∃ q r : ℕ, k.val = 128 * q + r ∧ r < 128 := ⟨k.val / 128, k.val % 128, by omega, by omega⟩
  have hd : k.val / 128 = q := by omega
  unfold val_main_v146
  have hq4 : q < 4 := by omega
  obtain rfl | rfl | rfl | rfl : q = 0 ∨ q = 1 ∨ q = 2 ∨ q = 3 := by omega
  · refine Eq.trans (concatenate_apply_piece (t := ⟨3, ![8, 2048, 512]⟩) 2 _ _ (ix3 g l k) 0 (by show 0 < 4; decide) ⟨3, ![8, 2048, 128]⟩ (val_main_v59 (F := Ideal) x0 x1 x2 x4) (by rfl) (by rfl) 0 (by rfl) (ix3 g l ⟨r, hr⟩)
      (fun b hb => match b with | ⟨0, _⟩ => rfl | ⟨1, _⟩ => rfl | ⟨2, _⟩ => absurd rfl hb) (by show 0 + r = k.val; omega)) ?_
    rw [val_main_v59_apply, sum2 x0 x1 x2 x4 x5 x6 x7 x8 x9, count2]
    have e : width ⟨k.val / 128, by omega⟩ = 2 := by unfold width; rw [show ((⟨k.val / 128, by omega⟩ : Fin 4)).val = 0 from hd]; rfl
    rw [e]
    exact congrArg (fun z => Ideal.div (winSum (quarter x0 x1 x2 x4 x5 x6 x7 x8 x9 g 0) 2 l.val z) _) (Fin.ext (by show r = k.val; omega))
  · refine Eq.trans (concatenate_apply_piece (t := ⟨3, ![8, 2048, 512]⟩) 2 _ _ (ix3 g l k) 1 (by show 1 < 4; decide) ⟨3, ![8, 2048, 128]⟩ (val_main_v77 (F := Ideal) x0 x1 x2 x4) (by rfl) (by rfl) 128 (by rfl) (ix3 g l ⟨r, hr⟩)
      (fun b hb => match b with | ⟨0, _⟩ => rfl | ⟨1, _⟩ => rfl | ⟨2, _⟩ => absurd rfl hb) (by show 128 + r = k.val; omega)) ?_
    rw [val_main_v77_apply, sum4 x0 x1 x2 x4 x5 x6 x7 x8 x9, count4]
    have e : width ⟨k.val / 128, by omega⟩ = 4 := by unfold width; rw [show ((⟨k.val / 128, by omega⟩ : Fin 4)).val = 1 from hd]; rfl
    rw [e]
    exact congrArg (fun z => Ideal.div (winSum (quarter x0 x1 x2 x4 x5 x6 x7 x8 x9 g 0) 4 l.val z) _) (Fin.ext (by show 128 + r = k.val; omega))
  · refine Eq.trans (concatenate_apply_piece (t := ⟨3, ![8, 2048, 512]⟩) 2 _ _ (ix3 g l k) 2 (by show 2 < 4; decide) ⟨3, ![8, 2048, 128]⟩ (val_main_v103 (F := Ideal) x0 x1 x2 x4) (by rfl) (by rfl) 256 (by rfl) (ix3 g l ⟨r, hr⟩)
      (fun b hb => match b with | ⟨0, _⟩ => rfl | ⟨1, _⟩ => rfl | ⟨2, _⟩ => absurd rfl hb) (by show 256 + r = k.val; omega)) ?_
    rw [val_main_v103_apply, sum8 x0 x1 x2 x4 x5 x6 x7 x8 x9, count8]
    have e : width ⟨k.val / 128, by omega⟩ = 8 := by unfold width; rw [show ((⟨k.val / 128, by omega⟩ : Fin 4)).val = 2 from hd]; rfl
    rw [e]
    exact congrArg (fun z => Ideal.div (winSum (quarter x0 x1 x2 x4 x5 x6 x7 x8 x9 g 0) 8 l.val z) _) (Fin.ext (by show 256 + r = k.val; omega))
  · refine Eq.trans (concatenate_apply_piece (t := ⟨3, ![8, 2048, 512]⟩) 2 _ _ (ix3 g l k) 3 (by show 3 < 4; decide) ⟨3, ![8, 2048, 128]⟩ (val_main_v145 (F := Ideal) x0 x1 x2 x4) (by rfl) (by rfl) 384 (by rfl) (ix3 g l ⟨r, hr⟩)
      (fun b hb => match b with | ⟨0, _⟩ => rfl | ⟨1, _⟩ => rfl | ⟨2, _⟩ => absurd rfl hb) (by show 384 + r = k.val; omega)) ?_
    rw [val_main_v145_apply, sum16 x0 x1 x2 x4 x5 x6 x7 x8 x9, count16]
    have e : width ⟨k.val / 128, by omega⟩ = 16 := by unfold width; rw [show ((⟨k.val / 128, by omega⟩ : Fin 4)).val = 3 from hd]; rfl
    rw [e]
    exact congrArg (fun z => Ideal.div (winSum (quarter x0 x1 x2 x4 x5 x6 x7 x8 x9 g 0) 16 l.val z) _) (Fin.ext (by show 384 + r = k.val; omega))

/-- The pooling mixer's rows. -/
theorem ya_apply (g : Fin 8) (l : Fin 2048) (k : Fin 512) :
    val_main_v154 (F := Ideal) x0 x1 x2 x4 x5 x6 (ix3 g l k)
      = evenYa (W x2 x4 x5 x6 x7 x8 x9) (quarter x0 x1 x2 x4 x5 x6 x7 x8 x9 g 0) l.val k := by
  have hl := l.isLt
  have hk := k.isLt
  have hg := g.isLt
  have e : idx_main_v151 (ix3 g l k) = ix4 g l (⟨k.val / 128, by omega⟩ : Fin 4) (⟨k.val % 128, by omega⟩ : Fin 128) :=
    i4 _ _ _ _ _ (by show ((g.val * 2048 + l.val) * 512 + k.val) / 1048576 = g.val; omega)
      (by show ((g.val * 2048 + l.val) * 512 + k.val) / 512 % 2048 = l.val; omega)
      (by show ((g.val * 2048 + l.val) * 512 + k.val) / 128 % 4 = k.val / 128; omega)
      (by show ((g.val * 2048 + l.val) * 512 + k.val) % 128 = k.val % 128; omega)
  rw [val_main_v154_apply, val_main_v153_apply, val_main_v152_apply, val_main_v41_apply, val_main_v151_apply, e, val_main_v150_apply, val_main_v149_apply]
  unfold evenYa
  refine congrArg₂ (· * ·) (Finset.sum_congr rfl fun c _ => ?_) (congrArg x6 (i2 _ 0 k rfl (Nat.mod_eq_of_lt hk)))
  have hc := c.isLt
  rw [mul_comm, val_main_v148_apply, val_main_v40_apply]
  have e1 := i3 (idx_main_v148 (ridx_main_v149 (idx_main_v150 (ix4 g l (⟨k.val / 128, by omega⟩ : Fin 4) (⟨k.val % 128, by omega⟩ : Fin 128))) c)) g l
    (⟨k.val / 128 * 128 + c.val, by omega⟩ : Fin 512)
    (by show (((g.val * 2048 + l.val) * 4 + k.val / 128) * 128 + c.val) / 1048576 = g.val; omega)
    (by show (((g.val * 2048 + l.val) * 4 + k.val / 128) * 128 + c.val) / 512 % 2048 = l.val; omega)
    (by show (((g.val * 2048 + l.val) * 4 + k.val / 128) * 128 + c.val) % 512 = k.val / 128 * 128 + c.val; omega)
  have e2 := i4 (idx_main_v40 (lidx_main_v149 (idx_main_v150 (ix4 g l (⟨k.val / 128, by omega⟩ : Fin 4) (⟨k.val % 128, by omega⟩ : Fin 128))) c)) 0
    (⟨k.val / 128, by omega⟩ : Fin 4) c (⟨k.val % 128, by omega⟩ : Fin 128) rfl
    (by show ((k.val / 128 * 128 + c.val) * 128 + k.val % 128) / 16384 % 4 = k.val / 128; omega)
    (by show ((k.val / 128 * 128 + c.val) * 128 + k.val % 128) / 128 % 128 = c.val; omega)
    (by show ((k.val / 128 * 128 + c.val) * 128 + k.val % 128) % 128 = k.val % 128; omega)
  rw [e1, e2, val_main_v147_apply, mean_apply x0 x1 x2 x4 x5 x6 x7 x8 x9, quarter0 x0 x1 x2 x4 x5 x6 x7 x8 x9]
  rfl

/-- The pooling state: the last sixteen pooled rows. -/
theorem pst_apply (g : Fin 8) (r : Fin 16) (k : Fin 512) :
    val_main_v155 (F := Ideal) x0 x1 x2 x4 (ix3 g r k) = hist (quarter x0 x1 x2 x4 x5 x6 x7 x8 x9 g 0) 2048 16 r.val k := by
  rw [val_main_v155_apply, i3 (idx_main_v155 _) g ⟨15 + 2048 - 16 + r.val, by have := r.isLt; omega⟩ k rfl rfl rfl,
    pool_ext x0 x1 x2 x4 x5 x6 x7 x8 x9, hist_last _ _ _ _ (by decide) (by decide)]

end Decoder.RefEven
-- ==== Proof.RefEvenMix.lean ====
/-
  The even layer's reference program: the short convolution and the residual stream after the mixer.
-/
module

public import proofs.«01_k».proof.Proof.RefEvenPool

@[expose] public section

noncomputable section

open Idealize.ShloMosaic Idealize.ShloMosaic.ValueIdx

namespace Decoder.RefEven

open Cert.ReferenceIdeal Cert.ReferenceIdeal.Read
open Decoder.RefOdd (i2 i3 i4)

variable (x0 : Arr3 8 2048 1024) (x1 : Arr2 8 6144) (x2 x3 : Arr2 2 1024) (x4 : Arr3 1 1024 2048) (x5 : Arr4 1 4 128 128)
  (x6 : Arr2 1 512) (x7 : Arr3 1 3 512) (x8 : Arr2 1 512) (x9 : Arr3 1 1024 1024) (x10 : Arr3 2 1024 5632) (x11 : Arr3 2 3 5632)
  (x12 : Arr2 2 5632) (x13 : Arr3 2 2816 1024)

/-- The rows the short convolution reads, -/
abbrev zr (g : Fin 8) : ℕ → Row 512 := evenZ (W x2 x4 x5 x6 x7 x8 x9) (row2 x1 g) (seq x0 g)

theorem z_apply (g : Fin 8) (l : Fin 2048) (k : Fin 512) :
    val_main_v156 (F := Ideal) x0 x1 x2 x4 (ix3 g l k) = zr x0 x1 x2 x4 x5 x6 x7 x8 x9 g l.val k := by
  rw [val_main_v156_apply, quarter3 x0 x1 x2 x4 x5 x6 x7 x8 x9, quarter1 x0 x1 x2 x4 x5 x6 x7 x8 x9]
  rfl

/-- with two zero rows before them, -/
theorem z_ext (g : Fin 8) (p : Fin 2050) (k : Fin 512) :
    val_main_v160 (F := Ideal) x0 x1 x2 x4 (ix3 g p k) = hist (zr x0 x1 x2 x4 x5 x6 x7 x8 x9 g) 0 2 p.val k :=
  ext_apply _ _ _ (fun i => by rw [val_main_v157_apply, val_main_cst_16_apply]; exact Ideal.ofBits_zero_f32) _
    (z_apply x0 x1 x2 x4 x5 x6 x7 x8 x9) rfl g p k

/-- and the convolution of them. -/
theorem zconv_apply (g : Fin 8) (l : Fin 2048) (k : Fin 512) :
    val_main_v183 (F := Ideal) x0 x1 x2 x4 x7 x8 (ix3 g l k)
      = conv (mat3 x7 0) (row2 x8 0) (zr x0 x1 x2 x4 x5 x6 x7 x8 x9 g) l.val k := by
  have hl := l.isLt
  have hk := k.isLt
  simp only [val_main_v183_apply, val_main_v182_apply, val_main_v181_apply, val_main_v180_apply, val_main_v179_apply,
    val_main_v178_apply, val_main_v177_apply, val_main_v176_apply, val_main_v175_apply, val_main_v174_apply,
    val_main_v173_apply, val_main_v172_apply, val_main_v171_apply, val_main_v170_apply, val_main_v169_apply,
    val_main_v168_apply, val_main_v167_apply, val_main_v166_apply, val_main_v165_apply, val_main_v164_apply,
    val_main_v163_apply, val_main_v162_apply, val_main_v161_apply, val_main_v159_apply, val_main_v158_apply]
  rw [i3 (idx_main_v163 _) g ⟨2 - 2 + l.val, by omega⟩ k rfl (by show l.val = 2 - 2 + l.val; omega) rfl,
    i3 (idx_main_v172 _) g ⟨2 - 1 + l.val, by omega⟩ k rfl rfl rfl,
    i3 (idx_main_v179 _) g ⟨2 - 0 + l.val, by omega⟩ k rfl rfl rfl,
    z_ext x0 x1 x2 x4 x5 x6 x7 x8 x9, z_ext x0 x1 x2 x4 x5 x6 x7 x8 x9, z_ext x0 x1 x2 x4 x5 x6 x7 x8 x9,
    hist_ext _ _ _ _ (by decide), hist_ext _ _ _ _ (by decide), hist_ext _ _ _ _ (by decide), hist_self]
  unfold conv
  refine congrArg₂ (· + ·) (congrArg₂ (· + ·) (congrArg₂ (· + ·) ?_ (congrArg (· * _) ?_)) (congrArg (· * _) ?_)) (congrArg (· * _) ?_)
  · exact congrArg x8 (i2 _ 0 k rfl (Nat.mod_eq_of_lt hk))
  · exact congrArg x7 (i3 _ 0 0 k rfl (by show (0 * 512 + k.val % 512) / 512 % 3 = 0; omega) (by show (0 * 512 + k.val % 512) % 512 = k.val; omega))
  · exact congrArg x7 (i3 _ 0 1 k rfl (by show ((1 + 0) * 512 + k.val % 512) / 512 % 3 = 1; omega) (by show ((1 + 0) * 512 + k.val % 512) % 512 = k.val; omega))
  · exact congrArg x7 (i3 _ 0 2 k rfl (by show ((2 + 0) * 512 + k.val % 512) / 512 % 3 = 2; omega) (by show ((2 + 0) * 512 + k.val % 512) % 512 = k.val; omega))

/-- The short convolution's state: the last eight rows it reads. -/
theorem zst_apply (g : Fin 8) (r : Fin 8) (k : Fin 512) :
    val_main_v184 (F := Ideal) x0 x1 x2 x4 (ix3 g r k) = hist (zr x0 x1 x2 x4 x5 x6 x7 x8 x9 g) 2048 8 r.val k := by
  rw [val_main_v184_apply, i3 (idx_main_v184 _) g ⟨2 + 2048 - 8 + r.val, by have := r.isLt; omega⟩ k rfl rfl rfl,
    z_ext x0 x1 x2 x4 x5 x6 x7 x8 x9, hist_last _ _ _ _ (by decide) (by decide)]

/-- The mixer's rows: the pooled channels, then the gated convolution. -/
theorem mix_apply (g : Fin 8) (l : Fin 2048) (k : Fin 1024) :
    val_main_v186 (F := Ideal) x0 x1 x2 x4 x5 x6 x7 x8 (ix3 g l k)
      = evenMix (W x2 x4 x5 x6 x7 x8 x9) (row2 x1 g) (seq x0 g) l.val k := by
  unfold val_main_v186 evenMix
  by_cases h : k.val < 512
  · rw [dif_pos h]
    exact (concatenate_pair_apply_left (t := ⟨3, ![8, 2048, 1024]⟩) 2 (val_main_v154 (F := Ideal) x0 x1 x2 x4 x5 x6)
      (val_main_v185 (F := Ideal) x0 x1 x2 x4 x7 x8) _ (ix3 g l k) rfl (ix3 g l ⟨k.val, h⟩)
      (fun b => match b with | ⟨0, _⟩ => rfl | ⟨1, _⟩ => rfl | ⟨2, _⟩ => rfl)).trans (ya_apply x0 x1 x2 x4 x5 x6 x7 x8 x9 g l ⟨k.val, h⟩)
  · rw [dif_neg h]
    refine (concatenate_pair_apply_right (t := ⟨3, ![8, 2048, 1024]⟩) 2 (val_main_v154 (F := Ideal) x0 x1 x2 x4 x5 x6)
      (val_main_v185 (F := Ideal) x0 x1 x2 x4 x7 x8) _ (ix3 g l k) rfl rfl (ix3 g l ⟨k.val - 512, by have := k.isLt; omega⟩)
      (fun b hb => match b with | ⟨0, _⟩ => rfl | ⟨1, _⟩ => rfl | ⟨2, _⟩ => absurd rfl hb) (by show k.val - 512 + 512 = k.val; omega)).trans ?_
    rw [val_main_v185_apply, quarter2 x0 x1 x2 x4 x5 x6 x7 x8 x9, zconv_apply x0 x1 x2 x4 x5 x6 x7 x8 x9]
    rfl

/-- The residual stream after the mixer. -/
theorem x1_apply (g : Fin 8) (l : Fin 2048) (k : Fin 1024) :
    val_main_v191 (F := Ideal) x0 x1 x2 x4 x5 x6 x7 x8 x9 (ix3 g l k)
      = evenX1 (W x2 x4 x5 x6 x7 x8 x9) (row2 x1 g) (seq x0 g) l.val k := by
  rw [val_main_v191_apply, val_main_v190_apply, val_main_v189_apply, val_main_v8_apply, val_main_v2_apply, val_main_v188_apply]
  unfold evenX1 mixOut
  refine congrArg₂ (· + ·) (seq_apply x0 g l k).symm (congrArg₂ (· * ·)
    (congrArg x1 (i2 _ g ⟨1024 * (2 : Fin 6).val + k.val, by have := k.isLt; show 1024 * 2 + k.val < 6144; omega⟩ rfl rfl)) (Finset.sum_congr rfl fun c _ => ?_))
  rw [i3 (lidx_main_v188 _ c) g l c rfl rfl rfl, mix_apply x0 x1 x2 x4 x5 x6 x7 x8 x9, val_main_v187_apply,
    i3 (idx_main_v187 _) 0 c k rfl (by show (c.val * 1024 + k.val) / 1024 % 1024 = c.val; have := k.isLt; have := c.isLt; omega)
      (by show (c.val * 1024 + k.val) % 1024 = k.val; have := k.isLt; have := c.isLt; omega)]
  rfl

end Decoder.RefEven
-- ==== Proof.RefEvenFfn.lean ====
/-
  The even layer's reference program from the second norm to its output and its ConvFFN state.
-/
module

public import proofs.«01_k».proof.Proof.RefEvenMix

@[expose] public section

noncomputable section

open Idealize.ShloMosaic Idealize.ShloMosaic.ValueIdx

namespace Decoder.RefEven

open Cert.ReferenceIdeal Cert.ReferenceIdeal.Read
open Decoder.RefOdd (i2 i3 i4)

variable (x0 : Arr3 8 2048 1024) (x1 : Arr2 8 6144) (x2 x3 : Arr2 2 1024) (x4 : Arr3 1 1024 2048) (x5 : Arr4 1 4 128 128)
  (x6 : Arr2 1 512) (x7 : Arr3 1 3 512) (x8 : Arr2 1 512) (x9 : Arr3 1 1024 1024) (x10 : Arr3 2 1024 5632) (x11 : Arr3 2 3 5632)
  (x12 : Arr2 2 5632) (x13 : Arr3 2 2816 1024)

/-- The residual rows of a group after the mixer. -/
abbrev xm (g : Fin 8) : ℕ → Row 1024 := evenX1 (W x2 x4 x5 x6 x7 x8 x9) (row2 x1 g) (seq x0 g)

/-- The second normalised and modulated rows. -/
theorem h2_apply (g : Fin 8) (l : Fin 2048) (k : Fin 1024) :
    val_main_v212 (F := Ideal) x0 x1 x2 x3 x4 x5 x6 x7 x8 x9 (ix3 g l k)
      = adaln (xm x0 x1 x2 x4 x5 x6 x7 x8 x9 g l.val) (row2 x3 0) (part (row2 x1 g) 4) (part (row2 x1 g) 3) k := by
  simp only [val_main_v212_apply, val_main_v211_apply, val_main_v210_apply, val_main_v209_apply, val_main_v208_apply, val_main_v207_apply,
    val_main_cst_20_apply, val_main_v206_apply, val_main_v205_apply, val_main_v204_apply, val_main_v203_apply, val_main_v202_apply,
    val_main_v201_apply, val_main_v200_apply, val_main_v199_apply, val_main_cst_19_apply, val_main_v198_apply, val_main_v197_apply,
    val_main_cst_18_apply, val_main_v196_apply, val_main_v195_apply, val_main_cst_17_apply, val_main_v194_apply, val_main_v193_apply,
    val_main_v192_apply, val_main_v10_apply, val_main_v9_apply, val_main_v4_apply, val_main_v3_apply]
  simp only [fun y => i3 (idx_main_v195 (idx_main_v196 (idx_main_v202 (ix3 g l k))) y) g l y rfl rfl rfl, x1_apply]
  unfold adaln rms
  simp only [row2, part, Ideal.addf_def, Ideal.mulf_def, Ideal.hostDivf_def, Ideal.hostUnary_rsqrt_def, Ideal.ofBits_def, Ideal.ofBits_zero_f32, zero_add]
  rw [i2 (idx_main_v3 _) g ⟨1024 * (3 : Fin 6).val + k.val, by have := k.isLt; show 1024 * 3 + k.val < 6144; omega⟩ rfl rfl,
    i2 (idx_main_v4 _) g ⟨1024 * (4 : Fin 6).val + k.val, by have := k.isLt; show 1024 * 4 + k.val < 6144; omega⟩ rfl rfl,
    i2 (idx_main_v192 _) 0 k rfl (Nat.mod_eq_of_lt k.isLt)]

/-- The rows the ConvFFN convolves, -/
abbrev ur (g : Fin 8) : ℕ → Row 5632 := ffnUp (V x10 x11 x12 x13) (row2 x3 0) (row2 x1 g) (xm x0 x1 x2 x4 x5 x6 x7 x8 x9 g)

theorem up_apply (g : Fin 8) (l : Fin 2048) (k : Fin 5632) :
    val_main_v221 (F := Ideal) x0 x1 x2 x3 x4 x5 x6 x7 x8 x9 x10 (ix3 g l k) = ur x0 x1 x2 x3 x4 x5 x6 x7 x8 x9 x10 x11 x12 x13 g l.val k := by
  rw [val_main_v221_apply]
  unfold ur ffnUp lin
  refine Finset.sum_congr rfl fun c _ => ?_
  rw [i3 (lidx_main_v221 _ c) g l c rfl rfl rfl, h2_apply, val_main_v214_apply, val_main_v213_apply,
    i3 (idx_main_v213 _) 0 c k rfl (by show (c.val * 5632 + k.val) / 5632 % 1024 = c.val; have := k.isLt; have := c.isLt; omega)
      (by show (c.val * 5632 + k.val) % 5632 = k.val; have := k.isLt; have := c.isLt; omega)]
  rfl

/-- with two zero rows before them, -/
theorem ext (g : Fin 8) (p : Fin 2050) (k : Fin 5632) :
    val_main_v223 (F := Ideal) x0 x1 x2 x3 x4 x5 x6 x7 x8 x9 x10 (ix3 g p k) = hist (ur x0 x1 x2 x3 x4 x5 x6 x7 x8 x9 x10 x11 x12 x13 g) 0 2 p.val k :=
  ext_apply _ _ _ (fun i => by rw [val_main_v222_apply, val_main_cst_21_apply]; exact Ideal.ofBits_zero_f32) _
    (up_apply x0 x1 x2 x3 x4 x5 x6 x7 x8 x9 x10 x11 x12 x13) rfl g p k

/-- and the convolution of them. -/
theorem conv_apply (g : Fin 8) (l : Fin 2048) (k : Fin 5632) :
    val_main_v246 (F := Ideal) x0 x1 x2 x3 x4 x5 x6 x7 x8 x9 x10 x11 x12 (ix3 g l k)
      = conv (mat3 x11 0) (row2 x12 0) (ur x0 x1 x2 x3 x4 x5 x6 x7 x8 x9 x10 x11 x12 x13 g) l.val k := by
  have hl := l.isLt
  have hk := k.isLt
  simp only [val_main_v246_apply, val_main_v245_apply, val_main_v244_apply, val_main_v243_apply, val_main_v242_apply, val_main_v241_apply,
    val_main_v240_apply, val_main_v239_apply, val_main_v238_apply, val_main_v237_apply, val_main_v236_apply, val_main_v235_apply,
    val_main_v234_apply, val_main_v233_apply, val_main_v232_apply, val_main_v231_apply, val_main_v230_apply, val_main_v229_apply,
    val_main_v228_apply, val_main_v227_apply, val_main_v226_apply, val_main_v225_apply, val_main_v224_apply, val_main_v218_apply,
    val_main_v217_apply, val_main_v216_apply, val_main_v215_apply]
  rw [i3 (idx_main_v226 _) g ⟨2 - 2 + l.val, by omega⟩ k rfl (by show l.val = 2 - 2 + l.val; omega) rfl,
    i3 (idx_main_v235 _) g ⟨2 - 1 + l.val, by omega⟩ k rfl rfl rfl,
    i3 (idx_main_v242 _) g ⟨2 - 0 + l.val, by omega⟩ k rfl rfl rfl,
    ext x0 x1 x2 x3 x4 x5 x6 x7 x8 x9 x10 x11 x12 x13, ext x0 x1 x2 x3 x4 x5 x6 x7 x8 x9 x10 x11 x12 x13, ext x0 x1 x2 x3 x4 x5 x6 x7 x8 x9 x10 x11 x12 x13,
    hist_ext _ _ _ _ (by decide), hist_ext _ _ _ _ (by decide), hist_ext _ _ _ _ (by decide), hist_self]
  unfold conv
  refine congrArg₂ (· + ·) (congrArg₂ (· + ·) (congrArg₂ (· + ·) ?_ (congrArg (· * _) ?_)) (congrArg (· * _) ?_)) (congrArg (· * _) ?_)
  · exact congrArg x12 (i2 _ 0 k rfl (Nat.mod_eq_of_lt hk))
  · exact congrArg x11 (i3 _ 0 0 k rfl (by show (0 * 5632 + k.val % 5632) / 5632 % 3 = 0; omega) (by show (0 * 5632 + k.val % 5632) % 5632 = k.val; omega))
  · exact congrArg x11 (i3 _ 0 1 k rfl (by show ((1 + 0) * 5632 + k.val % 5632) / 5632 % 3 = 1; omega) (by show ((1 + 0) * 5632 + k.val % 5632) % 5632 = k.val; omega))
  · exact congrArg x11 (i3 _ 0 2 k rfl (by show ((2 + 0) * 5632 + k.val % 5632) / 5632 % 3 = 2; omega) (by show ((2 + 0) * 5632 + k.val % 5632) % 5632 = k.val; omega))

/-- The ConvFFN's activations. -/
theorem act_apply (g : Fin 8) (l : Fin 2048) (k : Fin 2816) :
    val_main_v263 (F := Ideal) x0 x1 x2 x3 x4 x5 x6 x7 x8 x9 x10 x11 x12 (ix3 g l k)
      = geglu (conv (mat3 x11 0) (row2 x12 0) (ur x0 x1 x2 x3 x4 x5 x6 x7 x8 x9 x10 x11 x12 x13 g) l.val) k := by
  unfold geglu
  rw [← gelu_ref]
  have e : ∀ k : Fin 2816, val_main_v248 (F := Ideal) x0 x1 x2 x3 x4 x5 x6 x7 x8 x9 x10 x11 x12 (ix3 g l k)
      = conv (mat3 x11 0) (row2 x12 0) (ur x0 x1 x2 x3 x4 x5 x6 x7 x8 x9 x10 x11 x12 x13 g) l.val ⟨k.val, by have := k.isLt; omega⟩ := fun k => by
    rw [val_main_v248_apply, i3 (idx_main_v248 _) g l ⟨k.val, by have := k.isLt; omega⟩ rfl rfl rfl, conv_apply x0 x1 x2 x3 x4 x5 x6 x7 x8 x9 x10 x11 x12 x13]
  simp only [val_main_v263_apply, val_main_v262_apply, val_main_v261_apply, val_main_v260_apply, val_main_cst_25_apply, val_main_v259_apply,
    val_main_v258_apply, val_main_cst_24_apply, val_main_v257_apply, val_main_v256_apply, val_main_v255_apply, val_main_cst_23_apply,
    val_main_v254_apply, val_main_v253_apply, val_main_v252_apply, val_main_cst_22_apply, val_main_v251_apply, val_main_v250_apply, e]
  rw [val_main_v249_apply, i3 (idx_main_v249 _) g l ⟨2816 + k.val, by have := k.isLt; omega⟩ rfl rfl rfl, conv_apply x0 x1 x2 x3 x4 x5 x6 x7 x8 x9 x10 x11 x12 x13]
  rfl

/-- The residual stream after the ConvFFN, -/
theorem out_apply (g : Fin 8) (l : Fin 2048) (k : Fin 1024) :
    val_main_v267 (F := Ideal) x0 x1 x2 x3 x4 x5 x6 x7 x8 x9 x10 x11 x12 x13 (ix3 g l k)
      = ffnOut (V x10 x11 x12 x13) (row2 x3 0) (row2 x1 g) (xm x0 x1 x2 x4 x5 x6 x7 x8 x9 g) l.val k := by
  rw [val_main_v267_apply, val_main_v266_apply, val_main_v265_apply, val_main_v11_apply, val_main_v5_apply, val_main_v264_apply, x1_apply]
  unfold ffnOut
  refine congrArg₂ (· + ·) rfl (congrArg₂ (· * ·)
    (congrArg x1 (i2 _ g ⟨1024 * (5 : Fin 6).val + k.val, by have := k.isLt; show 1024 * 5 + k.val < 6144; omega⟩ rfl rfl)) (Finset.sum_congr rfl fun c _ => ?_))
  rw [i3 (lidx_main_v264 _ c) g l c rfl rfl rfl, act_apply x0 x1 x2 x3 x4 x5 x6 x7 x8 x9 x10 x11 x12 x13, val_main_v220_apply, val_main_v219_apply,
    i3 (idx_main_v219 _) 0 c k rfl (by show (c.val * 1024 + k.val) / 1024 % 2816 = c.val; have := k.isLt; have := c.isLt; omega)
      (by show (c.val * 1024 + k.val) % 1024 = k.val; have := k.isLt; have := c.isLt; omega)]
  rfl

/-- and the second, the last eight convolved rows. -/
theorem st_apply (g : Fin 8) (r : Fin 8) (k : Fin 5632) :
    val_main_v247 (F := Ideal) x0 x1 x2 x3 x4 x5 x6 x7 x8 x9 x10 (ix3 g r k)
      = hist (ur x0 x1 x2 x3 x4 x5 x6 x7 x8 x9 x10 x11 x12 x13 g) 2048 8 r.val k := by
  rw [val_main_v247_apply, i3 (idx_main_v247 _) g ⟨2 + 2048 - 8 + r.val, by have := r.isLt; omega⟩ k rfl rfl rfl,
    ext x0 x1 x2 x3 x4 x5 x6 x7 x8 x9 x10 x11 x12 x13, hist_last _ _ _ _ (by decide) (by decide)]

end Decoder.RefEven
-- ==== Proof.EvenClaim.lean ====
/-
  The even layer's two programs end with the same four arrays: the kernel's launch and the reference each hold the mathematics' rows.
-/
module

public import proofs.«01_k».proof.Defs
public import proofs.«01_k».proof.Proof.EvenGrid
public import proofs.«01_k».proof.Proof.RefEvenFfn
public import proofs.«01_k».proof.Proof.Gen.KernelIdeal.Value
public import proofs.«01_k».proof.Proof.Gen.ReferenceIdeal.Run

@[expose] public section

set_option maxRecDepth 16384

noncomputable section

open Idealize.ShloMosaic hiding ix1 ix2 ix3 ix4
open Idealize.ShloMosaic.ValueIdx Idealize.ShloMosaic.TcCoe Idealize.SL.Sem

namespace Decoder.Even

open Cert.KernelIdeal Cert.KernelIdeal.Gen

variable (m : (ℓ : Loc nD τ sig) → Buf (Elt Ideal) ℓ) (c : Dev nD)

/-- The reference's output array over the kernel's arguments is the layer's output, -/
theorem ref_y : Cert.ReferenceIdeal.Read.val_main_v267 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) = y m c :=
  funext fun i => (congrArg _ (RefOdd.i3 i (i 0) (i 1) (i 2) rfl rfl rfl)).trans
    (RefEven.out_apply (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (i 0) (i 1) (i 2))

/-- its pooling state is the layer's, -/
theorem ref_pst : Cert.ReferenceIdeal.Read.val_main_v155 (F := Ideal) (m ((c : Thread nD τ).loc main_arg0)) (m ((c : Thread nD τ).loc main_arg1)) (m ((c : Thread nD τ).loc main_arg2))
    (m ((c : Thread nD τ).loc main_arg4)) = pst m c :=
  funext fun i => (congrArg _ (RefOdd.i3 i (i 0) (i 1) (i 2) rfl rfl rfl)).trans
    (RefEven.pst_apply (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (i 0) (i 1) (i 2))

/-- its short convolution's state is the layer's, -/
theorem ref_zst : Cert.ReferenceIdeal.Read.val_main_v184 (F := Ideal) (m ((c : Thread nD τ).loc main_arg0)) (m ((c : Thread nD τ).loc main_arg1)) (m ((c : Thread nD τ).loc main_arg2))
    (m ((c : Thread nD τ).loc main_arg4)) = zst m c :=
  funext fun i => (congrArg _ (RefOdd.i3 i (i 0) (i 1) (i 2) rfl rfl rfl)).trans
    (RefEven.zst_apply (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (i 0) (i 1) (i 2))

/-- and so is its ConvFFN state. -/
theorem ref_fst : Cert.ReferenceIdeal.Read.val_main_v247 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) = fst m c :=
  funext fun i => (congrArg _ (RefOdd.i3 i (i 0) (i 1) (i 2) rfl rfl rfl)).trans
    (RefEven.st_apply (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (i 0) (i 1) (i 2))

/-- The even layer's kernel over the extended reals ends with what its reference ends with. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => y m c, fun c => pst m c, fun c => zst m c, fun c => fst m c, ?_, ?_⟩
  · refine (θ_run _ _ _).mono (fun r h c => ?_) (Cert.KernelIdeal.Value.run_blocks m g)
    obtain ⟨h17, h18, h19, h20, hk⟩ := h c
    exact ⟨h17.trans (final_y m c), h18.trans (final_pst m c), h19.trans (final_zst m c), h20.trans (final_fst m c), hk⟩
  · refine (θ_run _ _ _).mono (fun r h c => ?_) (Cert.ReferenceIdeal.Value.run (F := Ideal) m' g')
    obtain ⟨hy, hp, hz, hf, hk⟩ := h c
    obtain ⟨a0, a1, a2, a3, a4, a5, a6, a7, a8, a9, a10, a11, a12, a13⟩ := hargs c
    refine ⟨hy.trans ((Cert.ReferenceIdeal.Read.val_main_v267_eq _).trans (Eq.trans ?_ (ref_y m c))),
      hp.trans ((Cert.ReferenceIdeal.Read.val_main_v155_eq _).trans (Eq.trans ?_ (ref_pst m c))),
      hz.trans ((Cert.ReferenceIdeal.Read.val_main_v184_eq _).trans (Eq.trans ?_ (ref_zst m c))),
      hf.trans ((Cert.ReferenceIdeal.Read.val_main_v247_eq _).trans (Eq.trans ?_ (ref_fst m c))), hk⟩
    · rw [← a0, ← a1, ← a2, ← a3, ← a4, ← a5, ← a6, ← a7, ← a8, ← a9, ← a10, ← a11, ← a12, ← a13]
    · rw [← a0, ← a1, ← a2, ← a4]
    · rw [← a0, ← a1, ← a2, ← a4]
    · rw [← a0, ← a1, ← a2, ← a3, ← a4, ← a5, ← a6, ← a7, ← a8, ← a9, ← a10]

end Decoder.Even
-- ==== Proof.OddMix.lean ====
/-
  The spatial gating of one chunk of 128 positions and one head: the masked matrix, its product with the chunk's value rows,
  the bias, and the product with the gate rows.
-/
module

public import proofs.«01_k».proof.Proof.FfnChunk
public import Idealize.ShloMosaic.Lib.WordCmp

@[expose] public section

noncomputable section

open Idealize.ShloMosaic Idealize.ShloMosaic.ValueIdx Idealize.ShloMosaic.View

namespace Decoder

section

variable {sig : RefSig} {κ : Kind} {sp : Space}

/-- A head's mixing matrix with its entries above the diagonal replaced by zero. -/
theorem masked (m : Memref sig κ sp ⟨3, ![8, 128, 128]⟩ .f32) (hm : m.IsWhole) {X : (⟨3, ![8, 128, 128]⟩ : Shape).Idx → EReal} {ws : Fin 8 → Fin 128 → Row 128}
    (hX : ∀ h i s, X (ix3 h i s) = ws h i s) {o : ℕ} (ho : o < 8)
    (inb : ∀ d, (![o, 0, 0] : Fin 3 → ℕ) d + (![1, 128, 128] : Fin 3 → ℕ) d ≤ (⟨3, ![8, 128, 128]⟩ : Shape).size d)
    (hc : (⟨3, ![1, 128, 128]⟩ : Shape).ShapeCasts ⟨2, ![128, 128]⟩) (h0 h1) (hb : FTy.bits .bf16 < FTy.bits .f32) (i s : Fin 128) :
    truncf (F := Ideal) (φ := .f32) .bf16 (select (cmpi .sge (iota κ ⟨2, ![128, 128]⟩ 32 [0] h0) (iota κ ⟨2, ![128, 128]⟩ 32 [1] h1))
      (shapeCast ⟨2, ![128, 128]⟩ (View.readAt (Elt Ideal) m.view (Rect.unit (s := ⟨3, ![8, 128, 128]⟩) ![o, 0, 0] ![1, 128, 128] inb).toLoadRect (hm.unread X)) hc)
      (broadcast ⟨2, ![128, 128]⟩ (FloatOps.ofBits (F := Ideal) .f32 0x00000000#32))) hb (ix2 i s)
      = if s.val ≤ i.val then ws ⟨o, ho⟩ i s else 0 := by
  show Scalar.select (IntOp.cmpi .sge (BitVec.ofNat 32 _) (BitVec.ofNat 32 _)) _ (Ideal.ofBits .f32 0x00000000#32) = _
  have hi := i.isLt
  have hs := s.isLt
  simp only [List.foldl_cons, List.foldl_nil, Nat.zero_mul, Nat.zero_add]
  show Scalar.select (IntOp.cmpi .sge (BitVec.ofNat 32 i.val) (BitVec.ofNat 32 s.val)) _ (Ideal.ofBits .f32 0x00000000#32) = _
  rw [Ideal.ofBits_zero_f32]
  unfold Scalar.select
  refine if_congr (WordCmp.cmpi_sge_ofNat_eq_one_iff (w := 32) (a := i.val) (b := s.val) (by omega) (by omega)) ?_ rfl
  refine (cast_drop _ hc i s).trans ((load3 m hm X inb 0 i s ⟨o, ho⟩ i s (by simp) (by simp) (by simp)).trans (hX _ i s))

/-- A head's columns of the bias. -/
theorem bias {co : ℕ} (hw : co + 128 ≤ 1024) (m : Memref sig κ sp ⟨2, ![128, 1024]⟩ .f32) (hm : m.IsWhole) {X : Mat 128 1024} {bs : Fin 128 → Row 1024}
    (hX : ∀ t k, X (ix2 t k) = bs t k) (inb : ∀ d, (![0, co] : Fin 2 → ℕ) d + (![128, 128] : Fin 2 → ℕ) d ≤ (⟨2, ![128, 1024]⟩ : Shape).size d)
    (hc : (⟨2, ![128, 128]⟩ : Shape).ShapeCasts ⟨2, ![128, 128]⟩) (t c : Fin 128) :
    shapeCast ⟨2, ![128, 128]⟩ (View.readAt (Elt Ideal) m.view (Rect.unit (s := ⟨2, ![128, 1024]⟩) ![0, co] ![128, 128] inb).toLoadRect (hm.unread X)) hc (ix2 t c)
      = bs t ⟨co + c.val, by have := c.isLt; omega⟩ :=
  Is.cast (w := fun t c => bs t ⟨co + c.val, by have := c.isLt; omega⟩)
    (fun t c => (load2 m hm X inb t c t ⟨co + c.val, by have := c.isLt; omega⟩ (by simp) rfl).trans (hX _ _)) hc t c

variable {n ro co : ℕ} {W : OddW} {md : Row 6144} {x : ℕ → Row 1024}

/-- One head and chunk of the mixer's rows. -/
theorem mix_tile (hco : 128 ∣ co) (hro : 128 ∣ ro) (hr : ro + 128 ≤ 512) (hn : 128 ∣ n) (hw : co + 128 ≤ 1024)
    {M Bt : Mat 128 128} (hM : ∀ i s, M (ix2 i s) = if s.val ≤ i.val then W.ws ⟨co / 128, by omega⟩ i s else 0)
    (hB : ∀ t c, Bt (ix2 t c) = W.bs t ⟨co + c.val, by have := c.isLt; omega⟩)
    {LU LV : List (Piece (Elt Ideal) ⟨2, ![512, 1024]⟩ .f32)} (vu vv : View sig κ sp ⟨2, ![512, 1024]⟩ .f32)
    (hU : ∀ r c, View.canon LU (ix2 r c) = oddU W md x (n + r.val) c) (hV : ∀ r c, View.canon LV (ix2 r c) = oddV W md x (n + r.val) c)
    (inb inb' : ∀ d, (![ro, co] : Fin 2 → ℕ) d + (![128, 128] : Fin 2 → ℕ) d ≤ (⟨2, ![512, 1024]⟩ : Shape).size d)
    (D : DotDims ⟨2, ![128, 128]⟩ ⟨2, ![128, 128]⟩ ⟨2, ![128, 128]⟩) (hD : D = DotDims.plain 128 128 128) (p : Option ContractPrecision) (hb hb' hc) :
    Rows (shapeCast ⟨2, ![128, 128]⟩ (truncf (F := Ideal) (φ := .f32) .bf16 (mulf (F := Ideal) (φ := .f32)
      (vu.readCov LU (Rect.unit (s := ⟨2, ![512, 1024]⟩) ![ro, co] ![128, 128] inb).toLoadRect)
      (addf (F := Ideal) (φ := .f32) (matmul (F := Ideal) (φ₁ := .bf16) (φ₂ := .bf16) D p M
        (truncf (F := Ideal) (φ := .f32) .bf16 (vv.readCov LV (Rect.unit (s := ⟨2, ![512, 1024]⟩) ![ro, co] ![128, 128] inb').toLoadRect) hb)
        (constant (F := Ideal) ⟨2, ![128, 128]⟩ .f32 0x00000000#32)) Bt)) hb') hc)
      (fun l => cols co 128 hw (oddMix W md x l)) (n + ro) := by
  refine Rows.cast (fun t c => ?_) hc
  have ht := t.isLt
  have hcl := c.isLt
  show vu.readCov LU (Rect.unit (s := ⟨2, ![512, 1024]⟩) ![ro, co] ![128, 128] inb).toLoadRect (ix2 t c) * (matmul (F := Ideal) (φ₁ := .bf16) (φ₂ := .bf16) D p M _ _ (ix2 t c) + Bt (ix2 t c)) = _
  have em : (n + ro + t.val) % 128 = t.val := by omega
  have ed : (n + ro + t.val) / 128 * 128 = n + ro := by omega
  have ek : (⟨(co + c.val) / 128, by omega⟩ : Fin 8) = ⟨co / 128, by omega⟩ := Fin.ext (by show (co + c.val) / 128 = co / 128; omega)
  have et : (⟨(n + ro + t.val) % 128, Nat.mod_lt _ (by decide)⟩ : Fin 128) = t := Fin.ext em
  rw [matmul_at _ _ D hD p t c, readCov2 vu LU inb t c (⟨ro + t.val, by omega⟩ : Fin 512) (⟨co + c.val, by omega⟩ : Fin 1024) rfl rfl, hU, hB]
  show _ = oddU W md x (n + ro + t.val) _ * oddZ W (oddV W md x) (n + ro + t.val) ⟨co + c.val, by omega⟩
  rw [Nat.add_assoc n ro t.val]
  refine congrArg (oddU W md x (n + (ro + t.val)) _ * ·) ?_
  rw [← Nat.add_assoc n ro t.val]
  unfold oddZ
  dsimp only
  rw [ek, et, ed]
  refine congrArg (· + W.bs t ⟨co + c.val, by omega⟩) (Finset.sum_congr rfl fun s _ => ?_)
  have hs := s.isLt
  rw [hM, em]
  refine congrArg ((if s.val ≤ t.val then W.ws ⟨co / 128, by omega⟩ t s else 0 : EReal) * ·) ?_
  refine (readCov2 vv LV inb' s c (⟨ro + s.val, by omega⟩ : Fin 512) (⟨co + c.val, by omega⟩ : Fin 1024) rfl rfl).trans ?_
  rw [hV, Nat.add_assoc]

end

end Decoder
-- ==== Proof.OddBlock.lean ====
/-
  The odd layer's body on one block of 512 rows: what each of its buffers holds, from what its windows hold.
-/
module

public import proofs.«01_k».proof.Proof.OddMix
public import proofs.«01_k».proof.Proof.Gen.Kernel2Ideal.Value

@[expose] public section

set_option maxRecDepth 16384

noncomputable section

open Idealize.ShloMosaic Idealize.ShloMosaic.ValueIdx Idealize.ShloMosaic.View Idealize.ShloMosaic.TcCoe
open Cert.Kernel2Ideal Cert.Kernel2Ideal.Gen

namespace Decoder.Odd

/-- The windows of one grid point hold the layer's arrays and the input's rows from `n` on. -/
structure Blk (W : OddW) (Fw : FfnW) (nf nfin : Row 1024) (md : Row 6144) (x : ℕ → Row 1024) (n : ℕ)
    (x0 : Vec Ideal S1x512x1024 .f32) (x1 : Vec Ideal S1x1x6144 .f32) (x2 : Vec Ideal S1x8x5632 .f32) (x3 : Vec Ideal S1x1024 .f32) (x4 : Vec Ideal S1x1024 .f32) (x5 : Vec Ideal S1024x2048 .bf16) (x6 : Vec Ideal S1x1024 .f32) (x7 : Vec Ideal S8x128x128 .f32) (x8 : Vec Ideal S128x1024 .f32) (x9 : Vec Ideal S1024x1024 .bf16) (x10 : Vec Ideal S1024x5632 .bf16) (x11 : Vec Ideal S3x5632 .f32) (x12 : Vec Ideal S1x5632 .f32) (x13 : Vec Ideal S2816x1024 .bf16) (x14 : Vec Ideal S1x1024 .f32) : Prop where
  hx : ∀ r c, x0 (ix3 0 r c) = x (n + r.val) c
  hmd : ∀ k, x1 (ix3 0 0 k) = md k
  hnm : One (C := 1024) x3 W.nm
  hnf : One (C := 1024) x4 nf
  huv : Is (K := 1024) (N := 2048) x5 W.uv
  hgv : One (C := 1024) x6 W.gv
  hws : ∀ h i s, x7 (ix3 h i s) = W.ws h i s
  hbs : ∀ t k, x8 (ix2 t k) = W.bs t k
  hout : Is (K := 1024) (N := 1024) x9 W.out
  hup : Is (K := 1024) (N := 5632) x10 Fw.up
  hcw : ∀ t k, x11 (ix2 t k) = Fw.cw t k
  hcb : One (C := 5632) x12 Fw.cb
  hdown : Is (K := 2816) (N := 1024) x13 Fw.down
  hnfin : One (C := 1024) x14 nfin
  hn : 128 ∣ n

variable {W : OddW} {Fw : FfnW} {nf nfin : Row 1024} {md : Row 6144} {x : ℕ → Row 1024} {n : ℕ}
variable (c : Dev nD) (arg2 : Memref sig .tc .vmem S1x512x1024 .f32) (harg2 : arg2.IsWhole) (arg3 : Memref sig .tc .vmem S1x1x6144 .f32) (harg3 : arg3.IsWhole) (arg4 : Memref sig .tc .vmem S1x8x5632 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S1024x1024 .bf16) (harg11 : arg11.IsWhole) (arg12 : Memref sig .tc .vmem S1024x5632 .bf16) (harg12 : arg12.IsWhole) (arg13 : Memref sig .tc .vmem S3x5632 .f32) (harg13 : arg13.IsWhole) (arg14 : Memref sig .tc .vmem S1x5632 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x8x5632 .f32) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S520x256 .f32) (harg22 : arg22.IsWhole) (arg23 : Memref sig .tc .vmem S520x256 .f32) (harg23 : arg23.IsWhole) (arg24 : Memref sig .tc .vmem S512x2816 .bf16) (harg24 : arg24.IsWhole) (arg25 : Memref sig .tc .vmem S512x1024 .f32) (harg25 : arg25.IsWhole) (arg26 : Memref sig .tc .vmem S512x1024 .f32) (harg26 : arg26.IsWhole)
variable {x0 : Vec Ideal S1x512x1024 .f32} {x1 : Vec Ideal S1x1x6144 .f32} {x2 : Vec Ideal S1x8x5632 .f32} {x3 : Vec Ideal S1x1024 .f32} {x4 : Vec Ideal S1x1024 .f32} {x5 : Vec Ideal S1024x2048 .bf16} {x6 : Vec Ideal S1x1024 .f32} {x7 : Vec Ideal S8x128x128 .f32} {x8 : Vec Ideal S128x1024 .f32} {x9 : Vec Ideal S1024x1024 .bf16} {x10 : Vec Ideal S1024x5632 .bf16} {x11 : Vec Ideal S3x5632 .f32} {x12 : Vec Ideal S1x5632 .f32} {x13 : Vec Ideal S2816x1024 .bf16} {x14 : Vec Ideal S1x1024 .f32} {xo16 : Vec Ideal S1x8x5632 .f32}
variable (H : Blk W Fw nf nfin md x n x0 x1 x2 x3 x4 x5 x6 x7 x8 x9 x10 x11 x12 x13 x14)
include H

/-- The rows the mixer's projection reads. -/
theorem h_rows : Rows (R := 512) (C := 1024) (kernelRun0_B.sl.v37 (F := Ideal) c arg2 harg2 arg3 harg3 arg5 harg5 arg19 x0 x1 x3) (fun l => adaln (x l) W.nm (part md 1) (part md 0)) n :=
  Rows.whole16 (Rows.cast (Rows.trunc (Rows.affine (Rows.rms (in_rows arg2 harg2 H.hx _ _) (row_all arg5 harg5 H.hnm _ _) _ _ _ _ _ _)
    (mod_part arg3 harg3 H.hmd 1 rfl _ _ _) (mod_part arg3 harg3 H.hmd 0 rfl _ _ _) _ _) _) _) [] _ _ _

/-- The gate rows, as their buffer holds them, -/
theorem u_rows (r : Fin 512) (k : Fin 1024) : View.canon (s := ⟨2, ![512, 1024]⟩) (e := .f32) (kernelRun0_B.sl.HS6_1 (F := Ideal) c arg2 harg2 arg3 harg3 arg5 harg5 arg7 harg7 arg19 x0 x1 x3 x5) (ix2 r k) = oddU W md x (n + r.val) k := by
  refine (canon_whole _ [] _ _).trans ((Rows.cast (Rows.gelu (up_tile (N := 2048) (o := 0) (by decide)
    (h_rows c arg2 harg2 arg3 harg3 arg5 harg5 arg19 H) arg7 harg7 H.huv _ _ _ rfl _) _ rfl) _ r k).trans ?_)
  unfold oddU cols
  simp only [Nat.zero_add]

/-- and the value rows. -/
theorem v_rows (r : Fin 512) (k : Fin 1024) : View.canon (s := ⟨2, ![512, 1024]⟩) (e := .f32) (kernelRun0_B.sl.HS7_1 (F := Ideal) c arg2 harg2 arg3 harg3 arg5 harg5 arg7 harg7 arg8 harg8 arg19 x0 x1 x3 x5 x6) (ix2 r k) = oddV W md x (n + r.val) k :=
  (canon_whole _ [] _ _).trans (Rows.cast (Rows.rms (Rows.gelu (up_tile (N := 2048) (o := 1024) (by decide)
    (h_rows c arg2 harg2 arg3 harg3 arg5 harg5 arg19 H) arg7 harg7 H.huv _ _ _ rfl _) _ rfl) (row_all arg8 harg8 H.hgv _ _) _ _ (.inl rfl) rfl _ _) _ r k)

/-- The mixer's rows: every piece of its buffer, a head and a chunk of positions, -/
theorem mix_pieces : ∀ p ∈ (kernelRun0_B.sl.HS2_32 (F := Ideal) c arg2 harg2 arg3 harg3 arg5 harg5 arg7 harg7 arg8 harg8 arg9 harg9 arg10 harg10 arg19 arg25 arg26 x0 x1 x3 x5 x6 x7 x8), TileOk (A := 512) (N := 1024) (oddMix W md x) n p := by
  have hU := u_rows c arg2 harg2 arg3 harg3 arg5 harg5 arg7 harg7 arg19 H
  have hV := v_rows c arg2 harg2 arg3 harg3 arg5 harg5 arg7 harg7 arg8 harg8 arg19 H
  repeat' first
    | exact List.forall_mem_nil _
    | refine List.forall_mem_cons.2 ⟨tile_ok (by decide) (mix_tile (by decide) (by decide) (by decide) H.hn (by decide) (masked arg9 harg9 H.hws (by decide) _ _ _ _ _)
        (bias (by decide) arg10 harg10 H.hbs _ _) arg25.view arg26.view hU hV _ _ _ rfl _ _ _ _), ?_⟩

/-- and the whole of it. -/
theorem mix_rows (v : View sig .tc .vmem ⟨2, ![512, 1024]⟩ .bf16) (inb) :
    Rows (v.readCov (kernelRun0_B.sl.HS2_32 (F := Ideal) c arg2 harg2 arg3 harg3 arg5 harg5 arg7 harg7 arg8 harg8 arg9 harg9 arg10 harg10 arg19 arg25 arg26 x0 x1 x3 x5 x6 x7 x8) (Rect.unit (s := ⟨2, ![512, 1024]⟩) ![0, 0] ![512, 1024] inb).toLoadRect) (oddMix W md x) n :=
  tiles_read _ v (mix_pieces c arg2 harg2 arg3 harg3 arg5 harg5 arg7 harg7 arg8 harg8 arg9 harg9 arg10 harg10 arg19 arg25 arg26 H)
    (fun y => View.cover_of_tiledL _ ![128, 128] (by sl_kernel_rfl) y) inb

/-- The residual stream after the mixer, -/
theorem x1_rows : Rows (R := 512) (C := 1024) (kernelRun0_B.sl.v530 (F := Ideal) c arg2 harg2 arg3 harg3 arg5 harg5 arg7 harg7 arg8 harg8 arg9 harg9 arg10 harg10 arg11 harg11 arg19 arg21 arg25 arg26 x0 x1 x3 x5 x6 x7 x8 x9) (oddX1 W md x) n :=
  Rows.resid (in_rows arg2 harg2 H.hx _ _) (Rows.lin (mix_rows c arg2 harg2 arg3 harg3 arg5 harg5 arg7 harg7 arg8 harg8 arg9 harg9 arg10 harg10 arg19 arg25 arg26 H arg21.view _)
    (mat_all arg11 harg11 H.hout _ _) _ rfl _) (mod_part arg3 harg3 H.hmd 2 rfl _ _ _) _

/-- and the rows the ConvFFN's up projection reads. -/
theorem h2_rows : Rows (R := 512) (C := 1024) (kernelRun0_B.sl.v558 (F := Ideal) c arg2 harg2 arg3 harg3 arg5 harg5 arg6 harg6 arg7 harg7 arg8 harg8 arg9 harg9 arg10 harg10 arg11 harg11 arg19 arg21 arg25 arg26 x0 x1 x3 x4 x5 x6 x7 x8 x9) (fun l => adaln (oddX1 W md x l) nf (part md 4) (part md 3)) n :=
  Rows.whole16 (Rows.cast (Rows.trunc (Rows.affine (Rows.rms (x1_rows c arg2 harg2 arg3 harg3 arg5 harg5 arg7 harg7 arg8 harg8 arg9 harg9 arg10 harg10 arg11 harg11 arg19 arg21 arg25 arg26 H)
    (row_all arg6 harg6 H.hnf _ _) _ _ _ _ _ _)
    (mod_part arg3 harg3 H.hmd 4 rfl _ _ _) (mod_part arg3 harg3 H.hmd 3 rfl _ _ _) _ _) _) _) _ _ _ _

end Decoder.Odd
-- ==== Proof.OddNext.lean ====
/-
  The odd layer's body on a block that continues one: the gated rows, the result's block and the state's block.
-/
module

public import proofs.«01_k».proof.Proof.OddBlock

@[expose] public section

set_option maxRecDepth 16384

noncomputable section

open Idealize.ShloMosaic Idealize.ShloMosaic.ValueIdx Idealize.ShloMosaic.View Idealize.ShloMosaic.TcCoe
open Cert.Kernel2Ideal Cert.Kernel2Ideal.Gen

namespace Decoder.Odd

variable {W : OddW} {Fw : FfnW} {nf nfin : Row 1024} {md : Row 6144} {x : ℕ → Row 1024} {n : ℕ}
variable (c : Dev nD) (arg2 : Memref sig .tc .vmem S1x512x1024 .f32) (harg2 : arg2.IsWhole) (arg3 : Memref sig .tc .vmem S1x1x6144 .f32) (harg3 : arg3.IsWhole) (arg4 : Memref sig .tc .vmem S1x8x5632 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S1024x1024 .bf16) (harg11 : arg11.IsWhole) (arg12 : Memref sig .tc .vmem S1024x5632 .bf16) (harg12 : arg12.IsWhole) (arg13 : Memref sig .tc .vmem S3x5632 .f32) (harg13 : arg13.IsWhole) (arg14 : Memref sig .tc .vmem S1x5632 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x8x5632 .f32) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S520x256 .f32) (harg22 : arg22.IsWhole) (arg23 : Memref sig .tc .vmem S520x256 .f32) (harg23 : arg23.IsWhole) (arg24 : Memref sig .tc .vmem S512x2816 .bf16) (harg24 : arg24.IsWhole) (arg25 : Memref sig .tc .vmem S512x1024 .f32) (harg25 : arg25.IsWhole) (arg26 : Memref sig .tc .vmem S512x1024 .f32) (harg26 : arg26.IsWhole)
variable {x0 : Vec Ideal S1x512x1024 .f32} {x1 : Vec Ideal S1x1x6144 .f32} {x2 : Vec Ideal S1x8x5632 .f32} {x3 : Vec Ideal S1x1024 .f32} {x4 : Vec Ideal S1x1024 .f32} {x5 : Vec Ideal S1024x2048 .bf16} {x6 : Vec Ideal S1x1024 .f32} {x7 : Vec Ideal S8x128x128 .f32} {x8 : Vec Ideal S128x1024 .f32} {x9 : Vec Ideal S1024x1024 .bf16} {x10 : Vec Ideal S1024x5632 .bf16} {x11 : Vec Ideal S3x5632 .f32} {x12 : Vec Ideal S1x5632 .f32} {x13 : Vec Ideal S2816x1024 .bf16} {x14 : Vec Ideal S1x1024 .f32} {xo16 : Vec Ideal S1x8x5632 .f32}
variable (H : Blk W Fw nf nfin md x n x0 x1 x2 x3 x4 x5 x6 x7 x8 x9 x10 x11 x12 x13 x14)
include H

/-- The rows the up projection reads, over the whole sequence. -/
abbrev s2 (W : OddW) (nf : Row 1024) (md : Row 6144) (x : ℕ → Row 1024) : ℕ → Row 1024 := fun l => adaln (oddX1 W md x l) nf (part md 4) (part md 3)

/-- The gated rows: every piece of their buffer, a chunk of 256 columns, -/
theorem act_pieces (hS : ∀ r k, xo16 (ix3 0 r k) = hist (ups Fw (s2 W nf md x)) n 8 r.val k) : ∀ p ∈ (kernelRun0_B.sl.HS5_11 (F := Ideal) c arg2 harg2 arg3 harg3 arg5 harg5 arg6 harg6 arg7 harg7 arg8 harg8 arg9 harg9 arg10 harg10 arg11 harg11 arg12 harg12 arg13 harg13 arg14 harg14 arg18 harg18 arg19 arg21 arg22 arg23 arg25 arg26 x0 x1 x3 x4 x5 x6 x7 x8 x9 x10 x11 x12 xo16), TileOk (A := 512) (N := 2816) (fun l => geglu (conv Fw.cw Fw.cb (ups Fw (s2 W nf md x)) l)) n p := by
  have hh := (h2_rows c arg2 harg2 arg3 harg3 arg5 harg5 arg6 harg6 arg7 harg7 arg8 harg8 arg9 harg9 arg10 harg10 arg11 harg11 arg19 arg21 arg25 arg26 H)
  repeat' first
    | exact List.forall_mem_nil _
    | refine List.forall_mem_cons.2 ⟨tile_ok (by decide) (act_tile (by decide) (conv_chunk (by decide) hh arg12 harg12 H.hup arg13 harg13 H.hcw arg14 harg14 H.hcb (state_kept (by decide) arg18 harg18 hS _ _ _) _ _ _ _ _ _ _ _ _ _ _ _ _ _ _ _ _ _ _ _ _ _ _ rfl _)
        (conv_chunk (by decide) hh arg12 harg12 H.hup arg13 harg13 H.hcw arg14 harg14 H.hcb (state_kept (by decide) arg18 harg18 hS _ _ _) _ _ _ _ _ _ _ _ _ _ _ _ _ _ _ _ _ _ _ _ _ _ _ rfl _) _ rfl _ _), ?_⟩

/-- and the whole of them. -/
theorem act_rows (hS : ∀ r k, xo16 (ix3 0 r k) = hist (ups Fw (s2 W nf md x)) n 8 r.val k) (v : View sig .tc .vmem ⟨2, ![512, 2816]⟩ .bf16) (inb) :
    Rows (v.readCov (kernelRun0_B.sl.HS5_11 (F := Ideal) c arg2 harg2 arg3 harg3 arg5 harg5 arg6 harg6 arg7 harg7 arg8 harg8 arg9 harg9 arg10 harg10 arg11 harg11 arg12 harg12 arg13 harg13 arg14 harg14 arg18 harg18 arg19 arg21 arg22 arg23 arg25 arg26 x0 x1 x3 x4 x5 x6 x7 x8 x9 x10 x11 x12 xo16) (Rect.unit (s := ⟨2, ![512, 2816]⟩) ![0, 0] ![512, 2816] inb).toLoadRect)
      (fun l => geglu (conv Fw.cw Fw.cb (ups Fw (s2 W nf md x)) l)) n :=
  tiles_read _ v (act_pieces c arg2 harg2 arg3 harg3 arg5 harg5 arg6 harg6 arg7 harg7 arg8 harg8 arg9 harg9 arg10 harg10 arg11 harg11 arg12 harg12 arg13 harg13 arg14 harg14 arg18 harg18 arg19 arg21 arg22 arg23 arg25 arg26 H hS) (fun y => View.cover_of_tiledL _ ![512, 256] (by sl_kernel_rfl) y) inb

/-- The block of the result. -/
theorem y_block (i : grid0.Coords) (hc0 : ¬cond0_0 i) (hS : ∀ r k, xo16 (ix3 0 r k) = hist (ups Fw (s2 W nf md x)) n 8 r.val k) (r : Fin 512) (k : Fin 1024) :
    View.canon (s := ⟨3, ![1, 512, 1024]⟩) (e := .f32) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 xo16).1 (ix3 0 r k) = rms (ffnOut Fw nf md (oddX1 W md x) (n + r.val)) nfin k :=
  (out_whole _ [] _ _ r k).trans (Rows.rms (Rows.resid (Rows.whole32 (Rows.cast (x1_rows c arg2 harg2 arg3 harg3 arg5 harg5 arg7 harg7 arg8 harg8 arg9 harg9 arg10 harg10 arg11 harg11 arg19 arg21 arg25 arg26 H) _) [] _ _ _)
    (Rows.lin (act_rows c arg2 harg2 arg3 harg3 arg5 harg5 arg6 harg6 arg7 harg7 arg8 harg8 arg9 harg9 arg10 harg10 arg11 harg11 arg12 harg12 arg13 harg13 arg14 harg14 arg18 harg18 arg19 arg21 arg22 arg23 arg25 arg26 H hS arg24.view _) (mat_all arg15 harg15 H.hdown _ _) _ rfl _) (mod_part arg3 harg3 H.hmd 5 rfl _ _ _) _)
    (row_all arg16 harg16 H.hnfin _ _) _ _ (.inl rfl) rfl _ _ r k)

/-- The block of the state. -/
theorem f_block (i : grid0.Coords) (hc0 : ¬cond0_0 i) (hS : ∀ r k, xo16 (ix3 0 r k) = hist (ups Fw (s2 W nf md x)) n 8 r.val k) (r : Fin 8) (k : Fin 5632) :
    View.canon (s := ⟨3, ![1, 8, 5632]⟩) (e := .f32) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 xo16).2.1 (ix3 0 r k) = hist (ups Fw (s2 W nf md x)) (n + 512) 8 r.val k := by
  have hh := (h2_rows c arg2 harg2 arg3 harg3 arg5 harg5 arg6 harg6 arg7 harg7 arg8 harg8 arg9 harg9 arg10 harg10 arg11 harg11 arg19 arg21 arg25 arg26 H)
  refine foots _ ?_ (fun y => View.cover_of_tiledL _ ![1, 8, 256] (by sl_kernel_rfl) y) r k
  repeat' first
    | exact List.forall_mem_nil _
    | refine List.forall_mem_cons.2 ⟨foot_ok rfl (by decide) ((up_tile (by decide) hh arg12 harg12 H.hup _ _ _ rfl _).cast _) (state_kept (by decide) arg18 harg18 hS _ _ _) _ _ _ _ _, ?_⟩

end Decoder.Odd
-- ==== Proof.OddFirst.lean ====
/-
  The same on the first block of a group, where the state starts from the rows given to the kernel.
-/
module

public import proofs.«01_k».proof.Proof.OddNext

@[expose] public section

set_option maxRecDepth 16384

noncomputable section

open Idealize.ShloMosaic Idealize.ShloMosaic.ValueIdx Idealize.ShloMosaic.View Idealize.ShloMosaic.TcCoe
open Cert.Kernel2Ideal Cert.Kernel2Ideal.Gen

namespace Decoder.Odd
namespace First

variable {W : OddW} {Fw : FfnW} {nf nfin : Row 1024} {md : Row 6144} {x : ℕ → Row 1024} {n : ℕ}
variable (c : Dev nD) (arg2 : Memref sig .tc .vmem S1x512x1024 .f32) (harg2 : arg2.IsWhole) (arg3 : Memref sig .tc .vmem S1x1x6144 .f32) (harg3 : arg3.IsWhole) (arg4 : Memref sig .tc .vmem S1x8x5632 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S1024x1024 .bf16) (harg11 : arg11.IsWhole) (arg12 : Memref sig .tc .vmem S1024x5632 .bf16) (harg12 : arg12.IsWhole) (arg13 : Memref sig .tc .vmem S3x5632 .f32) (harg13 : arg13.IsWhole) (arg14 : Memref sig .tc .vmem S1x5632 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x8x5632 .f32) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S520x256 .f32) (harg22 : arg22.IsWhole) (arg23 : Memref sig .tc .vmem S520x256 .f32) (harg23 : arg23.IsWhole) (arg24 : Memref sig .tc .vmem S512x2816 .bf16) (harg24 : arg24.IsWhole) (arg25 : Memref sig .tc .vmem S512x1024 .f32) (harg25 : arg25.IsWhole) (arg26 : Memref sig .tc .vmem S512x1024 .f32) (harg26 : arg26.IsWhole)
variable {x0 : Vec Ideal S1x512x1024 .f32} {x1 : Vec Ideal S1x1x6144 .f32} {x2 : Vec Ideal S1x8x5632 .f32} {x3 : Vec Ideal S1x1024 .f32} {x4 : Vec Ideal S1x1024 .f32} {x5 : Vec Ideal S1024x2048 .bf16} {x6 : Vec Ideal S1x1024 .f32} {x7 : Vec Ideal S8x128x128 .f32} {x8 : Vec Ideal S128x1024 .f32} {x9 : Vec Ideal S1024x1024 .bf16} {x10 : Vec Ideal S1024x5632 .bf16} {x11 : Vec Ideal S3x5632 .f32} {x12 : Vec Ideal S1x5632 .f32} {x13 : Vec Ideal S2816x1024 .bf16} {x14 : Vec Ideal S1x1024 .f32} {xo16 : Vec Ideal S1x8x5632 .f32}
variable (H : Blk W Fw nf nfin md x n x0 x1 x2 x3 x4 x5 x6 x7 x8 x9 x10 x11 x12 x13 x14)
include H

/-- The rows the up projection reads. -/
theorem h2_rows' : Rows (R := 512) (C := 1024) (kernelRun0_A.sl.v558 (F := Ideal) c arg2 harg2 arg3 harg3 arg5 harg5 arg6 harg6 arg7 harg7 arg8 harg8 arg9 harg9 arg10 harg10 arg11 harg11 arg19 arg21 arg25 arg26 x0 x1 x3 x4 x5 x6 x7 x8 x9) (s2 W nf md x) n := (h2_rows c arg2 harg2 arg3 harg3 arg5 harg5 arg6 harg6 arg7 harg7 arg8 harg8 arg9 harg9 arg10 harg10 arg11 harg11 arg19 arg21 arg25 arg26 H)

/-- The gated rows: every piece of their buffer, a chunk of 256 columns, -/
theorem act_pieces (hS : ∀ r k, x2 (ix3 0 r k) = hist (ups Fw (s2 W nf md x)) n 8 r.val k) : ∀ p ∈ (kernelRun0_A.sl.HS5_11 (F := Ideal) c arg2 harg2 arg3 harg3 arg4 harg4 arg5 harg5 arg6 harg6 arg7 harg7 arg8 harg8 arg9 harg9 arg10 harg10 arg11 harg11 arg12 harg12 arg13 harg13 arg14 harg14 arg18 arg19 arg21 arg22 arg23 arg25 arg26 x0 x1 x2 x3 x4 x5 x6 x7 x8 x9 x10 x11 x12), TileOk (A := 512) (N := 2816) (fun l => geglu (conv Fw.cw Fw.cb (ups Fw (s2 W nf md x)) l)) n p := by
  have hh := (h2_rows' c arg2 harg2 arg3 harg3 arg5 harg5 arg6 harg6 arg7 harg7 arg8 harg8 arg9 harg9 arg10 harg10 arg11 harg11 arg19 arg21 arg25 arg26 H)
  repeat' first
    | exact List.forall_mem_nil _
    | refine List.forall_mem_cons.2 ⟨tile_ok (by decide) (act_tile (by decide) (conv_chunk (by decide) hh arg12 harg12 H.hup arg13 harg13 H.hcw arg14 harg14 H.hcb (state_new (by decide) arg18.view (fun r k => by
          repeat refine (state_off (by decide) _ _ (by decide) r k).trans ?_
          exact state_first arg4 harg4 hS _ _ _ _ _ r _) _ _ _) _ _ _ _ _ _ _ _ _ _ _ _ _ _ _ _ _ _ _ _ _ _ _ rfl _)
        (conv_chunk (by decide) hh arg12 harg12 H.hup arg13 harg13 H.hcw arg14 harg14 H.hcb (state_new (by decide) arg18.view (fun r k => by
          repeat refine (state_off (by decide) _ _ (by decide) r k).trans ?_
          exact state_first arg4 harg4 hS _ _ _ _ _ r _) _ _ _) _ _ _ _ _ _ _ _ _ _ _ _ _ _ _ _ _ _ _ _ _ _ _ rfl _) _ rfl _ _), ?_⟩

/-- and the whole of them. -/
theorem act_rows (hS : ∀ r k, x2 (ix3 0 r k) = hist (ups Fw (s2 W nf md x)) n 8 r.val k) (v : View sig .tc .vmem ⟨2, ![512, 2816]⟩ .bf16) (inb) :
    Rows (v.readCov (kernelRun0_A.sl.HS5_11 (F := Ideal) c arg2 harg2 arg3 harg3 arg4 harg4 arg5 harg5 arg6 harg6 arg7 harg7 arg8 harg8 arg9 harg9 arg10 harg10 arg11 harg11 arg12 harg12 arg13 harg13 arg14 harg14 arg18 arg19 arg21 arg22 arg23 arg25 arg26 x0 x1 x2 x3 x4 x5 x6 x7 x8 x9 x10 x11 x12) (Rect.unit (s := ⟨2, ![512, 2816]⟩) ![0, 0] ![512, 2816] inb).toLoadRect)
      (fun l => geglu (conv Fw.cw Fw.cb (ups Fw (s2 W nf md x)) l)) n :=
  tiles_read _ v (act_pieces c arg2 harg2 arg3 harg3 arg4 harg4 arg5 harg5 arg6 harg6 arg7 harg7 arg8 harg8 arg9 harg9 arg10 harg10 arg11 harg11 arg12 harg12 arg13 harg13 arg14 harg14 arg18 arg19 arg21 arg22 arg23 arg25 arg26 H hS) (fun y => View.cover_of_tiledL _ ![512, 256] (by sl_kernel_rfl) y) inb

/-- The block of the result. -/
theorem y_block (i : grid0.Coords) (hc0 : cond0_0 i) (hS : ∀ r k, x2 (ix3 0 r k) = hist (ups Fw (s2 W nf md x)) n 8 r.val k) (r : Fin 512) (k : Fin 1024) :
    View.canon (s := ⟨3, ![1, 512, 1024]⟩) (e := .f32) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14).1 (ix3 0 r k) = rms (ffnOut Fw nf md (oddX1 W md x) (n + r.val)) nfin k :=
  (out_whole _ [] _ _ r k).trans (Rows.rms (Rows.resid (Rows.whole32 (Rows.cast (x1_rows c arg2 harg2 arg3 harg3 arg5 harg5 arg7 harg7 arg8 harg8 arg9 harg9 arg10 harg10 arg11 harg11 arg19 arg21 arg25 arg26 H) _) [] _ _ _)
    (Rows.lin (act_rows c arg2 harg2 arg3 harg3 arg4 harg4 arg5 harg5 arg6 harg6 arg7 harg7 arg8 harg8 arg9 harg9 arg10 harg10 arg11 harg11 arg12 harg12 arg13 harg13 arg14 harg14 arg18 arg19 arg21 arg22 arg23 arg25 arg26 H hS arg24.view _) (mat_all arg15 harg15 H.hdown _ _) _ rfl _) (mod_part arg3 harg3 H.hmd 5 rfl _ _ _) _)
    (row_all arg16 harg16 H.hnfin _ _) _ _ (.inl rfl) rfl _ _ r k)

/-- The block of the state. -/
theorem f_block (i : grid0.Coords) (hc0 : cond0_0 i) (hS : ∀ r k, x2 (ix3 0 r k) = hist (ups Fw (s2 W nf md x)) n 8 r.val k) (r : Fin 8) (k : Fin 5632) :
    View.canon (s := ⟨3, ![1, 8, 5632]⟩) (e := .f32) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14).2.1 (ix3 0 r k) = hist (ups Fw (s2 W nf md x)) (n + 512) 8 r.val k := by
  have hh := (h2_rows' c arg2 harg2 arg3 harg3 arg5 harg5 arg6 harg6 arg7 harg7 arg8 harg8 arg9 harg9 arg10 harg10 arg11 harg11 arg19 arg21 arg25 arg26 H)
  refine foots_over 22 _ ?_ (fun y => View.cover_of_tiledL _ ![1, 8, 256] (by sl_kernel_rfl) y) r k
  repeat' first
    | exact List.forall_mem_nil _
    | refine List.forall_mem_cons.2 ⟨foot_ok rfl (by decide) ((up_tile (by decide) hh arg12 harg12 H.hup _ _ _ rfl _).cast _) (state_new (by decide) arg18.view (fun r k => by
          repeat refine (state_off (by decide) _ _ (by decide) r k).trans ?_
          exact state_first arg4 harg4 hS _ _ _ _ _ r _) _ _ _) _ _ _ _ _, ?_⟩

end First
end Decoder.Odd
-- ==== Proof.OddEntry.lean ====
/-
  The odd layer's windows at every grid point: the blocks they read are the layer's arrays and the input's rows.
-/
module

public import proofs.«01_k».proof.Proof.Reads
public import proofs.«01_k».proof.Proof.OddFirst
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic hiding ix1 ix2 ix3 ix4
open Idealize.ShloMosaic.ValueIdx Idealize.ShloMosaic.View Idealize.ShloMosaic.TcCoe
open Cert.Kernel2Ideal Cert.Kernel2Ideal.Gen

namespace Decoder.Odd

/-- The block indices of the input windows. -/
theorem index0 : ∀ t : Fin grid0.N, win0_0.index t = ![t.val / 4, t.val % 4, 0] := by decide +kernel
theorem index1 : ∀ t : Fin grid0.N, win0_1.index t = ![t.val / 4, 0, 0] := by decide +kernel
theorem index3 : ∀ t : Fin grid0.N, win0_3.index t = ![0, 0] := fun _ => rfl
theorem index4 : ∀ t : Fin grid0.N, win0_4.index t = ![0, 0] := fun _ => rfl
theorem index5 : ∀ t : Fin grid0.N, win0_5.index t = ![0, 0] := fun _ => rfl
theorem index6 : ∀ t : Fin grid0.N, win0_6.index t = ![0, 0] := fun _ => rfl
theorem index7 : ∀ t : Fin grid0.N, win0_7.index t = ![0, 0, 0] := fun _ => rfl
theorem index8 : ∀ t : Fin grid0.N, win0_8.index t = ![0, 0] := fun _ => rfl
theorem index9 : ∀ t : Fin grid0.N, win0_9.index t = ![0, 0] := fun _ => rfl
theorem index10 : ∀ t : Fin grid0.N, win0_10.index t = ![0, 0] := fun _ => rfl
theorem index11 : ∀ t : Fin grid0.N, win0_11.index t = ![0, 0] := fun _ => rfl
theorem index12 : ∀ t : Fin grid0.N, win0_12.index t = ![0, 0] := fun _ => rfl
theorem index13 : ∀ t : Fin grid0.N, win0_13.index t = ![0, 0] := fun _ => rfl
theorem index14 : ∀ t : Fin grid0.N, win0_14.index t = ![0, 0] := fun _ => rfl

variable (m : (ℓ : Loc nD τ sig) → Buf (Elt Ideal) ℓ) (c : Dev nD)

/-- The layer's mixer weights, -/
abbrev W : OddW := oddArgs (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))
/-- its ConvFFN weights, -/
abbrev Fw : FfnW := ffnArgs 1 (m ((c : Thread nD τ).loc main_arg9)) (m ((c : Thread nD τ).loc main_arg10)) (m ((c : Thread nD τ).loc main_arg11)) (m ((c : Thread nD τ).loc main_arg12))
/-- the scales of its other norms, -/
abbrev nf : Row 1024 := row2 (m ((c : Thread nD τ).loc main_arg3)) 1
abbrev nfin : Row 1024 := fun k => ((m ((c : Thread nD τ).loc main_arg13)) : Arr1 1024) (ix1 k)
/-- a group's modulation, -/
abbrev md (g : Fin 8) : Row 6144 := row2 (m ((c : Thread nD τ).loc main_arg1)) g
/-- and its input rows. -/
abbrev xs (g : Fin 8) : ℕ → Row 1024 := seq (m ((c : Thread nD τ).loc main_arg0)) g

/-- The zero history the first tile starts from. -/
theorem start (t : Fin cfg0.N) (r : Fin 8) (k : Fin 5632) : (iblk m c 2 t : Vec Ideal S1x8x5632 .f32) (ix3 0 r k) = (0 : EReal) := by
  blk_simp [iblk]
  entry_read
  clean_types
  pointwise

/-! What each window holds. -/

theorem w_hx (t : Fin cfg0.N) (g : Fin 8) (hg : g.val = t.val / 4) (r : Fin 512) (k : Fin 1024) : (iblk m c 0 t : Vec Ideal S1x512x1024 .f32) (ix3 0 r k) = xs m c g (512 * (t.val % 4) + r.val) k := by
  refine Eq.trans ?_ (seq_apply (m ((c : Thread nD τ).loc main_arg0)) g ⟨512 * (t.val % 4) + r.val, by omega⟩ k).symm
  blk_simp [iblk]
  entry_read
  refine at3 _ ?_ ?_ ?_ <;> blk_simp [index0]
  · exact hg.symm
  · exact (Nat.add_comm _ _).trans (by rw [Nat.mul_comm]; exact Nat.add_comm _ _)
theorem w_hmd (t : Fin cfg0.N) (g : Fin 8) (hg : g.val = t.val / 4) (k : Fin 6144) : (iblk m c 1 t : Vec Ideal S1x1x6144 .f32) (ix3 0 0 k) = md m c g k := by
  blk_simp [iblk]
  entry_read
  clean_types
  pointwise
  refine at2 _ ?_ ?_ <;> blk_simp [index1]
  exact hg.symm
theorem w_hnm (t : Fin cfg0.N) : One (C := 1024) (iblk m c 3 t) (W m c).nm := by
  intro k
  blk_simp [iblk]
  entry_read
  clean_types
  pointwise
  refine at2 _ ?_ ?_ <;> blk_simp [index3]
theorem w_hnf (t : Fin cfg0.N) : One (C := 1024) (iblk m c 4 t) (nf m c) := by
  intro k
  blk_simp [iblk]
  entry_read
  clean_types
  pointwise
  refine at2 _ ?_ ?_ <;> blk_simp [index4]
theorem w_huv (t : Fin cfg0.N) : Is (K := 1024) (N := 2048) (iblk m c 5 t) (W m c).uv := by
  intro i k
  blk_simp [iblk]
  entry_read
  clean_types
  pointwise
  refine at3 _ ?_ ?_ ?_ <;> blk_simp [index5]
theorem w_hgv (t : Fin cfg0.N) : One (C := 1024) (iblk m c 6 t) (W m c).gv := by
  intro k
  blk_simp [iblk]
  entry_read
  clean_types
  pointwise
  refine at2 _ ?_ ?_ <;> blk_simp [index6]
theorem w_hws (t : Fin cfg0.N) (h : Fin 8) (i s : Fin 128) : (iblk m c 7 t : Vec Ideal S8x128x128 .f32) (ix3 h i s) = (W m c).ws h i s := by
  blk_simp [iblk]
  entry_read
  clean_types
  pointwise
  refine at4 _ ?_ ?_ ?_ ?_ <;> blk_simp [index7]
theorem w_hbs (t : Fin cfg0.N) (i : Fin 128) (k : Fin 1024) : (iblk m c 8 t : Vec Ideal S128x1024 .f32) (ix2 i k) = (W m c).bs i k := by
  blk_simp [iblk]
  entry_read
  clean_types
  pointwise
  refine at3 _ ?_ ?_ ?_ <;> blk_simp [index8]
theorem w_hout (t : Fin cfg0.N) : Is (K := 1024) (N := 1024) (iblk m c 9 t) (W m c).out := by
  intro i k
  blk_simp [iblk]
  entry_read
  clean_types
  pointwise
  refine at3 _ ?_ ?_ ?_ <;> blk_simp [index9]
theorem w_hup (t : Fin cfg0.N) : Is (K := 1024) (N := 5632) (iblk m c 10 t) (Fw m c).up := by
  intro i k
  blk_simp [iblk]
  entry_read
  clean_types
  pointwise
  refine at3 _ ?_ ?_ ?_ <;> blk_simp [index10]
theorem w_hcw (t : Fin cfg0.N) (i : Fin 3) (k : Fin 5632) : (iblk m c 11 t : Vec Ideal S3x5632 .f32) (ix2 i k) = (Fw m c).cw i k := by
  blk_simp [iblk]
  entry_read
  clean_types
  pointwise
  refine at3 _ ?_ ?_ ?_ <;> blk_simp [index11]
theorem w_hcb (t : Fin cfg0.N) : One (C := 5632) (iblk m c 12 t) (Fw m c).cb := by
  intro k
  blk_simp [iblk]
  entry_read
  clean_types
  pointwise
  refine at2 _ ?_ ?_ <;> blk_simp [index12]
theorem w_hdown (t : Fin cfg0.N) : Is (K := 2816) (N := 1024) (iblk m c 13 t) (Fw m c).down := by
  intro i k
  blk_simp [iblk]
  entry_read
  clean_types
  pointwise
  refine at3 _ ?_ ?_ ?_ <;> blk_simp [index13]
theorem w_hnfin (t : Fin cfg0.N) : One (C := 1024) (iblk m c 14 t) (nfin m c) := by
  intro k
  blk_simp [iblk]
  entry_read
  clean_types
  pointwise
  refine at1 _ ?_ <;> blk_simp [index14]

/-- At every grid point the windows hold the layer's arrays, and the input's rows from the tile's first row on. -/
theorem blk (t : Fin cfg0.N) (g : Fin 8) (hg : g.val = t.val / 4) :
    Blk (W m c) (Fw m c) (nf m c) (nfin m c) (md m c g) (xs m c g) (512 * (t.val % 4)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) :=
  ⟨w_hx m c t g hg, w_hmd m c t g hg, w_hnm m c t, w_hnf m c t, w_huv m c t, w_hgv m c t, w_hws m c t, w_hbs m c t, w_hout m c t, w_hup m c t, w_hcw m c t, w_hcb m c t, w_hdown m c t, w_hnfin m c t, ⟨4 * (t.val % 4), by omega⟩⟩

end Decoder.Odd
-- ==== Proof.OddGrid.lean ====
/-
  The odd layer over its grid: what each point leaves in the output windows, and the two arrays the launch ends with.
-/
module

public import proofs.«01_k».proof.Proof.OddEntry

@[expose] public section

set_option maxRecDepth 16384

noncomputable section

open Idealize.ShloMosaic hiding ix1 ix2 ix3 ix4
open Idealize.ShloMosaic.ValueIdx Idealize.ShloMosaic.View Idealize.ShloMosaic.TcCoe
open Cert.Kernel2Ideal Cert.Kernel2Ideal.Gen

namespace Decoder.Odd

variable (m : (ℓ : Loc nD τ sig) → Buf (Elt Ideal) ℓ) (c : Dev nD)

/-- The rows a group's ConvFFN convolves. -/
abbrev upRows (g : Fin 8) : ℕ → Row 5632 := ups (Fw m c) (s2 (W m c) (nf m c) (md m c g) (xs m c g))

/-- The layer's output rows in a group. -/
abbrev yRows (g : Fin 8) (l : ℕ) : Row 1024 :=
  rms (ffnOut (Fw m c) (nf m c) (md m c g) (oddX1 (W m c) (md m c g) (xs m c g)) l) (nfin m c)

/-- A group's first tile leaves its output rows and the state after it, -/
theorem first (t : Fin cfg0.N) (g : Fin 8) (hg : g.val = t.val / 4) (h0 : t.val % 4 = 0) :
    (∀ (r : Fin 512) (k : Fin 1024), (outsAt0 m c t.val t.isLt).1 (ix3 0 r k) = yRows m c g (512 * (t.val % 4) + r.val) k)
    ∧ ∀ (r : Fin 8) (k : Fin 5632), (outsAt0 m c t.val t.isLt).2 (ix3 0 r k) = hist (upRows m c g) (512 * (t.val % 4) + 512) 8 r.val k := by
  have hS : ∀ (r : Fin 8) (k : Fin 5632), (iblk m c 2 t : Vec Ideal S1x8x5632 .f32) (ix3 0 r k) = hist (upRows m c g) (512 * (t.val % 4)) 8 r.val k := fun r k => by
    rw [start, h0, hist_zero _ _ _ r.isLt]
  rw [outsAt0_A m c t h0]
  constructor
  · intro r k
    dsimp only
    unfold out0_A_15
    rw [View.read_writes_junk_eq_canon]
    exact First.y_block (H := blk m c t g hg) (hS := hS) ..
  · intro r k
    dsimp only
    unfold out0_A_16
    rw [View.read_writes_junk_eq_canon]
    exact First.f_block (H := blk m c t g hg) (hS := hS) ..

/-- and every later tile does, if the one before left the state before it. -/
theorem next (t : Fin cfg0.N) (g : Fin 8) (hg : g.val = t.val / 4) (h0 : ¬t.val % 4 = 0)
    (hS : ∀ (r : Fin 8) (k : Fin 5632), (outsAt0 m c (t.val - 1) (by have := t.isLt; omega)).2 (ix3 0 r k) = hist (upRows m c g) (512 * (t.val % 4)) 8 r.val k) :
    (∀ (r : Fin 512) (k : Fin 1024), (outsAt0 m c t.val t.isLt).1 (ix3 0 r k) = yRows m c g (512 * (t.val % 4) + r.val) k)
    ∧ ∀ (r : Fin 8) (k : Fin 5632), (outsAt0 m c t.val t.isLt).2 (ix3 0 r k) = hist (upRows m c g) (512 * (t.val % 4) + 512) 8 r.val k := by
  rw [outsAt0_B m c t h0]
  constructor
  · intro r k
    dsimp only
    unfold out0_B_15
    rw [View.read_writes_junk_eq_canon]
    exact y_block (H := blk m c t g hg) (hS := hS) ..
  · intro r k
    dsimp only
    unfold out0_B_16
    rw [View.read_writes_junk_eq_canon]
    exact f_block (H := blk m c t g hg) (hS := hS) ..

/-- So every tile of every group leaves its output rows and the state after it. -/
theorem tiles (n : ℕ) (hn : n < cfg0.N) (g : Fin 8) (hg : g.val = n / 4) :
    (∀ (r : Fin 512) (k : Fin 1024), (outsAt0 m c n hn).1 (ix3 0 r k) = yRows m c g (512 * (n % 4) + r.val) k)
    ∧ ∀ (r : Fin 8) (k : Fin 5632), (outsAt0 m c n hn).2 (ix3 0 r k) = hist (upRows m c g) (512 * (n % 4) + 512) 8 r.val k := by
  induction n with
  | zero => exact first m c ⟨0, hn⟩ g hg rfl
  | succ n ih =>
    by_cases h0 : (n + 1) % 4 = 0
    · exact first m c ⟨n + 1, hn⟩ g hg h0
    · refine next m c ⟨n + 1, hn⟩ g hg h0 fun r k => ?_
      refine ((ih (Nat.lt_of_succ_lt hn) (by omega)).2 r k).trans ?_
      rw [show 512 * (n % 4) + 512 = 512 * ((n + 1) % 4) by omega]

/-- The layer's output array, -/
def y : Arr3 8 2048 1024 := fun i => yRows m c (i 0) (i 1).val (i 2)
/-- and the state it returns: the last eight rows of each group. -/
def st : Arr3 8 8 5632 := fun i => hist (upRows m c (i 0)) 2048 8 (i 1).val (i 2)

theorem index15 : ∀ t : Fin grid0.N, win0_15.index t = ![t.val / 4, t.val % 4, 0] := by decide +kernel
theorem index16 : ∀ t : Fin grid0.N, win0_16.index t = ![t.val / 4, 0, 0] := by decide +kernel

theorem group_lt (t : Fin cfg0.N) : t.val / 4 < 8 := by have := t.isLt; have h : cfg0.N = 32 := N_0; omega

/-- The launch ends with the output array -/
theorem final_y : (dats m 0 c).arrAt 15 cfg0.N = y m c := by
  refine (dats m 0 c).arrAt_eq_of_covers 15 _ (by decide +kernel) fun t hf j => ?_
  blk_simp
  rw [after0_15]
  have e0 : (((win0_15.blk t).view.emb j) 0).val = t.val / 4 := by
    have h : (j 0).val < 1 := (j 0).isLt
    blk_simp [index15]
  have e1 : (((win0_15.blk t).view.emb j) 1).val = 512 * (t.val % 4) + (j 1).val := by
    blk_simp [index15]
    omega
  have e2 : (((win0_15.blk t).view.emb j) 2).val = (j 2).val := by blk_simp [index15]
  exact (at3 (a := 1) (b := 512) (c := 1024) _ (i := 0) (j := j 1) (k := j 2) (Nat.lt_one_iff.1 (j 0).isLt) rfl rfl).trans
    (((tiles m c t.val t.isLt (((win0_15.blk t).view.emb j) 0) e0).1 (j 1) (j 2)).trans
      (congr (congrArg _ e1.symm) (Fin.ext e2.symm)))

/-- and with the state. -/
theorem final_st : (dats m 0 c).arrAt 16 cfg0.N = st m c := by
  refine (dats m 0 c).arrAt_eq_of_covers 16 _ (by decide +kernel) fun t hf j => ?_
  have h3 : t.val % 4 = 3 := (flush0_16 t).mp hf
  blk_simp
  rw [after0_16]
  have e0 : (((win0_16.blk t).view.emb j) 0).val = t.val / 4 := by
    have h : (j 0).val < 1 := (j 0).isLt
    blk_simp [index16]
  have e1 : (((win0_16.blk t).view.emb j) 1).val = (j 1).val := by blk_simp [index16]
  have e2 : (((win0_16.blk t).view.emb j) 2).val = (j 2).val := by blk_simp [index16]
  refine (at3 (a := 1) (b := 8) (c := 5632) _ (i := 0) (j := j 1) (k := j 2) (Nat.lt_one_iff.1 (j 0).isLt) rfl rfl).trans
    (((tiles m c t.val t.isLt (((win0_16.blk t).view.emb j) 0) e0).2 (j 1) (j 2)).trans ?_)
  rw [h3]
  exact congr (congrArg _ e1.symm) (Fin.ext e2.symm)

end Decoder.Odd
-- ==== Proof.RefOddMix.lean ====
/-
  The odd layer's reference program from the spatial gating to the residual stream after the mixer.
-/
module

public import proofs.«01_k».proof.Proof.RefOdd
public import Idealize.ShloMosaic.Lib.WordCmp

@[expose] public section

noncomputable section

open Idealize.ShloMosaic Idealize.ShloMosaic.ValueIdx

namespace Decoder.RefOdd

open Cert.Reference2Ideal Cert.Reference2Ideal.Read

variable (x0 : Arr3 8 2048 1024) (x1 : Arr2 8 6144) (x2 x3 : Arr2 2 1024) (x4 : Arr3 1 1024 2048) (x5 : Arr2 1 1024)
  (x6 : Arr4 1 8 128 128) (x7 : Arr3 1 8 128) (x8 : Arr3 1 1024 1024)

/-- The mixing weights, zero above the diagonal. -/
theorem wm_apply (h : Fin 8) (t s : Fin 128) :
    val_main_v70 (F := Ideal) x6 (ix3 h t s) = if s.val ≤ t.val then x6 (ix4 0 h t s) else 0 := by
  have e : val_main_v68 (F := Ideal) (ix2 t s) = if s.val ≤ t.val then 1#1 else 0#1 := by
    simp only [val_main_v68_apply, val_main_call0_v4_apply, val_main_call0_v2_apply, val_main_call0_v0_apply, val_main_call0_v1_apply,
      val_main_call0_c_apply, val_main_call0_v3_apply, val_main_v67_apply, val_main_c_apply, val_main_call0_v5_apply, val_main_call0_c_0_apply]
    have a0 : IntOp.addi (BitVec.ofNat 32 t.val) 0#32 = BitVec.ofNat 32 t.val := BitVec.add_zero _
    refine Eq.trans ?_ (if_congr (WordCmp.cmpi_sge_ofNat_eq_one_iff (w := 32) (a := t.val) (b := s.val) (by omega) (by omega)) rfl rfl)
    show Scalar.select (IntOp.cmpi .sge (IntOp.addi (BitVec.ofNat 32 t.val) 0#32) (BitVec.ofNat 32 s.val)) 1#1 0#1 = _
    rw [a0]
    rfl
  rw [val_main_v70_apply, val_main_call1_v0_apply, val_main_v69_apply, i2 (idx_main_v69 _) t s rfl rfl, e, val_main_v64_apply,
    i4 (idx_main_v64 (ix3 h t s)) 0 h t s rfl
      (by show ((h.val * 128 + t.val) * 128 + s.val) / 16384 % 8 = h.val; omega)
      (by show ((h.val * 128 + t.val) * 128 + s.val) / 128 % 128 = t.val; omega)
      (by show ((h.val * 128 + t.val) * 128 + s.val) % 128 = s.val; omega)]
  by_cases hs : s.val ≤ t.val
  · rw [if_pos hs, if_pos hs]; rfl
  · rw [if_neg hs, if_neg hs]
    show val_main_call1_v1 (F := Ideal) (ix3 h t s) = 0
    rw [val_main_call1_v1_apply, val_main_cst_10_apply]
    exact Ideal.ofBits_zero_f32

/-- The mixed values. -/
theorem z_apply (g : Fin 8) (l : Fin 2048) (k : Fin 1024) :
    val_main_v77 (F := Ideal) x0 x1 x2 x4 x5 x6 x7 (ix3 g l k)
      = oddZ (W x2 x4 x5 x6 x7 x8) (oddV (W x2 x4 x5 x6 x7 x8) (row2 x1 g) (seq x0 g)) l.val k := by
  have hl := l.isLt
  have hk := k.isLt
  have hg := g.isLt
  have e : idx_main_v77 (ix3 g l k) = ix5 g (⟨l.val / 128, by omega⟩ : Fin 16) (⟨l.val % 128, by omega⟩ : Fin 128)
      (⟨k.val / 128, by omega⟩ : Fin 8) (⟨k.val % 128, by omega⟩ : Fin 128) := funext fun d => Fin.ext (match d with
    | ⟨0, _⟩ => by show ((g.val * 2048 + l.val) * 1024 + k.val) / 2097152 = g.val; omega
    | ⟨1, _⟩ => by show ((g.val * 2048 + l.val) * 1024 + k.val) / 131072 % 16 = l.val / 128; omega
    | ⟨2, _⟩ => by show ((g.val * 2048 + l.val) * 1024 + k.val) / 1024 % 128 = l.val % 128; omega
    | ⟨3, _⟩ => by show ((g.val * 2048 + l.val) * 1024 + k.val) / 128 % 8 = k.val / 128; omega
    | ⟨4, _⟩ => by show ((g.val * 2048 + l.val) * 1024 + k.val) % 128 = k.val % 128; omega)
  rw [val_main_v77_apply, e, val_main_v76_apply, val_main_v72_apply, val_main_v71_apply, val_main_v75_apply, val_main_v74_apply,
    val_main_v73_apply, val_main_v65_apply]
  unfold oddZ
  refine congrArg₂ (· + ·) (Finset.sum_congr rfl fun s _ => ?_) ?_
  · have hs := s.isLt
    rw [val_main_v66_apply]
    have e1 := i3 (ridx_main_v71 (idx_main_v72 (ix5 g (⟨l.val / 128, by omega⟩ : Fin 16) (⟨l.val % 128, by omega⟩ : Fin 128)
      (⟨k.val / 128, by omega⟩ : Fin 8) (⟨k.val % 128, by omega⟩ : Fin 128))) s) (⟨k.val / 128, by omega⟩ : Fin 8) (⟨l.val % 128, by omega⟩ : Fin 128) s rfl rfl rfl
    have e2 := i3 (idx_main_v66 (lidx_main_v71 (idx_main_v72 (ix5 g (⟨l.val / 128, by omega⟩ : Fin 16) (⟨l.val % 128, by omega⟩ : Fin 128)
      (⟨k.val / 128, by omega⟩ : Fin 8) (⟨k.val % 128, by omega⟩ : Fin 128))) s)) g (⟨l.val / 128 * 128 + s.val, by omega⟩ : Fin 2048) k
      (by show ((((g.val * 16 + l.val / 128) * 128 + s.val) * 8 + k.val / 128) * 128 + k.val % 128) / 2097152 = g.val; omega)
      (by show ((((g.val * 16 + l.val / 128) * 128 + s.val) * 8 + k.val / 128) * 128 + k.val % 128) / 1024 % 2048 = l.val / 128 * 128 + s.val; omega)
      (by show ((((g.val * 16 + l.val / 128) * 128 + s.val) * 8 + k.val / 128) * 128 + k.val % 128) % 1024 = k.val; omega)
    rw [e1, e2, v_apply, wm_apply]
    exact mul_comm _ _
  · exact congrArg x7 (i3 _ 0 (⟨k.val / 128, by omega⟩ : Fin 8) (⟨l.val % 128, by omega⟩ : Fin 128) rfl
      (by show (k.val / 128 * 128 + l.val % 128) / 128 % 8 = k.val / 128; omega)
      (by show (k.val / 128 * 128 + l.val % 128) % 128 = l.val % 128; omega))

/-- The residual stream after the mixer. -/
theorem x1_apply (g : Fin 8) (l : Fin 2048) (k : Fin 1024) :
    val_main_v83 (F := Ideal) x0 x1 x2 x4 x5 x6 x7 x8 (ix3 g l k)
      = oddX1 (W x2 x4 x5 x6 x7 x8) (row2 x1 g) (seq x0 g) l.val k := by
  rw [val_main_v83_apply, val_main_v82_apply, val_main_v81_apply, val_main_v8_apply, val_main_v2_apply, val_main_v80_apply]
  unfold oddX1 mixOut
  refine congrArg₂ (· + ·) (seq_apply x0 g l k).symm (congrArg₂ (· * ·)
    (congrArg x1 (i2 _ g ⟨1024 * (2 : Fin 6).val + k.val, by have := k.isLt; show 1024 * 2 + k.val < 6144; omega⟩ rfl rfl)) (Finset.sum_congr rfl fun c _ => ?_))
  rw [i3 (lidx_main_v80 _ c) g l c rfl rfl rfl, val_main_v78_apply, u_apply x0 x1 x2 x4 x5 x6 x7 x8, z_apply x0 x1 x2 x4 x5 x6 x7 x8, val_main_v79_apply,
    i3 (idx_main_v79 _) 0 c k rfl (by show (c.val * 1024 + k.val) / 1024 % 1024 = c.val; have := k.isLt; have := c.isLt; omega)
      (by show (c.val * 1024 + k.val) % 1024 = k.val; have := k.isLt; have := c.isLt; omega)]
  rfl

end Decoder.RefOdd
-- ==== Proof.RefOddFfn.lean ====
/-
  The odd layer's reference program from the second norm to its two results.
-/
module

public import proofs.«01_k».proof.Proof.RefOddMix
public import proofs.«01_k».proof.Proof.RefExt

@[expose] public section

noncomputable section

open Idealize.ShloMosaic Idealize.ShloMosaic.ValueIdx

namespace Decoder.RefOdd

open Cert.Reference2Ideal Cert.Reference2Ideal.Read

variable (x0 : Arr3 8 2048 1024) (x1 : Arr2 8 6144) (x2 x3 : Arr2 2 1024) (x4 : Arr3 1 1024 2048) (x5 : Arr2 1 1024)
  (x6 : Arr4 1 8 128 128) (x7 : Arr3 1 8 128) (x8 : Arr3 1 1024 1024) (x9 : Arr3 2 1024 5632) (x10 : Arr3 2 3 5632)
  (x11 : Arr2 2 5632) (x12 : Arr3 2 2816 1024) (x13 : Arr1 1024)

/-- The residual rows of a group after the mixer. -/
abbrev xm (g : Fin 8) : ℕ → Row 1024 := oddX1 (W x2 x4 x5 x6 x7 x8) (row2 x1 g) (seq x0 g)

/-- The second normalised and modulated rows. -/
theorem h2_apply (g : Fin 8) (l : Fin 2048) (k : Fin 1024) :
    val_main_v104 (F := Ideal) x0 x1 x2 x3 x4 x5 x6 x7 x8 (ix3 g l k)
      = adaln (xm x0 x1 x2 x4 x5 x6 x7 x8 g l.val) (row2 x3 1) (part (row2 x1 g) 4) (part (row2 x1 g) 3) k := by
  simp only [val_main_v104_apply, val_main_v103_apply, val_main_v102_apply, val_main_v101_apply, val_main_v100_apply, val_main_v99_apply,
    val_main_cst_14_apply, val_main_v98_apply, val_main_v97_apply, val_main_v96_apply, val_main_v95_apply, val_main_v94_apply,
    val_main_v93_apply, val_main_v92_apply, val_main_v91_apply, val_main_cst_13_apply, val_main_v90_apply, val_main_v89_apply,
    val_main_cst_12_apply, val_main_v88_apply, val_main_v87_apply, val_main_cst_11_apply, val_main_v86_apply, val_main_v85_apply,
    val_main_v84_apply, val_main_v10_apply, val_main_v9_apply, val_main_v4_apply, val_main_v3_apply]
  simp only [fun y => i3 (idx_main_v87 (idx_main_v88 (idx_main_v94 (ix3 g l k))) y) g l y rfl rfl rfl, x1_apply]
  unfold adaln rms
  simp only [row2, part, Ideal.addf_def, Ideal.mulf_def, Ideal.hostDivf_def, Ideal.hostUnary_rsqrt_def, Ideal.ofBits_def, Ideal.ofBits_zero_f32, zero_add]
  rw [i2 (idx_main_v3 _) g ⟨1024 * (3 : Fin 6).val + k.val, by have := k.isLt; show 1024 * 3 + k.val < 6144; omega⟩ rfl rfl,
    i2 (idx_main_v4 _) g ⟨1024 * (4 : Fin 6).val + k.val, by have := k.isLt; show 1024 * 4 + k.val < 6144; omega⟩ rfl rfl,
    i2 (idx_main_v84 _) 1 k rfl (Nat.mod_eq_of_lt k.isLt)]

/-- The rows the ConvFFN convolves, -/
abbrev ur (g : Fin 8) : ℕ → Row 5632 := ffnUp (V x9 x10 x11 x12) (row2 x3 1) (row2 x1 g) (xm x0 x1 x2 x4 x5 x6 x7 x8 g)

theorem up_apply (g : Fin 8) (l : Fin 2048) (k : Fin 5632) :
    val_main_v113 (F := Ideal) x0 x1 x2 x3 x4 x5 x6 x7 x8 x9 (ix3 g l k) = ur x0 x1 x2 x3 x4 x5 x6 x7 x8 x9 x10 x11 x12 g l.val k := by
  rw [val_main_v113_apply]
  unfold ur ffnUp lin
  refine Finset.sum_congr rfl fun c _ => ?_
  rw [i3 (lidx_main_v113 _ c) g l c rfl rfl rfl, h2_apply, val_main_v106_apply, val_main_v105_apply,
    i3 (idx_main_v105 _) 1 c k rfl (by show (c.val * 5632 + k.val) / 5632 % 1024 = c.val; have := k.isLt; have := c.isLt; omega)
      (by show (c.val * 5632 + k.val) % 5632 = k.val; have := k.isLt; have := c.isLt; omega)]
  rfl

/-- with two zero rows before them, -/
theorem ext (g : Fin 8) (p : Fin 2050) (k : Fin 5632) :
    val_main_v115 (F := Ideal) x0 x1 x2 x3 x4 x5 x6 x7 x8 x9 (ix3 g p k) = hist (ur x0 x1 x2 x3 x4 x5 x6 x7 x8 x9 x10 x11 x12 g) 0 2 p.val k :=
  ext_apply _ _ _ (fun i => by rw [val_main_v114_apply, val_main_cst_15_apply]; exact Ideal.ofBits_zero_f32) _
    (up_apply x0 x1 x2 x3 x4 x5 x6 x7 x8 x9 x10 x11 x12) rfl g p k

/-- and the convolution of them. -/
theorem conv_apply (g : Fin 8) (l : Fin 2048) (k : Fin 5632) :
    val_main_v138 (F := Ideal) x0 x1 x2 x3 x4 x5 x6 x7 x8 x9 x10 x11 (ix3 g l k)
      = conv (mat3 x10 1) (row2 x11 1) (ur x0 x1 x2 x3 x4 x5 x6 x7 x8 x9 x10 x11 x12 g) l.val k := by
  have hl := l.isLt
  have hk := k.isLt
  simp only [val_main_v138_apply, val_main_v137_apply, val_main_v136_apply, val_main_v135_apply, val_main_v134_apply, val_main_v133_apply,
    val_main_v132_apply, val_main_v131_apply, val_main_v130_apply, val_main_v129_apply, val_main_v128_apply, val_main_v127_apply,
    val_main_v126_apply, val_main_v125_apply, val_main_v124_apply, val_main_v123_apply, val_main_v122_apply, val_main_v121_apply,
    val_main_v120_apply, val_main_v119_apply, val_main_v118_apply, val_main_v117_apply, val_main_v116_apply, val_main_v110_apply,
    val_main_v109_apply, val_main_v108_apply, val_main_v107_apply]
  rw [i3 (idx_main_v118 _) g ⟨2 - 2 + l.val, by omega⟩ k rfl (by show l.val = 2 - 2 + l.val; omega) rfl,
    i3 (idx_main_v127 _) g ⟨2 - 1 + l.val, by omega⟩ k rfl rfl rfl,
    i3 (idx_main_v134 _) g ⟨2 - 0 + l.val, by omega⟩ k rfl rfl rfl,
    ext x0 x1 x2 x3 x4 x5 x6 x7 x8 x9 x10 x11 x12, ext x0 x1 x2 x3 x4 x5 x6 x7 x8 x9 x10 x11 x12, ext x0 x1 x2 x3 x4 x5 x6 x7 x8 x9 x10 x11 x12,
    hist_ext _ _ _ _ (by decide), hist_ext _ _ _ _ (by decide), hist_ext _ _ _ _ (by decide), hist_self]
  unfold conv
  refine congrArg₂ (· + ·) (congrArg₂ (· + ·) (congrArg₂ (· + ·) ?_ (congrArg (· * _) ?_)) (congrArg (· * _) ?_)) (congrArg (· * _) ?_)
  · exact congrArg x11 (i2 _ 1 k rfl (Nat.mod_eq_of_lt hk))
  · exact congrArg x10 (i3 _ 1 0 k rfl (by show (0 * 5632 + k.val % 5632) / 5632 % 3 = 0; omega) (by show (0 * 5632 + k.val % 5632) % 5632 = k.val; omega))
  · exact congrArg x10 (i3 _ 1 1 k rfl (by show ((1 + 0) * 5632 + k.val % 5632) / 5632 % 3 = 1; omega) (by show ((1 + 0) * 5632 + k.val % 5632) % 5632 = k.val; omega))
  · exact congrArg x10 (i3 _ 1 2 k rfl (by show ((2 + 0) * 5632 + k.val % 5632) / 5632 % 3 = 2; omega) (by show ((2 + 0) * 5632 + k.val % 5632) % 5632 = k.val; omega))

/-- The ConvFFN's activations. -/
theorem act_apply (g : Fin 8) (l : Fin 2048) (k : Fin 2816) :
    val_main_v155 (F := Ideal) x0 x1 x2 x3 x4 x5 x6 x7 x8 x9 x10 x11 (ix3 g l k)
      = geglu (conv (mat3 x10 1) (row2 x11 1) (ur x0 x1 x2 x3 x4 x5 x6 x7 x8 x9 x10 x11 x12 g) l.val) k := by
  unfold geglu
  rw [← gelu_ref]
  have e : ∀ k : Fin 2816, val_main_v140 (F := Ideal) x0 x1 x2 x3 x4 x5 x6 x7 x8 x9 x10 x11 (ix3 g l k)
      = conv (mat3 x10 1) (row2 x11 1) (ur x0 x1 x2 x3 x4 x5 x6 x7 x8 x9 x10 x11 x12 g) l.val ⟨k.val, by have := k.isLt; omega⟩ := fun k => by
    rw [val_main_v140_apply, i3 (idx_main_v140 _) g l ⟨k.val, by have := k.isLt; omega⟩ rfl rfl rfl, conv_apply x0 x1 x2 x3 x4 x5 x6 x7 x8 x9 x10 x11 x12]
  simp only [val_main_v155_apply, val_main_v154_apply, val_main_v153_apply, val_main_v152_apply, val_main_cst_19_apply, val_main_v151_apply,
    val_main_v150_apply, val_main_cst_18_apply, val_main_v149_apply, val_main_v148_apply, val_main_v147_apply, val_main_cst_17_apply,
    val_main_v146_apply, val_main_v145_apply, val_main_v144_apply, val_main_cst_16_apply, val_main_v143_apply, val_main_v142_apply, e]
  rw [val_main_v141_apply, i3 (idx_main_v141 _) g l ⟨2816 + k.val, by have := k.isLt; omega⟩ rfl rfl rfl, conv_apply x0 x1 x2 x3 x4 x5 x6 x7 x8 x9 x10 x11 x12]
  rfl

/-- The residual stream after the ConvFFN, -/
theorem out_apply (g : Fin 8) (l : Fin 2048) (k : Fin 1024) :
    val_main_v159 (F := Ideal) x0 x1 x2 x3 x4 x5 x6 x7 x8 x9 x10 x11 x12 (ix3 g l k)
      = ffnOut (V x9 x10 x11 x12) (row2 x3 1) (row2 x1 g) (xm x0 x1 x2 x4 x5 x6 x7 x8 g) l.val k := by
  rw [val_main_v159_apply, val_main_v158_apply, val_main_v157_apply, val_main_v11_apply, val_main_v5_apply, val_main_v156_apply, x1_apply]
  unfold ffnOut
  refine congrArg₂ (· + ·) rfl (congrArg₂ (· * ·)
    (congrArg x1 (i2 _ g ⟨1024 * (5 : Fin 6).val + k.val, by have := k.isLt; show 1024 * 5 + k.val < 6144; omega⟩ rfl rfl)) (Finset.sum_congr rfl fun c _ => ?_))
  rw [i3 (lidx_main_v156 _ c) g l c rfl rfl rfl, act_apply x0 x1 x2 x3 x4 x5 x6 x7 x8 x9 x10 x11 x12, val_main_v112_apply, val_main_v111_apply,
    i3 (idx_main_v111 _) 1 c k rfl (by show (c.val * 1024 + k.val) / 1024 % 2816 = c.val; have := k.isLt; have := c.isLt; omega)
      (by show (c.val * 1024 + k.val) % 1024 = k.val; have := k.isLt; have := c.isLt; omega)]
  rfl

/-- the first result, it normalised, -/
theorem y_apply (g : Fin 8) (l : Fin 2048) (k : Fin 1024) :
    val_main_v172 (F := Ideal) x0 x1 x2 x3 x4 x5 x6 x7 x8 x9 x10 x11 x12 x13 (ix3 g l k)
      = rms (ffnOut (V x9 x10 x11 x12) (row2 x3 1) (row2 x1 g) (xm x0 x1 x2 x4 x5 x6 x7 x8 g) l.val) (fun k => x13 (ix1 k)) k := by
  simp only [val_main_v172_apply, val_main_v171_apply, val_main_v170_apply, val_main_v169_apply, val_main_v168_apply, val_main_v167_apply,
    val_main_v166_apply, val_main_v165_apply, val_main_cst_22_apply, val_main_v164_apply, val_main_v163_apply, val_main_cst_21_apply,
    val_main_v162_apply, val_main_v161_apply, val_main_cst_20_apply, val_main_v160_apply]
  simp only [fun y => i3 (idx_main_v161 (idx_main_v162 (idx_main_v168 (ix3 g l k))) y) g l y rfl rfl rfl, out_apply]
  unfold rms
  simp only [Ideal.addf_def, Ideal.mulf_def, Ideal.hostDivf_def, Ideal.hostUnary_rsqrt_def, Ideal.ofBits_def, Ideal.ofBits_zero_f32, zero_add]
  exact congrArg _ (congrArg x13 (funext fun d => Fin.ext (match d with | ⟨0, _⟩ => rfl)))

/-- and the second, the last eight convolved rows. -/
theorem st_apply (g : Fin 8) (r : Fin 8) (k : Fin 5632) :
    val_main_v139 (F := Ideal) x0 x1 x2 x3 x4 x5 x6 x7 x8 x9 (ix3 g r k)
      = hist (ur x0 x1 x2 x3 x4 x5 x6 x7 x8 x9 x10 x11 x12 g) 2048 8 r.val k := by
  rw [val_main_v139_apply, i3 (idx_main_v139 _) g ⟨2 + 2048 - 8 + r.val, by have := r.isLt; omega⟩ k rfl rfl rfl,
    ext x0 x1 x2 x3 x4 x5 x6 x7 x8 x9 x10 x11 x12, hist_last _ _ _ _ (by decide) (by decide)]

end Decoder.RefOdd
-- ==== Proof.OddClaim.lean ====
/-
  The odd layer's two programs end with the same arrays: the kernel's launch and the reference each hold the mathematics' rows.
-/
module

public import proofs.«01_k».proof.Defs
public import proofs.«01_k».proof.Proof.OddGrid
public import proofs.«01_k».proof.Proof.RefOddFfn
public import proofs.«01_k».proof.Proof.Gen.Kernel2Ideal.Value
public import proofs.«01_k».proof.Proof.Gen.Reference2Ideal.Run

@[expose] public section

set_option maxRecDepth 16384

noncomputable section

open Idealize.ShloMosaic hiding ix1 ix2 ix3 ix4
open Idealize.ShloMosaic.ValueIdx Idealize.ShloMosaic.TcCoe Idealize.SL.Sem

namespace Decoder.Odd

open Cert.Kernel2Ideal Cert.Kernel2Ideal.Gen

variable (m : (ℓ : Loc nD τ sig) → Buf (Elt Ideal) ℓ) (c : Dev nD)

/-- The reference's output array over the kernel's arguments is the layer's output, -/
theorem ref_y : Cert.Reference2Ideal.Read.val_main_v172 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) = y m c :=
  funext fun i => (congrArg _ (RefOdd.i3 i (i 0) (i 1) (i 2) rfl rfl rfl)).trans
    (RefOdd.y_apply (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (i 0) (i 1) (i 2))

/-- and its state is the layer's state. -/
theorem ref_st : Cert.Reference2Ideal.Read.val_main_v139 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) = st m c :=
  funext fun i => (congrArg _ (RefOdd.i3 i (i 0) (i 1) (i 2) rfl rfl rfl)).trans
    (RefOdd.st_apply (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (i 0) (i 1) (i 2))

/-- The odd layer's kernel over the extended reals ends with what its reference ends with. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => y m c, fun c => st m c, ?_, ?_⟩
  · refine (θ_run _ _ _).mono (fun r h c => ?_) (Cert.Kernel2Ideal.Value.run_blocks m g)
    obtain ⟨h15, h16, hk⟩ := h c
    exact ⟨h15.trans (final_y m c), h16.trans (final_st m c), hk⟩
  · refine (θ_run _ _ _).mono (fun r h c => ?_) (Cert.Reference2Ideal.Value.run (F := Ideal) m' g')
    obtain ⟨hy, hs, hk⟩ := h c
    obtain ⟨a0, a1, a2, a3, a4, a5, a6, a7, a8, a9, a10, a11, a12, a13⟩ := hargs c
    refine ⟨hy.trans ((Cert.Reference2Ideal.Read.val_main_v172_eq _).trans (Eq.trans ?_ (ref_y m c))),
      hs.trans ((Cert.Reference2Ideal.Read.val_main_v139_eq _).trans (Eq.trans ?_ (ref_st m c))), hk⟩
    · rw [← a0, ← a1, ← a2, ← a3, ← a4, ← a5, ← a6, ← a7, ← a8, ← a9, ← a10, ← a11, ← a12, ← a13]
    · rw [← a0, ← a1, ← a2, ← a3, ← a4, ← a5, ← a6, ← a7, ← a8, ← a9]

end Decoder.Odd
-- ==== Proof.Mod.lean ====
/-
  The modulation call: each row of conditioning, through SiLU and one matrix per layer, plus a bias. The kernel computes it in
  column blocks of 1536, the reference layer by layer.
-/
module

public import proofs.«01_k».proof.Defs
public import proofs.«01_k».proof.Proof.Reads
public import proofs.«01_k».proof.Proof.Blocks
public import proofs.«01_k».proof.Proof.RefOdd
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic hiding ix1 ix2 ix3 ix4
open Idealize.ShloMosaic.ValueIdx Idealize.ShloMosaic.View Idealize.ShloMosaic.TcCoe Idealize.SL.Sem
open Cert.Kernel4Ideal Cert.Kernel4Ideal.Gen

namespace Decoder.Mod

/-- SiLU of a row. -/
def silu (c : Row 1024) : Row 1024 := fun k => c k * Ideal.logistic (c k)

/-- The modulation row: SiLU of the conditioning times the matrix, plus the bias. -/
def modRow (c : Row 1024) (w : Fin 1024 → Row 6144) (b : Row 6144) : Row 6144 := fun k => lin (silu c) w k + b k

/-- What one grid point writes, from what its windows hold. -/
theorem block {x0 : Vec Ideal S144x1024 .f32} {x1 : Vec Ideal S1x1024x1536 .f32} {x2 : Vec Ideal S1x1x1536 .f32} {cs : Fin 144 → Row 1024}
    {w : Fin 1024 → Row 1536} {b : Row 1536} (h0 : ∀ r k, x0 (ix2 r k) = cs r k) (h1 : ∀ k j, x1 (ix3 0 k j) = w k j) (h2 : ∀ j, x2 (ix3 0 0 j) = b j)
    (r : Fin 144) (j : Fin 1536) : out0_3 x0 x1 x2 (ix3 0 r j) = lin (silu (cs r)) w j + b j := by
  unfold out0_3
  rw [congrFun (canon_cons_unit_zero (S := S1x144x1536) (off := ![0, 0, 0]) (funext fun d => match d with | ⟨0, _⟩ => rfl | ⟨1, _⟩ => rfl | ⟨2, _⟩ => rfl) _ _ _) _]
  unfold k0_pay1
  refine (cast_add (R := 144) (C := 1536) _ _ r j).trans ?_
  refine congrArg₂ (· + ·) ((matmul_at (M := 144) (K := 1024) (N := 1536) _ _ _ rfl _ r j).trans (Finset.sum_congr rfl fun k _ => ?_))
    ((bcast_row (R := 144) (C := 1536) _ _ r j).trans ((cast_drop (R := 1) (C := 1536) _ _ 0 j).trans ?_))
  · refine congrArg₂ (· * ·) ?_ ?_
    · show shapeCast S144x1024 _ _ (ix2 r k) * Ideal.logistic (shapeCast S144x1024 _ _ (ix2 r k)) = silu (cs r) k
      rw [shapeCast_self]
      rw [show View.ld x0 r0_0 (ix2 r k) = x0 (ix2 r k) from ld_unit_apply_of x0 _ _ _ (ix2 r k) (ix2 r k) fun d => match d with | ⟨0, _⟩ => (Nat.zero_add _).symm | ⟨1, _⟩ => (Nat.zero_add _).symm, h0]
      rfl
    · refine (cast_drop (R := 1024) (C := 1536) _ _ k j).trans ((ld_unit_apply_of x1 _ _ _ (ix3 0 k j) (ix3 0 k j) fun d => ?_).trans (h1 k j))
      match d with | ⟨0, _⟩ => rfl | ⟨1, _⟩ => exact (Nat.zero_add _).symm | ⟨2, _⟩ => exact (Nat.zero_add _).symm
  · refine (ld_unit_apply_of x2 _ _ _ (ix3 0 0 j) (ix3 0 0 j) fun d => ?_).trans (h2 j)
    match d with | ⟨0, _⟩ => rfl | ⟨1, _⟩ => rfl | ⟨2, _⟩ => exact (Nat.zero_add _).symm

theorem index0 : ∀ t : Fin grid0.N, win0_0.index t = ![0, 0] := fun _ => rfl
theorem index1 : ∀ t : Fin grid0.N, win0_1.index t = ![t.val / 4, 0, t.val % 4] := by decide +kernel
theorem index2 : ∀ t : Fin grid0.N, win0_2.index t = ![t.val / 4, 0, t.val % 4] := by decide +kernel
theorem index3 : ∀ t : Fin grid0.N, win0_3.index t = ![t.val / 4, 0, t.val % 4] := by decide +kernel

variable (m : (ℓ : Loc nD τ sig) → Buf (Elt Ideal) ℓ) (c : Dev nD)

/-- The conditioning rows of both groups with eight zero rows after them, -/
abbrev cond : Arr2 144 1024 :=
  Cert.Reference4Ideal.Read.val_main_v1 (F := Ideal) (m ((c : Thread nD τ).loc main_arg0)) (m ((c : Thread nD τ).loc main_arg1))
/-- and the modulation rows of each layer. -/
def rows : Arr3 2 144 6144 := fun i => modRow (row2 (cond m c) (i 1)) (mat3 (m ((c : Thread nD τ).loc main_arg2)) (i 0))
  (row2 (m ((c : Thread nD τ).loc main_arg3)) (i 0)) (i 2)

theorem w_c (t : Fin cfg0.N) (r : Fin 144) (k : Fin 1024) : (iblk m c 0 t : Vec Ideal S144x1024 .f32) (ix2 r k) = cond m c (ix2 r k) := by
  blk_simp [iblk]
  entry_read
  clean_types
  refine at2 _ ?_ ?_ <;> blk_simp [index0]
theorem w_w (t : Fin cfg0.N) (l : Fin 2) (hl : l.val = t.val / 4) (k : Fin 1024) (j : Fin 1536) (j' : Fin 6144) (hj : j'.val = 1536 * (t.val % 4) + j.val) :
    (iblk m c 1 t : Vec Ideal S1x1024x1536 .f32) (ix3 0 k j) = mat3 (m ((c : Thread nD τ).loc main_arg2)) l k j' := by
  blk_simp [iblk]
  entry_read
  refine at3 _ ?_ ?_ ?_ <;> blk_simp [index1]
  · exact hl.symm
  · show t.val % 4 * 1536 + j.val = j'.val; omega
theorem w_b (t : Fin cfg0.N) (l : Fin 2) (hl : l.val = t.val / 4) (j : Fin 1536) (j' : Fin 6144) (hj : j'.val = 1536 * (t.val % 4) + j.val) :
    (iblk m c 2 t : Vec Ideal S1x1x1536 .f32) (ix3 0 0 j) = row2 (m ((c : Thread nD τ).loc main_arg3)) l j' := by
  blk_simp [iblk]
  entry_read
  clean_types
  refine shapeCast_apply _ _ _ (ix2 l j') ?_
  refine (Shape.rowMajor_val_two _).trans (Eq.trans ?_ (Shape.rowMajor_val_three (d := ![2, 1, 6144]) _).symm)
  blk_simp [index2]
  show l.val * 6144 + j'.val = t.val / 4 * 6144 + (t.val % 4 * 1536 + j.val)
  omega

/-- The launch ends with the modulation rows. -/
theorem final : (dats m 0 c).arrAt 3 cfg0.N = rows m c := by
  refine (dats m 0 c).arrAt_eq_of_covers 3 _ (by decide +kernel) fun t hf j => ?_
  blk_simp
  rw [after0_3]
  have e0 : (((win0_3.blk t).view.emb j) 0).val = t.val / 4 := by
    have h : (j 0).val < 1 := (j 0).isLt
    blk_simp [index3]
  have e1 : (((win0_3.blk t).view.emb j) 1).val = (j 1).val := by blk_simp [index3]
  have e2 : (((win0_3.blk t).view.emb j) 2).val = 1536 * (t.val % 4) + (j 2).val := by
    blk_simp [index3]
    omega
  have hj : ∀ q : Fin 1536, 1536 * (t.val % 4) + q.val < 6144 := fun q => by have := q.isLt; omega
  refine (at3 (a := 1) (b := 144) (c := 1536) _ (i := 0) (j := j 1) (k := j 2) (Nat.lt_one_iff.1 (j 0).isLt) rfl rfl).trans
    ((block (w_c m c t) (w := fun k q => mat3 (m ((c : Thread nD τ).loc main_arg2)) (((win0_3.blk t).view.emb j) 0) k ⟨1536 * (t.val % 4) + q.val, hj q⟩)
      (b := fun q => row2 (m ((c : Thread nD τ).loc main_arg3)) (((win0_3.blk t).view.emb j) 0) ⟨1536 * (t.val % 4) + q.val, hj q⟩)
      (fun k q => w_w m c t _ e0 k q _ rfl) (fun q => w_b m c t _ e0 q _ rfl) (j 1) (j 2)).trans ?_)
  have f1 : ((win0_3.blk t).view.emb j) 1 = j 1 := Fin.ext e1
  have f2 : (⟨1536 * (t.val % 4) + (j 2).val, hj (j 2)⟩ : Fin 6144) = ((win0_3.blk t).view.emb j) 2 := Fin.ext e2.symm
  show lin (silu (row2 (cond m c) (j 1))) (mat3 (m ((c : Thread nD τ).loc main_arg2)) (((win0_3.blk t).view.emb j) 0)) ⟨1536 * (t.val % 4) + (j 2).val, hj (j 2)⟩
    + row2 (m ((c : Thread nD τ).loc main_arg3)) (((win0_3.blk t).view.emb j) 0) ⟨1536 * (t.val % 4) + (j 2).val, hj (j 2)⟩
    = modRow (row2 (cond m c) (((win0_3.blk t).view.emb j) 1)) (mat3 (m ((c : Thread nD τ).loc main_arg2)) (((win0_3.blk t).view.emb j) 0))
      (row2 (m ((c : Thread nD τ).loc main_arg3)) (((win0_3.blk t).view.emb j) 0)) (((win0_3.blk t).view.emb j) 2)
  rw [f1, f2]
  rfl

end Decoder.Mod

namespace Decoder.RefMod

open Cert.Reference4Ideal Cert.Reference4Ideal.Read
open Decoder.RefOdd (i2 i3)
open Decoder.Mod (silu modRow)

variable (x0 : Arr2 8 1024) (x1 : Arr2 128 1024) (x2 : Arr3 2 1024 6144) (x3 : Arr2 2 6144)

/-- The reference's SiLU, as it is written out for either layer. -/
theorem silu_apply (r : Fin 144) (k : Fin 1024) :
    val_main_v2 (F := Ideal) x0 x1 (ix2 r k) = silu (row2 (val_main_v1 (F := Ideal) x0 x1) r) k
    ∧ val_main_v11 (F := Ideal) x0 x1 (ix2 r k) = silu (row2 (val_main_v1 (F := Ideal) x0 x1) r) k := by
  have h1 : Ideal.ofBits .f32 0x3F800000#32 = 1 := Ideal.ofBits_one_f32
  constructor
  · simp only [val_main_v2_apply, val_main_call1_v5_apply, val_main_call1_v4_apply, val_main_call1_v3_apply, val_main_call1_v2_apply,
      val_main_call1_v1_apply, val_main_call1_v0_apply, val_main_call1_cst_apply, val_main_call1_cst_0_apply]
    show _ * Ideal.div (Ideal.ofBits .f32 0x3F800000#32) (Ideal.ofBits .f32 0x3F800000#32 + _) = _
    rw [h1]
    rfl
  · simp only [val_main_v11_apply, val_main_call2_v5_apply, val_main_call2_v4_apply, val_main_call2_v3_apply, val_main_call2_v2_apply,
      val_main_call2_v1_apply, val_main_call2_v0_apply, val_main_call2_cst_apply, val_main_call2_cst_0_apply]
    show _ * Ideal.div (Ideal.ofBits .f32 0x3F800000#32) (Ideal.ofBits .f32 0x3F800000#32 + _) = _
    rw [h1]
    rfl

/-- The first layer's rows, -/
theorem rows0 (r : Fin 144) (k : Fin 6144) :
    val_main_v20 (F := Ideal) x0 x1 x2 x3 (ix3 0 r k) = modRow (row2 (val_main_v1 (F := Ideal) x0 x1) r) (mat3 x2 0) (row2 x3 0) k := by
  rw [val_main_v20_apply, i2 (idx_main_v20 _) r k rfl rfl, val_main_v10_apply, val_main_v9_apply, val_main_v8_apply, val_main_v7_apply, val_main_v6_apply,
    val_main_v5_apply]
  unfold modRow lin
  refine congrArg₂ (· + ·) (Finset.sum_congr rfl fun c _ => ?_) (congrArg x3 (i2 _ 0 k rfl (Nat.mod_eq_of_lt k.isLt)))
  rw [i2 (lidx_main_v5 _ c) r c rfl rfl, (silu_apply x0 x1 r c).1, val_main_v4_apply, val_main_v3_apply]
  refine congrArg (_ * ·) (congrArg x2 (i3 _ 0 c k rfl ?_ ?_)) <;>
    have := k.isLt <;> have := c.isLt
  · show (c.val * 6144 + k.val) / 6144 % 1024 = c.val; omega
  · show (c.val * 6144 + k.val) % 6144 = k.val; omega

/-- and the second's. -/
theorem rows1 (r : Fin 144) (k : Fin 6144) :
    val_main_v21 (F := Ideal) x0 x1 x2 x3 (ix3 0 r k) = modRow (row2 (val_main_v1 (F := Ideal) x0 x1) r) (mat3 x2 1) (row2 x3 1) k := by
  rw [val_main_v21_apply, i2 (idx_main_v21 _) r k rfl rfl, val_main_v19_apply, val_main_v18_apply, val_main_v17_apply, val_main_v16_apply, val_main_v15_apply,
    val_main_v14_apply]
  unfold modRow lin
  refine congrArg₂ (· + ·) (Finset.sum_congr rfl fun c _ => ?_) (congrArg x3 (i2 _ 1 k rfl (Nat.mod_eq_of_lt k.isLt)))
  rw [i2 (lidx_main_v14 _ c) r c rfl rfl, (silu_apply x0 x1 r c).2, val_main_v13_apply, val_main_v12_apply]
  refine congrArg (_ * ·) (congrArg x2 (i3 _ 1 c k rfl ?_ ?_)) <;>
    have := k.isLt <;> have := c.isLt
  · show (c.val * 6144 + k.val) / 6144 % 1024 = c.val; omega
  · show (c.val * 6144 + k.val) % 6144 = k.val; omega

/-- The reference's result. -/
theorem rows_apply (l : Fin 2) (r : Fin 144) (k : Fin 6144) :
    val_main_v22 (F := Ideal) x0 x1 x2 x3 (ix3 l r k) = modRow (row2 (val_main_v1 (F := Ideal) x0 x1) r) (mat3 x2 l) (row2 x3 l) k := by
  unfold val_main_v22
  match l with
  | ⟨0, _⟩ =>
    exact (concatenate_pair_apply_left (t := ⟨3, ![2, 144, 6144]⟩) 0 (val_main_v20 (F := Ideal) x0 x1 x2 x3) (val_main_v21 (F := Ideal) x0 x1 x2 x3)
      _ (ix3 0 r k) rfl (ix3 0 r k) (fun b => match b with | ⟨0, _⟩ => rfl | ⟨1, _⟩ => rfl | ⟨2, _⟩ => rfl)).trans (rows0 x0 x1 x2 x3 r k)
  | ⟨1, _⟩ =>
    exact (concatenate_pair_apply_right (t := ⟨3, ![2, 144, 6144]⟩) 0 (val_main_v20 (F := Ideal) x0 x1 x2 x3) (val_main_v21 (F := Ideal) x0 x1 x2 x3)
      _ (ix3 1 r k) rfl rfl (ix3 0 r k) (fun b hb => match b with | ⟨0, _⟩ => absurd rfl hb | ⟨1, _⟩ => rfl | ⟨2, _⟩ => rfl) rfl).trans (rows1 x0 x1 x2 x3 r k)

end Decoder.RefMod

namespace Decoder.Mod

/-- The modulation kernel over the extended reals ends with what its reference ends with. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => rows m c, ?_, ?_⟩
  · refine (θ_run _ _ _).mono (fun r h c => ?_) (Cert.Kernel4Ideal.Value.run_blocks m g)
    obtain ⟨h3, hk⟩ := h c
    exact ⟨h3.trans (final m c), hk⟩
  · refine (θ_run _ _ _).mono (fun r h c => ?_) (Cert.Reference4Ideal.Value.run (F := Ideal) m' g')
    obtain ⟨hy, hk⟩ := h c
    obtain ⟨a0, a1, a2, a3⟩ := hargs c
    refine ⟨hy.trans ((Cert.Reference4Ideal.Read.val_main_v22_eq _ _ _ _).trans ?_), hk⟩
    rw [a0, a1, a2, a3]
    exact funext fun i => (congrArg _ (RefOdd.i3 i (i 0) (i 1) (i 2) rfl rfl rfl)).trans (RefMod.rows_apply _ _ _ _ (i 0) (i 1) (i 2))

end Decoder.Mod
-- ==== Proof.SampleSpec.lean ====
/-
  The odd layer on the sample group: 128 sequences of eight positions, each with its own modulation and with two rows of
  ConvFFN history. The kernel keeps 64 sequences in time-major order, position first (`flat`).
-/
module

public import proofs.«01_k».proof.Proof.Args
public import proofs.«01_k».proof.Proof.Spec

@[expose] public section

noncomputable section

open Idealize.ShloMosaic Idealize.ShloMosaic.ValueIdx

namespace Decoder

/-- The rows of 64 sequences in the order of the position, then the sequence. -/
abbrev flat {C : ℕ} (u : ℕ → ℕ → Row C) (l : ℕ) : Row C := u (l % 64) (l / 64)

/-- The mixing weights of one position, and its bias, by channel. -/
def smpW (W : OddW) (t s : ℕ) : Row 1024 :=
  fun k => W.ws ⟨k.val / 128, by have := k.isLt; omega⟩ ⟨t % 128, Nat.mod_lt _ (by decide)⟩ ⟨s % 128, Nat.mod_lt _ (by decide)⟩
def smpB (W : OddW) (t : ℕ) : Row 1024 := W.bs ⟨t % 128, Nat.mod_lt _ (by decide)⟩

/-- A bias plus the weighted rows `0, …, j`, added one after the other. -/
def acc {C : ℕ} (b : Row C) (w v : ℕ → Row C) : ℕ → Row C
  | 0 => fun k => b k + w 0 k * v 0 k
  | j + 1 => fun k => acc b w v j k + w (j + 1) k * v (j + 1) k

theorem acc_sum {C : ℕ} (b : Row C) (w v : ℕ → Row C) (j : ℕ) (k : Fin C) :
    acc b w v j k = b k + ∑ s ∈ Finset.range (j + 1), w s k * v s k := by
  induction j with
  | zero => simp [acc]
  | succ j ih => rw [Finset.sum_range_succ, ← add_assoc, ← ih]; rfl

/-- The mixed values of a position: the rows up to it, mixed. -/
def smpZ (W : OddW) (v : ℕ → Row 1024) (t : ℕ) : Row 1024 := acc (smpB W t) (smpW W t) v t

/-- The same as a sum over a whole chunk of 128 positions, whatever rows stand after the eighth. -/
theorem smpZ_eq (W : OddW) (v : ℕ → Row 1024) (t : ℕ) (ht : t < 8) (k : Fin 1024) (f : Fin 128 → EReal)
    (hf : ∀ s : Fin 128, s.val ≤ t → f s = W.ws ⟨k.val / 128, by have := k.isLt; omega⟩ ⟨t % 128, Nat.mod_lt _ (by decide)⟩ s * v s.val k)
    (hz : ∀ s : Fin 128, ¬s.val ≤ t → f s = 0) :
    (∑ s, f s) + W.bs ⟨t % 128, Nat.mod_lt _ (by decide)⟩ k = smpZ W v t k := by
  unfold smpZ
  rw [acc_sum, add_comm]
  refine congrArg₂ (· + ·) rfl ?_
  have e : ∀ s : Fin 128, f s = if s.val ≤ t then smpW W t s.val k * v s.val k else 0 := fun s => by
    split
    · rename_i h
      rw [hf s h]
      unfold smpW
      congr 2
      exact Fin.ext (Nat.mod_eq_of_lt s.isLt).symm
    · rename_i h
      exact hz s h
  rw [Finset.sum_congr rfl fun s _ => e s, Fin.sum_univ_eq_sum_range (fun s => if s ≤ t then smpW W t s k * v s k else 0) 128]
  symm
  refine (Finset.sum_congr rfl fun s hs => ?_).trans (Finset.sum_subset (fun s hs => ?_) fun s _ hs => ?_)
  · rw [if_pos (by have := Finset.mem_range.1 hs; omega)]
  · have := Finset.mem_range.1 hs
    exact Finset.mem_range.2 (by omega)
  · rw [if_neg (fun h => hs (Finset.mem_range.2 (by omega)))]

/-- The mixer's rows of a sequence, -/
def smpMix (W : OddW) (md : Row 6144) (x : ℕ → Row 1024) (t : ℕ) : Row 1024 :=
  fun k => oddU W md x t k * smpZ W (oddV W md x) t k
/-- and the residual stream after the mixer. -/
def smpX1 (W : OddW) (md : Row 6144) (x : ℕ → Row 1024) : ℕ → Row 1024 := mixOut W.out md x (smpMix W md x)

/-- Two rows of history, then a sequence's rows. -/
def ext2 {C : ℕ} (st u : ℕ → Row C) (p : ℕ) : Row C := if p < 2 then st p else u (p - 2)

/-- The convolution of width three at a position of rows that stand after two others. -/
def convE {C : ℕ} (w : Fin 3 → Row C) (b : Row C) (e : ℕ → Row C) (t : ℕ) : Row C :=
  fun k => b k + w 0 k * e t k + w 1 k * e (t + 1) k + w 2 k * e (t + 2) k

/-- The rows that a sequence's ConvFFN convolves, after its history. -/
def smpE (W : OddW) (Fw : FfnW) (nf : Row 1024) (md : Row 6144) (st : ℕ → Row 5632) (x : ℕ → Row 1024) : ℕ → Row 5632 :=
  ext2 st (ffnUp Fw nf md (smpX1 W md x))

/-- The layer's output row: the residual stream after the ConvFFN, normalised. -/
def smpY (W : OddW) (Fw : FfnW) (nf nfin : Row 1024) (md : Row 6144) (st : ℕ → Row 5632) (x : ℕ → Row 1024) (t : ℕ) : Row 1024 :=
  rms (fun k => smpX1 W md x t k + part md 5 k * lin (geglu (convE Fw.cw Fw.cb (smpE W Fw nf md st x) t)) Fw.down k) nfin

/-- One sequence's rows, its history and its modulation, out of the arguments. -/
def smpX {n : ℕ} (a : Arr3 128 8 n) (b t : ℕ) : Row n := fun k => if h : b < 128 ∧ t < 8 then a (ix3 ⟨b, h.1⟩ ⟨t, h.2⟩ k) else 0
def smpS {n : ℕ} (a : Arr4 2 128 2 n) (b t : ℕ) : Row n := fun k => if h : b < 128 ∧ t < 2 then a (ix4 1 ⟨b, h.1⟩ ⟨t, h.2⟩ k) else 0
def smpM {n : ℕ} (a : Arr2 128 n) (b : ℕ) : Row n := fun k => if h : b < 128 then a (ix2 ⟨b, h⟩ k) else 0

theorem smpX_apply {n : ℕ} (a : Arr3 128 8 n) (b : Fin 128) (t : Fin 8) (k : Fin n) : smpX a b.val t.val k = a (ix3 b t k) := by
  unfold smpX; rw [dif_pos ⟨b.isLt, t.isLt⟩]
theorem smpS_apply {n : ℕ} (a : Arr4 2 128 2 n) (b : Fin 128) (t : Fin 2) (k : Fin n) : smpS a b.val t.val k = a (ix4 1 b t k) := by
  unfold smpS; rw [dif_pos ⟨b.isLt, t.isLt⟩]
theorem smpM_apply {n : ℕ} (a : Arr2 128 n) (b : Fin 128) : smpM a b.val = row2 a b := by
  funext k; unfold smpM; rw [dif_pos b.isLt]; rfl

end Decoder
-- ==== Proof.SampleBlocks.lean ====
/-
  The stages of the sample group's kernel body on 64 sequences in time-major order: slabs of 64 rows (one position of every
  sequence), each sequence with its own modulation rows, the mixing as sums of weighted slabs, and buffers written in slabs.
-/
module

public import proofs.«01_k».proof.Proof.FfnChunk
public import proofs.«01_k».proof.Proof.SampleSpec

@[expose] public section

noncomputable section

open Idealize.ShloMosaic Idealize.ShloMosaic.ValueIdx Idealize.ShloMosaic.View

namespace Decoder

variable {sig : RefSig} {κ : Kind} {sp : Space} {R C n : ℕ}

/-- A block that holds one sequence's rows holds any other's that agrees there. -/
theorem Rows.congr {v : Mat R C} {u u' : ℕ → Row C} (h : Rows v u n) (e : ∀ r, r < R → u (n + r) = u' (n + r)) : Rows v u' n := fun r c => by
  rw [h r c, e r.val r.isLt]

/-- A block's slab of rows. -/
theorem Rows.slab {A B o : ℕ} {v : Mat A C} {u : ℕ → Row C} (h : Rows v u 0) (hs : (⟨2, ![A, C]⟩ : Shape).Slices ![o, 0] ⟨2, ![B, C]⟩) (ho : o + B ≤ A) :
    Rows (extractStridedSlice (s := ⟨2, ![A, C]⟩) ⟨2, ![B, C]⟩ ![o, 0] v hs) u o := fun r c => by
  have hr := r.isLt
  refine (extractStridedSlice_apply (s := ⟨2, ![A, C]⟩) ![o, 0] v hs (ix2 r c) (ix2 (⟨o + r.val, by omega⟩ : Fin A) c) fun d => match d with
    | ⟨0, _⟩ => rfl | ⟨1, _⟩ => (Nat.zero_add _).symm).trans ?_
  rw [h, Nat.zero_add]

/-- Scaling and shifting, each row by its own rows. -/
theorem Rows.affine' {x sc sh : Mat R C} {u s h : ℕ → Row C} (hx : Rows x u n) (hsc : Rows sc s n) (hsh : Rows sh h n) :
    Rows (addf (F := Ideal) (φ := .f32) (mulf (F := Ideal) (φ := .f32) x (addf (F := Ideal) (φ := .f32)
      (broadcast ⟨2, ![R, C]⟩ (FloatOps.ofBits (F := Ideal) .f32 0x3F800000#32)) sc)) sh)
      (fun l k => u l k * (litOne + s l k) + h l k) n := fun r c => by
  show x (ix2 r c) * (litOne + sc (ix2 r c)) + sh (ix2 r c) = _
  rw [hx, hsc, hsh]

/-- A residual gated row by row. -/
theorem Rows.resid' {x y g : Mat R C} {u v w : ℕ → Row C} (hx : Rows x u n) (hy : Rows y v n) (hg : Rows g w n) :
    Rows (addf (F := Ideal) (φ := .f32) x (mulf (F := Ideal) (φ := .f32) g y)) (fun l k => u l k + w l k * v l k) n := fun r k => by
  show x (ix2 r k) + g (ix2 r k) * y (ix2 r k) = _; rw [hx, hg, hy]

/-- The modulation rows of 64 sequences, at any slab. -/
theorem mod_slab (m : Memref sig κ sp ⟨3, ![1, 64, 6144]⟩ .f32) (hm : m.IsWhole) {X : (⟨3, ![1, 64, 6144]⟩ : Shape).Idx → EReal} {M : ℕ → Row 6144}
    (hX : ∀ r k, X (ix3 0 r k) = M r.val k) (k : Fin 6) {o : ℕ} (ho : o = 1024 * k.val) (hn : 64 ∣ n)
    (inb : ∀ d, (![0, 0, 0] : Fin 3 → ℕ) d + (![1, 64, 6144] : Fin 3 → ℕ) d ≤ (⟨3, ![1, 64, 6144]⟩ : Shape).size d)
    (hc : (⟨3, ![1, 64, 6144]⟩ : Shape).ShapeCasts ⟨2, ![64, 6144]⟩) (hs : (⟨2, ![64, 6144]⟩ : Shape).Slices ![0, o] ⟨2, ![64, 1024]⟩) :
    Rows (extractStridedSlice (s := ⟨2, ![64, 6144]⟩) ⟨2, ![64, 1024]⟩ ![0, o] (shapeCast ⟨2, ![64, 6144]⟩
      (View.readAt (Elt Ideal) m.view (Rect.unit (s := ⟨3, ![1, 64, 6144]⟩) ![0, 0, 0] ![1, 64, 6144] inb).toLoadRect (hm.unread X)) hc) hs)
      (fun l => part (M (l % 64)) k) n := fun r c => by
  have hk := k.isLt
  have hcl := c.isLt
  have hr := r.isLt
  refine (extractStridedSlice_apply (s := ⟨2, ![64, 6144]⟩) ![0, o] _ hs (ix2 r c) (ix2 r (⟨o + c.val, by omega⟩ : Fin 6144)) fun d => match d with
    | ⟨0, _⟩ => (Nat.zero_add _).symm | ⟨1, _⟩ => rfl).trans ?_
  refine (cast_drop _ hc r _).trans ((load3 m hm X inb 0 r _ 0 r ⟨o + c.val, by omega⟩ rfl (by simp) (by simp)).trans ((hX _ _).trans ?_))
  obtain ⟨d, rfl⟩ := hn
  show _ = part (M ((64 * d + r.val) % 64)) k c
  rw [show (64 * d + r.val) % 64 = r.val by omega]
  subst ho; rfl

/-- One slab of the input's block. -/
theorem in_slab {A B : ℕ} (m : Memref sig κ sp ⟨3, ![1, A, C]⟩ .f32) (hm : m.IsWhole) {X : (⟨3, ![1, A, C]⟩ : Shape).Idx → EReal} {x : ℕ → Row C}
    (hX : ∀ r c, X (ix3 0 r c) = x r.val c)
    (inb : ∀ d, (![0, n, 0] : Fin 3 → ℕ) d + (![1, B, C] : Fin 3 → ℕ) d ≤ (⟨3, ![1, A, C]⟩ : Shape).size d)
    (hc : (⟨3, ![1, B, C]⟩ : Shape).ShapeCasts ⟨2, ![B, C]⟩) :
    Rows (shapeCast ⟨2, ![B, C]⟩
      (View.readAt (Elt Ideal) m.view (Rect.unit (s := ⟨3, ![1, A, C]⟩) ![0, n, 0] ![1, B, C] inb).toLoadRect (hm.unread X)) hc) x n := fun r c => by
  have h1 : n + B ≤ A := inb 1
  have hr := r.isLt
  exact (cast_drop _ hc r c).trans ((load3 m hm X inb 0 r c 0 ⟨n + r.val, by omega⟩ c rfl rfl (by simp)).trans (hX _ c))

/-- A slab of a buffer whose contents are known, read back. -/
theorem buf_slab {A B : ℕ} (v : View sig κ sp ⟨2, ![A, C]⟩ .f32) {L : List (Piece (Elt Ideal) ⟨2, ![A, C]⟩ .f32)} {u : ℕ → Row C}
    (hL : ∀ (r : Fin A) (c : Fin C), View.canon L (ix2 r c) = u r.val c)
    (inb : ∀ d, (![n, 0] : Fin 2 → ℕ) d + (![B, C] : Fin 2 → ℕ) d ≤ (⟨2, ![A, C]⟩ : Shape).size d) :
    Rows (v.readCov L (Rect.unit (s := ⟨2, ![A, C]⟩) ![n, 0] ![B, C] inb).toLoadRect) u n := fun r c => by
  have h1 : n + B ≤ A := inb 0
  have hr := r.isLt
  exact (readCov2 v L inb r c ⟨n + r.val, by omega⟩ c rfl (by simp)).trans (hL _ c)

/-! ### Buffers written slab by slab -/

/-- A slab stored into a buffer of narrow floats, -/
theorem slab_ok {A a o : ℕ} {G : ℕ → Row C} {inb : ∀ d, (![o, 0] : Fin 2 → ℕ) d + (![a, C] : Fin 2 → ℕ) d ≤ (⟨2, ![A, C]⟩ : Shape).size d}
    {w : Mat a C} (hw : Rows w G o) : TileOk G 0 (⟨Rect.unit (s := ⟨2, ![A, C]⟩) ![o, 0] ![a, C] inb, w⟩ : Piece (Elt Ideal) ⟨2, ![A, C]⟩ .bf16) := by
  refine tile_ok (n := 0) (by omega) (fun r c => ?_)
  refine (hw r c).trans ?_
  show G (o + r.val) c = G (0 + o + r.val) ⟨0 + c.val, _⟩
  rw [Nat.zero_add o]
  exact congrArg (G (o + r.val)) (Fin.ext (Nat.zero_add _).symm)

/-- and into one of wide floats. -/
def SlabOk {A N : ℕ} (G : ℕ → Row N) (p : Piece (Elt Ideal) ⟨2, ![A, N]⟩ .f32) : Prop :=
  ∀ x, p.2 x = G (p.1.emb x 0 : Fin A).val (p.1.emb x 1)

theorem slab_ok32 {A a o : ℕ} {G : ℕ → Row C} {inb : ∀ d, (![o, 0] : Fin 2 → ℕ) d + (![a, C] : Fin 2 → ℕ) d ≤ (⟨2, ![A, C]⟩ : Shape).size d}
    {w : Mat a C} (hw : Rows w G o) : SlabOk G (⟨Rect.unit (s := ⟨2, ![A, C]⟩) ![o, 0] ![a, C] inb, w⟩ : Piece (Elt Ideal) ⟨2, ![A, C]⟩ .f32) := fun x => by
  obtain ⟨r, c, rfl⟩ : ∃ (r : Fin a) (c : Fin C), x = ix2 r c := ⟨x 0, x 1, eq_ix2 (n0 := a) (n1 := C) x⟩
  have e0 : ((Rect.unit (s := ⟨2, ![A, C]⟩) ![o, 0] ![a, C] inb).emb (ix2 r c) 0).val = o + r.val :=
    Rect.idx_unit_val (s := ⟨2, ![A, C]⟩) ![o, 0] ![a, C] inb (ix2 r c) 0
  have e1 : ((Rect.unit (s := ⟨2, ![A, C]⟩) ![o, 0] ![a, C] inb).emb (ix2 r c) 1).val = 0 + c.val :=
    Rect.idx_unit_val (s := ⟨2, ![A, C]⟩) ![o, 0] ![a, C] inb (ix2 r c) 1
  show w (ix2 r c) = G ((Rect.unit (s := ⟨2, ![A, C]⟩) ![o, 0] ![a, C] inb).emb (ix2 r c) 0).val _
  rw [hw r c, e0]
  exact congrArg (G (o + r.val)) (Fin.ext (e1.trans (Nat.zero_add _)).symm)

/-- A buffer of wide floats covered by such slabs. -/
theorem slabs_canon {A N : ℕ} {G : ℕ → Row N} (L : List (Piece (Elt Ideal) ⟨2, ![A, N]⟩ .f32)) (hL : ∀ p ∈ L, SlabOk G p)
    (hc : ∀ y, ∃ p ∈ L, y ∈ p.1.set) (r : Fin A) (c : Fin N) : View.canon L (ix2 r c) = G r.val c :=
  canon_apply_of_pieces (S := ⟨2, ![A, N]⟩) (fun y => (G (y 0 : Fin A).val (y 1) : Elt Ideal .f32)) L (fun p hp x => hL p hp x) (ix2 r c) (hc _)

/-- A buffer of narrow floats whose last `j` pieces cover it, read whole. -/
theorem slabs_read {A N : ℕ} {G : ℕ → Row N} (j : ℕ) (L : List (Piece (Elt Ideal) ⟨2, ![A, N]⟩ .bf16)) (v : View sig κ sp ⟨2, ![A, N]⟩ .bf16)
    (hL : ∀ p ∈ L.take j, TileOk G 0 p) (hc : ∀ y, ∃ p ∈ L.take j, y ∈ p.1.set)
    (inb : ∀ d, (![0, 0] : Fin 2 → ℕ) d + (![A, N] : Fin 2 → ℕ) d ≤ (⟨2, ![A, N]⟩ : Shape).size d) :
    Rows (v.readCov L (Rect.unit (s := ⟨2, ![A, N]⟩) ![0, 0] ![A, N] inb).toLoadRect) G 0 := fun r c =>
  (readCov2 v L inb r c r c (by simp) (by simp)).trans
    (canon_take (S := ⟨2, ![A, N]⟩) (fun y => (G (0 + (y 0 : Fin A).val) (y 1) : Elt Ideal .bf16)) j L (fun p hp x => hL p hp x) (ix2 r c) (hc _))

/-- A slab stored into an output window. -/
def OutOk {A N : ℕ} (G : ℕ → Row N) (p : Piece (Elt Ideal) ⟨3, ![1, A, N]⟩ .f32) : Prop :=
  ∀ x, p.2 x = G (p.1.emb x 1 : Fin A).val (p.1.emb x 2)

theorem out_ok {A a o : ℕ} {G : ℕ → Row C} {inb : ∀ d, (![0, o, 0] : Fin 3 → ℕ) d + (![1, a, C] : Fin 3 → ℕ) d ≤ (⟨3, ![1, A, C]⟩ : Shape).size d}
    {w : Mat a C} (hw : Rows w G o) (hc : (⟨2, ![a, C]⟩ : Shape).ShapeCasts ⟨3, ![1, a, C]⟩) :
    OutOk G (⟨Rect.unit (s := ⟨3, ![1, A, C]⟩) ![0, o, 0] ![1, a, C] inb, shapeCast ⟨3, ![1, a, C]⟩ w hc⟩ : Piece (Elt Ideal) ⟨3, ![1, A, C]⟩ .f32) := fun x => by
  obtain ⟨z, r, c, rfl⟩ : ∃ (z : Fin 1) (r : Fin a) (c : Fin C), x = ix3 z r c := ⟨x 0, x 1, x 2, eq_ix3 (n0 := 1) (n1 := a) (n2 := C) x⟩
  obtain rfl : z = 0 := Subsingleton.elim _ _
  have e1 : ((Rect.unit (s := ⟨3, ![1, A, C]⟩) ![0, o, 0] ![1, a, C] inb).emb (ix3 0 r c) 1).val = o + r.val :=
    Rect.idx_unit_val (s := ⟨3, ![1, A, C]⟩) ![0, o, 0] ![1, a, C] inb (ix3 0 r c) 1
  have e2 : ((Rect.unit (s := ⟨3, ![1, A, C]⟩) ![0, o, 0] ![1, a, C] inb).emb (ix3 0 r c) 2).val = 0 + c.val :=
    Rect.idx_unit_val (s := ⟨3, ![1, A, C]⟩) ![0, o, 0] ![1, a, C] inb (ix3 0 r c) 2
  refine (cast_add _ hc r c).trans ?_
  show w (ix2 r c) = G ((Rect.unit (s := ⟨3, ![1, A, C]⟩) ![0, o, 0] ![1, a, C] inb).emb (ix3 0 r c) 1).val _
  rw [hw r c, e1]
  exact congrArg (G (o + r.val)) (Fin.ext (e2.trans (Nat.zero_add _)).symm)

/-- An output window covered by such slabs. -/
theorem outs_canon {A N : ℕ} {G : ℕ → Row N} (L : List (Piece (Elt Ideal) ⟨3, ![1, A, N]⟩ .f32)) (hL : ∀ p ∈ L, OutOk G p)
    (hc : ∀ y, ∃ p ∈ L, y ∈ p.1.set) (r : Fin A) (c : Fin N) : View.canon L (ix3 0 r c) = G r.val c :=
  canon_apply_of_pieces (S := ⟨3, ![1, A, N]⟩) (fun y => (G (y 1 : Fin A).val (y 2) : Elt Ideal .f32)) L (fun p hp x => hL p hp x) (ix3 0 r c) (hc _)

/-! ### The mixing -/

section Mix

variable {W : OddW} {V : ℕ → ℕ → Row 1024} {t s o : ℕ}

/-- The row of mixing weights of the positions `t` and `s`. -/
theorem ws_row (m : Memref sig κ sp ⟨3, ![8, 8, 1024]⟩ .f32) (hm : m.IsWhole) {X : (⟨3, ![8, 8, 1024]⟩ : Shape).Idx → EReal}
    (hX : ∀ t s k, X (ix3 t s k) = smpW W t.val s.val k)
    (inb : ∀ d, (![t, s, 0] : Fin 3 → ℕ) d + (![1, 1, 1024] : Fin 3 → ℕ) d ≤ (⟨3, ![8, 8, 1024]⟩ : Shape).size d)
    (hc : (⟨3, ![1, 1, 1024]⟩ : Shape).ShapeCasts ⟨2, ![1, 1024]⟩) :
    One (shapeCast ⟨2, ![1, 1024]⟩
      (View.readAt (Elt Ideal) m.view (Rect.unit (s := ⟨3, ![8, 8, 1024]⟩) ![t, s, 0] ![1, 1, 1024] inb).toLoadRect (hm.unread X)) hc) (smpW W t s) := fun c => by
  have h0 : t + 1 ≤ 8 := inb 0
  have h1 : s + 1 ≤ 8 := inb 1
  exact (cast_drop _ hc 0 c).trans ((load3 m hm X inb 0 0 c ⟨t, by omega⟩ ⟨s, by omega⟩ c rfl rfl (by simp)).trans (hX _ _ c))

/-- The bias row of the position `t`. -/
theorem bias_row (m : Memref sig κ sp ⟨2, ![128, 1024]⟩ .f32) (hm : m.IsWhole) {X : Mat 128 1024} (hX : ∀ t k, X (ix2 t k) = W.bs t k)
    (inb : ∀ d, (![t, 0] : Fin 2 → ℕ) d + (![1, 1024] : Fin 2 → ℕ) d ≤ (⟨2, ![128, 1024]⟩ : Shape).size d)
    (hc : (⟨2, ![1, 1024]⟩ : Shape).ShapeCasts ⟨2, ![1, 1024]⟩) :
    One (shapeCast ⟨2, ![1, 1024]⟩
      (View.readAt (Elt Ideal) m.view (Rect.unit (s := ⟨2, ![128, 1024]⟩) ![t, 0] ![1, 1024] inb).toLoadRect (hm.unread X)) hc) (smpB W t) :=
  One.cast (fun c => by
    have h0 : t + 1 ≤ 128 := inb 0
    refine (load2 m hm X inb 0 c ⟨t, by omega⟩ c rfl (by simp)).trans ((hX _ c).trans ?_)
    unfold smpB
    congr 2
    exact (Nat.mod_eq_of_lt (by omega)).symm) hc

/-- Row `r` of slab `s` is position `s` of sequence `r`. -/
theorem flat_slab {C : ℕ} (u : ℕ → ℕ → Row C) (s r : ℕ) (hr : r < 64) : flat u (64 * s + r) = u r s := by
  unfold flat
  rw [show (64 * s + r) % 64 = r by omega, show (64 * s + r) / 64 = s by omega]

/-- The bias and the first slab, weighted, -/
theorem acc_first {b w : Mat 1 1024} {wr : ℕ → Row 1024} {br : Row 1024} {v : Mat 64 1024} (h0 : t = 0) (hb : One b br) (hw : One w (wr 0))
    (hv : Rows v (flat V) 0) (hn : 64 ∣ n) (c0 c1 : (⟨2, ![1, 1024]⟩ : Shape).Broadcasts ⟨2, ![64, 1024]⟩) :
    Rows (addf (F := Ideal) (φ := .f32) (broadcastTo ⟨2, ![64, 1024]⟩ b c0) (mulf (F := Ideal) (φ := .f32) (broadcastTo ⟨2, ![64, 1024]⟩ w c1) v))
      (fun l => acc br wr (V (l % 64)) t) n := fun r k => by
  subst h0
  have hr := r.isLt
  obtain ⟨d, rfl⟩ := hn
  show broadcastTo ⟨2, ![64, 1024]⟩ b c0 (ix2 r k) + broadcastTo ⟨2, ![64, 1024]⟩ w c1 (ix2 r k) * v (ix2 r k) = _
  rw [bcast_row, bcast_row, hb, hw, hv]
  show _ = br k + wr 0 k * V ((64 * d + r.val) % 64) 0 k
  rw [show (64 * d + r.val) % 64 = r.val by omega, ← flat_slab V 0 r.val hr]

/-- and one more slab. -/
theorem acc_next {w : Mat 1 1024} {wr : ℕ → Row 1024} {br : Row 1024} {z v : Mat 64 1024} (ht : t ≠ 0) (hz : Rows z (fun l => acc br wr (V (l % 64)) (t - 1)) n)
    (hw : One w (wr t)) (ho : o = 64 * t) (hv : Rows v (flat V) o) (hn : 64 ∣ n) (c1 : (⟨2, ![1, 1024]⟩ : Shape).Broadcasts ⟨2, ![64, 1024]⟩) :
    Rows (addf (F := Ideal) (φ := .f32) z (mulf (F := Ideal) (φ := .f32) (broadcastTo ⟨2, ![64, 1024]⟩ w c1) v))
      (fun l => acc br wr (V (l % 64)) t) n := fun r k => by
  have hr := r.isLt
  obtain ⟨d, rfl⟩ := hn
  obtain ⟨j, rfl⟩ := Nat.exists_eq_succ_of_ne_zero ht
  subst ho
  show z (ix2 r k) + broadcastTo ⟨2, ![64, 1024]⟩ w c1 (ix2 r k) * v (ix2 r k) = _
  rw [bcast_row, hz, hw, hv, flat_slab V (j + 1) r.val hr]
  show _ = acc br wr (V ((64 * d + r.val) % 64)) j k + wr (j + 1) k * V ((64 * d + r.val) % 64) (j + 1) k
  rw [show V ((64 * d + r.val) % 64) = V r.val from congrArg V (by omega)]
  exact congrArg (· + _) (congrArg (fun b => acc br wr (V b) j k) (by omega))

/-- The mixed rows of the position a slab stands at. -/
theorem mix_ok {U : ℕ → ℕ → Row 1024} (h64 : 64 ∣ o) {u z : Mat 64 1024} (hu : Rows u (flat U) o)
    (hz : Rows z (fun l => acc (smpB W (o / 64)) (smpW W (o / 64)) (V (l % 64)) (o / 64)) o)
    {inb : ∀ d, (![o, 0] : Fin 2 → ℕ) d + (![64, 1024] : Fin 2 → ℕ) d ≤ (⟨2, ![512, 1024]⟩ : Shape).size d}
    (hb : FTy.bits .bf16 < FTy.bits .f32) (hc : (⟨2, ![64, 1024]⟩ : Shape).ShapeCasts ⟨2, ![64, 1024]⟩) :
    TileOk (flat (fun b t k => U b t k * smpZ W (V b) t k)) 0 (⟨Rect.unit (s := ⟨2, ![512, 1024]⟩) ![o, 0] ![64, 1024] inb,
      shapeCast ⟨2, ![64, 1024]⟩ (truncf (F := Ideal) (φ := .f32) .bf16 (mulf (F := Ideal) (φ := .f32) u z) hb) hc⟩ : Piece (Elt Ideal) ⟨2, ![512, 1024]⟩ .bf16) :=
  slab_ok (Rows.cast (Rows.trunc ((hu.mul hz).congr fun r hr => by
    obtain ⟨t, rfl⟩ := h64
    funext k
    show U ((64 * t + r) % 64) ((64 * t + r) / 64) k * acc (smpB W (64 * t / 64)) (smpW W (64 * t / 64)) (V ((64 * t + r) % 64)) (64 * t / 64) k
      = U ((64 * t + r) % 64) ((64 * t + r) / 64) k * smpZ W (V ((64 * t + r) % 64)) ((64 * t + r) / 64) k
    rw [show (64 * t + r) / 64 = t by omega, show 64 * t / 64 = t by omega]
    rfl) hb) hc)

end Mix

/-! ### The ConvFFN with its history -/

section Ffn

variable {Fw : FfnW} {S : ℕ → ℕ → Row 5632} {U : ℕ → ℕ → Row 5632} {o : ℕ}

/-- Rows stand after two rows of history of every sequence. -/
theorem flat_ext {C : ℕ} (S U : ℕ → ℕ → Row C) (l : ℕ) : flat (fun b => ext2 (S b) (U b)) (128 + l) = flat U l := by
  show ext2 (S ((128 + l) % 64)) (U ((128 + l) % 64)) ((128 + l) / 64) = _
  rw [show (128 + l) % 64 = l % 64 by omega, show (128 + l) / 64 = l / 64 + 2 by omega]
  unfold ext2
  rw [if_neg (by omega), Nat.add_sub_cancel]

/-- The two rows of history before them. -/
theorem flat_ext_head {C : ℕ} (S U : ℕ → ℕ → Row C) (l : ℕ) (h : l < 128) : flat (fun b => ext2 (S b) (U b)) l = flat S l := by
  show ext2 (S (l % 64)) (U (l % 64)) (l / 64) = _
  unfold ext2
  rw [if_pos (by omega)]

/-- Row `r` of the rows from the start on. -/
theorem hist_all {C : ℕ} (u : ℕ → Row C) (h r : ℕ) : hist u h h r = u r := by
  unfold hist; rw [if_pos (by omega)]; congr 1; omega

/-- One chunk of the convolution with stride 64, from the three boxes of its buffer. -/
theorem conv_tile' {e : ℕ → Row 5632} (h : o + 256 ≤ 5632) {g0 g1 g2 : Mat 512 256} (e0 : ∀ r c, g0 (ix2 r c) = cols o 256 h (e (0 + r.val)) c)
    (e1 : ∀ r c, g1 (ix2 r c) = cols o 256 h (e (64 + r.val)) c) (e2 : ∀ r c, g2 (ix2 r c) = cols o 256 h (e (128 + r.val)) c)
    {b w0 w1 w2 : Mat 1 256} (hb : One b (cols o 256 h Fw.cb)) (hw0 : One w0 (cols o 256 h (Fw.cw 0))) (hw1 : One w1 (cols o 256 h (Fw.cw 1)))
    (hw2 : One w2 (cols o 256 h (Fw.cw 2))) (c0 c1 c2 c3 : (⟨2, ![1, 256]⟩ : Shape).Broadcasts ⟨2, ![512, 256]⟩) :
    Rows (addf (F := Ideal) (φ := .f32) (addf (F := Ideal) (φ := .f32) (addf (F := Ideal) (φ := .f32) (broadcastTo ⟨2, ![512, 256]⟩ b c0)
      (mulf (F := Ideal) (φ := .f32) (broadcastTo ⟨2, ![512, 256]⟩ w0 c1) g0)) (mulf (F := Ideal) (φ := .f32) (broadcastTo ⟨2, ![512, 256]⟩ w1 c2) g1))
      (mulf (F := Ideal) (φ := .f32) (broadcastTo ⟨2, ![512, 256]⟩ w2 c3) g2))
      (fun l => cols o 256 h (fun k => Fw.cb k + Fw.cw 0 k * e l k + Fw.cw 1 k * e (64 + l) k + Fw.cw 2 k * e (128 + l) k)) 0 := fun r k => by
  show broadcastTo ⟨2, ![512, 256]⟩ b c0 (ix2 r k) + broadcastTo ⟨2, ![512, 256]⟩ w0 c1 (ix2 r k) * g0 (ix2 r k)
    + broadcastTo ⟨2, ![512, 256]⟩ w1 c2 (ix2 r k) * g1 (ix2 r k) + broadcastTo ⟨2, ![512, 256]⟩ w2 c3 (ix2 r k) * g2 (ix2 r k)
    = cols o 256 h (fun k => Fw.cb k + Fw.cw 0 k * e (0 + r.val) k + Fw.cw 1 k * e (64 + (0 + r.val)) k + Fw.cw 2 k * e (128 + (0 + r.val)) k) k
  rw [bcast_row, bcast_row, bcast_row, bcast_row, hb, hw0, hw1, hw2, e0, e1, e2, Nat.zero_add]
  rfl

/-- One chunk's convolution of rows that stand after their history: 256 columns from `o` on. -/
theorem conv_chunk' {s : ℕ → Row 1024} {h2 : Mat 512 1024} {e : ℕ → Row 5632} (h : o + 256 ≤ 5632) (hs : Rows h2 s 0) (he : ∀ l, l < 512 → e (128 + l) = lin (s l) Fw.up)
    (m : Memref sig κ sp ⟨2, ![1024, 5632]⟩ .bf16) (hm : m.IsWhole) {X : Mat 1024 5632} (hX : Is X Fw.up)
    (mw : Memref sig κ sp ⟨2, ![3, 5632]⟩ .f32) (hmw : mw.IsWhole) {Xw : Mat 3 5632} (hXw : ∀ t c, Xw (ix2 t c) = Fw.cw t c)
    (mb : Memref sig κ sp ⟨2, ![1, 5632]⟩ .f32) (hmb : mb.IsWhole) {Xb : Mat 1 5632} (hXb : One Xb Fw.cb)
    {T : Mat 128 256} (hT : ∀ r c, T (ix2 r c) = hist (fun l => cols o 256 h (e l)) 128 128 r.val c)
    (L : List (Piece (Elt Ideal) ⟨2, ![640, 256]⟩ .f32)) (v : View sig κ sp ⟨2, ![640, 256]⟩ .f32)
    (inb1 inb2 i0 i1 i2 iu ib w0 w1 w2) (hc hc' hcb hc0 hc1 hc2 b0 b1 b2 b3)
    (D : DotDims ⟨2, ![512, 1024]⟩ ⟨2, ![1024, 256]⟩ ⟨2, ![512, 256]⟩) (hD : D = DotDims.plain 512 1024 256) (p : Option ContractPrecision) :
    let buf : List (Piece (Elt Ideal) ⟨2, ![640, 256]⟩ .f32) :=
      (⟨Rect.unit (s := ⟨2, ![640, 256]⟩) ![128, 0] ![512, 256] inb1, shapeCast ⟨2, ![512, 256]⟩ (matmul (F := Ideal) (φ₁ := .bf16) (φ₂ := .bf16) D p h2
        (shapeCast ⟨2, ![1024, 256]⟩ (View.readAt (Elt Ideal) m.view (Rect.unit (s := ⟨2, ![1024, 5632]⟩) ![0, o] ![1024, 256] iu).toLoadRect (hm.unread X)) hc)
        (constant (F := Ideal) ⟨2, ![512, 256]⟩ .f32 0x00000000#32)) hc'⟩ : Piece (Elt Ideal) ⟨2, ![640, 256]⟩ .f32)
      :: (⟨Rect.unit (s := ⟨2, ![640, 256]⟩) ![0, 0] ![128, 256] inb2, T⟩ : Piece (Elt Ideal) ⟨2, ![640, 256]⟩ .f32) :: L
    Rows (addf (F := Ideal) (φ := .f32) (addf (F := Ideal) (φ := .f32) (addf (F := Ideal) (φ := .f32)
      (broadcastTo ⟨2, ![512, 256]⟩ (shapeCast ⟨2, ![1, 256]⟩ (View.readAt (Elt Ideal) mb.view (Rect.unit (s := ⟨2, ![1, 5632]⟩) ![0, o] ![1, 256] ib).toLoadRect (hmb.unread Xb)) hcb) b0)
      (mulf (F := Ideal) (φ := .f32) (broadcastTo ⟨2, ![512, 256]⟩ (shapeCast ⟨2, ![1, 256]⟩ (View.readAt (Elt Ideal) mw.view (Rect.unit (s := ⟨2, ![3, 5632]⟩) ![0, o] ![1, 256] w0).toLoadRect (hmw.unread Xw)) hc0) b1)
        (v.readCov buf (Rect.unit (s := ⟨2, ![640, 256]⟩) ![0, 0] ![512, 256] i0).toLoadRect)))
      (mulf (F := Ideal) (φ := .f32) (broadcastTo ⟨2, ![512, 256]⟩ (shapeCast ⟨2, ![1, 256]⟩ (View.readAt (Elt Ideal) mw.view (Rect.unit (s := ⟨2, ![3, 5632]⟩) ![1, o] ![1, 256] w1).toLoadRect (hmw.unread Xw)) hc1) b2)
        (v.readCov buf (Rect.unit (s := ⟨2, ![640, 256]⟩) ![64, 0] ![512, 256] i1).toLoadRect)))
      (mulf (F := Ideal) (φ := .f32) (broadcastTo ⟨2, ![512, 256]⟩ (shapeCast ⟨2, ![1, 256]⟩ (View.readAt (Elt Ideal) mw.view (Rect.unit (s := ⟨2, ![3, 5632]⟩) ![2, o] ![1, 256] w2).toLoadRect (hmw.unread Xw)) hc2) b3)
        (v.readCov buf (Rect.unit (s := ⟨2, ![640, 256]⟩) ![128, 0] ![512, 256] i2).toLoadRect)))
      (fun l => cols o 256 h (fun k => Fw.cb k + Fw.cw 0 k * e l k + Fw.cw 1 k * e (64 + l) k + Fw.cw 2 k * e (128 + l) k)) 0 := by
  intro buf
  have hB : Rows (shapeCast ⟨2, ![512, 256]⟩ (matmul (F := Ideal) (φ₁ := .bf16) (φ₂ := .bf16) D p h2
        (shapeCast ⟨2, ![1024, 256]⟩ (View.readAt (Elt Ideal) m.view (Rect.unit (s := ⟨2, ![1024, 5632]⟩) ![0, o] ![1024, 256] iu).toLoadRect (hm.unread X)) hc)
        (constant (F := Ideal) ⟨2, ![512, 256]⟩ .f32 0x00000000#32)) hc') (fun l => cols o 256 h (e l)) 128 := fun r c => by
    refine ((up_tile h hs m hm hX iu hc D hD p).cast hc' r c).trans ?_
    show cols o 256 h (lin (s (0 + r.val)) Fw.up) c = cols o 256 h (e (128 + r.val)) c
    rw [he r.val r.isLt, Nat.zero_add]
  exact conv_tile' (e := e) h (fun r k => (tap rfl hB hT L v i0 r k).trans (congrFun (hist_all ..) k)) (fun r k => (tap rfl hB hT L v i1 r k).trans (congrFun (hist_all ..) k))
    (fun r k => (tap rfl hB hT L v i2 r k).trans (congrFun (hist_all ..) k)) (row_tile h mb hmb (by omega) hXb ib hcb)
    (row_tile h mw hmw (by omega) (hXw 0) w0 hc0) (row_tile h mw hmw (by omega) (hXw 1) w1 hc1) (row_tile h mw hmw (by omega) (hXw 2) w2 hc2) b0 b1 b2 b3

/-- One chunk of the up projection, as rows that stand after their history. -/
theorem up_rows {w : ℕ} {s : ℕ → Row 1024} {e : ℕ → Row 5632} {B : Mat 512 w} (h : o + w ≤ 5632) (he : ∀ l, l < 512 → e (128 + l) = lin (s l) Fw.up)
    (hB : Rows B (fun l => cols o w h (lin (s l) Fw.up)) 0) : Rows B (fun l => cols o w h (e l)) 128 := fun r c => by
  rw [hB r c, Nat.zero_add]
  show _ = cols o w h (e (128 + r.val)) c
  rw [he r.val r.isLt]

/-- One chunk of the gate, from the convolved rows. -/
theorem act_tile' {q : ℕ → Row 5632} (h : o + 256 ≤ 2816) {cg cu : Mat 512 256} (hg : Rows cg (fun l => cols o 256 (by omega) (q l)) n)
    (hu : Rows cu (fun l => cols (2816 + o) 256 (by omega) (q l)) n) (c : EReal) (hcc : c = gc1)
    (hb : FTy.bits .bf16 < FTy.bits .f32) (hc : (⟨2, ![512, 256]⟩ : Shape).ShapeCasts ⟨2, ![512, 256]⟩) :
    Rows (shapeCast ⟨2, ![512, 256]⟩ (truncf (F := Ideal) (φ := .f32) .bf16 (mulf (F := Ideal) (φ := .f32)
      (mulf (F := Ideal) (φ := .f32) (mulf (F := Ideal) (φ := .f32) (broadcast ⟨2, ![512, 256]⟩ (FloatOps.ofBits (F := Ideal) .f32 0x3F000000#32)) cg)
      (addf (F := Ideal) (φ := .f32) (broadcast ⟨2, ![512, 256]⟩ (FloatOps.ofBits (F := Ideal) .f32 0x3F800000#32))
        (tanh (F := Ideal) (φ := .f32) (mulf (F := Ideal) (φ := .f32) cg (addf (F := Ideal) (φ := .f32)
          (broadcast ⟨2, ![512, 256]⟩ (FloatOps.ofBits (F := Ideal) .f32 0x3F4C422A#32))
          (mulf (F := Ideal) (φ := .f32) (broadcast ⟨2, ![512, 256]⟩ (c : Ideal .f32)) (mulf (F := Ideal) (φ := .f32) cg cg))))))) cu) hb) hc)
      (fun l => cols o 256 h (geglu (q l))) n := by
  refine Rows.cast (Rows.trunc (fun r k => ?_) hb) hc
  refine ((hg.gelu c hcc).mul hu r k).trans ?_
  show gelu (q (n + r.val) _) * q (n + r.val) _ = gelu (q (n + r.val) _) * q (n + r.val) _
  congr 2
  exact Fin.ext (Nat.add_assoc 2816 o k.val)

end Ffn

end Decoder
-- ==== Proof.SampleLayer.lean ====
/-
  The sample group's body on 64 sequences: what each of its buffers holds, from what its windows hold.
-/
module

public import proofs.«01_k».proof.Proof.SampleBlocks
public import proofs.«01_k».proof.Proof.Gen.Kernel3Ideal.Value

@[expose] public section

set_option maxRecDepth 16384

noncomputable section

open Idealize.ShloMosaic Idealize.ShloMosaic.ValueIdx Idealize.ShloMosaic.View Idealize.ShloMosaic.TcCoe
open Cert.Kernel3Ideal Cert.Kernel3Ideal.Gen

namespace Decoder.Sample

/-- The windows of one grid point hold the layer's arrays and, position by position, the rows of 64 sequences, their
    modulations and their histories. -/
structure Blk (W : OddW) (Fw : FfnW) (nf nfin : Row 1024) (M : ℕ → Row 6144) (X : ℕ → ℕ → Row 1024) (S : ℕ → ℕ → Row 5632)
    (x0 : Vec Ideal S1x512x1024 .f32) (x1 : Vec Ideal S1x64x6144 .f32) (x2 : Vec Ideal S1x128x5632 .f32) (x3 : Vec Ideal S1x1024 .f32) (x4 : Vec Ideal S1x1024 .f32) (x5 : Vec Ideal S1024x2048 .bf16) (x6 : Vec Ideal S1x1024 .f32) (x7 : Vec Ideal S8x8x1024 .f32) (x8 : Vec Ideal S128x1024 .f32) (x9 : Vec Ideal S1024x1024 .bf16) (x10 : Vec Ideal S1024x5632 .bf16) (x11 : Vec Ideal S3x5632 .f32) (x12 : Vec Ideal S1x5632 .f32) (x13 : Vec Ideal S2816x1024 .bf16) (x14 : Vec Ideal S1x1024 .f32) : Prop where
  hx : ∀ (r : Fin 512) (c : Fin 1024), x0 (ix3 0 r c) = flat X r.val c
  hmd : ∀ (r : Fin 64) (k : Fin 6144), x1 (ix3 0 r k) = M r.val k
  hst : ∀ (r : Fin 128) (c : Fin 5632), x2 (ix3 0 r c) = flat S r.val c
  hnm : One (C := 1024) x3 W.nm
  hnf : One (C := 1024) x4 nf
  huv : Is (K := 1024) (N := 2048) x5 W.uv
  hgv : One (C := 1024) x6 W.gv
  hws : ∀ (t s : Fin 8) (k : Fin 1024), x7 (ix3 t s k) = smpW W t.val s.val k
  hbs : ∀ (t : Fin 128) (k : Fin 1024), x8 (ix2 t k) = W.bs t k
  hout : Is (K := 1024) (N := 1024) x9 W.out
  hup : Is (K := 1024) (N := 5632) x10 Fw.up
  hcw : ∀ t k, x11 (ix2 t k) = Fw.cw t k
  hcb : One (C := 5632) x12 Fw.cb
  hdown : Is (K := 2816) (N := 1024) x13 Fw.down
  hnfin : One (C := 1024) x14 nfin

variable {W : OddW} {Fw : FfnW} {nf nfin : Row 1024} {M : ℕ → Row 6144} {X : ℕ → ℕ → Row 1024} {S : ℕ → ℕ → Row 5632}
variable (c : Dev nD) (arg2 : Memref sig .tc .vmem S1x512x1024 .f32) (harg2 : arg2.IsWhole) (arg3 : Memref sig .tc .vmem S1x64x6144 .f32) (harg3 : arg3.IsWhole) (arg4 : Memref sig .tc .vmem S1x128x5632 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x1024 .f32) (harg8 : arg8.IsWhole) (arg9 : Memref sig .tc .vmem S8x8x1024 .f32) (harg9 : arg9.IsWhole) (arg10 : Memref sig .tc .vmem S128x1024 .f32) (harg10 : arg10.IsWhole) (arg11 : Memref sig .tc .vmem S1024x1024 .bf16) (harg11 : arg11.IsWhole) (arg12 : Memref sig .tc .vmem S1024x5632 .bf16) (harg12 : arg12.IsWhole) (arg13 : Memref sig .tc .vmem S3x5632 .f32) (harg13 : arg13.IsWhole) (arg14 : Memref sig .tc .vmem S1x5632 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x128x5632 .f32) (harg18 : arg18.IsWhole) (arg19 : Memref sig .tc .vmem S1x512x1024 .f32) (harg19 : arg19.IsWhole) (arg20 : Memref sig .tc .vmem S512x1024 .bf16) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S640x256 .f32) (harg23 : arg23.IsWhole) (arg24 : Memref sig .tc .vmem S640x256 .f32) (harg24 : arg24.IsWhole) (arg25 : Memref sig .tc .vmem S512x2816 .bf16) (harg25 : arg25.IsWhole) (arg26 : Memref sig .tc .vmem S512x1024 .f32) (harg26 : arg26.IsWhole) (arg27 : Memref sig .tc .vmem S512x1024 .f32) (harg27 : arg27.IsWhole)
variable {x0 : Vec Ideal S1x512x1024 .f32} {x1 : Vec Ideal S1x64x6144 .f32} {x2 : Vec Ideal S1x128x5632 .f32} {x3 : Vec Ideal S1x1024 .f32} {x4 : Vec Ideal S1x1024 .f32} {x5 : Vec Ideal S1024x2048 .bf16} {x6 : Vec Ideal S1x1024 .f32} {x7 : Vec Ideal S8x8x1024 .f32} {x8 : Vec Ideal S128x1024 .f32} {x9 : Vec Ideal S1024x1024 .bf16} {x10 : Vec Ideal S1024x5632 .bf16} {x11 : Vec Ideal S3x5632 .f32} {x12 : Vec Ideal S1x5632 .f32} {x13 : Vec Ideal S2816x1024 .bf16} {x14 : Vec Ideal S1x1024 .f32}
variable (H : Blk W Fw nf nfin M X S x0 x1 x2 x3 x4 x5 x6 x7 x8 x9 x10 x11 x12 x13 x14)

/-- The rows of a norm with the modulation of their sequences. -/
abbrev mods (M : ℕ → Row 6144) (x : ℕ → ℕ → Row 1024) (g : Row 1024) (sc sh : Fin 6) : ℕ → Row 1024 :=
  fun l => adaln (flat x l) g (part (M (l % 64)) sc) (part (M (l % 64)) sh)

/-- The layer's rows, by sequence and position. -/
abbrev fU (W : OddW) (M : ℕ → Row 6144) (X : ℕ → ℕ → Row 1024) : ℕ → ℕ → Row 1024 := fun b => oddU W (M b) (X b)
abbrev fV (W : OddW) (M : ℕ → Row 6144) (X : ℕ → ℕ → Row 1024) : ℕ → ℕ → Row 1024 := fun b => oddV W (M b) (X b)
abbrev fMix (W : OddW) (M : ℕ → Row 6144) (X : ℕ → ℕ → Row 1024) : ℕ → ℕ → Row 1024 := fun b => smpMix W (M b) (X b)
abbrev fX1 (W : OddW) (M : ℕ → Row 6144) (X : ℕ → ℕ → Row 1024) : ℕ → ℕ → Row 1024 := fun b => smpX1 W (M b) (X b)
abbrev fE (W : OddW) (Fw : FfnW) (nf : Row 1024) (M : ℕ → Row 6144) (X : ℕ → ℕ → Row 1024) (S : ℕ → ℕ → Row 5632) : ℕ → ℕ → Row 5632 :=
  fun b => smpE W Fw nf (M b) (S b) (X b)

include H

/-- The rows the mixer's projection reads: every slab of their buffer, -/
theorem h_pieces : ∀ p ∈ (kernelRun0_A.sl.HS0_8 (F := Ideal) c arg2 harg2 arg3 harg3 arg5 harg5 x0 x1 x3).take 8, TileOk (A := 512) (N := 1024) (mods M X W.nm 1 0) 0 p := by
  repeat' first
    | exact List.forall_mem_nil _
    | refine List.forall_mem_cons.2 ⟨slab_ok (Rows.cast (Rows.trunc (Rows.affine' (Rows.rms (in_slab arg2 harg2 H.hx _ _) (row_all arg5 harg5 H.hnm _ _) _ _ _ _ _ _)
        (mod_slab arg3 harg3 H.hmd 1 rfl (by decide) _ _ _) (mod_slab arg3 harg3 H.hmd 0 rfl (by decide) _ _ _)) _) _), ?_⟩

/-- and the whole of it. -/
theorem h_rows (v : View sig .tc .vmem ⟨2, ![512, 1024]⟩ .bf16) (inb) :
    Rows (v.readCov (kernelRun0_A.sl.HS0_8 (F := Ideal) c arg2 harg2 arg3 harg3 arg5 harg5 x0 x1 x3) (Rect.unit (s := ⟨2, ![512, 1024]⟩) ![0, 0] ![512, 1024] inb).toLoadRect) (mods M X W.nm 1 0) 0 :=
  slabs_read 8 _ v (h_pieces c arg2 harg2 arg3 harg3 arg5 harg5 H) (fun y => View.cover_of_tiledL _ ![64, 1024] (by sl_kernel_rfl) y) inb

/-- The gate rows, as their buffer holds them, -/
theorem u_rows (r : Fin 512) (k : Fin 1024) : View.canon (s := ⟨2, ![512, 1024]⟩) (e := .f32) (kernelRun0_A.sl.HS6_1 (F := Ideal) c arg2 harg2 arg3 harg3 arg5 harg5 arg7 harg7 arg20 x0 x1 x3 x5) (ix2 r k) = flat (fU W M X) r.val k := by
  refine (canon_whole _ [] _ _).trans ((Rows.cast (Rows.gelu (up_tile (N := 2048) (o := 0) (by decide)
    (h_rows c arg2 harg2 arg3 harg3 arg5 harg5 H arg20.view _) arg7 harg7 H.huv _ _ _ rfl _) _ rfl) _ r k).trans ?_)
  unfold flat fU oddU cols
  simp only [Nat.zero_add]

/-- and the value rows. -/
theorem v_rows (r : Fin 512) (k : Fin 1024) : View.canon (s := ⟨2, ![512, 1024]⟩) (e := .f32) (kernelRun0_A.sl.HS7_1 (F := Ideal) c arg2 harg2 arg3 harg3 arg5 harg5 arg7 harg7 arg8 harg8 arg20 x0 x1 x3 x5 x6) (ix2 r k) = flat (fV W M X) r.val k :=
  (canon_whole _ [] _ _).trans ((Rows.cast (Rows.rms (Rows.gelu (up_tile (N := 2048) (o := 1024) (by decide)
    (h_rows c arg2 harg2 arg3 harg3 arg5 harg5 H arg20.view _) arg7 harg7 H.huv _ _ _ rfl _) _ rfl) (row_all arg8 harg8 H.hgv _ _) _ _ (.inl rfl) rfl _ _) _ r k).trans
      (congrArg (fun l => flat (fV W M X) l k) (Nat.zero_add r.val)))

/-- The mixer's rows: every slab of their buffer, -/
theorem mix_pieces : ∀ p ∈ (kernelRun0_A.sl.HS2_8 (F := Ideal) c arg2 harg2 arg3 harg3 arg5 harg5 arg7 harg7 arg8 harg8 arg9 harg9 arg10 harg10 arg20 arg26 arg27 x0 x1 x3 x5 x6 x7 x8).take 8, TileOk (A := 512) (N := 1024) (flat (fMix W M X)) 0 p := by
  have hU := u_rows c arg2 harg2 arg3 harg3 arg5 harg5 arg7 harg7 arg20 H
  have hV := v_rows c arg2 harg2 arg3 harg3 arg5 harg5 arg7 harg7 arg8 harg8 arg20 H
  repeat' first
    | exact List.forall_mem_nil _
    | refine List.forall_mem_cons.2 ⟨mix_ok (U := fU W M X) (V := fV W M X) (by decide) (buf_slab arg26.view hU _) (by
        repeat refine acc_next (V := fV W M X) (by decide) ?_ (ws_row arg9 harg9 H.hws _ _) (by decide) (buf_slab arg27.view hV _) (by decide) _
        exact acc_first (V := fV W M X) (by decide) (bias_row arg10 harg10 H.hbs _ _) (ws_row arg9 harg9 H.hws _ _) (buf_slab arg27.view hV _) (by decide) _ _) _ _, ?_⟩

/-- and the whole of it. -/
theorem mix_rows (v : View sig .tc .vmem ⟨2, ![512, 1024]⟩ .bf16) (inb) :
    Rows (v.readCov (kernelRun0_A.sl.HS2_8 (F := Ideal) c arg2 harg2 arg3 harg3 arg5 harg5 arg7 harg7 arg8 harg8 arg9 harg9 arg10 harg10 arg20 arg26 arg27 x0 x1 x3 x5 x6 x7 x8) (Rect.unit (s := ⟨2, ![512, 1024]⟩) ![0, 0] ![512, 1024] inb).toLoadRect) (flat (fMix W M X)) 0 :=
  slabs_read 8 _ v (mix_pieces c arg2 harg2 arg3 harg3 arg5 harg5 arg7 harg7 arg8 harg8 arg9 harg9 arg10 harg10 arg20 arg26 arg27 H) (fun y => View.cover_of_tiledL _ ![64, 1024] (by sl_kernel_rfl) y) inb

/-- The residual stream after the mixer: every slab of its buffer, -/
theorem x1_pieces : ∀ p ∈ (kernelRun0_A.sl.HS1_8 (F := Ideal) c arg2 harg2 arg3 harg3 arg5 harg5 arg7 harg7 arg8 harg8 arg9 harg9 arg10 harg10 arg11 harg11 arg20 arg22 arg26 arg27 x0 x1 x3 x5 x6 x7 x8 x9), SlabOk (A := 512) (N := 1024) (flat (fX1 W M X)) p := by
  repeat' first
    | exact List.forall_mem_nil _
    | refine List.forall_mem_cons.2 ⟨slab_ok32 (Rows.cast (Rows.resid' (in_slab arg2 harg2 H.hx _ _) (Rows.slab (Rows.lin (mix_rows c arg2 harg2 arg3 harg3 arg5 harg5 arg7 harg7 arg8 harg8 arg9 harg9 arg10 harg10 arg20 arg26 arg27 H arg22.view _) (mat_all arg11 harg11 H.hout _ _) _ rfl _) _ (by decide))
        (mod_slab arg3 harg3 H.hmd 2 rfl (by decide) _ _ _)) _), ?_⟩

/-- and the whole of it. -/
theorem x1_rows (r : Fin 512) (k : Fin 1024) : View.canon (s := ⟨2, ![512, 1024]⟩) (e := .f32) (kernelRun0_A.sl.HS1_8 (F := Ideal) c arg2 harg2 arg3 harg3 arg5 harg5 arg7 harg7 arg8 harg8 arg9 harg9 arg10 harg10 arg11 harg11 arg20 arg22 arg26 arg27 x0 x1 x3 x5 x6 x7 x8 x9) (ix2 r k) = flat (fX1 W M X) r.val k :=
  slabs_canon _ (x1_pieces c arg2 harg2 arg3 harg3 arg5 harg5 arg7 harg7 arg8 harg8 arg9 harg9 arg10 harg10 arg11 harg11 arg20 arg22 arg26 arg27 H) (fun y => View.cover_of_tiledL _ ![64, 1024] (by sl_kernel_rfl) y) r k

/-- The rows the ConvFFN's up projection reads: every slab of their buffer, over the rows the mixer read, -/
theorem h2_pieces : ∀ p ∈ (kernelRun0_A.sl.HS0_16 (F := Ideal) c arg2 harg2 arg3 harg3 arg5 harg5 arg6 harg6 arg7 harg7 arg8 harg8 arg9 harg9 arg10 harg10 arg11 harg11 arg20 arg22 arg26 arg27 x0 x1 x3 x4 x5 x6 x7 x8 x9).take 8, TileOk (A := 512) (N := 1024) (mods M (fX1 W M X) nf 4 3) 0 p := by
  repeat' first
    | exact List.forall_mem_nil _
    | refine List.forall_mem_cons.2 ⟨slab_ok (Rows.cast (Rows.trunc (Rows.affine' (Rows.rms (Rows.resid' (in_slab arg2 harg2 H.hx _ _) (Rows.slab (Rows.lin (mix_rows c arg2 harg2 arg3 harg3 arg5 harg5 arg7 harg7 arg8 harg8 arg9 harg9 arg10 harg10 arg20 arg26 arg27 H arg22.view _) (mat_all arg11 harg11 H.hout _ _) _ rfl _) _ (by decide))
        (mod_slab arg3 harg3 H.hmd 2 rfl (by decide) _ _ _)) (row_all arg6 harg6 H.hnf _ _) _ _ _ _ _ _)
        (mod_slab arg3 harg3 H.hmd 4 rfl (by decide) _ _ _) (mod_slab arg3 harg3 H.hmd 3 rfl (by decide) _ _ _)) _) _), ?_⟩

/-- and the whole of it. -/
theorem h2_rows (v : View sig .tc .vmem ⟨2, ![512, 1024]⟩ .bf16) (inb) :
    Rows (v.readCov (kernelRun0_A.sl.HS0_16 (F := Ideal) c arg2 harg2 arg3 harg3 arg5 harg5 arg6 harg6 arg7 harg7 arg8 harg8 arg9 harg9 arg10 harg10 arg11 harg11 arg20 arg22 arg26 arg27 x0 x1 x3 x4 x5 x6 x7 x8 x9) (Rect.unit (s := ⟨2, ![512, 1024]⟩) ![0, 0] ![512, 1024] inb).toLoadRect) (mods M (fX1 W M X) nf 4 3) 0 :=
  slabs_read 8 _ v (h2_pieces c arg2 harg2 arg3 harg3 arg5 harg5 arg6 harg6 arg7 harg7 arg8 harg8 arg9 harg9 arg10 harg10 arg11 harg11 arg20 arg22 arg26 arg27 H) (fun y => View.cover_of_tiledL _ ![64, 1024] (by sl_kernel_rfl) y) inb

end Decoder.Sample
-- ==== Proof.SampleOut.lean ====
/-
  The sample group's body on 64 sequences: its ConvFFN and the three blocks it leaves.
-/
module

public import proofs.«01_k».proof.Proof.SampleLayer

@[expose] public section

set_option maxRecDepth 16384

noncomputable section

open Idealize.ShloMosaic Idealize.ShloMosaic.ValueIdx Idealize.ShloMosaic.View Idealize.ShloMosaic.TcCoe
open Cert.Kernel3Ideal Cert.Kernel3Ideal.Gen

namespace Decoder.Sample

variable {W : OddW} {Fw : FfnW} {nf nfin : Row 1024} {M : ℕ → Row 6144} {X : ℕ → ℕ → Row 1024} {S : ℕ → ℕ → Row 5632}
variable (c : Dev nD) (arg2 : Memref sig .tc .vmem S1x512x1024 .f32) (harg2 : arg2.IsWhole) (arg3 : Memref sig .tc .vmem S1x64x6144 .f32) (harg3 : arg3.IsWhole) (arg4 : Memref sig .tc .vmem S1x128x5632 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x1024 .f32) (harg8 : arg8.IsWhole) (arg9 : Memref sig .tc .vmem S8x8x1024 .f32) (harg9 : arg9.IsWhole) (arg10 : Memref sig .tc .vmem S128x1024 .f32) (harg10 : arg10.IsWhole) (arg11 : Memref sig .tc .vmem S1024x1024 .bf16) (harg11 : arg11.IsWhole) (arg12 : Memref sig .tc .vmem S1024x5632 .bf16) (harg12 : arg12.IsWhole) (arg13 : Memref sig .tc .vmem S3x5632 .f32) (harg13 : arg13.IsWhole) (arg14 : Memref sig .tc .vmem S1x5632 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x128x5632 .f32) (harg18 : arg18.IsWhole) (arg19 : Memref sig .tc .vmem S1x512x1024 .f32) (harg19 : arg19.IsWhole) (arg20 : Memref sig .tc .vmem S512x1024 .bf16) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S640x256 .f32) (harg23 : arg23.IsWhole) (arg24 : Memref sig .tc .vmem S640x256 .f32) (harg24 : arg24.IsWhole) (arg25 : Memref sig .tc .vmem S512x2816 .bf16) (harg25 : arg25.IsWhole) (arg26 : Memref sig .tc .vmem S512x1024 .f32) (harg26 : arg26.IsWhole) (arg27 : Memref sig .tc .vmem S512x1024 .f32) (harg27 : arg27.IsWhole)
variable {x0 : Vec Ideal S1x512x1024 .f32} {x1 : Vec Ideal S1x64x6144 .f32} {x2 : Vec Ideal S1x128x5632 .f32} {x3 : Vec Ideal S1x1024 .f32} {x4 : Vec Ideal S1x1024 .f32} {x5 : Vec Ideal S1024x2048 .bf16} {x6 : Vec Ideal S1x1024 .f32} {x7 : Vec Ideal S8x8x1024 .f32} {x8 : Vec Ideal S128x1024 .f32} {x9 : Vec Ideal S1024x1024 .bf16} {x10 : Vec Ideal S1024x5632 .bf16} {x11 : Vec Ideal S3x5632 .f32} {x12 : Vec Ideal S1x5632 .f32} {x13 : Vec Ideal S2816x1024 .bf16} {x14 : Vec Ideal S1x1024 .f32}
variable (H : Blk W Fw nf nfin M X S x0 x1 x2 x3 x4 x5 x6 x7 x8 x9 x10 x11 x12 x13 x14)

/-- The gated rows of one position: GELU of the convolved gate columns times the convolved value columns. -/
abbrev fG (W : OddW) (Fw : FfnW) (nf : Row 1024) (M : ℕ → Row 6144) (X : ℕ → ℕ → Row 1024) (S : ℕ → ℕ → Row 5632) : ℕ → Row 2816 :=
  fun l => geglu (fun k => Fw.cb k + Fw.cw 0 k * flat (fE W Fw nf M X S) l k + Fw.cw 1 k * flat (fE W Fw nf M X S) (64 + l) k
    + Fw.cw 2 k * flat (fE W Fw nf M X S) (128 + l) k)

/-- They are the gate of the convolution of that position. -/
theorem fG_eq (W : OddW) (Fw : FfnW) (nf : Row 1024) (M : ℕ → Row 6144) (X : ℕ → ℕ → Row 1024) (S : ℕ → ℕ → Row 5632) (l : ℕ) :
    fG W Fw nf M X S l = geglu (convE Fw.cw Fw.cb (fE W Fw nf M X S (l % 64)) (l / 64)) := by
  unfold fG flat convE
  rw [show (64 + l) % 64 = l % 64 by omega, show (64 + l) / 64 = l / 64 + 1 by omega, show (128 + l) % 64 = l % 64 by omega,
    show (128 + l) / 64 = l / 64 + 2 by omega]

include H

/-- The gated rows: every piece of their buffer, a chunk of 256 columns, -/
theorem act_pieces : ∀ p ∈ (kernelRun0_A.sl.HS5_11 (F := Ideal) c arg2 harg2 arg3 harg3 arg4 harg4 arg5 harg5 arg6 harg6 arg7 harg7 arg8 harg8 arg9 harg9 arg10 harg10 arg11 harg11 arg12 harg12 arg13 harg13 arg14 harg14 arg18 arg20 arg22 arg23 arg24 arg26 arg27 x0 x1 x2 x3 x4 x5 x6 x7 x8 x9 x10 x11 x12), TileOk (A := 512) (N := 2816) (fG W Fw nf M X S) 0 p := by
  have hh := fun inb => h2_rows c arg2 harg2 arg3 harg3 arg5 harg5 arg6 harg6 arg7 harg7 arg8 harg8 arg9 harg9 arg10 harg10 arg11 harg11 arg20 arg22 arg26 arg27 H arg20.view inb
  have he : ∀ l, l < 512 → flat (fE W Fw nf M X S) (128 + l) = lin (mods M (fX1 W M X) nf 4 3 l) Fw.up := fun l _ => flat_ext ..
  have hX : ∀ (r : Fin 128) (k : Fin 5632), x2 (ix3 0 r k) = hist (flat (fE W Fw nf M X S)) 128 128 r.val k := fun r k => by
    rw [hist_all, H.hst]; exact (congrFun (flat_ext_head S _ r.val r.isLt) k).symm
  repeat' first
    | exact List.forall_mem_nil _
    | refine List.forall_mem_cons.2 ⟨tile_ok (by decide) (act_tile' (by decide) (conv_chunk' (e := flat (fE W Fw nf M X S)) (by decide) (hh _) he arg12 harg12 H.hup arg13 harg13 H.hcw arg14 harg14 H.hcb (state_new (by decide) arg18.view (fun r k => by
          repeat refine (state_off (by decide) _ _ (by decide) r k).trans ?_
          exact state_first arg4 harg4 hX _ _ _ _ _ r _) _ _ _) _ _ _ _ _ _ _ _ _ _ _ _ _ _ _ _ _ _ _ _ _ _ _ rfl _)
        (conv_chunk' (e := flat (fE W Fw nf M X S)) (by decide) (hh _) he arg12 harg12 H.hup arg13 harg13 H.hcw arg14 harg14 H.hcb (state_new (by decide) arg18.view (fun r k => by
          repeat refine (state_off (by decide) _ _ (by decide) r k).trans ?_
          exact state_first arg4 harg4 hX _ _ _ _ _ r _) _ _ _) _ _ _ _ _ _ _ _ _ _ _ _ _ _ _ _ _ _ _ _ _ _ _ rfl _) _ rfl _ _), ?_⟩

/-- and the whole of them. -/
theorem act_rows (v : View sig .tc .vmem ⟨2, ![512, 2816]⟩ .bf16) (inb) :
    Rows (v.readCov (kernelRun0_A.sl.HS5_11 (F := Ideal) c arg2 harg2 arg3 harg3 arg4 harg4 arg5 harg5 arg6 harg6 arg7 harg7 arg8 harg8 arg9 harg9 arg10 harg10 arg11 harg11 arg12 harg12 arg13 harg13 arg14 harg14 arg18 arg20 arg22 arg23 arg24 arg26 arg27 x0 x1 x2 x3 x4 x5 x6 x7 x8 x9 x10 x11 x12) (Rect.unit (s := ⟨2, ![512, 2816]⟩) ![0, 0] ![512, 2816] inb).toLoadRect) (fG W Fw nf M X S) 0 :=
  tiles_read _ v (act_pieces c arg2 harg2 arg3 harg3 arg4 harg4 arg5 harg5 arg6 harg6 arg7 harg7 arg8 harg8 arg9 harg9 arg10 harg10 arg11 harg11 arg12 harg12 arg13 harg13 arg14 harg14 arg18 arg20 arg22 arg23 arg24 arg26 arg27 H) (fun y => View.cover_of_tiledL _ ![512, 256] (by sl_kernel_rfl) y) inb

/-- The output rows: every slab of their window, -/
theorem y_pieces (i : grid0.Coords) (hc0 : cond0_0 i) : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).1, OutOk (A := 512) (N := 1024)
    (fun l => rms (fun k => flat (fX1 W M X) l k + part (M (l % 64)) 5 k * lin (fG W Fw nf M X S l) Fw.down k) nfin) p := by
  have hx := x1_rows c arg2 harg2 arg3 harg3 arg5 harg5 arg7 harg7 arg8 harg8 arg9 harg9 arg10 harg10 arg11 harg11 arg20 arg22 arg26 arg27 H
  repeat' first
    | exact List.forall_mem_nil _
    | refine List.forall_mem_cons.2 ⟨out_ok (Rows.rms (Rows.resid' (buf_slab arg21.view hx _) (Rows.slab (Rows.lin (act_rows c arg2 harg2 arg3 harg3 arg4 harg4 arg5 harg5 arg6 harg6 arg7 harg7 arg8 harg8 arg9 harg9 arg10 harg10 arg11 harg11 arg12 harg12 arg13 harg13 arg14 harg14 arg18 arg20 arg22 arg23 arg24 arg26 arg27 H arg25.view _)
        (mat_all arg15 harg15 H.hdown _ _) _ rfl _) _ (by decide)) (mod_slab arg3 harg3 H.hmd 5 rfl (by decide) _ _ _))
        (row_all arg16 harg16 H.hnfin _ _) _ _ (.inl rfl) rfl _ (by decide)) _, ?_⟩

/-- and the block of the result. -/
theorem y_block (i : grid0.Coords) (hc0 : cond0_0 i) (r : Fin 512) (k : Fin 1024) :
    View.canon (s := ⟨3, ![1, 512, 1024]⟩) (e := .f32) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).1 (ix3 0 r k)
      = smpY W Fw nf nfin (M (r.val % 64)) (S (r.val % 64)) (X (r.val % 64)) (r.val / 64) k := by
  refine (outs_canon _ (y_pieces c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 H i hc0) (fun y => View.cover_of_tiledL _ ![1, 64, 1024] (by sl_kernel_rfl) y) r k).trans ?_
  show rms (fun k => flat (fX1 W M X) r.val k + part (M (r.val % 64)) 5 k * lin (fG W Fw nf M X S r.val) Fw.down k) nfin k = _
  rw [fG_eq]
  rfl

/-- The block of the state: the last two rows of every sequence. -/
theorem f_block (i : grid0.Coords) (hc0 : cond0_0 i) (r : Fin 128) (k : Fin 5632) :
    View.canon (s := ⟨3, ![1, 128, 5632]⟩) (e := .f32) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).2.1 (ix3 0 r k)
      = smpE W Fw nf (M (r.val % 64)) (S (r.val % 64)) (X (r.val % 64)) (8 + r.val / 64) k := by
  have hh := fun inb => h2_rows c arg2 harg2 arg3 harg3 arg5 harg5 arg6 harg6 arg7 harg7 arg8 harg8 arg9 harg9 arg10 harg10 arg11 harg11 arg20 arg22 arg26 arg27 H arg20.view inb
  have he : ∀ l, l < 512 → flat (fE W Fw nf M X S) (128 + l) = lin (mods M (fX1 W M X) nf 4 3 l) Fw.up := fun l _ => flat_ext ..
  have hX : ∀ (r : Fin 128) (k : Fin 5632), x2 (ix3 0 r k) = hist (flat (fE W Fw nf M X S)) 128 128 r.val k := fun r k => by
    rw [hist_all, H.hst]; exact (congrFun (flat_ext_head S _ r.val r.isLt) k).symm
  refine (foots_over (n := 128) (up := flat (fE W Fw nf M X S)) 22 _ ?_ (fun y => View.cover_of_tiledL _ ![1, 128, 256] (by sl_kernel_rfl) y) r k).trans ?_
  · repeat' first
      | exact List.forall_mem_nil _
      | refine List.forall_mem_cons.2 ⟨foot_ok rfl (by decide) (up_rows (by decide) he ((up_tile (by decide) (hh _) arg12 harg12 H.hup _ _ _ rfl _).cast _)) (state_new (by decide) arg18.view (fun r k => by
          repeat refine (state_off (by decide) _ _ (by decide) r k).trans ?_
          exact state_first arg4 harg4 hX _ _ _ _ _ r _) _ _ _) _ _ _ _ _, ?_⟩
  · have e : hist (flat (fE W Fw nf M X S)) (128 + 512) 128 r.val k = flat (fE W Fw nf M X S) (512 + r.val) k := by
      rw [hist_shift, Nat.add_comm, hist_all]
    refine e.trans ?_
    show fE W Fw nf M X S ((512 + r.val) % 64) ((512 + r.val) / 64) k = _
    rw [show (512 + r.val) % 64 = r.val % 64 by omega, show (512 + r.val) / 64 = 8 + r.val / 64 by omega]

/-- The block of the value rows. -/
theorem v_block (i : grid0.Coords) (hc0 : cond0_0 i) (r : Fin 512) (k : Fin 1024) :
    View.canon (s := ⟨3, ![1, 512, 1024]⟩) (e := .f32) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).2.2.1 (ix3 0 r k)
      = oddV W (M (r.val % 64)) (X (r.val % 64)) (r.val / 64) k :=
  (out_whole _ [] _ _ r k).trans ((Rows.rms (Rows.gelu (up_tile (N := 2048) (o := 1024) (by decide)
    (h_rows c arg2 harg2 arg3 harg3 arg5 harg5 H arg20.view _) arg7 harg7 H.huv _ _ _ rfl _) _ rfl) (row_all arg8 harg8 H.hgv _ _) _ _ (.inl rfl) rfl _ _ r k).trans
      (congrArg (fun l => flat (fV W M X) l k) (Nat.zero_add r.val)))

end Decoder.Sample
-- ==== Proof.SampleEntry.lean ====
/-
  The sample layer's windows at every grid point: the blocks they read are the layer's arrays and the rows of 64 sequences.
-/
module

public import proofs.«01_k».proof.Proof.Reads
public import proofs.«01_k».proof.Proof.SampleOut
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic hiding ix1 ix2 ix3 ix4
open Idealize.ShloMosaic.ValueIdx Idealize.ShloMosaic.View Idealize.ShloMosaic.TcCoe
open Cert.Kernel3Ideal Cert.Kernel3Ideal.Gen

namespace Decoder.Sample

/-- The block indices of the input windows. -/
theorem index0 : ∀ t : Fin grid0.N, win0_0.index t = ![t.val, 0, 0] := by decide +kernel
theorem index1 : ∀ t : Fin grid0.N, win0_1.index t = ![t.val, 0, 0] := by decide +kernel
theorem index2 : ∀ t : Fin grid0.N, win0_2.index t = ![t.val, 0, 0] := by decide +kernel
theorem index3 : ∀ t : Fin grid0.N, win0_3.index t = ![0, 0] := fun _ => rfl
theorem index4 : ∀ t : Fin grid0.N, win0_4.index t = ![0, 0] := fun _ => rfl
theorem index5 : ∀ t : Fin grid0.N, win0_5.index t = ![0, 0] := fun _ => rfl
theorem index6 : ∀ t : Fin grid0.N, win0_6.index t = ![0, 0] := fun _ => rfl
theorem index7 : ∀ t : Fin grid0.N, win0_7.index t = ![0, 0, 0] := fun _ => rfl
theorem index8 : ∀ t : Fin grid0.N, win0_8.index t = ![0, 0] := fun _ => rfl
theorem index9 : ∀ t : Fin grid0.N, win0_9.index t = ![0, 0] := fun _ => rfl
theorem index10 : ∀ t : Fin grid0.N, win0_10.index t = ![0, 0] := fun _ => rfl
theorem index11 : ∀ t : Fin grid0.N, win0_11.index t = ![0, 0] := fun _ => rfl
theorem index12 : ∀ t : Fin grid0.N, win0_12.index t = ![0, 0] := fun _ => rfl
theorem index13 : ∀ t : Fin grid0.N, win0_13.index t = ![0, 0] := fun _ => rfl
theorem index14 : ∀ t : Fin grid0.N, win0_14.index t = ![0, 0] := fun _ => rfl

variable (m : (ℓ : Loc nD τ sig) → Buf (Elt Ideal) ℓ) (c : Dev nD)

/-- The layer's mixer weights, -/
abbrev W : OddW := oddArgs (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))
/-- its ConvFFN weights, -/
abbrev Fw : FfnW := ffnArgs 1 (m ((c : Thread nD τ).loc main_arg10)) (m ((c : Thread nD τ).loc main_arg11)) (m ((c : Thread nD τ).loc main_arg12)) (m ((c : Thread nD τ).loc main_arg13))
/-- the scales of its other norms, -/
abbrev nf : Row 1024 := row2 (m ((c : Thread nD τ).loc main_arg4)) 1
abbrev nfin : Row 1024 := fun k => ((m ((c : Thread nD τ).loc main_arg14)) : Arr1 1024) (ix1 k)
/-- a sequence's modulation, -/
abbrev sM (b : ℕ) : Row 6144 := smpM (m ((c : Thread nD τ).loc main_arg1)) b
/-- its rows -/
abbrev sX (b : ℕ) : ℕ → Row 1024 := smpX (m ((c : Thread nD τ).loc main_arg0)) b
/-- and its history. -/
abbrev sS (b : ℕ) : ℕ → Row 5632 := smpS (m ((c : Thread nD τ).loc main_arg2)) b

theorem group_lt (t : Fin cfg0.N) : t.val < 2 := by have := t.isLt; have h : cfg0.N = 2 := N_0; omega

/-! What each window holds. -/

theorem w_hx (t : Fin cfg0.N) (r : Fin 512) (k : Fin 1024) : (iblk m c 0 t : Vec Ideal S1x512x1024 .f32) (ix3 0 r k) = flat (fun b => sX m c (64 * t.val + b)) r.val k := by
  have ht := group_lt t
  have hr := r.isLt
  refine Eq.trans ?_ (smpX_apply (m ((c : Thread nD τ).loc main_arg0)) ⟨64 * t.val + r.val % 64, by omega⟩ ⟨r.val / 64, by omega⟩ k).symm
  blk_simp [iblk]
  entry_read
  clean_types
  pointwise
  refine at3 _ ?_ ?_ ?_ <;> blk_simp [index0]
  exact (by omega : t.val * 64 + r.val % 64 = 64 * t.val + r.val % 64)
theorem w_hmd (t : Fin cfg0.N) (r : Fin 64) (k : Fin 6144) : (iblk m c 1 t : Vec Ideal S1x64x6144 .f32) (ix3 0 r k) = sM m c (64 * t.val + r.val) k := by
  have ht := group_lt t
  have hr := r.isLt
  refine Eq.trans ?_ (congrFun (smpM_apply (m ((c : Thread nD τ).loc main_arg1)) ⟨64 * t.val + r.val, by omega⟩) k).symm
  blk_simp [iblk]
  entry_read
  clean_types
  pointwise
  refine at2 _ ?_ ?_ <;> blk_simp [index1]
  exact (by omega : t.val * 64 + r.val = 64 * t.val + r.val)
theorem w_hst (t : Fin cfg0.N) (r : Fin 128) (k : Fin 5632) : (iblk m c 2 t : Vec Ideal S1x128x5632 .f32) (ix3 0 r k) = flat (fun b => sS m c (64 * t.val + b)) r.val k := by
  have ht := group_lt t
  have hr := r.isLt
  refine Eq.trans ?_ (smpS_apply (m ((c : Thread nD τ).loc main_arg2)) ⟨64 * t.val + r.val % 64, by omega⟩ ⟨r.val / 64, by omega⟩ k).symm
  blk_simp [iblk]
  entry_read
  clean_types
  pointwise
  refine at4 _ ?_ ?_ ?_ ?_ <;> blk_simp [index2]
  exact (by omega : t.val * 64 + r.val % 64 = 64 * t.val + r.val % 64)
theorem w_hws (t : Fin cfg0.N) (p s : Fin 8) (k : Fin 1024) : (iblk m c 7 t : Vec Ideal S8x8x1024 .f32) (ix3 p s k) = smpW (W m c) p.val s.val k := by
  blk_simp [iblk]
  entry_read
  clean_types
  pointwise
  refine at4 (m ((c : Thread nD τ).loc main_arg7) : Arr4 1 8 128 128) ?_ ?_ ?_ ?_ <;> blk_simp [index7]
  · exact (by have := p.isLt; omega : p.val = p.val % 128)
  · exact (by have := s.isLt; omega : s.val = s.val % 128)
theorem w_hbs (t : Fin cfg0.N) (i : Fin 128) (k : Fin 1024) : (iblk m c 8 t : Vec Ideal S128x1024 .f32) (ix2 i k) = (W m c).bs i k := by
  blk_simp [iblk]
  entry_read
  clean_types
  pointwise
  refine at3 _ ?_ ?_ ?_ <;> blk_simp [index8]
theorem w_hnm (t : Fin cfg0.N) : One (C := 1024) (iblk m c 3 t) (W m c).nm := by
  intro k
  blk_simp [iblk]
  entry_read
  clean_types
  pointwise
  refine at2 _ ?_ ?_ <;> blk_simp [index3]
theorem w_hnf (t : Fin cfg0.N) : One (C := 1024) (iblk m c 4 t) (nf m c) := by
  intro k
  blk_simp [iblk]
  entry_read
  clean_types
  pointwise
  refine at2 _ ?_ ?_ <;> blk_simp [index4]
theorem w_huv (t : Fin cfg0.N) : Is (K := 1024) (N := 2048) (iblk m c 5 t) (W m c).uv := by
  intro i k
  blk_simp [iblk]
  entry_read
  clean_types
  pointwise
  refine at3 _ ?_ ?_ ?_ <;> blk_simp [index5]
theorem w_hgv (t : Fin cfg0.N) : One (C := 1024) (iblk m c 6 t) (W m c).gv := by
  intro k
  blk_simp [iblk]
  entry_read
  clean_types
  pointwise
  refine at2 _ ?_ ?_ <;> blk_simp [index6]
theorem w_hout (t : Fin cfg0.N) : Is (K := 1024) (N := 1024) (iblk m c 9 t) (W m c).out := by
  intro i k
  blk_simp [iblk]
  entry_read
  clean_types
  pointwise
  refine at3 _ ?_ ?_ ?_ <;> blk_simp [index9]
theorem w_hup (t : Fin cfg0.N) : Is (K := 1024) (N := 5632) (iblk m c 10 t) (Fw m c).up := by
  intro i k
  blk_simp [iblk]
  entry_read
  clean_types
  pointwise
  refine at3 _ ?_ ?_ ?_ <;> blk_simp [index10]
theorem w_hcw (t : Fin cfg0.N) (i : Fin 3) (k : Fin 5632) : (iblk m c 11 t : Vec Ideal S3x5632 .f32) (ix2 i k) = (Fw m c).cw i k := by
  blk_simp [iblk]
  entry_read
  clean_types
  pointwise
  refine at3 _ ?_ ?_ ?_ <;> blk_simp [index11]
theorem w_hcb (t : Fin cfg0.N) : One (C := 5632) (iblk m c 12 t) (Fw m c).cb := by
  intro k
  blk_simp [iblk]
  entry_read
  clean_types
  pointwise
  refine at2 _ ?_ ?_ <;> blk_simp [index12]
theorem w_hdown (t : Fin cfg0.N) : Is (K := 2816) (N := 1024) (iblk m c 13 t) (Fw m c).down := by
  intro i k
  blk_simp [iblk]
  entry_read
  clean_types
  pointwise
  refine at3 _ ?_ ?_ ?_ <;> blk_simp [index13]
theorem w_hnfin (t : Fin cfg0.N) : One (C := 1024) (iblk m c 14 t) (nfin m c) := by
  intro k
  blk_simp [iblk]
  entry_read
  clean_types
  pointwise
  refine at1 _ ?_ <;> blk_simp [index14]

/-- At every grid point the windows hold the layer's arrays, and the rows, modulations and histories of 64 sequences. -/
theorem blk (t : Fin cfg0.N) :
    Blk (W m c) (Fw m c) (nf m c) (nfin m c) (fun b => sM m c (64 * t.val + b)) (fun b => sX m c (64 * t.val + b)) (fun b => sS m c (64 * t.val + b)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) :=
  ⟨w_hx m c t, w_hmd m c t, w_hst m c t, w_hnm m c t, w_hnf m c t, w_huv m c t, w_hgv m c t, w_hws m c t, w_hbs m c t, w_hout m c t, w_hup m c t, w_hcw m c t, w_hcb m c t, w_hdown m c t, w_hnfin m c t⟩

end Decoder.Sample
-- ==== Proof.SampleGrid.lean ====
/-
  The sample layer over its grid: what each point leaves in the output windows, and the three arrays the launch ends with.
-/
module

public import proofs.«01_k».proof.Proof.SampleEntry

@[expose] public section

set_option maxRecDepth 16384

noncomputable section

open Idealize.ShloMosaic hiding ix1 ix2 ix3 ix4
open Idealize.ShloMosaic.ValueIdx Idealize.ShloMosaic.View Idealize.ShloMosaic.TcCoe
open Cert.Kernel3Ideal Cert.Kernel3Ideal.Gen

namespace Decoder.Sample

variable (m : (ℓ : Loc nD τ sig) → Buf (Elt Ideal) ℓ) (c : Dev nD)

/-- A sequence's output rows, -/
abbrev yRows (b : ℕ) : ℕ → Row 1024 := smpY (W m c) (Fw m c) (nf m c) (nfin m c) (sM m c b) (sS m c b) (sX m c b)
/-- the rows its ConvFFN convolves, after its history, -/
abbrev eRows (b : ℕ) : ℕ → Row 5632 := smpE (W m c) (Fw m c) (nf m c) (sM m c b) (sS m c b) (sX m c b)
/-- and its value rows. -/
abbrev vRows (b : ℕ) : ℕ → Row 1024 := oddV (W m c) (sM m c b) (sX m c b)

/-- A grid point leaves the output rows of its 64 sequences, -/
theorem out_y (t : Fin cfg0.N) (r : Fin 512) (k : Fin 1024) :
    (outsAt0 m c t).1 (ix3 0 r k) = yRows m c (64 * t.val + r.val % 64) (r.val / 64) k := by
  unfold outsAt0
  dsimp only
  unfold out0_A_15
  rw [View.read_writes_junk_eq_canon]
  exact y_block (H := blk m c t) ..

/-- their last two convolved rows, -/
theorem out_st (t : Fin cfg0.N) (r : Fin 128) (k : Fin 5632) :
    (outsAt0 m c t).2.1 (ix3 0 r k) = eRows m c (64 * t.val + r.val % 64) (8 + r.val / 64) k := by
  unfold outsAt0
  dsimp only
  unfold out0_A_16
  rw [View.read_writes_junk_eq_canon]
  exact f_block (H := blk m c t) ..

/-- and their value rows. -/
theorem out_v (t : Fin cfg0.N) (r : Fin 512) (k : Fin 1024) :
    (outsAt0 m c t).2.2 (ix3 0 r k) = vRows m c (64 * t.val + r.val % 64) (r.val / 64) k := by
  unfold outsAt0
  dsimp only
  unfold out0_A_17
  rw [View.read_writes_junk_eq_canon]
  exact v_block (H := blk m c t) ..

/-- The layer's output array, -/
def y : Arr3 2 512 1024 := fun i => yRows m c (64 * (i 0).val + (i 1).val % 64) ((i 1).val / 64) (i 2)
/-- the state it returns -/
def st : Arr3 2 128 5632 := fun i => eRows m c (64 * (i 0).val + (i 1).val % 64) (8 + (i 1).val / 64) (i 2)
/-- and its value rows. -/
def v : Arr3 2 512 1024 := fun i => vRows m c (64 * (i 0).val + (i 1).val % 64) ((i 1).val / 64) (i 2)

theorem index15 : ∀ t : Fin grid0.N, win0_15.index t = ![t.val, 0, 0] := by decide +kernel
theorem index16 : ∀ t : Fin grid0.N, win0_16.index t = ![t.val, 0, 0] := by decide +kernel
theorem index17 : ∀ t : Fin grid0.N, win0_17.index t = ![t.val, 0, 0] := by decide +kernel

/-- The launch ends with the output array, -/
theorem final_y : (dats m 0 c).arrAt 15 cfg0.N = y m c := by
  refine (dats m 0 c).arrAt_eq_of_covers 15 _ (by decide +kernel) fun t hf j => ?_
  blk_simp
  rw [after0_15]
  have e0 : (((win0_15.blk t).view.emb j) 0).val = t.val := by
    have h : (j 0).val < 1 := (j 0).isLt
    blk_simp [index15]
  have e1 : (((win0_15.blk t).view.emb j) 1).val = (j 1).val := by blk_simp [index15]
  have e2 : (((win0_15.blk t).view.emb j) 2).val = (j 2).val := by blk_simp [index15]
  refine (at3 (a := 1) (b := 512) (c := 1024) _ (i := 0) (j := j 1) (k := j 2) (Nat.lt_one_iff.1 (j 0).isLt) rfl rfl).trans
    ((out_y m c t (j 1) (j 2)).trans ?_)
  unfold y
  rw [e0, e1]
  exact congrArg _ (Fin.ext e2.symm)

/-- with the state -/
theorem final_st : (dats m 0 c).arrAt 16 cfg0.N = st m c := by
  refine (dats m 0 c).arrAt_eq_of_covers 16 _ (by decide +kernel) fun t hf j => ?_
  blk_simp
  rw [after0_16]
  have e0 : (((win0_16.blk t).view.emb j) 0).val = t.val := by
    have h : (j 0).val < 1 := (j 0).isLt
    blk_simp [index16]
  have e1 : (((win0_16.blk t).view.emb j) 1).val = (j 1).val := by blk_simp [index16]
  have e2 : (((win0_16.blk t).view.emb j) 2).val = (j 2).val := by blk_simp [index16]
  refine (at3 (a := 1) (b := 128) (c := 5632) _ (i := 0) (j := j 1) (k := j 2) (Nat.lt_one_iff.1 (j 0).isLt) rfl rfl).trans
    ((out_st m c t (j 1) (j 2)).trans ?_)
  unfold st
  rw [e0, e1]
  exact congrArg _ (Fin.ext e2.symm)

/-- and with the value rows. -/
theorem final_v : (dats m 0 c).arrAt 17 cfg0.N = v m c := by
  refine (dats m 0 c).arrAt_eq_of_covers 17 _ (by decide +kernel) fun t hf j => ?_
  blk_simp
  rw [after0_17]
  have e0 : (((win0_17.blk t).view.emb j) 0).val = t.val := by
    have h : (j 0).val < 1 := (j 0).isLt
    blk_simp [index17]
  have e1 : (((win0_17.blk t).view.emb j) 1).val = (j 1).val := by blk_simp [index17]
  have e2 : (((win0_17.blk t).view.emb j) 2).val = (j 2).val := by blk_simp [index17]
  refine (at3 (a := 1) (b := 512) (c := 1024) _ (i := 0) (j := j 1) (k := j 2) (Nat.lt_one_iff.1 (j 0).isLt) rfl rfl).trans
    ((out_v m c t (j 1) (j 2)).trans ?_)
  unfold v
  rw [e0, e1]
  exact congrArg _ (Fin.ext e2.symm)

end Decoder.Sample
-- ==== Proof.RefSample.lean ====
/-
  What the sample layer's reference program computes: each stage, read at a sequence and a position, is the mathematics' row.
-/
module

public import proofs.«01_k».proof.Proof.SampleSpec
public import proofs.«01_k».proof.Proof.RefOdd
public import proofs.«01_k».proof.Proof.Gen.Reference3Ideal.Read

@[expose] public section

noncomputable section

open Idealize.ShloMosaic Idealize.ShloMosaic.ValueIdx

namespace Decoder.RefSample

open Cert.Reference3Ideal Cert.Reference3Ideal.Read
open Decoder.RefOdd (i2 i3 i4)

variable (x0 : Arr3 128 8 1024) (x1 : Arr2 128 6144) (x2 : Arr4 2 128 2 5632) (x3 x4 : Arr2 2 1024) (x5 : Arr3 1 1024 2048) (x6 : Arr2 1 1024)
  (x7 : Arr4 1 8 128 128) (x8 : Arr3 1 8 128) (x9 : Arr3 1 1024 1024)

abbrev W : OddW := oddArgs x3 x5 x6 x7 x8 x9
/-- A sequence's modulation. -/
abbrev md (b : Fin 128) : Row 6144 := row2 x1 b

/-- The normalised and modulated rows. -/
theorem h_apply (b : Fin 128) (l : Fin 8) (k : Fin 1024) :
    val_main_v32 (F := Ideal) x0 x1 x3 (ix3 b l k)
      = adaln (smpX x0 b.val l.val) (row2 x3 1) (part (md x1 b) 1) (part (md x1 b) 0) k := by
  simp only [val_main_v32_apply, val_main_v31_apply, val_main_v30_apply, val_main_v29_apply, val_main_v28_apply, val_main_v27_apply,
    val_main_cst_2_apply, val_main_v26_apply, val_main_v25_apply, val_main_v24_apply, val_main_v23_apply, val_main_v22_apply,
    val_main_v21_apply, val_main_v20_apply, val_main_v19_apply, val_main_cst_1_apply, val_main_v18_apply, val_main_v17_apply,
    val_main_cst_0_apply, val_main_v16_apply, val_main_v15_apply, val_main_cst_apply, val_main_v14_apply, val_main_v13_apply,
    val_main_v12_apply, val_main_v7_apply, val_main_v6_apply, val_main_v1_apply, val_main_v0_apply]
  unfold adaln rms
  simp only [smpX_apply]
  simp only [md, row2, part, Ideal.addf_def, Ideal.mulf_def, Ideal.hostDivf_def, Ideal.hostUnary_rsqrt_def, Ideal.ofBits_def, Ideal.ofBits_zero_f32, zero_add]
  rw [i2 (idx_main_v0 _) b ⟨1024 * (0 : Fin 6).val + k.val, by have := k.isLt; omega⟩ rfl (by show k.val = 1024 * 0 + k.val; omega),
    i2 (idx_main_v1 _) b ⟨1024 * (1 : Fin 6).val + k.val, by have := k.isLt; show 1024 * 1 + k.val < 6144; omega⟩ rfl (by show 1024 + k.val = 1024 * 1 + k.val; omega),
    i2 (idx_main_v12 _) 1 k rfl (Nat.mod_eq_of_lt k.isLt)]
  simp only [fun y => i3 (idx_main_v15 (idx_main_v16 (idx_main_v22 (ix3 b l k))) y) b l y rfl rfl rfl]

/-- The projection, its GELU. -/
theorem uv_apply (b : Fin 128) (l : Fin 8) (k : Fin 2048) :
    val_main_v47 (F := Ideal) x0 x1 x3 x5 (ix3 b l k)
      = gelu (lin (adaln (smpX x0 b.val l.val) (row2 x3 1) (part (md x1 b) 1) (part (md x1 b) 0)) (mat3 x5 0) k) := by
  rw [← gelu_ref]
  have e : val_main_v34 (F := Ideal) x0 x1 x3 x5 (ix3 b l k)
      = lin (adaln (smpX x0 b.val l.val) (row2 x3 1) (part (md x1 b) 1) (part (md x1 b) 0)) (mat3 x5 0) k := by
    rw [val_main_v34_apply]
    refine Finset.sum_congr rfl fun c _ => ?_
    rw [i3 (lidx_main_v34 _ c) b l c rfl rfl rfl, h_apply, val_main_v33_apply,
      i3 (idx_main_v33 _) 0 c k rfl (by show (c.val * 2048 + k.val) / 2048 % 1024 = c.val; have := k.isLt; have := c.isLt; omega)
        (by show (c.val * 2048 + k.val) % 2048 = k.val; have := k.isLt; have := c.isLt; omega)]
    rfl
  simp only [val_main_v47_apply, val_main_v46_apply, val_main_v45_apply, val_main_cst_6_apply, val_main_v44_apply, val_main_v43_apply,
    val_main_cst_5_apply, val_main_v42_apply, val_main_v41_apply, val_main_v40_apply, val_main_cst_4_apply, val_main_v39_apply,
    val_main_v38_apply, val_main_v37_apply, val_main_cst_3_apply, val_main_v36_apply, val_main_v35_apply, e]
  rfl

/-- The gate rows. -/
theorem u_apply (b : Fin 128) (l : Fin 8) (k : Fin 1024) :
    val_main_v48 (F := Ideal) x0 x1 x3 x5 (ix3 b l k) = oddU (W x3 x5 x6 x7 x8 x9) (md x1 b) (smpX x0 b.val) l.val k := by
  rw [val_main_v48_apply, i3 (idx_main_v48 _) b l ⟨k.val, by have := k.isLt; omega⟩ rfl rfl rfl, uv_apply]
  rfl

/-- The normalised value rows. -/
theorem v_apply (b : Fin 128) (l : Fin 8) (k : Fin 1024) :
    val_main_v63 (F := Ideal) x0 x1 x3 x5 x6 (ix3 b l k) = oddV (W x3 x5 x6 x7 x8 x9) (md x1 b) (smpX x0 b.val) l.val k := by
  have e : ∀ k : Fin 1024, val_main_v49 (F := Ideal) x0 x1 x3 x5 (ix3 b l k)
      = gelu (lin (adaln (smpX x0 b.val l.val) (row2 x3 1) (part (md x1 b) 1) (part (md x1 b) 0)) (mat3 x5 0)
          ⟨1024 + k.val, by have := k.isLt; omega⟩) := fun k => by
    rw [val_main_v49_apply, i3 (idx_main_v49 _) b l ⟨1024 + k.val, by have := k.isLt; omega⟩ rfl rfl rfl, uv_apply]
  simp only [val_main_v63_apply, val_main_v62_apply, val_main_v61_apply, val_main_v60_apply, val_main_v59_apply, val_main_v58_apply,
    val_main_v57_apply, val_main_v56_apply, val_main_cst_9_apply, val_main_v55_apply, val_main_v54_apply, val_main_cst_8_apply,
    val_main_v53_apply, val_main_v52_apply, val_main_cst_7_apply, val_main_v51_apply, val_main_v50_apply]
  simp only [fun y => i3 (idx_main_v52 (idx_main_v53 (idx_main_v59 (ix3 b l k))) y) b l y rfl rfl rfl, e,
    i2 (idx_main_v50 (idx_main_v61 (idx_main_v62 (ix3 b l k)))) 0 k rfl (Nat.mod_eq_of_lt k.isLt)]
  simp only [Ideal.addf_def, Ideal.mulf_def, Ideal.hostDivf_def, Ideal.hostUnary_rsqrt_def, Ideal.ofBits_def, Ideal.ofBits_zero_f32, zero_add]
  rfl

end Decoder.RefSample
-- ==== Proof.RefSampleMix.lean ====
/-
  The sample layer's reference program from the spatial gating to the residual stream after the mixer.
-/
module

public import proofs.«01_k».proof.Proof.RefSample
public import Idealize.ShloMosaic.Lib.WordCmp
public import Idealize.ShloMosaic.Lib.KernelVsHost

@[expose] public section

noncomputable section

open Idealize.ShloMosaic Idealize.ShloMosaic.ValueIdx

namespace Decoder.RefSample

open Cert.Reference3Ideal Cert.Reference3Ideal.Read
open Decoder.RefOdd (i2 i3 i4)

variable (x0 : Arr3 128 8 1024) (x1 : Arr2 128 6144) (x2 : Arr4 2 128 2 5632) (x3 x4 : Arr2 2 1024) (x5 : Arr3 1 1024 2048) (x6 : Arr2 1 1024)
  (x7 : Arr4 1 8 128 128) (x8 : Arr3 1 8 128) (x9 : Arr3 1 1024 1024)

/-- The mixing weights, zero above the diagonal. -/
theorem wm_apply (h : Fin 8) (t s : Fin 128) :
    val_main_v71 (F := Ideal) x7 (ix3 h t s) = if s.val ≤ t.val then x7 (ix4 0 h t s) else 0 := by
  have e : val_main_v69 (F := Ideal) (ix2 t s) = if s.val ≤ t.val then 1#1 else 0#1 := by
    simp only [val_main_v69_apply, val_main_call1_v4_apply, val_main_call1_v2_apply, val_main_call1_v0_apply, val_main_call1_v1_apply,
      val_main_call1_c_apply, val_main_call1_v3_apply, val_main_v68_apply, val_main_c_10_apply, val_main_call1_v5_apply, val_main_call1_c_0_apply]
    have a0 : IntOp.addi (BitVec.ofNat 32 t.val) 0#32 = BitVec.ofNat 32 t.val := BitVec.add_zero _
    refine Eq.trans ?_ (if_congr (WordCmp.cmpi_sge_ofNat_eq_one_iff (w := 32) (a := t.val) (b := s.val) (by omega) (by omega)) rfl rfl)
    show Scalar.select (IntOp.cmpi .sge (IntOp.addi (BitVec.ofNat 32 t.val) 0#32) (BitVec.ofNat 32 s.val)) 1#1 0#1 = _
    rw [a0]
    rfl
  rw [val_main_v71_apply, val_main_call2_v0_apply, val_main_v70_apply, i2 (idx_main_v70 _) t s rfl rfl, e, val_main_v64_apply,
    i4 (idx_main_v64 (ix3 h t s)) 0 h t s rfl
      (by show ((h.val * 128 + t.val) * 128 + s.val) / 16384 % 8 = h.val; omega)
      (by show ((h.val * 128 + t.val) * 128 + s.val) / 128 % 128 = t.val; omega)
      (by show ((h.val * 128 + t.val) * 128 + s.val) % 128 = s.val; omega)]
  by_cases hs : s.val ≤ t.val
  · rw [if_pos hs, if_pos hs]; rfl
  · rw [if_neg hs, if_neg hs]
    show val_main_call2_v1 (F := Ideal) (ix3 h t s) = 0
    rw [val_main_call2_v1_apply, val_main_cst_11_apply]
    exact Ideal.ofBits_zero_f32

/-- The value rows of a chunk of 128 positions: a sequence's eight come first. -/
theorem vp_apply (b s : Fin 128) (hs : s.val < 8) (k : Fin 1024) :
    val_main_v66 (F := Ideal) x0 x1 x3 x5 x6 (ix3 b s k) = oddV (W x3 x5 x6 x7 x8 x9) (md x1 b) (smpX x0 b.val) s.val k := by
  unfold val_main_v66
  exact (pad_apply_of_inside _ _ _ _ _ _ _ (ix3 b s k) (ix3 b (⟨s.val, hs⟩ : Fin 8) k) (fun a => match a with
    | ⟨0, _⟩ => by show b.val = 0 + b.val * (0 + 1); omega
    | ⟨1, _⟩ => by show s.val = 0 + s.val * (0 + 1); omega
    | ⟨2, _⟩ => by show k.val = 0 + k.val * (0 + 1); omega)).trans (v_apply x0 x1 x3 x5 x6 x7 x8 x9 b ⟨s.val, hs⟩ k)

/-- The mixed values. -/
theorem z_apply (b : Fin 128) (l : Fin 8) (k : Fin 1024) :
    val_main_v79 (F := Ideal) x0 x1 x3 x5 x6 x7 x8 (ix3 b l k)
      = smpZ (W x3 x5 x6 x7 x8 x9) (oddV (W x3 x5 x6 x7 x8 x9) (md x1 b) (smpX x0 b.val)) l.val k := by
  have hl := l.isLt
  have hk := k.isLt
  have hb := b.isLt
  have e : idx_main_v78 (idx_main_v79 (ix3 b l k)) = ix5 b (0 : Fin 1) (⟨l.val % 128, by omega⟩ : Fin 128)
      (⟨k.val / 128, by omega⟩ : Fin 8) (⟨k.val % 128, by omega⟩ : Fin 128) := funext fun d => Fin.ext (match d with
    | ⟨0, _⟩ => by show ((b.val * 128 + l.val) * 1024 + k.val) / 131072 = b.val; omega
    | ⟨1, _⟩ => rfl
    | ⟨2, _⟩ => by show ((b.val * 128 + l.val) * 1024 + k.val) / 1024 % 128 = l.val % 128; omega
    | ⟨3, _⟩ => by show ((b.val * 128 + l.val) * 1024 + k.val) / 128 % 8 = k.val / 128; omega
    | ⟨4, _⟩ => by show ((b.val * 128 + l.val) * 1024 + k.val) % 128 = k.val % 128; omega)
  rw [val_main_v79_apply, val_main_v78_apply, e, val_main_v77_apply, val_main_v73_apply, val_main_v72_apply, val_main_v76_apply, val_main_v75_apply,
    val_main_v74_apply, val_main_v65_apply]
  have e1 : ∀ s : Fin 128, val_main_v71 (F := Ideal) x7 (ridx_main_v72 (idx_main_v73 (ix5 b (0 : Fin 1) (⟨l.val % 128, by omega⟩ : Fin 128)
      (⟨k.val / 128, by omega⟩ : Fin 8) (⟨k.val % 128, by omega⟩ : Fin 128))) s)
        = if s.val ≤ l.val % 128 then x7 (ix4 0 (⟨k.val / 128, by omega⟩ : Fin 8) (⟨l.val % 128, by omega⟩ : Fin 128) s) else 0 := fun s => by
    rw [i3 (ridx_main_v72 _ s) (⟨k.val / 128, by omega⟩ : Fin 8) (⟨l.val % 128, by omega⟩ : Fin 128) s rfl rfl rfl, wm_apply]
  have e2 : ∀ s : Fin 128, val_main_v67 (F := Ideal) x0 x1 x3 x5 x6 (lidx_main_v72 (idx_main_v73 (ix5 b (0 : Fin 1) (⟨l.val % 128, by omega⟩ : Fin 128)
      (⟨k.val / 128, by omega⟩ : Fin 8) (⟨k.val % 128, by omega⟩ : Fin 128))) s) = val_main_v66 (F := Ideal) x0 x1 x3 x5 x6 (ix3 b s k) := fun s => by
    have hs := s.isLt
    rw [val_main_v67_apply]
    exact congrArg _ (i3 _ b s k
      (by show ((((b.val * 1 + 0) * 128 + s.val) * 8 + k.val / 128) * 128 + k.val % 128) / 131072 = b.val; omega)
      (by show ((((b.val * 1 + 0) * 128 + s.val) * 8 + k.val / 128) * 128 + k.val % 128) / 1024 % 128 = s.val; omega)
      (by show ((((b.val * 1 + 0) * 128 + s.val) * 8 + k.val / 128) * 128 + k.val % 128) % 1024 = k.val; omega))
  refine Eq.trans (congrArg₂ (· + ·) rfl (congrArg x8 (i3 _ 0 (⟨k.val / 128, by omega⟩ : Fin 8) (⟨l.val % 128, by omega⟩ : Fin 128) rfl
      (by show (k.val / 128 * 128 + l.val % 128) / 128 % 8 = k.val / 128; omega)
      (by show (k.val / 128 * 128 + l.val % 128) % 128 = l.val % 128; omega)))) (smpZ_eq (W x3 x5 x6 x7 x8 x9) _ l.val hl k _ (fun s hs => ?_) fun s hs => ?_)
  · rw [e1, e2, if_pos (by omega), vp_apply x0 x1 x3 x5 x6 x7 x8 x9 b s (by omega)]
    exact mul_comm _ _
  · rw [e1, if_neg (by omega)]
    exact mul_zero _

/-- The residual stream after the mixer. -/
theorem x1_apply (b : Fin 128) (l : Fin 8) (k : Fin 1024) :
    val_main_v85 (F := Ideal) x0 x1 x3 x5 x6 x7 x8 x9 (ix3 b l k)
      = smpX1 (W x3 x5 x6 x7 x8 x9) (md x1 b) (smpX x0 b.val) l.val k := by
  rw [val_main_v85_apply, val_main_v84_apply, val_main_v83_apply, val_main_v8_apply, val_main_v2_apply, val_main_v82_apply]
  unfold smpX1 mixOut
  refine congrArg₂ (· + ·) (smpX_apply x0 b l k).symm (congrArg₂ (· * ·)
    (congrArg x1 (i2 _ b ⟨1024 * (2 : Fin 6).val + k.val, by have := k.isLt; show 1024 * 2 + k.val < 6144; omega⟩ rfl rfl)) (Finset.sum_congr rfl fun c _ => ?_))
  rw [i3 (lidx_main_v82 _ c) b l c rfl rfl rfl, val_main_v80_apply, u_apply x0 x1 x3 x5 x6 x7 x8 x9, z_apply x0 x1 x3 x5 x6 x7 x8 x9, val_main_v81_apply,
    i3 (idx_main_v81 _) 0 c k rfl (by show (c.val * 1024 + k.val) / 1024 % 1024 = c.val; have := k.isLt; have := c.isLt; omega)
      (by show (c.val * 1024 + k.val) % 1024 = k.val; have := k.isLt; have := c.isLt; omega)]
  rfl

end Decoder.RefSample
-- ==== Proof.RefSampleFfn.lean ====
/-
  The sample layer's reference program from the second norm to its three results.
-/
module

public import proofs.«01_k».proof.Proof.RefSampleMix
public import Idealize.ShloMosaic.Lib.Pipeline.Value

@[expose] public section

noncomputable section

open Idealize.ShloMosaic Idealize.ShloMosaic.ValueIdx

namespace Decoder.RefSample

open Cert.Reference3Ideal Cert.Reference3Ideal.Read
open Decoder.RefOdd (i2 i3 i4)

variable (x0 : Arr3 128 8 1024) (x1 : Arr2 128 6144) (x2 : Arr4 2 128 2 5632) (x3 x4 : Arr2 2 1024) (x5 : Arr3 1 1024 2048) (x6 : Arr2 1 1024)
  (x7 : Arr4 1 8 128 128) (x8 : Arr3 1 8 128) (x9 : Arr3 1 1024 1024) (x10 : Arr3 2 1024 5632) (x11 : Arr3 2 3 5632)
  (x12 : Arr2 2 5632) (x13 : Arr3 2 2816 1024) (x14 : Arr1 1024)

abbrev V : FfnW := ffnArgs 1 x10 x11 x12 x13

/-- The residual rows of a sequence after the mixer. -/
abbrev xm (b : Fin 128) : ℕ → Row 1024 := smpX1 (W x3 x5 x6 x7 x8 x9) (md x1 b) (smpX x0 b.val)

/-- Row `p` of two rows of history followed by a sequence's eight. -/
theorem ext2_apply {n : ℕ} (z : Arr3 128 2 n) (v : Arr3 128 8 n)
    (hc : Shape.Concatenates [⟨3, ![128, 2, n]⟩, ⟨3, ![128, 8, n]⟩] ⟨3, ![128, 10, n]⟩ 1) (s u : Fin 128 → ℕ → Row n)
    (hz : ∀ (b : Fin 128) (l : Fin 2) (k : Fin n), z (ix3 b l k) = s b l.val k)
    (hv : ∀ (b : Fin 128) (l : Fin 8) (k : Fin n), v (ix3 b l k) = u b l.val k) (b : Fin 128) (p : Fin 10) (k : Fin n) :
    concatenate ⟨3, ![128, 10, n]⟩ 1 [⟨⟨3, ![128, 2, n]⟩, z⟩, ⟨⟨3, ![128, 8, n]⟩, v⟩] hc (ix3 b p k) = ext2 (s b) (u b) p.val k := by
  have hp := p.isLt
  unfold ext2
  by_cases hlt : p.val < 2
  · rw [if_pos hlt]
    exact (concatenate_pair_apply_left (t := ⟨3, ![128, 10, n]⟩) 1 z v hc (ix3 b p k) rfl (ix3 b ⟨p.val, hlt⟩ k)
      (fun d => match d with | ⟨0, _⟩ => rfl | ⟨1, _⟩ => rfl | ⟨2, _⟩ => rfl)).trans (hz _ _ _)
  · rw [if_neg hlt]
    exact (concatenate_pair_apply_right (t := ⟨3, ![128, 10, n]⟩) 1 z v hc (ix3 b p k) rfl rfl (ix3 b ⟨p.val - 2, by omega⟩ k)
      (fun d hd => match d with | ⟨0, _⟩ => rfl | ⟨1, _⟩ => absurd rfl hd | ⟨2, _⟩ => rfl) (by show p.val - 2 + 2 = p.val; omega)).trans (hv _ _ _)

/-- The second normalised and modulated rows. -/
theorem h2_apply (b : Fin 128) (l : Fin 8) (k : Fin 1024) :
    val_main_v106 (F := Ideal) x0 x1 x3 x4 x5 x6 x7 x8 x9 (ix3 b l k)
      = adaln (xm x0 x1 x3 x5 x6 x7 x8 x9 b l.val) (row2 x4 1) (part (md x1 b) 4) (part (md x1 b) 3) k := by
  simp only [val_main_v106_apply, val_main_v105_apply, val_main_v104_apply, val_main_v103_apply, val_main_v102_apply, val_main_v101_apply,
    val_main_cst_15_apply, val_main_v100_apply, val_main_v99_apply, val_main_v98_apply, val_main_v97_apply, val_main_v96_apply,
    val_main_v95_apply, val_main_v94_apply, val_main_v93_apply, val_main_cst_14_apply, val_main_v92_apply, val_main_v91_apply,
    val_main_cst_13_apply, val_main_v90_apply, val_main_v89_apply, val_main_cst_12_apply, val_main_v88_apply, val_main_v87_apply,
    val_main_v86_apply, val_main_v10_apply, val_main_v9_apply, val_main_v4_apply, val_main_v3_apply]
  simp only [fun y => i3 (idx_main_v89 (idx_main_v90 (idx_main_v96 (ix3 b l k))) y) b l y rfl rfl rfl, x1_apply]
  unfold adaln rms
  simp only [md, row2, part, Ideal.addf_def, Ideal.mulf_def, Ideal.hostDivf_def, Ideal.hostUnary_rsqrt_def, Ideal.ofBits_def, Ideal.ofBits_zero_f32, zero_add]
  rw [i2 (idx_main_v3 _) b ⟨1024 * (3 : Fin 6).val + k.val, by have := k.isLt; show 1024 * 3 + k.val < 6144; omega⟩ rfl rfl,
    i2 (idx_main_v4 _) b ⟨1024 * (4 : Fin 6).val + k.val, by have := k.isLt; show 1024 * 4 + k.val < 6144; omega⟩ rfl rfl,
    i2 (idx_main_v86 _) 1 k rfl (Nat.mod_eq_of_lt k.isLt)]

/-- The rows the ConvFFN convolves, -/
theorem up_apply (b : Fin 128) (l : Fin 8) (k : Fin 5632) :
    val_main_v109 (F := Ideal) x0 x1 x3 x4 x5 x6 x7 x8 x9 x10 (ix3 b l k)
      = ffnUp (V x10 x11 x12 x13) (row2 x4 1) (md x1 b) (xm x0 x1 x3 x5 x6 x7 x8 x9 b) l.val k := by
  rw [val_main_v109_apply]
  unfold ffnUp lin
  refine Finset.sum_congr rfl fun c _ => ?_
  rw [i3 (lidx_main_v109 _ c) b l c rfl rfl rfl, h2_apply, val_main_v108_apply, val_main_v107_apply,
    i3 (idx_main_v107 _) 1 c k rfl (by show (c.val * 5632 + k.val) / 5632 % 1024 = c.val; have := k.isLt; have := c.isLt; omega)
      (by show (c.val * 5632 + k.val) % 5632 = k.val; have := k.isLt; have := c.isLt; omega)]
  rfl

/-- the history before them, -/
theorem hist_apply (b : Fin 128) (l : Fin 2) (k : Fin 5632) : val_main_v111 (F := Ideal) x2 (ix3 b l k) = smpS x2 b.val l.val k := by
  have hb := b.isLt
  have hl := l.isLt
  have hk := k.isLt
  rw [val_main_v111_apply, val_main_v110_apply, smpS_apply]
  exact congrArg x2 (i4 _ 1 b l k rfl
    (by show ((b.val * 2 + l.val) * 5632 + k.val) / 11264 % 128 = b.val; omega)
    (by show ((b.val * 2 + l.val) * 5632 + k.val) / 5632 % 2 = l.val; omega)
    (by show ((b.val * 2 + l.val) * 5632 + k.val) % 5632 = k.val; omega))

/-- and both. -/
abbrev er (b : Fin 128) : ℕ → Row 5632 := smpE (W x3 x5 x6 x7 x8 x9) (V x10 x11 x12 x13) (row2 x4 1) (md x1 b) (smpS x2 b.val) (smpX x0 b.val)

theorem ext (b : Fin 128) (p : Fin 10) (k : Fin 5632) :
    val_main_v116 (F := Ideal) x0 x1 x2 x3 x4 x5 x6 x7 x8 x9 x10 (ix3 b p k) = er x0 x1 x2 x3 x4 x5 x6 x7 x8 x9 x10 x11 x12 x13 b p.val k :=
  ext2_apply _ _ _ (fun b => smpS x2 b.val) _ (hist_apply x2) (up_apply x0 x1 x3 x4 x5 x6 x7 x8 x9 x10 x11 x12 x13) b p k

/-- The convolution of them, -/
theorem conv_apply (b : Fin 128) (l : Fin 8) (k : Fin 5632) :
    val_main_v139 (F := Ideal) x0 x1 x2 x3 x4 x5 x6 x7 x8 x9 x10 x11 x12 (ix3 b l k)
      = convE (mat3 x11 1) (row2 x12 1) (er x0 x1 x2 x3 x4 x5 x6 x7 x8 x9 x10 x11 x12 x13 b) l.val k := by
  have hl := l.isLt
  have hk := k.isLt
  simp only [val_main_v139_apply, val_main_v138_apply, val_main_v137_apply, val_main_v136_apply, val_main_v135_apply, val_main_v134_apply,
    val_main_v133_apply, val_main_v132_apply, val_main_v131_apply, val_main_v130_apply, val_main_v129_apply, val_main_v128_apply,
    val_main_v127_apply, val_main_v126_apply, val_main_v125_apply, val_main_v124_apply, val_main_v123_apply, val_main_v122_apply,
    val_main_v121_apply, val_main_v120_apply, val_main_v119_apply, val_main_v118_apply, val_main_v117_apply, val_main_v115_apply,
    val_main_v114_apply, val_main_v113_apply, val_main_v112_apply]
  rw [i3 (idx_main_v119 _) b ⟨l.val, by omega⟩ k rfl rfl rfl,
    i3 (idx_main_v128 _) b ⟨l.val + 1, by omega⟩ k rfl (Nat.add_comm _ _) rfl,
    i3 (idx_main_v135 _) b ⟨l.val + 2, by omega⟩ k rfl (Nat.add_comm _ _) rfl,
    ext x0 x1 x2 x3 x4 x5 x6 x7 x8 x9 x10 x11 x12 x13, ext x0 x1 x2 x3 x4 x5 x6 x7 x8 x9 x10 x11 x12 x13, ext x0 x1 x2 x3 x4 x5 x6 x7 x8 x9 x10 x11 x12 x13]
  unfold convE
  refine congrArg₂ (· + ·) (congrArg₂ (· + ·) (congrArg₂ (· + ·) ?_ (congrArg (· * _) ?_)) (congrArg (· * _) ?_)) (congrArg (· * _) ?_)
  · exact congrArg x12 (i2 _ 1 k rfl (Nat.mod_eq_of_lt hk))
  · exact congrArg x11 (i3 _ 1 0 k rfl (by show (0 * 5632 + k.val % 5632) / 5632 % 3 = 0; omega) (by show (0 * 5632 + k.val % 5632) % 5632 = k.val; omega))
  · exact congrArg x11 (i3 _ 1 1 k rfl (by show ((1 + 0) * 5632 + k.val % 5632) / 5632 % 3 = 1; omega) (by show ((1 + 0) * 5632 + k.val % 5632) % 5632 = k.val; omega))
  · exact congrArg x11 (i3 _ 1 2 k rfl (by show ((2 + 0) * 5632 + k.val % 5632) / 5632 % 3 = 2; omega) (by show ((2 + 0) * 5632 + k.val % 5632) % 5632 = k.val; omega))

/-- the ConvFFN's activations, -/
theorem act_apply (b : Fin 128) (l : Fin 8) (k : Fin 2816) :
    val_main_v156 (F := Ideal) x0 x1 x2 x3 x4 x5 x6 x7 x8 x9 x10 x11 x12 (ix3 b l k)
      = geglu (convE (mat3 x11 1) (row2 x12 1) (er x0 x1 x2 x3 x4 x5 x6 x7 x8 x9 x10 x11 x12 x13 b) l.val) k := by
  unfold geglu
  rw [← gelu_ref]
  have e : ∀ k : Fin 2816, val_main_v141 (F := Ideal) x0 x1 x2 x3 x4 x5 x6 x7 x8 x9 x10 x11 x12 (ix3 b l k)
      = convE (mat3 x11 1) (row2 x12 1) (er x0 x1 x2 x3 x4 x5 x6 x7 x8 x9 x10 x11 x12 x13 b) l.val ⟨k.val, by have := k.isLt; omega⟩ := fun k => by
    rw [val_main_v141_apply, i3 (idx_main_v141 _) b l ⟨k.val, by have := k.isLt; omega⟩ rfl rfl rfl, conv_apply x0 x1 x2 x3 x4 x5 x6 x7 x8 x9 x10 x11 x12 x13]
  simp only [val_main_v156_apply, val_main_v155_apply, val_main_v154_apply, val_main_v153_apply, val_main_cst_19_apply, val_main_v152_apply,
    val_main_v151_apply, val_main_cst_18_apply, val_main_v150_apply, val_main_v149_apply, val_main_v148_apply, val_main_cst_17_apply,
    val_main_v147_apply, val_main_v146_apply, val_main_v145_apply, val_main_cst_16_apply, val_main_v144_apply, val_main_v143_apply, e]
  rw [val_main_v142_apply, i3 (idx_main_v142 _) b l ⟨2816 + k.val, by have := k.isLt; omega⟩ rfl rfl rfl, conv_apply x0 x1 x2 x3 x4 x5 x6 x7 x8 x9 x10 x11 x12 x13]
  rfl

/-- the residual stream after it, -/
theorem out_apply (b : Fin 128) (l : Fin 8) (k : Fin 1024) :
    val_main_v162 (F := Ideal) x0 x1 x2 x3 x4 x5 x6 x7 x8 x9 x10 x11 x12 x13 (ix3 b l k)
      = xm x0 x1 x3 x5 x6 x7 x8 x9 b l.val k + part (md x1 b) 5 k
        * lin (geglu (convE (mat3 x11 1) (row2 x12 1) (er x0 x1 x2 x3 x4 x5 x6 x7 x8 x9 x10 x11 x12 x13 b) l.val)) (mat3 x13 1) k := by
  rw [val_main_v162_apply, val_main_v161_apply, val_main_v160_apply, val_main_v11_apply, val_main_v5_apply, val_main_v159_apply, x1_apply]
  refine congrArg₂ (· + ·) rfl (congrArg₂ (· * ·)
    (congrArg x1 (i2 _ b ⟨1024 * (5 : Fin 6).val + k.val, by have := k.isLt; show 1024 * 5 + k.val < 6144; omega⟩ rfl rfl)) (Finset.sum_congr rfl fun c _ => ?_))
  rw [i3 (lidx_main_v159 _ c) b l c rfl rfl rfl, act_apply x0 x1 x2 x3 x4 x5 x6 x7 x8 x9 x10 x11 x12 x13, val_main_v158_apply, val_main_v157_apply,
    i3 (idx_main_v157 _) 1 c k rfl (by show (c.val * 1024 + k.val) / 1024 % 2816 = c.val; have := k.isLt; have := c.isLt; omega)
      (by show (c.val * 1024 + k.val) % 1024 = k.val; have := k.isLt; have := c.isLt; omega)]
  rfl

/-- and it normalised. -/
theorem y_apply (b : Fin 128) (l : Fin 8) (k : Fin 1024) :
    val_main_v175 (F := Ideal) x0 x1 x2 x3 x4 x5 x6 x7 x8 x9 x10 x11 x12 x13 x14 (ix3 b l k)
      = smpY (W x3 x5 x6 x7 x8 x9) (V x10 x11 x12 x13) (row2 x4 1) (fun k => x14 (ix1 k)) (md x1 b) (smpS x2 b.val) (smpX x0 b.val) l.val k := by
  simp only [val_main_v175_apply, val_main_v174_apply, val_main_v173_apply, val_main_v172_apply, val_main_v171_apply, val_main_v170_apply,
    val_main_v169_apply, val_main_v168_apply, val_main_cst_22_apply, val_main_v167_apply, val_main_v166_apply, val_main_cst_21_apply,
    val_main_v165_apply, val_main_v164_apply, val_main_cst_20_apply, val_main_v163_apply]
  simp only [fun y => i3 (idx_main_v164 (idx_main_v165 (idx_main_v171 (ix3 b l k))) y) b l y rfl rfl rfl, out_apply]
  unfold smpY rms
  simp only [Ideal.addf_def, Ideal.mulf_def, Ideal.hostDivf_def, Ideal.hostUnary_rsqrt_def, Ideal.ofBits_def, Ideal.ofBits_zero_f32, zero_add]
  exact congrArg _ (congrArg x14 (funext fun d => Fin.ext (match d with | ⟨0, _⟩ => rfl)))

/-! The three results, position first: row `r` of group `g` is position `r / 64` of sequence `64 g + r % 64`. -/

/-- The sequence of a row. -/
abbrev sq (g : Fin 2) (r : ℕ) : Fin 128 := ⟨64 * g.val + r % 64, by have := g.isLt; omega⟩

theorem res_y (g : Fin 2) (r : Fin 512) (k : Fin 1024) :
    val_main_v178 (F := Ideal) x0 x1 x2 x3 x4 x5 x6 x7 x8 x9 x10 x11 x12 x13 x14 (ix3 g r k)
      = smpY (W x3 x5 x6 x7 x8 x9) (V x10 x11 x12 x13) (row2 x4 1) (fun k => x14 (ix1 k)) (md x1 (sq g r.val)) (smpS x2 (sq g r.val).val)
          (smpX x0 (sq g r.val).val) (r.val / 64) k := by
  have hg := g.isLt
  have hr := r.isLt
  have hk := k.isLt
  rw [val_main_v178_apply, i4 (idx_main_v178 _) g (⟨r.val / 64, by omega⟩ : Fin 8) (⟨r.val % 64, by omega⟩ : Fin 64) k
      (by show ((g.val * 512 + r.val) * 1024 + k.val) / 524288 = g.val; omega)
      (by show ((g.val * 512 + r.val) * 1024 + k.val) / 65536 % 8 = r.val / 64; omega)
      (by show ((g.val * 512 + r.val) * 1024 + k.val) / 1024 % 64 = r.val % 64; omega)
      (by show ((g.val * 512 + r.val) * 1024 + k.val) % 1024 = k.val; omega),
    val_main_v177_apply, i4 (idx_main_v177 _) g (⟨r.val % 64, by omega⟩ : Fin 64) (⟨r.val / 64, by omega⟩ : Fin 8) k rfl rfl rfl rfl,
    val_main_v176_apply, i3 (idx_main_v176 _) (sq g r.val) (⟨r.val / 64, by omega⟩ : Fin 8) k
      (by show (((g.val * 64 + r.val % 64) * 8 + r.val / 64) * 1024 + k.val) / 8192 = 64 * g.val + r.val % 64; omega)
      (by show (((g.val * 64 + r.val % 64) * 8 + r.val / 64) * 1024 + k.val) / 1024 % 8 = r.val / 64; omega)
      (by show (((g.val * 64 + r.val % 64) * 8 + r.val / 64) * 1024 + k.val) % 1024 = k.val; omega),
    y_apply]

theorem res_st (g : Fin 2) (r : Fin 128) (k : Fin 5632) :
    val_main_v181 (F := Ideal) x0 x1 x2 x3 x4 x5 x6 x7 x8 x9 x10 (ix3 g r k)
      = er x0 x1 x2 x3 x4 x5 x6 x7 x8 x9 x10 x11 x12 x13 (sq g r.val) (8 + r.val / 64) k := by
  have hg := g.isLt
  have hr := r.isLt
  have hk := k.isLt
  rw [val_main_v181_apply, i4 (idx_main_v181 _) g (⟨r.val / 64, by omega⟩ : Fin 2) (⟨r.val % 64, by omega⟩ : Fin 64) k
      (by show ((g.val * 128 + r.val) * 5632 + k.val) / 720896 = g.val; omega)
      (by show ((g.val * 128 + r.val) * 5632 + k.val) / 360448 % 2 = r.val / 64; omega)
      (by show ((g.val * 128 + r.val) * 5632 + k.val) / 5632 % 64 = r.val % 64; omega)
      (by show ((g.val * 128 + r.val) * 5632 + k.val) % 5632 = k.val; omega),
    val_main_v180_apply, i4 (idx_main_v180 _) g (⟨r.val % 64, by omega⟩ : Fin 64) (⟨r.val / 64, by omega⟩ : Fin 2) k rfl rfl rfl rfl,
    val_main_v179_apply, i3 (idx_main_v179 _) (sq g r.val) (⟨r.val / 64, by omega⟩ : Fin 2) k
      (by show (((g.val * 64 + r.val % 64) * 2 + r.val / 64) * 5632 + k.val) / 11264 = 64 * g.val + r.val % 64; omega)
      (by show (((g.val * 64 + r.val % 64) * 2 + r.val / 64) * 5632 + k.val) / 5632 % 2 = r.val / 64; omega)
      (by show (((g.val * 64 + r.val % 64) * 2 + r.val / 64) * 5632 + k.val) % 5632 = k.val; omega),
    val_main_v140_apply, i3 (idx_main_v140 _) (sq g r.val) (⟨8 + r.val / 64, by omega⟩ : Fin 10) k rfl rfl rfl,
    ext x0 x1 x2 x3 x4 x5 x6 x7 x8 x9 x10 x11 x12 x13]

theorem res_v (g : Fin 2) (r : Fin 512) (k : Fin 1024) :
    val_main_v184 (F := Ideal) x0 x1 x3 x5 x6 (ix3 g r k)
      = oddV (W x3 x5 x6 x7 x8 x9) (md x1 (sq g r.val)) (smpX x0 (sq g r.val).val) (r.val / 64) k := by
  have hg := g.isLt
  have hr := r.isLt
  have hk := k.isLt
  rw [val_main_v184_apply, i4 (idx_main_v184 _) g (⟨r.val / 64, by omega⟩ : Fin 8) (⟨r.val % 64, by omega⟩ : Fin 64) k
      (by show ((g.val * 512 + r.val) * 1024 + k.val) / 524288 = g.val; omega)
      (by show ((g.val * 512 + r.val) * 1024 + k.val) / 65536 % 8 = r.val / 64; omega)
      (by show ((g.val * 512 + r.val) * 1024 + k.val) / 1024 % 64 = r.val % 64; omega)
      (by show ((g.val * 512 + r.val) * 1024 + k.val) % 1024 = k.val; omega),
    val_main_v183_apply, i4 (idx_main_v183 _) g (⟨r.val % 64, by omega⟩ : Fin 64) (⟨r.val / 64, by omega⟩ : Fin 8) k rfl rfl rfl rfl,
    val_main_v182_apply, i3 (idx_main_v182 _) (sq g r.val) (⟨r.val / 64, by omega⟩ : Fin 8) k
      (by show (((g.val * 64 + r.val % 64) * 8 + r.val / 64) * 1024 + k.val) / 8192 = 64 * g.val + r.val % 64; omega)
      (by show (((g.val * 64 + r.val % 64) * 8 + r.val / 64) * 1024 + k.val) / 1024 % 8 = r.val / 64; omega)
      (by show (((g.val * 64 + r.val % 64) * 8 + r.val / 64) * 1024 + k.val) % 1024 = k.val; omega),
    v_apply x0 x1 x3 x5 x6 x7 x8 x9]

end Decoder.RefSample
-- ==== Proof.SampleClaim.lean ====
/-
  The sample layer's two programs end with the same arrays: the kernel's launch and the reference each hold the mathematics' rows.
-/
module

public import proofs.«01_k».proof.Defs
public import proofs.«01_k».proof.Proof.SampleGrid
public import proofs.«01_k».proof.Proof.RefSampleFfn
public import proofs.«01_k».proof.Proof.Gen.Kernel3Ideal.Value
public import proofs.«01_k».proof.Proof.Gen.Reference3Ideal.Run

@[expose] public section

set_option maxRecDepth 16384

noncomputable section

open Idealize.ShloMosaic hiding ix1 ix2 ix3 ix4
open Idealize.ShloMosaic.ValueIdx Idealize.ShloMosaic.TcCoe Idealize.SL.Sem

namespace Decoder.Sample

open Cert.Kernel3Ideal Cert.Kernel3Ideal.Gen

variable (m : (ℓ : Loc nD τ sig) → Buf (Elt Ideal) ℓ) (c : Dev nD)

/-- A sequence's modulation, by its number. -/
theorem md_eq (g : Fin 2) (r : ℕ) : RefSample.md (m ((c : Thread nD τ).loc main_arg1)) (RefSample.sq g r) = sM m c (64 * g.val + r % 64) :=
  (smpM_apply (m ((c : Thread nD τ).loc main_arg1)) (RefSample.sq g r)).symm

/-- The reference's output array over the kernel's arguments is the layer's output, -/
theorem ref_y : Cert.Reference3Ideal.Read.val_main_v178 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) = y m c := by
  funext i
  refine (congrArg _ (RefOdd.i3 i (i 0) (i 1) (i 2) rfl rfl rfl)).trans
    ((RefSample.res_y (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (i 0) (i 1) (i 2)).trans ?_)
  exact congrArg (fun d => smpY (W m c) (Fw m c) (nf m c) (nfin m c) d (sS m c (64 * (i 0).val + (i 1).val % 64)) (sX m c (64 * (i 0).val + (i 1).val % 64)) ((i 1).val / 64) (i 2)) (md_eq m c (i 0) (i 1).val)

/-- its state is the layer's state -/
theorem ref_st : Cert.Reference3Ideal.Read.val_main_v181 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) = st m c := by
  funext i
  refine (congrArg _ (RefOdd.i3 i (i 0) (i 1) (i 2) rfl rfl rfl)).trans
    ((RefSample.res_st (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (i 0) (i 1) (i 2)).trans ?_)
  exact congrArg (fun d => smpE (W m c) (Fw m c) (nf m c) d (sS m c (64 * (i 0).val + (i 1).val % 64)) (sX m c (64 * (i 0).val + (i 1).val % 64)) (8 + (i 1).val / 64) (i 2)) (md_eq m c (i 0) (i 1).val)

/-- and its third result is the layer's value rows. -/
theorem ref_v : Cert.Reference3Ideal.Read.val_main_v184 (F := Ideal) (m ((c : Thread nD τ).loc main_arg0)) (m ((c : Thread nD τ).loc main_arg1))
    (m ((c : Thread nD τ).loc main_arg3)) (m ((c : Thread nD τ).loc main_arg5)) (m ((c : Thread nD τ).loc main_arg6)) = v m c := by
  funext i
  refine (congrArg _ (RefOdd.i3 i (i 0) (i 1) (i 2) rfl rfl rfl)).trans
    ((RefSample.res_v (m ((c : Thread nD τ).loc main_arg0)) (m ((c : Thread nD τ).loc main_arg1))
    (m ((c : Thread nD τ).loc main_arg3)) (m ((c : Thread nD τ).loc main_arg5)) (m ((c : Thread nD τ).loc main_arg6))
    (m ((c : Thread nD τ).loc main_arg7)) (m ((c : Thread nD τ).loc main_arg8)) (m ((c : Thread nD τ).loc main_arg9)) (i 0) (i 1) (i 2)).trans ?_)
  exact congrArg (fun d => oddV (W m c) d (sX m c (64 * (i 0).val + (i 1).val % 64)) ((i 1).val / 64) (i 2)) (md_eq m c (i 0) (i 1).val)

/-- The odd layer's kernel on the sample group, over the extended reals, ends with what its reference ends with. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => y m c, fun c => st m c, fun c => v m c, ?_, ?_⟩
  · refine (θ_run _ _ _).mono (fun r h c => ?_) (Cert.Kernel3Ideal.Value.run_blocks m g)
    obtain ⟨h15, h16, h17, hk⟩ := h c
    exact ⟨h15.trans (final_y m c), h16.trans (final_st m c), h17.trans (final_v m c), hk⟩
  · refine (θ_run _ _ _).mono (fun r h c => ?_) (Cert.Reference3Ideal.Value.run (F := Ideal) m' g')
    obtain ⟨hy, hs, hv, hk⟩ := h c
    obtain ⟨a0, a1, a2, a3, a4, a5, a6, a7, a8, a9, a10, a11, a12, a13, a14⟩ := hargs c
    refine ⟨hy.trans ((Cert.Reference3Ideal.Read.val_main_v178_eq _).trans (Eq.trans ?_ (ref_y m c))),
      hs.trans ((Cert.Reference3Ideal.Read.val_main_v181_eq _).trans (Eq.trans ?_ (ref_st m c))),
      hv.trans ((Cert.Reference3Ideal.Read.val_main_v184_eq _).trans (Eq.trans ?_ (ref_v m c))), hk⟩
    · rw [← a0, ← a1, ← a2, ← a3, ← a4, ← a5, ← a6, ← a7, ← a8, ← a9, ← a10, ← a11, ← a12, ← a13, ← a14]
    · rw [← a0, ← a1, ← a2, ← a3, ← a4, ← a5, ← a6, ← a7, ← a8, ← a9, ← a10]
    · rw [← a0, ← a1, ← a3, ← a5, ← a6]

end Decoder.Sample
-- ==== Proof.lean ====
/-
  The claims about the four calls: that each program leaves its arguments and every counter as it found them, that the kernels'
  idealized forms keep the one named constant, and that each kernel ends over the extended reals with what its reference ends with.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run
public import proofs.«01_k».proof.Proof.EvenClaim
public import proofs.«01_k».proof.Proof.OddClaim
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Reference4Ideal.Run
public import proofs.«01_k».proof.Proof.Mod
public import proofs.«01_k».proof.Proof.SampleClaim

@[expose] public section

noncomputable section

namespace Cert.Proof

open Idealize.ShloMosaic Idealize.SL.Sem

/-- The even layer's reference keeps its arguments, and it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The odd layer's reference keeps its arguments, and it has no counters. -/
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The reference of the odd layer's sample call keeps its arguments, and it has no counters. -/
theorem frame_reference3 : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The modulation's reference keeps its arguments, and it has no counters. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The even kernel's constant that the idealization names. -/
theorem preserves : Cert.preserves_Kernel_KernelIdeal :=
  IdealRules.named_const.statement Cert.KernelIdeal.κ "gelu_c1" .f32 0x3D122279#32 ((80338380498831 / 2251799813685248 : ℝ) : EReal) rfl

/-- The odd kernel's. -/
theorem preserves2 : Cert.preserves_Kernel2_Kernel2Ideal :=
  IdealRules.named_const.statement Cert.Kernel2Ideal.κ "gelu_c1" .f32 0x3D122279#32 ((80338380498831 / 2251799813685248 : ℝ) : EReal) rfl

/-- The odd kernel's, in the sample call. -/
theorem preserves3 : Cert.preserves_Kernel3_Kernel3Ideal :=
  IdealRules.named_const.statement Cert.Kernel3Ideal.κ "gelu_c1" .f32 0x3D122279#32 ((80338380498831 / 2251799813685248 : ℝ) : EReal) rfl

/-- The modulation kernel is its own idealized form. -/
theorem preserves4 : Cert.preserves_Kernel4_Kernel4Ideal := trivial

/-- All the claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, fun m ρ _ => Cert.Kernel.Gen.frame m ρ,
  fun m ρ _ => Cert.KernelIdeal.Gen.frame m ρ, frame_reference, fun m ρ _ => Cert.Kernel2.Gen.frame m ρ,
  fun m ρ _ => Cert.Kernel2Ideal.Gen.frame m ρ, frame_reference2, fun m ρ _ => Cert.Kernel3.Gen.frame m ρ,
  fun m ρ _ => Cert.Kernel3Ideal.Gen.frame m ρ, frame_reference3, fun m ρ _ => Cert.Kernel4.Gen.frame m ρ,
  fun m ρ _ => Cert.Kernel4Ideal.Gen.frame m ρ, frame_reference4, preserves, Decoder.Even.algebraic, preserves2, Decoder.Odd.algebraic,
  preserves3, Decoder.Sample.algebraic, preserves4, Decoder.Mod.algebraic⟩

end Cert.Proof

end
